-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_MoeUp [hPre_experts2 : Cert.Pre_experts2.Facts] (m : (ℓ : Loc Cert.MoeUp.nD Cert.MoeUp.τ Cert.MoeUp.sig) → Buf (Elt Bits) ℓ) : Prop :=
  ∀ c : Dev Cert.MoeUp.nD,
    (Cert.Pre_experts2.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_experts2 : Cert.Pre_experts2.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_experts2.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpReferenceIdeal (m : (ℓ : Loc Cert.MoeUpReferenceIdeal.nD Cert.MoeUpReferenceIdeal.τ Cert.MoeUpReferenceIdeal.sig) → Buf (Elt Ideal) ℓ) : Prop :=
  True

def Pre_MoeUpReferenceIdeal_experts2 [hPre_experts2 : Cert.Pre_experts2.Facts] (m : (ℓ : Loc Cert.MoeUpReferenceIdeal.nD Cert.MoeUpReferenceIdeal.τ Cert.MoeUpReferenceIdeal.sig) → Buf (Elt Ideal) ℓ) : Prop :=
  ∀ c : Dev Cert.MoeUpReferenceIdeal.nD,
    (Cert.Pre_experts2.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4))) = (fun _ => 1#1)

def Pre_MoeDown [hPre_experts3 : Cert.Pre_experts3.Facts] (m : (ℓ : Loc Cert.MoeDown.nD Cert.MoeDown.τ Cert.MoeDown.sig) → Buf (Elt Bits) ℓ) : Prop :=
  ∀ c : Dev Cert.MoeDown.nD,
    (Cert.Pre_experts3.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_experts3 : Cert.Pre_experts3.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_experts3.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownReferenceIdeal (m : (ℓ : Loc Cert.MoeDownReferenceIdeal.nD Cert.MoeDownReferenceIdeal.τ Cert.MoeDownReferenceIdeal.sig) → Buf (Elt Ideal) ℓ) : Prop :=
  True

def Pre_MoeDownReferenceIdeal_experts3 [hPre_experts3 : Cert.Pre_experts3.Facts] (m : (ℓ : Loc Cert.MoeDownReferenceIdeal.nD Cert.MoeDownReferenceIdeal.τ Cert.MoeDownReferenceIdeal.sig) → Buf (Elt Ideal) ℓ) : Prop :=
  ∀ c : Dev Cert.MoeDownReferenceIdeal.nD,
    (Cert.Pre_experts3.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3))) = (fun _ => 1#1)

def Pre_DenseUp (m : (ℓ : Loc Cert.DenseUp.nD Cert.DenseUp.τ Cert.DenseUp.sig) → Buf (Elt Bits) ℓ) : Prop :=
  True

def Pre_DenseUpIdeal (m : (ℓ : Loc Cert.DenseUpIdeal.nD Cert.DenseUpIdeal.τ Cert.DenseUpIdeal.sig) → Buf (Elt Ideal) ℓ) : Prop :=
  True

def Pre_DenseUpReferenceIdeal (m : (ℓ : Loc Cert.DenseUpReferenceIdeal.nD Cert.DenseUpReferenceIdeal.τ Cert.DenseUpReferenceIdeal.sig) → Buf (Elt Ideal) ℓ) : Prop :=
  True

def Pre_DenseDown (m : (ℓ : Loc Cert.DenseDown.nD Cert.DenseDown.τ Cert.DenseDown.sig) → Buf (Elt Bits) ℓ) : Prop :=
  True

def Pre_DenseDownIdeal (m : (ℓ : Loc Cert.DenseDownIdeal.nD Cert.DenseDownIdeal.τ Cert.DenseDownIdeal.sig) → Buf (Elt Ideal) ℓ) : Prop :=
  True

def Pre_DenseDownReferenceIdeal (m : (ℓ : Loc Cert.DenseDownReferenceIdeal.nD Cert.DenseDownReferenceIdeal.τ Cert.DenseDownReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_ScanOut (m : (ℓ : Loc Cert.ScanOut.nD Cert.ScanOut.τ Cert.ScanOut.sig) → Buf (Elt Bits) ℓ) : Prop :=
  True

def Pre_ScanOutIdeal (m : (ℓ : Loc Cert.ScanOutIdeal.nD Cert.ScanOutIdeal.τ Cert.ScanOutIdeal.sig) → Buf (Elt Ideal) ℓ) : Prop :=
  True

def Pre_ScanOutReferenceIdeal (m : (ℓ : Loc Cert.ScanOutReferenceIdeal.nD Cert.ScanOutReferenceIdeal.τ Cert.ScanOutReferenceIdeal.sig) → Buf (Elt Ideal) ℓ) : Prop :=
  True

def Pre_StickOut (m : (ℓ : Loc Cert.StickOut.nD Cert.StickOut.τ Cert.StickOut.sig) → Buf (Elt Bits) ℓ) : Prop :=
  True

def Pre_StickOutIdeal (m : (ℓ : Loc Cert.StickOutIdeal.nD Cert.StickOutIdeal.τ Cert.StickOutIdeal.sig) → Buf (Elt Ideal) ℓ) : Prop :=
  True

def Pre_StickOutReferenceIdeal (m : (ℓ : Loc Cert.StickOutReferenceIdeal.nD Cert.StickOutReferenceIdeal.τ Cert.StickOutReferenceIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInReferenceIdeal (m : (ℓ : Loc Cert.GateInReferenceIdeal.nD Cert.GateInReferenceIdeal.τ Cert.GateInReferenceIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_MoeUp [hMoeUp : Cert.MoeUp.Facts] [hPre_experts2 : Cert.Pre_experts2.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_experts2 : Cert.Pre_experts2.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpReferenceIdeal [hMoeUpReferenceIdeal : Cert.MoeUpReferenceIdeal.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4))
      ∧ r.2.sem = fun _ => 0)

def quiescent_MoeUpReferenceIdeal_pre_experts2 [hMoeUpReferenceIdeal : Cert.MoeUpReferenceIdeal.Facts] [hPre_experts2 : Cert.Pre_experts2.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal_experts2 m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4))
      ∧ r.2.sem = fun _ => 0)

def quiescent_MoeDown [hMoeDown : Cert.MoeDown.Facts] [hPre_experts3 : Cert.Pre_experts3.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_experts3 : Cert.Pre_experts3.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownReferenceIdeal [hMoeDownReferenceIdeal : Cert.MoeDownReferenceIdeal.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3))
      ∧ r.2.sem = fun _ => 0)

def quiescent_MoeDownReferenceIdeal_pre_experts3 [hMoeDownReferenceIdeal : Cert.MoeDownReferenceIdeal.Facts] [hPre_experts3 : Cert.Pre_experts3.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal_experts3 m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3))
      ∧ r.2.sem = fun _ => 0)

def quiescent_DenseUp [hDenseUp : Cert.DenseUp.Facts] : Prop :=
  ∀ (m : (ℓ : Loc Cert.DenseUp.nD Cert.DenseUp.τ Cert.DenseUp.sig) → Buf (Elt Bits) ℓ) (g : Dev Cert.DenseUp.nD → PrngReg), Pre_DenseUp m →
    θ_run (Cert.DenseUp.defs (F := Bits)) (onTc (τ := Cert.DenseUp.τ) (Cert.DenseUp.main (F := Bits))) ⟨m, fun _ => 0, g⟩ (fun r => (∀ c : Dev Cert.DenseUp.nD,
      r.2.mem ((c.tc : Thread Cert.DenseUp.nD Cert.DenseUp.τ).loc Cert.DenseUp.main_arg0) = m ((c.tc : Thread Cert.DenseUp.nD Cert.DenseUp.τ).loc Cert.DenseUp.main_arg0)
      ∧ r.2.mem ((c.tc : Thread Cert.DenseUp.nD Cert.DenseUp.τ).loc Cert.DenseUp.main_arg1) = m ((c.tc : Thread Cert.DenseUp.nD Cert.DenseUp.τ).loc Cert.DenseUp.main_arg1)
      ∧ r.2.mem ((c.tc : Thread Cert.DenseUp.nD Cert.DenseUp.τ).loc Cert.DenseUp.main_arg2) = m ((c.tc : Thread Cert.DenseUp.nD Cert.DenseUp.τ).loc Cert.DenseUp.main_arg2))
      ∧ r.2.sem = fun _ => 0)

def quiescent_DenseUpIdeal [hDenseUpIdeal : Cert.DenseUpIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg), Pre_DenseUpIdeal m →
    θ_run (Cert.DenseUpIdeal.defs (F := Ideal)) (onTc (τ := Cert.DenseUpIdeal.τ) (Cert.DenseUpIdeal.main (F := Ideal))) ⟨m, fun _ => 0, g⟩ (fun r => (∀ c : Dev Cert.DenseUpIdeal.nD,
      r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
      ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
      ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ r.2.sem = fun _ => 0)

def quiescent_DenseUpReferenceIdeal [hDenseUpReferenceIdeal : Cert.DenseUpReferenceIdeal.Facts] : Prop :=
  ∀ (m : (ℓ : Loc Cert.DenseUpReferenceIdeal.nD Cert.DenseUpReferenceIdeal.τ Cert.DenseUpReferenceIdeal.sig) → Buf (Elt Ideal) ℓ) (g : Dev Cert.DenseUpReferenceIdeal.nD → PrngReg), Pre_DenseUpReferenceIdeal m →
    θ_run (Cert.DenseUpReferenceIdeal.defs (F := Ideal)) (onTc (τ := Cert.DenseUpReferenceIdeal.τ) (Cert.DenseUpReferenceIdeal.main (F := Ideal))) ⟨m, fun _ => 0, g⟩ (fun r => (∀ c : Dev Cert.DenseUpReferenceIdeal.nD,
      r.2.mem ((c.tc : Thread Cert.DenseUpReferenceIdeal.nD Cert.DenseUpReferenceIdeal.τ).loc Cert.DenseUpReferenceIdeal.main_arg0) = m ((c.tc : Thread Cert.DenseUpReferenceIdeal.nD Cert.DenseUpReferenceIdeal.τ).loc Cert.DenseUpReferenceIdeal.main_arg0)
      ∧ r.2.mem ((c.tc : Thread Cert.DenseUpReferenceIdeal.nD Cert.DenseUpReferenceIdeal.τ).loc Cert.DenseUpReferenceIdeal.main_arg1) = m ((c.tc : Thread Cert.DenseUpReferenceIdeal.nD Cert.DenseUpReferenceIdeal.τ).loc Cert.DenseUpReferenceIdeal.main_arg1)
      ∧ r.2.mem ((c.tc : Thread Cert.DenseUpReferenceIdeal.nD Cert.DenseUpReferenceIdeal.τ).loc Cert.DenseUpReferenceIdeal.main_arg2) = m ((c.tc : Thread Cert.DenseUpReferenceIdeal.nD Cert.DenseUpReferenceIdeal.τ).loc Cert.DenseUpReferenceIdeal.main_arg2))
      ∧ r.2.sem = fun _ => 0)

def quiescent_DenseDown [hDenseDown : Cert.DenseDown.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2))
      ∧ r.2.sem = fun _ => 0)

def quiescent_DenseDownIdeal [hDenseDownIdeal : Cert.DenseDownIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2))
      ∧ r.2.sem = fun _ => 0)

def quiescent_DenseDownReferenceIdeal [hDenseDownReferenceIdeal : Cert.DenseDownReferenceIdeal.Facts] : Prop :=
  ∀ (m : (ℓ : Loc Cert.DenseDownReferenceIdeal.nD Cert.DenseDownReferenceIdeal.τ Cert.DenseDownReferenceIdeal.sig) → Buf (Elt Ideal) ℓ) (g : Dev Cert.DenseDownReferenceIdeal.nD → PrngReg), Pre_DenseDownReferenceIdeal m →
    θ_run (Cert.DenseDownReferenceIdeal.defs (F := Ideal)) (onTc (τ := Cert.DenseDownReferenceIdeal.τ) (Cert.DenseDownReferenceIdeal.main (F := Ideal))) ⟨m, fun _ => 0, g⟩ (fun r => (∀ c : Dev Cert.DenseDownReferenceIdeal.nD,
      r.2.mem ((c.tc : Thread Cert.DenseDownReferenceIdeal.nD Cert.DenseDownReferenceIdeal.τ).loc Cert.DenseDownReferenceIdeal.main_arg0) = m ((c.tc : Thread Cert.DenseDownReferenceIdeal.nD Cert.DenseDownReferenceIdeal.τ).loc Cert.DenseDownReferenceIdeal.main_arg0)
      ∧ r.2.mem ((c.tc : Thread Cert.DenseDownReferenceIdeal.nD Cert.DenseDownReferenceIdeal.τ).loc Cert.DenseDownReferenceIdeal.main_arg1) = m ((c.tc : Thread Cert.DenseDownReferenceIdeal.nD Cert.DenseDownReferenceIdeal.τ).loc Cert.DenseDownReferenceIdeal.main_arg1)
      ∧ r.2.mem ((c.tc : Thread Cert.DenseDownReferenceIdeal.nD Cert.DenseDownReferenceIdeal.τ).loc Cert.DenseDownReferenceIdeal.main_arg2) = m ((c.tc : Thread Cert.DenseDownReferenceIdeal.nD Cert.DenseDownReferenceIdeal.τ).loc Cert.DenseDownReferenceIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_ScanOut [hScanOut : Cert.ScanOut.Facts] : Prop :=
  ∀ (m : (ℓ : Loc Cert.ScanOut.nD Cert.ScanOut.τ Cert.ScanOut.sig) → Buf (Elt Bits) ℓ) (g : Dev Cert.ScanOut.nD → PrngReg), Pre_ScanOut m →
    θ_run (Cert.ScanOut.defs (F := Bits)) (onTc (τ := Cert.ScanOut.τ) (Cert.ScanOut.main (F := Bits))) ⟨m, fun _ => 0, g⟩ (fun r => (∀ c : Dev Cert.ScanOut.nD,
      r.2.mem ((c.tc : Thread Cert.ScanOut.nD Cert.ScanOut.τ).loc Cert.ScanOut.main_arg0) = m ((c.tc : Thread Cert.ScanOut.nD Cert.ScanOut.τ).loc Cert.ScanOut.main_arg0)
      ∧ r.2.mem ((c.tc : Thread Cert.ScanOut.nD Cert.ScanOut.τ).loc Cert.ScanOut.main_arg1) = m ((c.tc : Thread Cert.ScanOut.nD Cert.ScanOut.τ).loc Cert.ScanOut.main_arg1)
      ∧ r.2.mem ((c.tc : Thread Cert.ScanOut.nD Cert.ScanOut.τ).loc Cert.ScanOut.main_arg2) = m ((c.tc : Thread Cert.ScanOut.nD Cert.ScanOut.τ).loc Cert.ScanOut.main_arg2))
      ∧ r.2.sem = fun _ => 0)

def quiescent_ScanOutIdeal [hScanOutIdeal : Cert.ScanOutIdeal.Facts] : Prop :=
  ∀ (m : (ℓ : Loc Cert.ScanOutIdeal.nD Cert.ScanOutIdeal.τ Cert.ScanOutIdeal.sig) → Buf (Elt Ideal) ℓ) (g : Dev Cert.ScanOutIdeal.nD → PrngReg), Pre_ScanOutIdeal m →
    θ_run (Cert.ScanOutIdeal.defs (F := Ideal)) (onTc (τ := Cert.ScanOutIdeal.τ) (Cert.ScanOutIdeal.main (F := Ideal))) ⟨m, fun _ => 0, g⟩ (fun r => (∀ c : Dev Cert.ScanOutIdeal.nD,
      r.2.mem ((c.tc : Thread Cert.ScanOutIdeal.nD Cert.ScanOutIdeal.τ).loc Cert.ScanOutIdeal.main_arg0) = m ((c.tc : Thread Cert.ScanOutIdeal.nD Cert.ScanOutIdeal.τ).loc Cert.ScanOutIdeal.main_arg0)
      ∧ r.2.mem ((c.tc : Thread Cert.ScanOutIdeal.nD Cert.ScanOutIdeal.τ).loc Cert.ScanOutIdeal.main_arg1) = m ((c.tc : Thread Cert.ScanOutIdeal.nD Cert.ScanOutIdeal.τ).loc Cert.ScanOutIdeal.main_arg1)
      ∧ r.2.mem ((c.tc : Thread Cert.ScanOutIdeal.nD Cert.ScanOutIdeal.τ).loc Cert.ScanOutIdeal.main_arg2) = m ((c.tc : Thread Cert.ScanOutIdeal.nD Cert.ScanOutIdeal.τ).loc Cert.ScanOutIdeal.main_arg2))
      ∧ r.2.sem = fun _ => 0)

def quiescent_ScanOutReferenceIdeal [hScanOutReferenceIdeal : Cert.ScanOutReferenceIdeal.Facts] : Prop :=
  ∀ (m : (ℓ : Loc Cert.ScanOutReferenceIdeal.nD Cert.ScanOutReferenceIdeal.τ Cert.ScanOutReferenceIdeal.sig) → Buf (Elt Ideal) ℓ) (g : Dev Cert.ScanOutReferenceIdeal.nD → PrngReg), Pre_ScanOutReferenceIdeal m →
    θ_run (Cert.ScanOutReferenceIdeal.defs (F := Ideal)) (onTc (τ := Cert.ScanOutReferenceIdeal.τ) (Cert.ScanOutReferenceIdeal.main (F := Ideal))) ⟨m, fun _ => 0, g⟩ (fun r => (∀ c : Dev Cert.ScanOutReferenceIdeal.nD,
      r.2.mem ((c.tc : Thread Cert.ScanOutReferenceIdeal.nD Cert.ScanOutReferenceIdeal.τ).loc Cert.ScanOutReferenceIdeal.main_arg0) = m ((c.tc : Thread Cert.ScanOutReferenceIdeal.nD Cert.ScanOutReferenceIdeal.τ).loc Cert.ScanOutReferenceIdeal.main_arg0)
      ∧ r.2.mem ((c.tc : Thread Cert.ScanOutReferenceIdeal.nD Cert.ScanOutReferenceIdeal.τ).loc Cert.ScanOutReferenceIdeal.main_arg1) = m ((c.tc : Thread Cert.ScanOutReferenceIdeal.nD Cert.ScanOutReferenceIdeal.τ).loc Cert.ScanOutReferenceIdeal.main_arg1)
      ∧ r.2.mem ((c.tc : Thread Cert.ScanOutReferenceIdeal.nD Cert.ScanOutReferenceIdeal.τ).loc Cert.ScanOutReferenceIdeal.main_arg2) = m ((c.tc : Thread Cert.ScanOutReferenceIdeal.nD Cert.ScanOutReferenceIdeal.τ).loc Cert.ScanOutReferenceIdeal.main_arg2))
      ∧ r.2.sem = fun _ => 0)

def quiescent_StickOut [hStickOut : Cert.StickOut.Facts] : Prop :=
  ∀ (m : (ℓ : Loc Cert.StickOut.nD Cert.StickOut.τ Cert.StickOut.sig) → Buf (Elt Bits) ℓ) (g : Dev Cert.StickOut.nD → PrngReg), Pre_StickOut m →
    θ_run (Cert.StickOut.defs (F := Bits)) (onTc (τ := Cert.StickOut.τ) (Cert.StickOut.main (F := Bits))) ⟨m, fun _ => 0, g⟩ (fun r => (∀ c : Dev Cert.StickOut.nD,
      r.2.mem ((c.tc : Thread Cert.StickOut.nD Cert.StickOut.τ).loc Cert.StickOut.main_arg0) = m ((c.tc : Thread Cert.StickOut.nD Cert.StickOut.τ).loc Cert.StickOut.main_arg0)
      ∧ r.2.mem ((c.tc : Thread Cert.StickOut.nD Cert.StickOut.τ).loc Cert.StickOut.main_arg1) = m ((c.tc : Thread Cert.StickOut.nD Cert.StickOut.τ).loc Cert.StickOut.main_arg1)
      ∧ r.2.mem ((c.tc : Thread Cert.StickOut.nD Cert.StickOut.τ).loc Cert.StickOut.main_arg2) = m ((c.tc : Thread Cert.StickOut.nD Cert.StickOut.τ).loc Cert.StickOut.main_arg2))
      ∧ r.2.sem = fun _ => 0)

def quiescent_StickOutIdeal [hStickOutIdeal : Cert.StickOutIdeal.Facts] : Prop :=
  ∀ (m : (ℓ : Loc Cert.StickOutIdeal.nD Cert.StickOutIdeal.τ Cert.StickOutIdeal.sig) → Buf (Elt Ideal) ℓ) (g : Dev Cert.StickOutIdeal.nD → PrngReg), Pre_StickOutIdeal m →
    θ_run (Cert.StickOutIdeal.defs (F := Ideal)) (onTc (τ := Cert.StickOutIdeal.τ) (Cert.StickOutIdeal.main (F := Ideal))) ⟨m, fun _ => 0, g⟩ (fun r => (∀ c : Dev Cert.StickOutIdeal.nD,
      r.2.mem ((c.tc : Thread Cert.StickOutIdeal.nD Cert.StickOutIdeal.τ).loc Cert.StickOutIdeal.main_arg0) = m ((c.tc : Thread Cert.StickOutIdeal.nD Cert.StickOutIdeal.τ).loc Cert.StickOutIdeal.main_arg0)
      ∧ r.2.mem ((c.tc : Thread Cert.StickOutIdeal.nD Cert.StickOutIdeal.τ).loc Cert.StickOutIdeal.main_arg1) = m ((c.tc : Thread Cert.StickOutIdeal.nD Cert.StickOutIdeal.τ).loc Cert.StickOutIdeal.main_arg1)
      ∧ r.2.mem ((c.tc : Thread Cert.StickOutIdeal.nD Cert.StickOutIdeal.τ).loc Cert.StickOutIdeal.main_arg2) = m ((c.tc : Thread Cert.StickOutIdeal.nD Cert.StickOutIdeal.τ).loc Cert.StickOutIdeal.main_arg2))
      ∧ r.2.sem = fun _ => 0)

def quiescent_StickOutReferenceIdeal [hStickOutReferenceIdeal : Cert.StickOutReferenceIdeal.Facts] : Prop :=
  ∀ (m : (ℓ : Loc Cert.StickOutReferenceIdeal.nD Cert.StickOutReferenceIdeal.τ Cert.StickOutReferenceIdeal.sig) → Buf (Elt Ideal) ℓ) (g : Dev Cert.StickOutReferenceIdeal.nD → PrngReg), Pre_StickOutReferenceIdeal m →
    θ_run (Cert.StickOutReferenceIdeal.defs (F := Ideal)) (onTc (τ := Cert.StickOutReferenceIdeal.τ) (Cert.StickOutReferenceIdeal.main (F := Ideal))) ⟨m, fun _ => 0, g⟩ (fun r => (∀ c : Dev Cert.StickOutReferenceIdeal.nD,
      r.2.mem ((c.tc : Thread Cert.StickOutReferenceIdeal.nD Cert.StickOutReferenceIdeal.τ).loc Cert.StickOutReferenceIdeal.main_arg0) = m ((c.tc : Thread Cert.StickOutReferenceIdeal.nD Cert.StickOutReferenceIdeal.τ).loc Cert.StickOutReferenceIdeal.main_arg0)
      ∧ r.2.mem ((c.tc : Thread Cert.StickOutReferenceIdeal.nD Cert.StickOutReferenceIdeal.τ).loc Cert.StickOutReferenceIdeal.main_arg1) = m ((c.tc : Thread Cert.StickOutReferenceIdeal.nD Cert.StickOutReferenceIdeal.τ).loc Cert.StickOutReferenceIdeal.main_arg1)
      ∧ r.2.mem ((c.tc : Thread Cert.StickOutReferenceIdeal.nD Cert.StickOutReferenceIdeal.τ).loc Cert.StickOutReferenceIdeal.main_arg2) = m ((c.tc : Thread Cert.StickOutReferenceIdeal.nD Cert.StickOutReferenceIdeal.τ).loc Cert.StickOutReferenceIdeal.main_arg2))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_GateInReferenceIdeal [hGateInReferenceIdeal : Cert.GateInReferenceIdeal.Facts] : Prop :=
  ∀ (m : (ℓ : Loc Cert.GateInReferenceIdeal.nD Cert.GateInReferenceIdeal.τ Cert.GateInReferenceIdeal.sig) → Buf (Elt Ideal) ℓ) (g : Dev Cert.GateInReferenceIdeal.nD → PrngReg), Pre_GateInReferenceIdeal m →
    θ_run (Cert.GateInReferenceIdeal.defs (F := Ideal)) (onTc (τ := Cert.GateInReferenceIdeal.τ) (Cert.GateInReferenceIdeal.main (F := Ideal))) ⟨m, fun _ => 0, g⟩ (fun r => (∀ c : Dev Cert.GateInReferenceIdeal.nD,
      r.2.mem ((c.tc : Thread Cert.GateInReferenceIdeal.nD Cert.GateInReferenceIdeal.τ).loc Cert.GateInReferenceIdeal.main_arg0) = m ((c.tc : Thread Cert.GateInReferenceIdeal.nD Cert.GateInReferenceIdeal.τ).loc Cert.GateInReferenceIdeal.main_arg0)
      ∧ r.2.mem ((c.tc : Thread Cert.GateInReferenceIdeal.nD Cert.GateInReferenceIdeal.τ).loc Cert.GateInReferenceIdeal.main_arg1) = m ((c.tc : Thread Cert.GateInReferenceIdeal.nD Cert.GateInReferenceIdeal.τ).loc Cert.GateInReferenceIdeal.main_arg1))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1)
      ∧ r.2.mem ((c.tc : Thread Cert.ConvInReferenceIdeal.nD Cert.ConvInReferenceIdeal.τ).loc Cert.ConvInReferenceIdeal.main_arg2) = m ((c.tc : Thread Cert.ConvInReferenceIdeal.nD Cert.ConvInReferenceIdeal.τ).loc Cert.ConvInReferenceIdeal.main_arg2)
      ∧ r.2.mem ((c.tc : Thread Cert.ConvInReferenceIdeal.nD Cert.ConvInReferenceIdeal.τ).loc Cert.ConvInReferenceIdeal.main_arg3) = m ((c.tc : Thread Cert.ConvInReferenceIdeal.nD Cert.ConvInReferenceIdeal.τ).loc Cert.ConvInReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_MoeUp_MoeUpIdeal : Prop :=
  True

def algebraic_MoeUpIdeal_MoeUpReferenceIdeal [hMoeUpIdeal : Cert.MoeUpIdeal.Facts] [hMoeUpReferenceIdeal : Cert.MoeUpReferenceIdeal.Facts] [hPre_experts2 : Cert.Pre_experts2.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpReferenceIdeal.nD Cert.MoeUpReferenceIdeal.τ Cert.MoeUpReferenceIdeal.sig) → Buf (Elt Ideal) ℓ) (g' : Dev Cert.MoeUpReferenceIdeal.nD → PrngReg), Pre_MoeUpIdeal m →
    (∀ c : Dev Cert.MoeUpIdeal.nD,
      m' ((c.tc : Thread Cert.MoeUpReferenceIdeal.nD Cert.MoeUpReferenceIdeal.τ).loc Cert.MoeUpReferenceIdeal.main_arg0) = m ((c.tc : Thread Cert.MoeUpIdeal.nD Cert.MoeUpIdeal.τ).loc Cert.MoeUpIdeal.main_arg0)
      ∧ m' ((c.tc : Thread Cert.MoeUpReferenceIdeal.nD Cert.MoeUpReferenceIdeal.τ).loc Cert.MoeUpReferenceIdeal.main_arg1) = m ((c.tc : Thread Cert.MoeUpIdeal.nD Cert.MoeUpIdeal.τ).loc Cert.MoeUpIdeal.main_arg1)
      ∧ m' ((c.tc : Thread Cert.MoeUpReferenceIdeal.nD Cert.MoeUpReferenceIdeal.τ).loc Cert.MoeUpReferenceIdeal.main_arg2) = m ((c.tc : Thread Cert.MoeUpIdeal.nD Cert.MoeUpIdeal.τ).loc Cert.MoeUpIdeal.main_arg2)
      ∧ m' ((c.tc : Thread Cert.MoeUpReferenceIdeal.nD Cert.MoeUpReferenceIdeal.τ).loc Cert.MoeUpReferenceIdeal.main_arg3) = m ((c.tc : Thread Cert.MoeUpIdeal.nD Cert.MoeUpIdeal.τ).loc Cert.MoeUpIdeal.main_arg3)
      ∧ m' ((c.tc : Thread Cert.MoeUpReferenceIdeal.nD Cert.MoeUpReferenceIdeal.τ).loc Cert.MoeUpReferenceIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpReferenceIdeal.defs (F := Ideal)) (onTc (τ := Cert.MoeUpReferenceIdeal.τ) (Cert.MoeUpReferenceIdeal.main (F := Ideal))) ⟨m', fun _ => 0, g'⟩ (fun r => ∀ c : Dev Cert.MoeUpReferenceIdeal.nD,
          r.2.mem ((c.tc : Thread Cert.MoeUpReferenceIdeal.nD Cert.MoeUpReferenceIdeal.τ).loc Cert.MoeUpReferenceIdeal.main_v101) = v0 c
          ∧ r.2.mem ((c.tc : Thread Cert.MoeUpReferenceIdeal.nD Cert.MoeUpReferenceIdeal.τ).loc Cert.MoeUpReferenceIdeal.main_arg0) = m' ((c.tc : Thread Cert.MoeUpReferenceIdeal.nD Cert.MoeUpReferenceIdeal.τ).loc Cert.MoeUpReferenceIdeal.main_arg0)
          ∧ r.2.mem ((c.tc : Thread Cert.MoeUpReferenceIdeal.nD Cert.MoeUpReferenceIdeal.τ).loc Cert.MoeUpReferenceIdeal.main_arg1) = m' ((c.tc : Thread Cert.MoeUpReferenceIdeal.nD Cert.MoeUpReferenceIdeal.τ).loc Cert.MoeUpReferenceIdeal.main_arg1)
          ∧ r.2.mem ((c.tc : Thread Cert.MoeUpReferenceIdeal.nD Cert.MoeUpReferenceIdeal.τ).loc Cert.MoeUpReferenceIdeal.main_arg2) = m' ((c.tc : Thread Cert.MoeUpReferenceIdeal.nD Cert.MoeUpReferenceIdeal.τ).loc Cert.MoeUpReferenceIdeal.main_arg2)
          ∧ r.2.mem ((c.tc : Thread Cert.MoeUpReferenceIdeal.nD Cert.MoeUpReferenceIdeal.τ).loc Cert.MoeUpReferenceIdeal.main_arg3) = m' ((c.tc : Thread Cert.MoeUpReferenceIdeal.nD Cert.MoeUpReferenceIdeal.τ).loc Cert.MoeUpReferenceIdeal.main_arg3)
          ∧ r.2.mem ((c.tc : Thread Cert.MoeUpReferenceIdeal.nD Cert.MoeUpReferenceIdeal.τ).loc Cert.MoeUpReferenceIdeal.main_arg4) = m' ((c.tc : Thread Cert.MoeUpReferenceIdeal.nD Cert.MoeUpReferenceIdeal.τ).loc Cert.MoeUpReferenceIdeal.main_arg4))

def preserves_MoeDown_MoeDownIdeal : Prop :=
  True

def algebraic_MoeDownIdeal_MoeDownReferenceIdeal [hMoeDownIdeal : Cert.MoeDownIdeal.Facts] [hMoeDownReferenceIdeal : Cert.MoeDownReferenceIdeal.Facts] [hPre_experts3 : Cert.Pre_experts3.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownReferenceIdeal.nD Cert.MoeDownReferenceIdeal.τ Cert.MoeDownReferenceIdeal.sig) → Buf (Elt Ideal) ℓ) (g' : Dev Cert.MoeDownReferenceIdeal.nD → PrngReg), Pre_MoeDownIdeal m →
    (∀ c : Dev Cert.MoeDownIdeal.nD,
      m' ((c.tc : Thread Cert.MoeDownReferenceIdeal.nD Cert.MoeDownReferenceIdeal.τ).loc Cert.MoeDownReferenceIdeal.main_arg0) = m ((c.tc : Thread Cert.MoeDownIdeal.nD Cert.MoeDownIdeal.τ).loc Cert.MoeDownIdeal.main_arg0)
      ∧ m' ((c.tc : Thread Cert.MoeDownReferenceIdeal.nD Cert.MoeDownReferenceIdeal.τ).loc Cert.MoeDownReferenceIdeal.main_arg1) = m ((c.tc : Thread Cert.MoeDownIdeal.nD Cert.MoeDownIdeal.τ).loc Cert.MoeDownIdeal.main_arg1)
      ∧ m' ((c.tc : Thread Cert.MoeDownReferenceIdeal.nD Cert.MoeDownReferenceIdeal.τ).loc Cert.MoeDownReferenceIdeal.main_arg2) = m ((c.tc : Thread Cert.MoeDownIdeal.nD Cert.MoeDownIdeal.τ).loc Cert.MoeDownIdeal.main_arg2)
      ∧ m' ((c.tc : Thread Cert.MoeDownReferenceIdeal.nD Cert.MoeDownReferenceIdeal.τ).loc Cert.MoeDownReferenceIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownReferenceIdeal.defs (F := Ideal)) (onTc (τ := Cert.MoeDownReferenceIdeal.τ) (Cert.MoeDownReferenceIdeal.main (F := Ideal))) ⟨m', fun _ => 0, g'⟩ (fun r => ∀ c : Dev Cert.MoeDownReferenceIdeal.nD,
          r.2.mem ((c.tc : Thread Cert.MoeDownReferenceIdeal.nD Cert.MoeDownReferenceIdeal.τ).loc Cert.MoeDownReferenceIdeal.main_v60) = v0 c
          ∧ r.2.mem ((c.tc : Thread Cert.MoeDownReferenceIdeal.nD Cert.MoeDownReferenceIdeal.τ).loc Cert.MoeDownReferenceIdeal.main_arg0) = m' ((c.tc : Thread Cert.MoeDownReferenceIdeal.nD Cert.MoeDownReferenceIdeal.τ).loc Cert.MoeDownReferenceIdeal.main_arg0)
          ∧ r.2.mem ((c.tc : Thread Cert.MoeDownReferenceIdeal.nD Cert.MoeDownReferenceIdeal.τ).loc Cert.MoeDownReferenceIdeal.main_arg1) = m' ((c.tc : Thread Cert.MoeDownReferenceIdeal.nD Cert.MoeDownReferenceIdeal.τ).loc Cert.MoeDownReferenceIdeal.main_arg1)
          ∧ r.2.mem ((c.tc : Thread Cert.MoeDownReferenceIdeal.nD Cert.MoeDownReferenceIdeal.τ).loc Cert.MoeDownReferenceIdeal.main_arg2) = m' ((c.tc : Thread Cert.MoeDownReferenceIdeal.nD Cert.MoeDownReferenceIdeal.τ).loc Cert.MoeDownReferenceIdeal.main_arg2)
          ∧ r.2.mem ((c.tc : Thread Cert.MoeDownReferenceIdeal.nD Cert.MoeDownReferenceIdeal.τ).loc Cert.MoeDownReferenceIdeal.main_arg3) = m' ((c.tc : Thread Cert.MoeDownReferenceIdeal.nD Cert.MoeDownReferenceIdeal.τ).loc Cert.MoeDownReferenceIdeal.main_arg3))

def preserves_DenseUp_DenseUpIdeal : Prop :=
  True

def algebraic_DenseUpIdeal_DenseUpReferenceIdeal [hDenseUpIdeal : Cert.DenseUpIdeal.Facts] [hDenseUpReferenceIdeal : Cert.DenseUpReferenceIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg)
    (m' : (ℓ : Loc Cert.DenseUpReferenceIdeal.nD Cert.DenseUpReferenceIdeal.τ Cert.DenseUpReferenceIdeal.sig) → Buf (Elt Ideal) ℓ) (g' : Dev Cert.DenseUpReferenceIdeal.nD → PrngReg), Pre_DenseUpIdeal m →
    (∀ c : Dev Cert.DenseUpIdeal.nD,
      m' ((c.tc : Thread Cert.DenseUpReferenceIdeal.nD Cert.DenseUpReferenceIdeal.τ).loc Cert.DenseUpReferenceIdeal.main_arg0) = m ((c.tc : Thread Cert.DenseUpIdeal.nD Cert.DenseUpIdeal.τ).loc Cert.DenseUpIdeal.main_arg0)
      ∧ m' ((c.tc : Thread Cert.DenseUpReferenceIdeal.nD Cert.DenseUpReferenceIdeal.τ).loc Cert.DenseUpReferenceIdeal.main_arg1) = m ((c.tc : Thread Cert.DenseUpIdeal.nD Cert.DenseUpIdeal.τ).loc Cert.DenseUpIdeal.main_arg1)
      ∧ m' ((c.tc : Thread Cert.DenseUpReferenceIdeal.nD Cert.DenseUpReferenceIdeal.τ).loc Cert.DenseUpReferenceIdeal.main_arg2) = m ((c.tc : Thread Cert.DenseUpIdeal.nD Cert.DenseUpIdeal.τ).loc Cert.DenseUpIdeal.main_arg2)) →
    ∃ (v0 : (c : Dev Cert.DenseUpIdeal.nD) → Buf (Elt Ideal) ((c.tc : Thread Cert.DenseUpIdeal.nD Cert.DenseUpIdeal.τ).loc Cert.DenseUpIdeal.main_v0)),
      θ_run (Cert.DenseUpIdeal.defs (F := Ideal)) (onTc (τ := Cert.DenseUpIdeal.τ) (Cert.DenseUpIdeal.main (F := Ideal))) ⟨m, fun _ => 0, g⟩ (fun r => ∀ c : Dev Cert.DenseUpIdeal.nD,
          r.2.mem ((c.tc : Thread Cert.DenseUpIdeal.nD Cert.DenseUpIdeal.τ).loc Cert.DenseUpIdeal.main_v0) = v0 c
          ∧ r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
          ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
          ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ θ_run (Cert.DenseUpReferenceIdeal.defs (F := Ideal)) (onTc (τ := Cert.DenseUpReferenceIdeal.τ) (Cert.DenseUpReferenceIdeal.main (F := Ideal))) ⟨m', fun _ => 0, g'⟩ (fun r => ∀ c : Dev Cert.DenseUpReferenceIdeal.nD,
          r.2.mem ((c.tc : Thread Cert.DenseUpReferenceIdeal.nD Cert.DenseUpReferenceIdeal.τ).loc Cert.DenseUpReferenceIdeal.main_v9) = v0 c
          ∧ r.2.mem ((c.tc : Thread Cert.DenseUpReferenceIdeal.nD Cert.DenseUpReferenceIdeal.τ).loc Cert.DenseUpReferenceIdeal.main_arg0) = m' ((c.tc : Thread Cert.DenseUpReferenceIdeal.nD Cert.DenseUpReferenceIdeal.τ).loc Cert.DenseUpReferenceIdeal.main_arg0)
          ∧ r.2.mem ((c.tc : Thread Cert.DenseUpReferenceIdeal.nD Cert.DenseUpReferenceIdeal.τ).loc Cert.DenseUpReferenceIdeal.main_arg1) = m' ((c.tc : Thread Cert.DenseUpReferenceIdeal.nD Cert.DenseUpReferenceIdeal.τ).loc Cert.DenseUpReferenceIdeal.main_arg1)
          ∧ r.2.mem ((c.tc : Thread Cert.DenseUpReferenceIdeal.nD Cert.DenseUpReferenceIdeal.τ).loc Cert.DenseUpReferenceIdeal.main_arg2) = m' ((c.tc : Thread Cert.DenseUpReferenceIdeal.nD Cert.DenseUpReferenceIdeal.τ).loc Cert.DenseUpReferenceIdeal.main_arg2))

def preserves_DenseDown_DenseDownIdeal : Prop :=
  True

def algebraic_DenseDownIdeal_DenseDownReferenceIdeal [hDenseDownIdeal : Cert.DenseDownIdeal.Facts] [hDenseDownReferenceIdeal : Cert.DenseDownReferenceIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownReferenceIdeal.nD Cert.DenseDownReferenceIdeal.τ Cert.DenseDownReferenceIdeal.sig) → Buf (Elt Ideal) ℓ) (g' : Dev Cert.DenseDownReferenceIdeal.nD → PrngReg), Pre_DenseDownIdeal m →
    (∀ c : Dev Cert.DenseDownIdeal.nD,
      m' ((c.tc : Thread Cert.DenseDownReferenceIdeal.nD Cert.DenseDownReferenceIdeal.τ).loc Cert.DenseDownReferenceIdeal.main_arg0) = m ((c.tc : Thread Cert.DenseDownIdeal.nD Cert.DenseDownIdeal.τ).loc Cert.DenseDownIdeal.main_arg0)
      ∧ m' ((c.tc : Thread Cert.DenseDownReferenceIdeal.nD Cert.DenseDownReferenceIdeal.τ).loc Cert.DenseDownReferenceIdeal.main_arg1) = m ((c.tc : Thread Cert.DenseDownIdeal.nD Cert.DenseDownIdeal.τ).loc Cert.DenseDownIdeal.main_arg1)
      ∧ m' ((c.tc : Thread Cert.DenseDownReferenceIdeal.nD Cert.DenseDownReferenceIdeal.τ).loc Cert.DenseDownReferenceIdeal.main_arg2) = m ((c.tc : Thread Cert.DenseDownIdeal.nD Cert.DenseDownIdeal.τ).loc Cert.DenseDownIdeal.main_arg2)) →
    ∃ (v0 : (c : Dev Cert.DenseDownIdeal.nD) → Buf (Elt Ideal) ((c.tc : Thread Cert.DenseDownIdeal.nD Cert.DenseDownIdeal.τ).loc Cert.DenseDownIdeal.main_v0)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v0) = v0 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2))
      ∧ θ_run (Cert.DenseDownReferenceIdeal.defs (F := Ideal)) (onTc (τ := Cert.DenseDownReferenceIdeal.τ) (Cert.DenseDownReferenceIdeal.main (F := Ideal))) ⟨m', fun _ => 0, g'⟩ (fun r => ∀ c : Dev Cert.DenseDownReferenceIdeal.nD,
          r.2.mem ((c.tc : Thread Cert.DenseDownReferenceIdeal.nD Cert.DenseDownReferenceIdeal.τ).loc Cert.DenseDownReferenceIdeal.main_v4) = v0 c
          ∧ r.2.mem ((c.tc : Thread Cert.DenseDownReferenceIdeal.nD Cert.DenseDownReferenceIdeal.τ).loc Cert.DenseDownReferenceIdeal.main_arg0) = m' ((c.tc : Thread Cert.DenseDownReferenceIdeal.nD Cert.DenseDownReferenceIdeal.τ).loc Cert.DenseDownReferenceIdeal.main_arg0)
          ∧ r.2.mem ((c.tc : Thread Cert.DenseDownReferenceIdeal.nD Cert.DenseDownReferenceIdeal.τ).loc Cert.DenseDownReferenceIdeal.main_arg1) = m' ((c.tc : Thread Cert.DenseDownReferenceIdeal.nD Cert.DenseDownReferenceIdeal.τ).loc Cert.DenseDownReferenceIdeal.main_arg1)
          ∧ r.2.mem ((c.tc : Thread Cert.DenseDownReferenceIdeal.nD Cert.DenseDownReferenceIdeal.τ).loc Cert.DenseDownReferenceIdeal.main_arg2) = m' ((c.tc : Thread Cert.DenseDownReferenceIdeal.nD Cert.DenseDownReferenceIdeal.τ).loc Cert.DenseDownReferenceIdeal.main_arg2))

def preserves_Qkv_QkvIdeal : Prop :=
  IdealRules.named_const.Statement Cert.QkvIdeal.κ "scale" .f32 0x3E0293EE#32 (((Real.log 2)⁻¹ * (Real.sqrt 128)⁻¹ : ℝ) : EReal)

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v14) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_ScanOut_ScanOutIdeal : Prop :=
  True

def algebraic_ScanOutIdeal_ScanOutReferenceIdeal [hScanOutIdeal : Cert.ScanOutIdeal.Facts] [hScanOutReferenceIdeal : Cert.ScanOutReferenceIdeal.Facts] : Prop :=
  ∀ (m : (ℓ : Loc Cert.ScanOutIdeal.nD Cert.ScanOutIdeal.τ Cert.ScanOutIdeal.sig) → Buf (Elt Ideal) ℓ) (g : Dev Cert.ScanOutIdeal.nD → PrngReg)
    (m' : (ℓ : Loc Cert.ScanOutReferenceIdeal.nD Cert.ScanOutReferenceIdeal.τ Cert.ScanOutReferenceIdeal.sig) → Buf (Elt Ideal) ℓ) (g' : Dev Cert.ScanOutReferenceIdeal.nD → PrngReg), Pre_ScanOutIdeal m →
    (∀ c : Dev Cert.ScanOutIdeal.nD,
      m' ((c.tc : Thread Cert.ScanOutReferenceIdeal.nD Cert.ScanOutReferenceIdeal.τ).loc Cert.ScanOutReferenceIdeal.main_arg0) = m ((c.tc : Thread Cert.ScanOutIdeal.nD Cert.ScanOutIdeal.τ).loc Cert.ScanOutIdeal.main_arg0)
      ∧ m' ((c.tc : Thread Cert.ScanOutReferenceIdeal.nD Cert.ScanOutReferenceIdeal.τ).loc Cert.ScanOutReferenceIdeal.main_arg1) = m ((c.tc : Thread Cert.ScanOutIdeal.nD Cert.ScanOutIdeal.τ).loc Cert.ScanOutIdeal.main_arg1)
      ∧ m' ((c.tc : Thread Cert.ScanOutReferenceIdeal.nD Cert.ScanOutReferenceIdeal.τ).loc Cert.ScanOutReferenceIdeal.main_arg2) = m ((c.tc : Thread Cert.ScanOutIdeal.nD Cert.ScanOutIdeal.τ).loc Cert.ScanOutIdeal.main_arg2)) →
    ∃ (v0 : (c : Dev Cert.ScanOutIdeal.nD) → Buf (Elt Ideal) ((c.tc : Thread Cert.ScanOutIdeal.nD Cert.ScanOutIdeal.τ).loc Cert.ScanOutIdeal.main_v0)),
      θ_run (Cert.ScanOutIdeal.defs (F := Ideal)) (onTc (τ := Cert.ScanOutIdeal.τ) (Cert.ScanOutIdeal.main (F := Ideal))) ⟨m, fun _ => 0, g⟩ (fun r => ∀ c : Dev Cert.ScanOutIdeal.nD,
          r.2.mem ((c.tc : Thread Cert.ScanOutIdeal.nD Cert.ScanOutIdeal.τ).loc Cert.ScanOutIdeal.main_v0) = v0 c
          ∧ r.2.mem ((c.tc : Thread Cert.ScanOutIdeal.nD Cert.ScanOutIdeal.τ).loc Cert.ScanOutIdeal.main_arg0) = m ((c.tc : Thread Cert.ScanOutIdeal.nD Cert.ScanOutIdeal.τ).loc Cert.ScanOutIdeal.main_arg0)
          ∧ r.2.mem ((c.tc : Thread Cert.ScanOutIdeal.nD Cert.ScanOutIdeal.τ).loc Cert.ScanOutIdeal.main_arg1) = m ((c.tc : Thread Cert.ScanOutIdeal.nD Cert.ScanOutIdeal.τ).loc Cert.ScanOutIdeal.main_arg1)
          ∧ r.2.mem ((c.tc : Thread Cert.ScanOutIdeal.nD Cert.ScanOutIdeal.τ).loc Cert.ScanOutIdeal.main_arg2) = m ((c.tc : Thread Cert.ScanOutIdeal.nD Cert.ScanOutIdeal.τ).loc Cert.ScanOutIdeal.main_arg2))
      ∧ θ_run (Cert.ScanOutReferenceIdeal.defs (F := Ideal)) (onTc (τ := Cert.ScanOutReferenceIdeal.τ) (Cert.ScanOutReferenceIdeal.main (F := Ideal))) ⟨m', fun _ => 0, g'⟩ (fun r => ∀ c : Dev Cert.ScanOutReferenceIdeal.nD,
          r.2.mem ((c.tc : Thread Cert.ScanOutReferenceIdeal.nD Cert.ScanOutReferenceIdeal.τ).loc Cert.ScanOutReferenceIdeal.main_v5) = v0 c
          ∧ r.2.mem ((c.tc : Thread Cert.ScanOutReferenceIdeal.nD Cert.ScanOutReferenceIdeal.τ).loc Cert.ScanOutReferenceIdeal.main_arg0) = m' ((c.tc : Thread Cert.ScanOutReferenceIdeal.nD Cert.ScanOutReferenceIdeal.τ).loc Cert.ScanOutReferenceIdeal.main_arg0)
          ∧ r.2.mem ((c.tc : Thread Cert.ScanOutReferenceIdeal.nD Cert.ScanOutReferenceIdeal.τ).loc Cert.ScanOutReferenceIdeal.main_arg1) = m' ((c.tc : Thread Cert.ScanOutReferenceIdeal.nD Cert.ScanOutReferenceIdeal.τ).loc Cert.ScanOutReferenceIdeal.main_arg1)
          ∧ r.2.mem ((c.tc : Thread Cert.ScanOutReferenceIdeal.nD Cert.ScanOutReferenceIdeal.τ).loc Cert.ScanOutReferenceIdeal.main_arg2) = m' ((c.tc : Thread Cert.ScanOutReferenceIdeal.nD Cert.ScanOutReferenceIdeal.τ).loc Cert.ScanOutReferenceIdeal.main_arg2))

def preserves_StickOut_StickOutIdeal : Prop :=
  True

def algebraic_StickOutIdeal_StickOutReferenceIdeal [hStickOutIdeal : Cert.StickOutIdeal.Facts] [hStickOutReferenceIdeal : Cert.StickOutReferenceIdeal.Facts] : Prop :=
  ∀ (m : (ℓ : Loc Cert.StickOutIdeal.nD Cert.StickOutIdeal.τ Cert.StickOutIdeal.sig) → Buf (Elt Ideal) ℓ) (g : Dev Cert.StickOutIdeal.nD → PrngReg)
    (m' : (ℓ : Loc Cert.StickOutReferenceIdeal.nD Cert.StickOutReferenceIdeal.τ Cert.StickOutReferenceIdeal.sig) → Buf (Elt Ideal) ℓ) (g' : Dev Cert.StickOutReferenceIdeal.nD → PrngReg), Pre_StickOutIdeal m →
    (∀ c : Dev Cert.StickOutIdeal.nD,
      m' ((c.tc : Thread Cert.StickOutReferenceIdeal.nD Cert.StickOutReferenceIdeal.τ).loc Cert.StickOutReferenceIdeal.main_arg0) = m ((c.tc : Thread Cert.StickOutIdeal.nD Cert.StickOutIdeal.τ).loc Cert.StickOutIdeal.main_arg0)
      ∧ m' ((c.tc : Thread Cert.StickOutReferenceIdeal.nD Cert.StickOutReferenceIdeal.τ).loc Cert.StickOutReferenceIdeal.main_arg1) = m ((c.tc : Thread Cert.StickOutIdeal.nD Cert.StickOutIdeal.τ).loc Cert.StickOutIdeal.main_arg1)
      ∧ m' ((c.tc : Thread Cert.StickOutReferenceIdeal.nD Cert.StickOutReferenceIdeal.τ).loc Cert.StickOutReferenceIdeal.main_arg2) = m ((c.tc : Thread Cert.StickOutIdeal.nD Cert.StickOutIdeal.τ).loc Cert.StickOutIdeal.main_arg2)) →
    ∃ (v0 : (c : Dev Cert.StickOutIdeal.nD) → Buf (Elt Ideal) ((c.tc : Thread Cert.StickOutIdeal.nD Cert.StickOutIdeal.τ).loc Cert.StickOutIdeal.main_v0)),
      θ_run (Cert.StickOutIdeal.defs (F := Ideal)) (onTc (τ := Cert.StickOutIdeal.τ) (Cert.StickOutIdeal.main (F := Ideal))) ⟨m, fun _ => 0, g⟩ (fun r => ∀ c : Dev Cert.StickOutIdeal.nD,
          r.2.mem ((c.tc : Thread Cert.StickOutIdeal.nD Cert.StickOutIdeal.τ).loc Cert.StickOutIdeal.main_v0) = v0 c
          ∧ r.2.mem ((c.tc : Thread Cert.StickOutIdeal.nD Cert.StickOutIdeal.τ).loc Cert.StickOutIdeal.main_arg0) = m ((c.tc : Thread Cert.StickOutIdeal.nD Cert.StickOutIdeal.τ).loc Cert.StickOutIdeal.main_arg0)
          ∧ r.2.mem ((c.tc : Thread Cert.StickOutIdeal.nD Cert.StickOutIdeal.τ).loc Cert.StickOutIdeal.main_arg1) = m ((c.tc : Thread Cert.StickOutIdeal.nD Cert.StickOutIdeal.τ).loc Cert.StickOutIdeal.main_arg1)
          ∧ r.2.mem ((c.tc : Thread Cert.StickOutIdeal.nD Cert.StickOutIdeal.τ).loc Cert.StickOutIdeal.main_arg2) = m ((c.tc : Thread Cert.StickOutIdeal.nD Cert.StickOutIdeal.τ).loc Cert.StickOutIdeal.main_arg2))
      ∧ θ_run (Cert.StickOutReferenceIdeal.defs (F := Ideal)) (onTc (τ := Cert.StickOutReferenceIdeal.τ) (Cert.StickOutReferenceIdeal.main (F := Ideal))) ⟨m', fun _ => 0, g'⟩ (fun r => ∀ c : Dev Cert.StickOutReferenceIdeal.nD,
          r.2.mem ((c.tc : Thread Cert.StickOutReferenceIdeal.nD Cert.StickOutReferenceIdeal.τ).loc Cert.StickOutReferenceIdeal.main_v4) = v0 c
          ∧ r.2.mem ((c.tc : Thread Cert.StickOutReferenceIdeal.nD Cert.StickOutReferenceIdeal.τ).loc Cert.StickOutReferenceIdeal.main_arg0) = m' ((c.tc : Thread Cert.StickOutReferenceIdeal.nD Cert.StickOutReferenceIdeal.τ).loc Cert.StickOutReferenceIdeal.main_arg0)
          ∧ r.2.mem ((c.tc : Thread Cert.StickOutReferenceIdeal.nD Cert.StickOutReferenceIdeal.τ).loc Cert.StickOutReferenceIdeal.main_arg1) = m' ((c.tc : Thread Cert.StickOutReferenceIdeal.nD Cert.StickOutReferenceIdeal.τ).loc Cert.StickOutReferenceIdeal.main_arg1)
          ∧ r.2.mem ((c.tc : Thread Cert.StickOutReferenceIdeal.nD Cert.StickOutReferenceIdeal.τ).loc Cert.StickOutReferenceIdeal.main_arg2) = m' ((c.tc : Thread Cert.StickOutReferenceIdeal.nD Cert.StickOutReferenceIdeal.τ).loc Cert.StickOutReferenceIdeal.main_arg2))

def preserves_GateIn_GateInIdeal : Prop :=
  True

def algebraic_GateInIdeal_GateInReferenceIdeal [hGateInIdeal : Cert.GateInIdeal.Facts] [hGateInReferenceIdeal : Cert.GateInReferenceIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInReferenceIdeal.nD Cert.GateInReferenceIdeal.τ Cert.GateInReferenceIdeal.sig) → Buf (Elt Ideal) ℓ) (g' : Dev Cert.GateInReferenceIdeal.nD → PrngReg), Pre_GateInIdeal m →
    (∀ c : Dev Cert.GateInIdeal.nD,
      m' ((c.tc : Thread Cert.GateInReferenceIdeal.nD Cert.GateInReferenceIdeal.τ).loc Cert.GateInReferenceIdeal.main_arg0) = m ((c.tc : Thread Cert.GateInIdeal.nD Cert.GateInIdeal.τ).loc Cert.GateInIdeal.main_arg0)
      ∧ m' ((c.tc : Thread Cert.GateInReferenceIdeal.nD Cert.GateInReferenceIdeal.τ).loc Cert.GateInReferenceIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v1)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v1) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.GateInReferenceIdeal.defs (F := Ideal)) (onTc (τ := Cert.GateInReferenceIdeal.τ) (Cert.GateInReferenceIdeal.main (F := Ideal))) ⟨m', fun _ => 0, g'⟩ (fun r => ∀ c : Dev Cert.GateInReferenceIdeal.nD,
          r.2.mem ((c.tc : Thread Cert.GateInReferenceIdeal.nD Cert.GateInReferenceIdeal.τ).loc Cert.GateInReferenceIdeal.main_v7) = v0 c
          ∧ r.2.mem ((c.tc : Thread Cert.GateInReferenceIdeal.nD Cert.GateInReferenceIdeal.τ).loc Cert.GateInReferenceIdeal.main_arg0) = m' ((c.tc : Thread Cert.GateInReferenceIdeal.nD Cert.GateInReferenceIdeal.τ).loc Cert.GateInReferenceIdeal.main_arg0)
          ∧ r.2.mem ((c.tc : Thread Cert.GateInReferenceIdeal.nD Cert.GateInReferenceIdeal.τ).loc Cert.GateInReferenceIdeal.main_arg1) = m' ((c.tc : Thread Cert.GateInReferenceIdeal.nD Cert.GateInReferenceIdeal.τ).loc Cert.GateInReferenceIdeal.main_arg1))

def preserves_ConvIn_ConvInIdeal : Prop :=
  True

def algebraic_ConvInIdeal_ConvInReferenceIdeal [hConvInIdeal : Cert.ConvInIdeal.Facts] [hConvInReferenceIdeal : Cert.ConvInReferenceIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInIdeal m →
    (∀ c : Dev Cert.ConvInIdeal.nD,
      m' ((c.tc : Thread Cert.ConvInReferenceIdeal.nD Cert.ConvInReferenceIdeal.τ).loc Cert.ConvInReferenceIdeal.main_arg0) = m ((c.tc : Thread Cert.ConvInIdeal.nD Cert.ConvInIdeal.τ).loc Cert.ConvInIdeal.main_arg0)
      ∧ m' ((c.tc : Thread Cert.ConvInReferenceIdeal.nD Cert.ConvInReferenceIdeal.τ).loc Cert.ConvInReferenceIdeal.main_arg1) = m ((c.tc : Thread Cert.ConvInIdeal.nD Cert.ConvInIdeal.τ).loc Cert.ConvInIdeal.main_arg1)
      ∧ m' ((c.tc : Thread Cert.ConvInReferenceIdeal.nD Cert.ConvInReferenceIdeal.τ).loc Cert.ConvInReferenceIdeal.main_arg2) = m ((c.tc : Thread Cert.ConvInIdeal.nD Cert.ConvInIdeal.τ).loc Cert.ConvInIdeal.main_arg2)
      ∧ m' ((c.tc : Thread Cert.ConvInReferenceIdeal.nD Cert.ConvInReferenceIdeal.τ).loc Cert.ConvInReferenceIdeal.main_arg3) = m ((c.tc : Thread Cert.ConvInIdeal.nD Cert.ConvInIdeal.τ).loc Cert.ConvInIdeal.main_arg3)) →
    ∃ (v0 : (c : Dev Cert.ConvInIdeal.nD) → Buf (Elt Ideal) ((c.tc : Thread Cert.ConvInIdeal.nD Cert.ConvInIdeal.τ).loc Cert.ConvInIdeal.main_v6)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v6) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v42) = v0 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1)
          ∧ r.2.mem ((c.tc : Thread Cert.ConvInReferenceIdeal.nD Cert.ConvInReferenceIdeal.τ).loc Cert.ConvInReferenceIdeal.main_arg2) = m' ((c.tc : Thread Cert.ConvInReferenceIdeal.nD Cert.ConvInReferenceIdeal.τ).loc Cert.ConvInReferenceIdeal.main_arg2)
          ∧ r.2.mem ((c.tc : Thread Cert.ConvInReferenceIdeal.nD Cert.ConvInReferenceIdeal.τ).loc Cert.ConvInReferenceIdeal.main_arg3) = m' ((c.tc : Thread Cert.ConvInReferenceIdeal.nD Cert.ConvInReferenceIdeal.τ).loc Cert.ConvInReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v12) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def Claim : Prop :=
  ∃ (hKernel : Cert.Kernel.Facts) (hKernelIdeal : Cert.KernelIdeal.Facts) (hReferenceIdeal : Cert.ReferenceIdeal.Facts) (hMoeUp : Cert.MoeUp.Facts) (hMoeUpIdeal : Cert.MoeUpIdeal.Facts) (hMoeUpReferenceIdeal : Cert.MoeUpReferenceIdeal.Facts) (hMoeDown : Cert.MoeDown.Facts) (hMoeDownIdeal : Cert.MoeDownIdeal.Facts) (hMoeDownReferenceIdeal : Cert.MoeDownReferenceIdeal.Facts) (hDenseUp : Cert.DenseUp.Facts) (hDenseUpIdeal : Cert.DenseUpIdeal.Facts) (hDenseUpReferenceIdeal : Cert.DenseUpReferenceIdeal.Facts) (hDenseDown : Cert.DenseDown.Facts) (hDenseDownIdeal : Cert.DenseDownIdeal.Facts) (hDenseDownReferenceIdeal : Cert.DenseDownReferenceIdeal.Facts) (hQkv : Cert.Qkv.Facts) (hQkvIdeal : Cert.QkvIdeal.Facts) (hQkvReferenceIdeal : Cert.QkvReferenceIdeal.Facts) (hScanOut : Cert.ScanOut.Facts) (hScanOutIdeal : Cert.ScanOutIdeal.Facts) (hScanOutReferenceIdeal : Cert.ScanOutReferenceIdeal.Facts) (hStickOut : Cert.StickOut.Facts) (hStickOutIdeal : Cert.StickOutIdeal.Facts) (hStickOutReferenceIdeal : Cert.StickOutReferenceIdeal.Facts) (hGateIn : Cert.GateIn.Facts) (hGateInIdeal : Cert.GateInIdeal.Facts) (hGateInReferenceIdeal : Cert.GateInReferenceIdeal.Facts) (hConvIn : Cert.ConvIn.Facts) (hConvInIdeal : Cert.ConvInIdeal.Facts) (hConvInReferenceIdeal : Cert.ConvInReferenceIdeal.Facts) (hNorm : Cert.Norm.Facts) (hNormIdeal : Cert.NormIdeal.Facts) (hNormReferenceIdeal : Cert.NormReferenceIdeal.Facts) (hFinalNorm : Cert.FinalNorm.Facts) (hFinalNormIdeal : Cert.FinalNormIdeal.Facts) (hFinalNormReferenceIdeal : Cert.FinalNormReferenceIdeal.Facts) (hPre_finite : Cert.Pre_finite.Facts) (hPre_experts2 : Cert.Pre_experts2.Facts) (hPre_experts3 : Cert.Pre_experts3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MoeUp (hMoeUp := hMoeUp) (hPre_experts2 := hPre_experts2)
    ∧ quiescent_MoeUpIdeal (hMoeUpIdeal := hMoeUpIdeal) (hPre_experts2 := hPre_experts2)
    ∧ quiescent_MoeUpReferenceIdeal (hMoeUpReferenceIdeal := hMoeUpReferenceIdeal)
    ∧ quiescent_MoeUpReferenceIdeal_pre_experts2 (hMoeUpReferenceIdeal := hMoeUpReferenceIdeal) (hPre_experts2 := hPre_experts2)
    ∧ quiescent_MoeDown (hMoeDown := hMoeDown) (hPre_experts3 := hPre_experts3)
    ∧ quiescent_MoeDownIdeal (hMoeDownIdeal := hMoeDownIdeal) (hPre_experts3 := hPre_experts3)
    ∧ quiescent_MoeDownReferenceIdeal (hMoeDownReferenceIdeal := hMoeDownReferenceIdeal)
    ∧ quiescent_MoeDownReferenceIdeal_pre_experts3 (hMoeDownReferenceIdeal := hMoeDownReferenceIdeal) (hPre_experts3 := hPre_experts3)
    ∧ quiescent_DenseUp (hDenseUp := hDenseUp)
    ∧ quiescent_DenseUpIdeal (hDenseUpIdeal := hDenseUpIdeal)
    ∧ quiescent_DenseUpReferenceIdeal (hDenseUpReferenceIdeal := hDenseUpReferenceIdeal)
    ∧ quiescent_DenseDown (hDenseDown := hDenseDown)
    ∧ quiescent_DenseDownIdeal (hDenseDownIdeal := hDenseDownIdeal)
    ∧ quiescent_DenseDownReferenceIdeal (hDenseDownReferenceIdeal := hDenseDownReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_ScanOut (hScanOut := hScanOut)
    ∧ quiescent_ScanOutIdeal (hScanOutIdeal := hScanOutIdeal)
    ∧ quiescent_ScanOutReferenceIdeal (hScanOutReferenceIdeal := hScanOutReferenceIdeal)
    ∧ quiescent_StickOut (hStickOut := hStickOut)
    ∧ quiescent_StickOutIdeal (hStickOutIdeal := hStickOutIdeal)
    ∧ quiescent_StickOutReferenceIdeal (hStickOutReferenceIdeal := hStickOutReferenceIdeal)
    ∧ quiescent_GateIn (hGateIn := hGateIn)
    ∧ quiescent_GateInIdeal (hGateInIdeal := hGateInIdeal)
    ∧ quiescent_GateInReferenceIdeal (hGateInReferenceIdeal := hGateInReferenceIdeal)
    ∧ quiescent_ConvIn (hConvIn := hConvIn)
    ∧ quiescent_ConvInIdeal (hConvInIdeal := hConvInIdeal)
    ∧ quiescent_ConvInReferenceIdeal (hConvInReferenceIdeal := hConvInReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MoeUp_MoeUpIdeal
    ∧ algebraic_MoeUpIdeal_MoeUpReferenceIdeal (hMoeUpIdeal := hMoeUpIdeal) (hMoeUpReferenceIdeal := hMoeUpReferenceIdeal) (hPre_experts2 := hPre_experts2)
    ∧ preserves_MoeDown_MoeDownIdeal
    ∧ algebraic_MoeDownIdeal_MoeDownReferenceIdeal (hMoeDownIdeal := hMoeDownIdeal) (hMoeDownReferenceIdeal := hMoeDownReferenceIdeal) (hPre_experts3 := hPre_experts3)
    ∧ preserves_DenseUp_DenseUpIdeal
    ∧ algebraic_DenseUpIdeal_DenseUpReferenceIdeal (hDenseUpIdeal := hDenseUpIdeal) (hDenseUpReferenceIdeal := hDenseUpReferenceIdeal)
    ∧ preserves_DenseDown_DenseDownIdeal
    ∧ algebraic_DenseDownIdeal_DenseDownReferenceIdeal (hDenseDownIdeal := hDenseDownIdeal) (hDenseDownReferenceIdeal := hDenseDownReferenceIdeal)
    ∧ preserves_Qkv_QkvIdeal
    ∧ algebraic_QkvIdeal_QkvReferenceIdeal (hQkvIdeal := hQkvIdeal) (hQkvReferenceIdeal := hQkvReferenceIdeal)
    ∧ preserves_ScanOut_ScanOutIdeal
    ∧ algebraic_ScanOutIdeal_ScanOutReferenceIdeal (hScanOutIdeal := hScanOutIdeal) (hScanOutReferenceIdeal := hScanOutReferenceIdeal)
    ∧ preserves_StickOut_StickOutIdeal
    ∧ algebraic_StickOutIdeal_StickOutReferenceIdeal (hStickOutIdeal := hStickOutIdeal) (hStickOutReferenceIdeal := hStickOutReferenceIdeal)
    ∧ preserves_GateIn_GateInIdeal
    ∧ algebraic_GateInIdeal_GateInReferenceIdeal (hGateInIdeal := hGateInIdeal) (hGateInReferenceIdeal := hGateInReferenceIdeal)
    ∧ preserves_ConvIn_ConvInIdeal
    ∧ algebraic_ConvInIdeal_ConvInReferenceIdeal (hConvInIdeal := hConvInIdeal) (hConvInReferenceIdeal := hConvInReferenceIdeal)
    ∧ preserves_Norm_NormIdeal
    ∧ algebraic_NormIdeal_NormReferenceIdeal (hNormIdeal := hNormIdeal) (hNormReferenceIdeal := hNormReferenceIdeal)
    ∧ preserves_FinalNorm_FinalNormIdeal
    ∧ algebraic_FinalNormIdeal_FinalNormReferenceIdeal (hFinalNormIdeal := hFinalNormIdeal) (hFinalNormReferenceIdeal := hFinalNormReferenceIdeal)
-- ==== Pre_experts2.lean ====
abbrev S20480x2048 : Shape := ⟨2, ![20480, 2048]⟩
abbrev S2x8x2048x5632 : Shape := ⟨4, ![2, 8, 2048, 5632]⟩
abbrev S40 : Shape := ⟨1, ![40]⟩
abbrev S1 : Shape := ⟨1, ![1]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x2048 .bf16) (main_arg1 : FVec F S2x8x2048x5632 .f32) (main_arg2 : FVec F S2x8x2048x5632 .f32) (main_arg3 : IVec S40 32) (main_arg4 : IVec S1 32) : IVec S_ 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_experts3.lean ====
abbrev S20480x5632 : Shape := ⟨2, ![20480, 5632]⟩
abbrev S2x8x5632x2048 : Shape := ⟨4, ![2, 8, 5632, 2048]⟩
abbrev S40 : Shape := ⟨1, ![40]⟩
abbrev S1 : Shape := ⟨1, ![1]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x5632 .bf16) (main_arg1 : FVec F S2x8x5632x2048 .f32) (main_arg2 : IVec S40 32) (main_arg3 : IVec S1 32) : IVec S_ 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite.lean ====
abbrev S8192x6144 : Shape := ⟨2, ![8192, 6144]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel

variable [Facts]

def fn {F : FTy → Type} [FloatOps F] (main_arg0 : FVec F S8192x6144 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  main_v3
-- ==== Kernel.lean ====
abbrev S8192x6144 : Shape := ⟨2, ![8192, 6144]⟩
abbrev S6144 : Shape := ⟨1, ![6144]⟩
abbrev S_ : Shape := ⟨0, ![]⟩
abbrev S1x6144 : Shape := ⟨2, ![1, 6144]⟩
abbrev S8192x2048 : Shape := ⟨2, ![8192, 2048]⟩
abbrev S256x1024 : Shape := ⟨2, ![256, 1024]⟩
abbrev S4096x1024 : Shape := ⟨2, ![4096, 1024]⟩
abbrev S8x256x128 : Shape := ⟨3, ![8, 256, 128]⟩
abbrev S256x256 : Shape := ⟨2, ![256, 256]⟩
abbrev S256x1 : Shape := ⟨2, ![256, 1]⟩
abbrev S256x128 : Shape := ⟨2, ![256, 128]⟩
abbrev S1x256x128 : Shape := ⟨3, ![1, 256, 128]⟩
abbrev S256 : Shape := ⟨1, ![256]⟩

abbrev nBuf : Space → Nat
  | .hbm => 21
  | .vmem => 9
  | .smem => 0
  | _ => 0

abbrev bufTy : (tb : Table) → Fin (tcTables nBuf tb) → BufTy
  | .hbm, ⟨0, _⟩ => ⟨S8192x6144, .f32⟩
  | .hbm, ⟨1, _⟩ => ⟨S6144, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S6144, .i32⟩
  | .hbm, ⟨11, _⟩ => ⟨S6144, .i1⟩
  | .hbm, ⟨12, _⟩ => ⟨S_, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S1x6144, .f32⟩
  | .hbm, ⟨17, _⟩ => ⟨S8192x6144, .f32⟩
  | .hbm, ⟨18, _⟩ => ⟨S8192x6144, .f32⟩
  | .hbm, ⟨19, _⟩ => ⟨S8192x6144, .bf16⟩
  | .hbm, ⟨20, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S256x1024, .bf16⟩
  | .local _ .vmem, ⟨7, _⟩ => ⟨S256x1024, .bf16⟩
  | .local _ .vmem, ⟨8, _⟩ => ⟨S8x256x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c256_i32 : BitVec 32 := 256#32
  let v18 : BitVec 32 := Scalar.muli arg2 c256_i32
  v18
def k0_off1 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v22 : Index := Scalar.indexCast v19
  let c0_12 : Index := 0#32
  ![v22.toNat, 0]
def k0_off2 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v28 : Index := Scalar.indexCast v19
  let c128_15 : Index := 128#32
  ![v28.toNat, 128]
def k0_off3 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v34 : Index := Scalar.indexCast v19
  let c256_18 : Index := 256#32
  ![v34.toNat, 256]
def k0_off4 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v40 : Index := Scalar.indexCast v19
  let c384_21 : Index := 384#32
  ![v40.toNat, 384]
def k0_off5 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v46 : Index := Scalar.indexCast v19
  let c512_24 : Index := 512#32
  ![v46.toNat, 512]
def k0_off6 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v52 : Index := Scalar.indexCast v19
  let c640_27 : Index := 640#32
  ![v52.toNat, 640]
def k0_off7 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v58 : Index := Scalar.indexCast v19
  let c768_30 : Index := 768#32
  ![v58.toNat, 768]
def k0_off8 (i : grid0.Coords) : Fin 2 → Nat :=
  let arg2 : BitVec 32 := BitVec.ofNat 32 (i 2).val
  let c256_i32 : BitVec 32 := 256#32
  let v18 : BitVec 32 := Scalar.muli arg2 c256_i32
  let v19 : BitVec 32 := v18
  let v64 : Index := Scalar.indexCast v19
  let c896_33 : Index := 896#32
  ![v64.toNat, 896]
@[reducible] def k0_t1_loop (i : grid0.Coords) : Scf.Loop 32 :=
  let c0_i32 : BitVec 32 := 0#32
  let arg2 : BitVec 32 := BitVec.ofNat 32 (i 2).val
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_156 : BitVec 32 := 1#32
  ⟨c0_i32, v368, c1_i32_156⟩
def k0_mult2 (i : grid0.Coords) (k0_t1 : Fin (k0_t1_loop i).trips) : BitVec 32 :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  v405
def k0_off9 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v409 : Index := Scalar.indexCast v406
  let c0_202 : Index := 0#32
  ![v409.toNat, 0]
def k0_off10 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v415 : Index := Scalar.indexCast v406
  let c128_206 : Index := 128#32
  ![v415.toNat, 128]
def k0_off11 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v421 : Index := Scalar.indexCast v406
  let c256_210 : Index := 256#32
  ![v421.toNat, 256]
def k0_off12 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v427 : Index := Scalar.indexCast v406
  let c384_214 : Index := 384#32
  ![v427.toNat, 384]
def k0_off13 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v433 : Index := Scalar.indexCast v406
  let c512_218 : Index := 512#32
  ![v433.toNat, 512]
def k0_off14 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v439 : Index := Scalar.indexCast v406
  let c640_222 : Index := 640#32
  ![v439.toNat, 640]
def k0_off15 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v445 : Index := Scalar.indexCast v406
  let c768_226 : Index := 768#32
  ![v445.toNat, 768]
def k0_off16 (i : grid0.Coords) (k0_t1 : Fin (k0_t1_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let c1_i32_156 : BitVec 32 := 1#32
  let arg8 : BitVec 32 := Scf.iv c0_i32 c1_i32_156 k0_t1
  let v404 : BitVec 32 := Scalar.subi v403 arg8
  let c256_i32_199 : BitVec 32 := 256#32
  let v405 : BitVec 32 := Scalar.muli v404 c256_i32_199
  let v406 : BitVec 32 := v405
  let v451 : Index := Scalar.indexCast v406
  let c896_230 : Index := 896#32
  ![v451.toNat, 896]
@[reducible] def k0_t2_loop (i : grid0.Coords) : Scf.Loop 32 :=
  let c0_i32 : BitVec 32 := 0#32
  let arg2 : BitVec 32 := BitVec.ofNat 32 (i 2).val
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let v365 : BitVec 32 := Scalar.addi c0_i32 v364
  let c1_i32_157 : BitVec 32 := 1#32
  ⟨v368, v365, c1_i32_157⟩
def k0_mult3 (i : grid0.Coords) (k0_t2 : Fin (k0_t2_loop i).trips) : BitVec 32 :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  v405
def k0_off17 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v409 : Index := Scalar.indexCast v406
  let c0_202 : Index := 0#32
  ![v409.toNat, 0]
def k0_off18 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v415 : Index := Scalar.indexCast v406
  let c128_206 : Index := 128#32
  ![v415.toNat, 128]
def k0_off19 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v421 : Index := Scalar.indexCast v406
  let c256_210 : Index := 256#32
  ![v421.toNat, 256]
def k0_off20 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v427 : Index := Scalar.indexCast v406
  let c384_214 : Index := 384#32
  ![v427.toNat, 384]
def k0_off21 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v433 : Index := Scalar.indexCast v406
  let c512_218 : Index := 512#32
  ![v433.toNat, 512]
def k0_off22 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v439 : Index := Scalar.indexCast v406
  let c640_222 : Index := 640#32
  ![v439.toNat, 640]
def k0_off23 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v445 : Index := Scalar.indexCast v406
  let c768_226 : Index := 768#32
  ![v445.toNat, 768]
def k0_off24 (i : grid0.Coords) (k0_t2 : Fin (k0_t2_loop i).trips) : Fin 2 → Nat :=
  let arg2 : BitVec 32 := BitVec.ofNat 32 (i 2).val
  let c1_i32_198 : BitVec 32 := 1#32
  let v403 : BitVec 32 := Scalar.subi arg2 c1_i32_198
  let c0_i32 : BitVec 32 := 0#32
  let v364 : BitVec 32 := Scalar.subi arg2 c0_i32
  let c1_i32 : BitVec 32 := 1#32
  let v366 : BitVec 32 := Scalar.divsi v364 c1_i32
  let v367 : BitVec 32 := Scalar.muli v366 c1_i32
  let v368 : BitVec 32 := Scalar.addi c0_i32 v367
  let c1_i32_157 : BitVec 32 := 1#32
  let arg8 : BitVec 32 := Scf.iv v368 c1_i32_157 k0_t2
  let v404 : BitVec 32 := Scalar.subi v403 arg8
  let c256_i32_199 : BitVec 32 := 256#32
  let v405 : BitVec 32 := Scalar.muli v404 c256_i32_199
  let v406 : BitVec 32 := v405
  let v451 : Index := Scalar.indexCast v406
  let c896_230 : Index := 896#32
  ![v451.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x6144 : Shape := ⟨2, ![8192, 6144]⟩
abbrev S2x4096x3x16x128 : Shape := ⟨5, ![2, 4096, 3, 16, 128]⟩
abbrev S2x4096x1x16x128 : Shape := ⟨5, ![2, 4096, 1, 16, 128]⟩
abbrev S2x4096x16x128 : Shape := ⟨4, ![2, 4096, 16, 128]⟩
abbrev S2x16x4096x128 : Shape := ⟨4, ![2, 16, 4096, 128]⟩
abbrev S_ : Shape := ⟨0, ![]⟩
abbrev S2x16x4096x4096 : Shape := ⟨4, ![2, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8192x2048 : Shape := ⟨2, ![8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S2x4096x3x16x128, .f32⟩
  | .hbm, ⟨2, _⟩ => ⟨S2x4096x1x16x128, .f32⟩
  | .hbm, ⟨3, _⟩ => ⟨S2x4096x16x128, .f32⟩
  | .hbm, ⟨4, _⟩ => ⟨S2x16x4096x128, .f32⟩
  | .hbm, ⟨5, _⟩ => ⟨S2x4096x1x16x128, .f32⟩
  | .hbm, ⟨6, _⟩ => ⟨S2x4096x16x128, .f32⟩
  | .hbm, ⟨7, _⟩ => ⟨S2x16x4096x128, .f32⟩
  | .hbm, ⟨8, _⟩ => ⟨S2x4096x1x16x128, .f32⟩
  | .hbm, ⟨9, _⟩ => ⟨S2x4096x16x128, .f32⟩
  | .hbm, ⟨10, _⟩ => ⟨S2x16x4096x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x16x4096x4096, .f32⟩
  | .hbm, ⟨16, _⟩ => ⟨S2x16x4096x4096, .f32⟩
  | .hbm, ⟨17, _⟩ => ⟨S2x16x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S_, .f32⟩
  | .hbm, ⟨41, _⟩ => ⟨S2x16x4096x4096, .i1⟩
  | .hbm, ⟨42, _⟩ => ⟨S2x16x4096x4096, .f32⟩
  | .hbm, ⟨43, _⟩ => ⟨S2x16x4096x4096, .f32⟩
  | .hbm, ⟨44, _⟩ => ⟨S_, .f32⟩
  | .hbm, ⟨45, _⟩ => ⟨S_, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S_, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .f32⟩
  | .hbm, ⟨54, _⟩ => ⟨S2x16x4096x4096, .i1⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S2x16x4096x4096, .f32⟩
  | .hbm, ⟨66, _⟩ => ⟨S_, .f32⟩
  | .hbm, ⟨67, _⟩ => ⟨S_, .f32⟩
  | .hbm, ⟨68, _⟩ => ⟨S2x16x4096x4096, .i1⟩
  | .hbm, ⟨69, _⟩ => ⟨S2x16x4096x4096, .f32⟩
  | .hbm, ⟨70, _⟩ => ⟨S2x16x4096x4096, .f32⟩
  | .hbm, ⟨71, _⟩ => ⟨S2x16x4096x128, .f32⟩
  | .hbm, ⟨72, _⟩ => ⟨S2x4096x16x128, .f32⟩
  | .hbm, ⟨73, _⟩ => ⟨S8192x2048, .f32⟩
  | .hbm, ⟨74, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v22 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_call2_cst : Ref sig .tc := ⟨.hbm, 44, rfl⟩
abbrev main_call2_v0 : Ref sig .tc := ⟨.hbm, 45, rfl⟩
abbrev main_v24 : Ref sig .tc := ⟨.hbm, 46, rfl⟩
abbrev main_v25 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_2 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩

abbrev nD : Nat := 1
abbrev τ : Topo := Topo.v7x

variable {F : FTy → Type} [FloatOps F]
-- ==== MoeUp.lean ====
abbrev S20480x2048 : Shape := ⟨2, ![20480, 2048]⟩
abbrev S2x8x2048x5632 : Shape := ⟨4, ![2, 8, 2048, 5632]⟩
abbrev S40 : Shape := ⟨1, ![40]⟩
abbrev S1 : Shape := ⟨1, ![1]⟩
abbrev S20480x5632 : Shape := ⟨2, ![20480, 5632]⟩
abbrev S512x2048 : Shape := ⟨2, ![512, 2048]⟩
abbrev S1x1x2048x512 : Shape := ⟨4, ![1, 1, 2048, 512]⟩
abbrev S512x512 : Shape := ⟨2, ![512, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S20480x2048, .bf16⟩
  | .hbm, ⟨1, _⟩ => ⟨S2x8x2048x5632, .f32⟩
  | .hbm, ⟨2, _⟩ => ⟨S2x8x2048x5632, .f32⟩
  | .hbm, ⟨3, _⟩ => ⟨S20480x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S40, .i32⟩
  | .local _ .smem, ⟨1, _⟩ => ⟨S1, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 40], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpReferenceIdeal.lean ====
abbrev S20480x2048 : Shape := ⟨2, ![20480, 2048]⟩
abbrev S2x8x2048x5632 : Shape := ⟨4, ![2, 8, 2048, 5632]⟩
abbrev S40 : Shape := ⟨1, ![40]⟩
abbrev S1 : Shape := ⟨1, ![1]⟩
abbrev S40x1 : Shape := ⟨2, ![40, 1]⟩
abbrev S40x512 : Shape := ⟨2, ![40, 512]⟩
abbrev S20480x1 : Shape := ⟨2, ![20480, 1]⟩
abbrev S_ : Shape := ⟨0, ![]⟩
abbrev S20480x5632 : Shape := ⟨2, ![20480, 5632]⟩
abbrev S1x1x2048x5632 : Shape := ⟨4, ![1, 1, 2048, 5632]⟩
abbrev S2048x5632 : Shape := ⟨2, ![2048, 5632]⟩

abbrev nBuf : Space → Nat
  | .hbm => 192
  | .vmem => 0
  | .smem => 0
  | _ => 0

abbrev hbmTy0_0 (i : Nat) : BufTy := match i % 128 with
  | 0 => ⟨S20480x2048, .bf16⟩
  | 1 => ⟨S2x8x2048x5632, .f32⟩
  | 2 => ⟨S2x8x2048x5632, .f32⟩
  | 3 => ⟨S40, .i32⟩
  | 4 => ⟨S1, .i32⟩
  | 5 => ⟨S20480x2048, .f32⟩
  | 6 => ⟨S40x1, .i32⟩
  | 7 => ⟨S40x512, .i32⟩
  | 8 => ⟨S20480x1, .i32⟩
  | 9 => ⟨S_, .f32⟩
  | 10 => ⟨S20480x5632, .f32⟩
  | 11 => ⟨S1x1x2048x5632, .f32⟩
  | 12 => ⟨S2048x5632, .f32⟩
  | 13 => ⟨S20480x5632, .f32⟩
  | 14 => ⟨S20480x5632, .f32⟩
  | 15 => ⟨S20480x5632, .f32⟩
  | 16 => ⟨S_, .f32⟩
  | 17 => ⟨S20480x5632, .f32⟩
  | 18 => ⟨S20480x5632, .f32⟩
  | 19 => ⟨S_, .f32⟩
  | 20 => ⟨S20480x5632, .f32⟩
  | 21 => ⟨S20480x5632, .f32⟩
  | 22 => ⟨S20480x5632, .f32⟩
  | 23 => ⟨S1x1x2048x5632, .f32⟩
  | 24 => ⟨S2048x5632, .f32⟩
  | 25 => ⟨S20480x5632, .f32⟩
  | 26 => ⟨S20480x5632, .f32⟩
  | 27 => ⟨S_, .i32⟩
  | 28 => ⟨S20480x1, .i32⟩
  | 29 => ⟨S20480x1, .i1⟩
  | 30 => ⟨S20480x5632, .i1⟩
  | 31 => ⟨S20480x5632, .f32⟩
  | 32 => ⟨S1x1x2048x5632, .f32⟩
  | 33 => ⟨S2048x5632, .f32⟩
  | 34 => ⟨S20480x5632, .f32⟩
  | 35 => ⟨S20480x5632, .f32⟩
  | 36 => ⟨S20480x5632, .f32⟩
  | 37 => ⟨S_, .f32⟩
  | 38 => ⟨S20480x5632, .f32⟩
  | 39 => ⟨S20480x5632, .f32⟩
  | 40 => ⟨S_, .f32⟩
  | 41 => ⟨S20480x5632, .f32⟩
  | 42 => ⟨S20480x5632, .f32⟩
  | 43 => ⟨S20480x5632, .f32⟩
  | 44 => ⟨S1x1x2048x5632, .f32⟩
  | 45 => ⟨S2048x5632, .f32⟩
  | 46 => ⟨S20480x5632, .f32⟩
  | 47 => ⟨S20480x5632, .f32⟩
  | 48 => ⟨S_, .i32⟩
  | 49 => ⟨S20480x1, .i32⟩
  | 50 => ⟨S20480x1, .i1⟩
  | 51 => ⟨S20480x5632, .i1⟩
  | 52 => ⟨S20480x5632, .f32⟩
  | 53 => ⟨S1x1x2048x5632, .f32⟩
  | 54 => ⟨S2048x5632, .f32⟩
  | 55 => ⟨S20480x5632, .f32⟩
  | 56 => ⟨S20480x5632, .f32⟩
  | 57 => ⟨S20480x5632, .f32⟩
  | 58 => ⟨S_, .f32⟩
  | 59 => ⟨S20480x5632, .f32⟩
  | 60 => ⟨S20480x5632, .f32⟩
  | 61 => ⟨S_, .f32⟩
  | 62 => ⟨S20480x5632, .f32⟩
  | 63 => ⟨S20480x5632, .f32⟩
  | 64 => ⟨S20480x5632, .f32⟩
  | 65 => ⟨S1x1x2048x5632, .f32⟩
  | 66 => ⟨S2048x5632, .f32⟩
  | 67 => ⟨S20480x5632, .f32⟩
  | 68 => ⟨S20480x5632, .f32⟩
  | 69 => ⟨S_, .i32⟩
  | 70 => ⟨S20480x1, .i32⟩
  | 71 => ⟨S20480x1, .i1⟩
  | 72 => ⟨S20480x5632, .i1⟩
  | 73 => ⟨S20480x5632, .f32⟩
  | 74 => ⟨S1x1x2048x5632, .f32⟩
  | 75 => ⟨S2048x5632, .f32⟩
  | 76 => ⟨S20480x5632, .f32⟩
  | 77 => ⟨S20480x5632, .f32⟩
  | 78 => ⟨S20480x5632, .f32⟩
  | 79 => ⟨S_, .f32⟩
  | 80 => ⟨S20480x5632, .f32⟩
  | 81 => ⟨S20480x5632, .f32⟩
  | 82 => ⟨S_, .f32⟩
  | 83 => ⟨S20480x5632, .f32⟩
  | 84 => ⟨S20480x5632, .f32⟩
  | 85 => ⟨S20480x5632, .f32⟩
  | 86 => ⟨S1x1x2048x5632, .f32⟩
  | 87 => ⟨S2048x5632, .f32⟩
  | 88 => ⟨S20480x5632, .f32⟩
  | 89 => ⟨S20480x5632, .f32⟩
  | 90 => ⟨S_, .i32⟩
  | 91 => ⟨S20480x1, .i32⟩
  | 92 => ⟨S20480x1, .i1⟩
  | 93 => ⟨S20480x5632, .i1⟩
  | 94 => ⟨S20480x5632, .f32⟩
  | 95 => ⟨S1x1x2048x5632, .f32⟩
  | 96 => ⟨S2048x5632, .f32⟩
  | 97 => ⟨S20480x5632, .f32⟩
  | 98 => ⟨S20480x5632, .f32⟩
  | 99 => ⟨S20480x5632, .f32⟩
  | 100 => ⟨S_, .f32⟩
  | 101 => ⟨S20480x5632, .f32⟩
  | 102 => ⟨S20480x5632, .f32⟩
  | 103 => ⟨S_, .f32⟩
  | 104 => ⟨S20480x5632, .f32⟩
  | 105 => ⟨S20480x5632, .f32⟩
  | 106 => ⟨S20480x5632, .f32⟩
  | 107 => ⟨S1x1x2048x5632, .f32⟩
  | 108 => ⟨S2048x5632, .f32⟩
  | 109 => ⟨S20480x5632, .f32⟩
  | 110 => ⟨S20480x5632, .f32⟩
  | 111 => ⟨S_, .i32⟩
  | 112 => ⟨S20480x1, .i32⟩
  | 113 => ⟨S20480x1, .i1⟩
  | 114 => ⟨S20480x5632, .i1⟩
  | 115 => ⟨S20480x5632, .f32⟩
  | 116 => ⟨S1x1x2048x5632, .f32⟩
  | 117 => ⟨S2048x5632, .f32⟩
  | 118 => ⟨S20480x5632, .f32⟩
  | 119 => ⟨S20480x5632, .f32⟩
  | 120 => ⟨S20480x5632, .f32⟩
  | 121 => ⟨S_, .f32⟩
  | 122 => ⟨S20480x5632, .f32⟩
  | 123 => ⟨S20480x5632, .f32⟩
  | 124 => ⟨S_, .f32⟩
  | 125 => ⟨S20480x5632, .f32⟩
  | 126 => ⟨S20480x5632, .f32⟩
  | 127 => ⟨S20480x5632, .f32⟩
  | _ => ⟨S20480x2048, .bf16⟩

abbrev hbmTy0_1 (i : Nat) : BufTy := match i % 128 with
  | 0 => ⟨S1x1x2048x5632, .f32⟩
  | 1 => ⟨S2048x5632, .f32⟩
  | 2 => ⟨S20480x5632, .f32⟩
  | 3 => ⟨S20480x5632, .f32⟩
  | 4 => ⟨S_, .i32⟩
  | 5 => ⟨S20480x1, .i32⟩
  | 6 => ⟨S20480x1, .i1⟩
  | 7 => ⟨S20480x5632, .i1⟩
  | 8 => ⟨S20480x5632, .f32⟩
  | 9 => ⟨S1x1x2048x5632, .f32⟩
  | 10 => ⟨S2048x5632, .f32⟩
  | 11 => ⟨S20480x5632, .f32⟩
  | 12 => ⟨S20480x5632, .f32⟩
  | 13 => ⟨S20480x5632, .f32⟩
  | 14 => ⟨S_, .f32⟩
  | 15 => ⟨S20480x5632, .f32⟩
  | 16 => ⟨S20480x5632, .f32⟩
  | 17 => ⟨S_, .f32⟩
  | 18 => ⟨S20480x5632, .f32⟩
  | 19 => ⟨S20480x5632, .f32⟩
  | 20 => ⟨S20480x5632, .f32⟩
  | 21 => ⟨S1x1x2048x5632, .f32⟩
  | 22 => ⟨S2048x5632, .f32⟩
  | 23 => ⟨S20480x5632, .f32⟩
  | 24 => ⟨S20480x5632, .f32⟩
  | 25 => ⟨S_, .i32⟩
  | 26 => ⟨S20480x1, .i32⟩
  | 27 => ⟨S20480x1, .i1⟩
  | 28 => ⟨S20480x5632, .i1⟩
  | 29 => ⟨S20480x5632, .f32⟩
  | 30 => ⟨S1x1x2048x5632, .f32⟩
  | 31 => ⟨S2048x5632, .f32⟩
  | 32 => ⟨S20480x5632, .f32⟩
  | 33 => ⟨S20480x5632, .f32⟩
  | 34 => ⟨S20480x5632, .f32⟩
  | 35 => ⟨S_, .f32⟩
  | 36 => ⟨S20480x5632, .f32⟩
  | 37 => ⟨S20480x5632, .f32⟩
  | 38 => ⟨S_, .f32⟩
  | 39 => ⟨S20480x5632, .f32⟩
  | 40 => ⟨S20480x5632, .f32⟩
  | 41 => ⟨S20480x5632, .f32⟩
  | 42 => ⟨S1x1x2048x5632, .f32⟩
  | 43 => ⟨S2048x5632, .f32⟩
  | 44 => ⟨S20480x5632, .f32⟩
  | 45 => ⟨S20480x5632, .f32⟩
  | 46 => ⟨S_, .i32⟩
  | 47 => ⟨S20480x1, .i32⟩
  | 48 => ⟨S20480x1, .i1⟩
  | 49 => ⟨S20480x5632, .i1⟩
  | 50 => ⟨S20480x5632, .f32⟩
  | 51 => ⟨S40, .i32⟩
  | 52 => ⟨S_, .i32⟩
  | 53 => ⟨S40, .i32⟩
  | 54 => ⟨S40, .i1⟩
  | 55 => ⟨S40x1, .i1⟩
  | 56 => ⟨S40x512, .i1⟩
  | 57 => ⟨S20480x1, .i1⟩
  | 58 => ⟨S_, .f32⟩
  | 59 => ⟨S_, .f32⟩
  | 60 => ⟨S20480x5632, .i1⟩
  | 61 => ⟨S20480x5632, .f32⟩
  | 62 => ⟨S20480x5632, .f32⟩
  | 63 => ⟨S20480x5632, .bf16⟩
  | _ => ⟨S20480x2048, .bf16⟩

abbrev hbmTy (i : Nat) : BufTy := match i / 128 with
  | 0 => hbmTy0_0 i
  | 1 => hbmTy0_1 i
  | _ => ⟨S20480x2048, .bf16⟩

abbrev bufTy : (tb : Table) → Fin (tcTables nBuf tb) → BufTy
  | .hbm, ⟨i, _⟩ => hbmTy i
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_0 : Ref sig .tc := ⟨.hbm, 48, rfl⟩
abbrev main_v24 : Ref sig .tc := ⟨.hbm, 49, rfl⟩
abbrev main_v25 : Ref sig .tc := ⟨.hbm, 50, rfl⟩
abbrev main_call3_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call4_v0 : Ref sig .tc := ⟨.hbm, 56, rfl⟩
abbrev main_call4_v1 : Ref sig .tc := ⟨.hbm, 57, rfl⟩
abbrev main_call4_cst : Ref sig .tc := ⟨.hbm, 58, rfl⟩
abbrev main_call4_v2 : Ref sig .tc := ⟨.hbm, 59, rfl⟩
abbrev main_call4_v3 : Ref sig .tc := ⟨.hbm, 60, rfl⟩
abbrev main_call4_cst_0 : Ref sig .tc := ⟨.hbm, 61, rfl⟩
abbrev main_call4_v4 : Ref sig .tc := ⟨.hbm, 62, rfl⟩
abbrev main_call4_v5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_1 : Ref sig .tc := ⟨.hbm, 69, rfl⟩
abbrev main_v35 : Ref sig .tc := ⟨.hbm, 70, rfl⟩
abbrev main_v36 : Ref sig .tc := ⟨.hbm, 71, rfl⟩
abbrev main_call5_v0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_call6_v0 : Ref sig .tc := ⟨.hbm, 77, rfl⟩
abbrev main_call6_v1 : Ref sig .tc := ⟨.hbm, 78, rfl⟩
abbrev main_call6_cst : Ref sig .tc := ⟨.hbm, 79, rfl⟩
abbrev main_call6_v2 : Ref sig .tc := ⟨.hbm, 80, rfl⟩
abbrev main_call6_v3 : Ref sig .tc := ⟨.hbm, 81, rfl⟩
abbrev main_call6_cst_0 : Ref sig .tc := ⟨.hbm, 82, rfl⟩
abbrev main_call6_v4 : Ref sig .tc := ⟨.hbm, 83, rfl⟩
abbrev main_call6_v5 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_c_2 : Ref sig .tc := ⟨.hbm, 90, rfl⟩
abbrev main_v46 : Ref sig .tc := ⟨.hbm, 91, rfl⟩
abbrev main_v47 : Ref sig .tc := ⟨.hbm, 92, rfl⟩
abbrev main_call7_v0 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_call8_v0 : Ref sig .tc := ⟨.hbm, 98, rfl⟩
abbrev main_call8_v1 : Ref sig .tc := ⟨.hbm, 99, rfl⟩
abbrev main_call8_cst : Ref sig .tc := ⟨.hbm, 100, rfl⟩
abbrev main_call8_v2 : Ref sig .tc := ⟨.hbm, 101, rfl⟩
abbrev main_call8_v3 : Ref sig .tc := ⟨.hbm, 102, rfl⟩
abbrev main_call8_cst_0 : Ref sig .tc := ⟨.hbm, 103, rfl⟩
abbrev main_call8_v4 : Ref sig .tc := ⟨.hbm, 104, rfl⟩
abbrev main_call8_v5 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_c_3 : Ref sig .tc := ⟨.hbm, 111, rfl⟩
abbrev main_v57 : Ref sig .tc := ⟨.hbm, 112, rfl⟩
abbrev main_v58 : Ref sig .tc := ⟨.hbm, 113, rfl⟩
abbrev main_call9_v0 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_call10_v0 : Ref sig .tc := ⟨.hbm, 119, rfl⟩
abbrev main_call10_v1 : Ref sig .tc := ⟨.hbm, 120, rfl⟩
abbrev main_call10_cst : Ref sig .tc := ⟨.hbm, 121, rfl⟩
abbrev main_call10_v2 : Ref sig .tc := ⟨.hbm, 122, rfl⟩
abbrev main_call10_v3 : Ref sig .tc := ⟨.hbm, 123, rfl⟩
abbrev main_call10_cst_0 : Ref sig .tc := ⟨.hbm, 124, rfl⟩
abbrev main_call10_v4 : Ref sig .tc := ⟨.hbm, 125, rfl⟩
abbrev main_call10_v5 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_c_4 : Ref sig .tc := ⟨.hbm, 132, rfl⟩
abbrev main_v68 : Ref sig .tc := ⟨.hbm, 133, rfl⟩
abbrev main_v69 : Ref sig .tc := ⟨.hbm, 134, rfl⟩
abbrev main_call11_v0 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_call12_v0 : Ref sig .tc := ⟨.hbm, 140, rfl⟩
abbrev main_call12_v1 : Ref sig .tc := ⟨.hbm, 141, rfl⟩
abbrev main_call12_cst : Ref sig .tc := ⟨.hbm, 142, rfl⟩
abbrev main_call12_v2 : Ref sig .tc := ⟨.hbm, 143, rfl⟩
abbrev main_call12_v3 : Ref sig .tc := ⟨.hbm, 144, rfl⟩
abbrev main_call12_cst_0 : Ref sig .tc := ⟨.hbm, 145, rfl⟩
abbrev main_call12_v4 : Ref sig .tc := ⟨.hbm, 146, rfl⟩
abbrev main_call12_v5 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_c_5 : Ref sig .tc := ⟨.hbm, 153, rfl⟩
abbrev main_v79 : Ref sig .tc := ⟨.hbm, 154, rfl⟩
abbrev main_v80 : Ref sig .tc := ⟨.hbm, 155, rfl⟩
abbrev main_call13_v0 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_call14_v0 : Ref sig .tc := ⟨.hbm, 161, rfl⟩
abbrev main_call14_v1 : Ref sig .tc := ⟨.hbm, 162, rfl⟩
abbrev main_call14_cst : Ref sig .tc := ⟨.hbm, 163, rfl⟩
abbrev main_call14_v2 : Ref sig .tc := ⟨.hbm, 164, rfl⟩
abbrev main_call14_v3 : Ref sig .tc := ⟨.hbm, 165, rfl⟩
abbrev main_call14_cst_0 : Ref sig .tc := ⟨.hbm, 166, rfl⟩
abbrev main_call14_v4 : Ref sig .tc := ⟨.hbm, 167, rfl⟩
abbrev main_call14_v5 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_c_6 : Ref sig .tc := ⟨.hbm, 174, rfl⟩
abbrev main_v90 : Ref sig .tc := ⟨.hbm, 175, rfl⟩
abbrev main_v91 : Ref sig .tc := ⟨.hbm, 176, rfl⟩
abbrev main_call15_v0 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_cst_7 : Ref sig .tc := ⟨.hbm, 186, rfl⟩
abbrev main_call16_v0 : Ref sig .tc := ⟨.hbm, 187, rfl⟩
abbrev main_call16_v1 : Ref sig .tc := ⟨.hbm, 188, rfl⟩
abbrev main_call16_v2 : Ref sig .tc := ⟨.hbm, 189, rfl⟩
abbrev main_v100 : Ref sig .tc := ⟨.hbm, 190, rfl⟩
abbrev main_v101 : Ref sig .tc := ⟨.hbm, 191, rfl⟩

abbrev nD : Nat := 1
abbrev τ : Topo := Topo.v7x

variable {F : FTy → Type} [FloatOps F]
-- ==== MoeDown.lean ====
abbrev S20480x5632 : Shape := ⟨2, ![20480, 5632]⟩
abbrev S2x8x5632x2048 : Shape := ⟨4, ![2, 8, 5632, 2048]⟩
abbrev S40 : Shape := ⟨1, ![40]⟩
abbrev S1 : Shape := ⟨1, ![1]⟩
abbrev S20480x2048 : Shape := ⟨2, ![20480, 2048]⟩
abbrev S512x5632 : Shape := ⟨2, ![512, 5632]⟩
abbrev S1x1x5632x512 : Shape := ⟨4, ![1, 1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S20480x5632, .bf16⟩
  | .hbm, ⟨1, _⟩ => ⟨S2x8x5632x2048, .f32⟩
  | .hbm, ⟨2, _⟩ => ⟨S20480x2048, .f32⟩
  | .local _ .vmem, ⟨0, _⟩ => ⟨S512x5632, .bf16⟩
  | .local _ .vmem, ⟨1, _⟩ => ⟨S512x5632, .bf16⟩
  | .local _ .vmem, ⟨2, _⟩ => ⟨S1x1x5632x512, .f32⟩
  | .local _ .vmem, ⟨3, _⟩ => ⟨S1x1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | .local _ .smem, ⟨0, _⟩ => ⟨S40, .i32⟩
  | .local _ .smem, ⟨1, _⟩ => ⟨S1, .i32⟩
  | _, _ => ⟨S20480x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownReferenceIdeal.lean ====
abbrev S20480x5632 : Shape := ⟨2, ![20480, 5632]⟩
abbrev S2x8x5632x2048 : Shape := ⟨4, ![2, 8, 5632, 2048]⟩
abbrev S40 : Shape := ⟨1, ![40]⟩
abbrev S1 : Shape := ⟨1, ![1]⟩
abbrev S40x1 : Shape := ⟨2, ![40, 1]⟩
abbrev S40x512 : Shape := ⟨2, ![40, 512]⟩
abbrev S20480x1 : Shape := ⟨2, ![20480, 1]⟩
abbrev S_ : Shape := ⟨0, ![]⟩
abbrev S20480x2048 : Shape := ⟨2, ![20480, 2048]⟩
abbrev S1x1x5632x2048 : Shape := ⟨4, ![1, 1, 5632, 2048]⟩
abbrev S5632x2048 : Shape := ⟨2, ![5632, 2048]⟩

abbrev nBuf : Space → Nat
  | .hbm => 86
  | .vmem => 0
  | .smem => 0
  | _ => 0

abbrev bufTy : (tb : Table) → Fin (tcTables nBuf tb) → BufTy
  | .hbm, ⟨0, _⟩ => ⟨S20480x5632, .bf16⟩
  | .hbm, ⟨1, _⟩ => ⟨S2x8x5632x2048, .f32⟩
  | .hbm, ⟨2, _⟩ => ⟨S40, .i32⟩
  | .hbm, ⟨3, _⟩ => ⟨S1, .i32⟩
  | .hbm, ⟨4, _⟩ => ⟨S20480x5632, .f32⟩
  | .hbm, ⟨5, _⟩ => ⟨S40x1, .i32⟩
  | .hbm, ⟨6, _⟩ => ⟨S40x512, .i32⟩
  | .hbm, ⟨7, _⟩ => ⟨S20480x1, .i32⟩
  | .hbm, ⟨8, _⟩ => ⟨S_, .f32⟩
  | .hbm, ⟨9, _⟩ => ⟨S20480x2048, .f32⟩
  | .hbm, ⟨10, _⟩ => ⟨S_, .i32⟩
  | .hbm, ⟨11, _⟩ => ⟨S20480x1, .i32⟩
  | .hbm, ⟨12, _⟩ => ⟨S20480x1, .i1⟩
  | .hbm, ⟨13, _⟩ => ⟨S1x1x5632x2048, .f32⟩
  | .hbm, ⟨14, _⟩ => ⟨S5632x2048, .f32⟩
  | .hbm, ⟨15, _⟩ => ⟨S20480x2048, .f32⟩
  | .hbm, ⟨16, _⟩ => ⟨S20480x2048, .i1⟩
  | .hbm, ⟨17, _⟩ => ⟨S20480x2048, .f32⟩
  | .hbm, ⟨18, _⟩ => ⟨S_, .i32⟩
  | .hbm, ⟨19, _⟩ => ⟨S20480x1, .i32⟩
  | .hbm, ⟨20, _⟩ => ⟨S20480x1, .i1⟩
  | .hbm, ⟨21, _⟩ => ⟨S1x1x5632x2048, .f32⟩
  | .hbm, ⟨22, _⟩ => ⟨S5632x2048, .f32⟩
  | .hbm, ⟨23, _⟩ => ⟨S20480x2048, .f32⟩
  | .hbm, ⟨24, _⟩ => ⟨S20480x2048, .i1⟩
  | .hbm, ⟨25, _⟩ => ⟨S20480x2048, .f32⟩
  | .hbm, ⟨26, _⟩ => ⟨S_, .i32⟩
  | .hbm, ⟨27, _⟩ => ⟨S20480x1, .i32⟩
  | .hbm, ⟨28, _⟩ => ⟨S20480x1, .i1⟩
  | .hbm, ⟨29, _⟩ => ⟨S1x1x5632x2048, .f32⟩
  | .hbm, ⟨30, _⟩ => ⟨S5632x2048, .f32⟩
  | .hbm, ⟨31, _⟩ => ⟨S20480x2048, .f32⟩
  | .hbm, ⟨32, _⟩ => ⟨S20480x2048, .i1⟩
  | .hbm, ⟨33, _⟩ => ⟨S20480x2048, .f32⟩
  | .hbm, ⟨34, _⟩ => ⟨S_, .i32⟩
  | .hbm, ⟨35, _⟩ => ⟨S20480x1, .i32⟩
  | .hbm, ⟨36, _⟩ => ⟨S20480x1, .i1⟩
  | .hbm, ⟨37, _⟩ => ⟨S1x1x5632x2048, .f32⟩
  | .hbm, ⟨38, _⟩ => ⟨S5632x2048, .f32⟩
  | .hbm, ⟨39, _⟩ => ⟨S20480x2048, .f32⟩
  | .hbm, ⟨40, _⟩ => ⟨S20480x2048, .i1⟩
  | .hbm, ⟨41, _⟩ => ⟨S20480x2048, .f32⟩
  | .hbm, ⟨42, _⟩ => ⟨S_, .i32⟩
  | .hbm, ⟨43, _⟩ => ⟨S20480x1, .i32⟩
  | .hbm, ⟨44, _⟩ => ⟨S20480x1, .i1⟩
  | .hbm, ⟨45, _⟩ => ⟨S1x1x5632x2048, .f32⟩
  | .hbm, ⟨46, _⟩ => ⟨S5632x2048, .f32⟩
  | .hbm, ⟨47, _⟩ => ⟨S20480x2048, .f32⟩
  | .hbm, ⟨48, _⟩ => ⟨S20480x2048, .i1⟩
  | .hbm, ⟨49, _⟩ => ⟨S20480x2048, .f32⟩
  | .hbm, ⟨50, _⟩ => ⟨S_, .i32⟩
  | .hbm, ⟨51, _⟩ => ⟨S20480x1, .i32⟩
  | .hbm, ⟨52, _⟩ => ⟨S20480x1, .i1⟩
  | .hbm, ⟨53, _⟩ => ⟨S1x1x5632x2048, .f32⟩
  | .hbm, ⟨54, _⟩ => ⟨S5632x2048, .f32⟩
  | .hbm, ⟨55, _⟩ => ⟨S20480x2048, .f32⟩
  | .hbm, ⟨56, _⟩ => ⟨S20480x2048, .i1⟩
  | .hbm, ⟨57, _⟩ => ⟨S20480x2048, .f32⟩
  | .hbm, ⟨58, _⟩ => ⟨S_, .i32⟩
  | .hbm, ⟨59, _⟩ => ⟨S20480x1, .i32⟩
  | .hbm, ⟨60, _⟩ => ⟨S20480x1, .i1⟩
  | .hbm, ⟨61, _⟩ => ⟨S1x1x5632x2048, .f32⟩
  | .hbm, ⟨62, _⟩ => ⟨S5632x2048, .f32⟩
  | .hbm, ⟨63, _⟩ => ⟨S20480x2048, .f32⟩
  | .hbm, ⟨64, _⟩ => ⟨S20480x2048, .i1⟩
  | .hbm, ⟨65, _⟩ => ⟨S20480x2048, .f32⟩
  | .hbm, ⟨66, _⟩ => ⟨S_, .i32⟩
  | .hbm, ⟨67, _⟩ => ⟨S20480x1, .i32⟩
  | .hbm, ⟨68, _⟩ => ⟨S20480x1, .i1⟩
  | .hbm, ⟨69, _⟩ => ⟨S1x1x5632x2048, .f32⟩
  | .hbm, ⟨70, _⟩ => ⟨S5632x2048, .f32⟩
  | .hbm, ⟨71, _⟩ => ⟨S20480x2048, .f32⟩
  | .hbm, ⟨72, _⟩ => ⟨S20480x2048, .i1⟩
  | .hbm, ⟨73, _⟩ => ⟨S20480x2048, .f32⟩
  | .hbm, ⟨74, _⟩ => ⟨S40, .i32⟩
  | .hbm, ⟨75, _⟩ => ⟨S_, .i32⟩
  | .hbm, ⟨76, _⟩ => ⟨S40, .i32⟩
  | .hbm, ⟨77, _⟩ => ⟨S40, .i1⟩
  | .hbm, ⟨78, _⟩ => ⟨S40x1, .i1⟩
  | .hbm, ⟨79, _⟩ => ⟨S40x512, .i1⟩
  | .hbm, ⟨80, _⟩ => ⟨S20480x1, .i1⟩
  | .hbm, ⟨81, _⟩ => ⟨S_, .f32⟩
  | .hbm, ⟨82, _⟩ => ⟨S_, .f32⟩
  | .hbm, ⟨83, _⟩ => ⟨S20480x2048, .i1⟩
  | .hbm, ⟨84, _⟩ => ⟨S20480x2048, .f32⟩
  | .hbm, ⟨85, _⟩ => ⟨S20480x2048, .f32⟩
  | _, _ => ⟨S20480x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_v0 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call2_v0 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call3_v0 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call4_v0 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call5_v0 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call6_v0 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call7_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_call8_v0 : Ref sig .tc := ⟨.hbm, 82, rfl⟩
abbrev main_call8_v1 : Ref sig .tc := ⟨.hbm, 83, rfl⟩
abbrev main_call8_v2 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== DenseUp.lean ====
abbrev S8192x2048 : Shape := ⟨2, ![8192, 2048]⟩
abbrev S2x2048x5632 : Shape := ⟨3, ![2, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseUpReferenceIdeal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x2048x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DenseDown.lean ====
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseDownReferenceIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Qkv.lean ====
abbrev S8192x2048 : Shape := ⟨2, ![8192, 2048]⟩
abbrev S2x2048x6144 : Shape := ⟨3, ![2, 2048, 6144]⟩
abbrev S8192x6144 : Shape := ⟨2, ![8192, 6144]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvIdeal.lean ====
variable {F : FTy → Type} [FloatOps F] [Named F]
def κ : String → Option EReal := fun
  | "scale" => some (((Real.log 2)⁻¹ * (Real.sqrt 128)⁻¹ : ℝ) : EReal)
  | _ => none
-- ==== QkvReferenceIdeal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩
abbrev S_ : Shape := ⟨0, ![]⟩
abbrev S6144 : Shape := ⟨1, ![6144]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S6144, .i32⟩
  | .hbm, ⟨14, _⟩ => ⟨S_, .i32⟩
  | .hbm, ⟨15, _⟩ => ⟨S6144, .i32⟩
  | .hbm, ⟨16, _⟩ => ⟨S6144, .i1⟩
  | .hbm, ⟨17, _⟩ => ⟨S8192x6144, .f32⟩
  | .hbm, ⟨18, _⟩ => ⟨S8192x6144, .f32⟩
  | .hbm, ⟨19, _⟩ => ⟨S8192x6144, .i1⟩
  | .hbm, ⟨20, _⟩ => ⟨S8192x6144, .f32⟩
  | .hbm, ⟨21, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ScanOut.lean ====
abbrev S4096x8192 : Shape := ⟨2, ![4096, 8192]⟩
abbrev S2x4096x2048 : Shape := ⟨3, ![2, 4096, 2048]⟩
abbrev S8192x2048 : Shape := ⟨2, ![8192, 2048]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S2x4096x2048, .f32⟩
  | .hbm, ⟨2, _⟩ => ⟨S8192x2048, .f32⟩
  | .hbm, ⟨3, _⟩ => ⟨S8192x2048, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ScanOutReferenceIdeal.lean ====
abbrev S4096x8192 : Shape := ⟨2, ![4096, 8192]⟩
abbrev S2x4096x2048 : Shape := ⟨3, ![2, 4096, 2048]⟩
abbrev S8192x2048 : Shape := ⟨2, ![8192, 2048]⟩
abbrev S8192x4096 : Shape := ⟨2, ![8192, 4096]⟩
abbrev S1x4096x2048 : Shape := ⟨3, ![1, 4096, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2x4096x2048, .f32⟩
  | .hbm, ⟨2, _⟩ => ⟨S8192x2048, .f32⟩
  | .hbm, ⟨3, _⟩ => ⟨S4096x8192, .f32⟩
  | .hbm, ⟨4, _⟩ => ⟨S8192x4096, .f32⟩
  | .hbm, ⟨5, _⟩ => ⟨S1x4096x2048, .f32⟩
  | .hbm, ⟨6, _⟩ => ⟨S4096x2048, .f32⟩
  | .hbm, ⟨7, _⟩ => ⟨S8192x2048, .f32⟩
  | .hbm, ⟨8, _⟩ => ⟨S8192x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== StickOut.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StickOutReferenceIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateIn.lean ====
abbrev S8192x2048 : Shape := ⟨2, ![8192, 2048]⟩
abbrev S2x2048x10304 : Shape := ⟨3, ![2, 2048, 10304]⟩
abbrev S2x10304x2048 : Shape := ⟨3, ![2, 10304, 2048]⟩
abbrev S4096x8192 : Shape := ⟨2, ![4096, 8192]⟩
abbrev S1024x2048 : Shape := ⟨2, ![1024, 2048]⟩
abbrev S1x512x2048 : Shape := ⟨3, ![1, 512, 2048]⟩
abbrev S512x1024 : Shape := ⟨2, ![512, 1024]⟩
abbrev S512x2048 : Shape := ⟨2, ![512, 2048]⟩
abbrev S256x2048 : Shape := ⟨2, ![256, 2048]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S2x10304x2048, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .f32⟩
  | .local _ .vmem, ⟨3, _⟩ => ⟨S1x512x2048, .f32⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateInReferenceIdeal.lean ====
abbrev S8192x2048 : Shape := ⟨2, ![8192, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S2048x4096 : Shape := ⟨2, ![2048, 4096]⟩
abbrev S8192x4096 : Shape := ⟨2, ![8192, 4096]⟩
abbrev S_ : Shape := ⟨0, ![]⟩
abbrev S4096x8192 : Shape := ⟨2, ![4096, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S8192x2048, .f32⟩
  | .hbm, ⟨3, _⟩ => ⟨S1x2048x10304, .f32⟩
  | .hbm, ⟨4, _⟩ => ⟨S2048x10304, .f32⟩
  | .hbm, ⟨5, _⟩ => ⟨S2048x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S4096x8192, .f32⟩
  | .hbm, ⟨17, _⟩ => ⟨S4096x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== ConvIn.lean ====
abbrev S8192x2048 : Shape := ⟨2, ![8192, 2048]⟩
abbrev S2x2048x10304 : Shape := ⟨3, ![2, 2048, 10304]⟩
abbrev S4x6144 : Shape := ⟨2, ![4, 6144]⟩
abbrev S6144 : Shape := ⟨1, ![6144]⟩
abbrev S2x10304x2048 : Shape := ⟨3, ![2, 10304, 2048]⟩
abbrev S_ : Shape := ⟨0, ![]⟩
abbrev S8x6144 : Shape := ⟨2, ![8, 6144]⟩
abbrev S1 : Shape := ⟨1, ![1]⟩
abbrev S6144x8192 : Shape := ⟨2, ![6144, 8192]⟩
abbrev S1024x2048 : Shape := ⟨2, ![1024, 2048]⟩
abbrev S1x512x2048 : Shape := ⟨3, ![1, 512, 2048]⟩
abbrev S8x512 : Shape := ⟨2, ![8, 512]⟩
abbrev S512x1024 : Shape := ⟨2, ![512, 1024]⟩
abbrev S512x2048 : Shape := ⟨2, ![512, 2048]⟩
abbrev S1032x512 : Shape := ⟨2, ![1032, 512]⟩
abbrev S256x2048 : Shape := ⟨2, ![256, 2048]⟩
abbrev S256x512 : Shape := ⟨2, ![256, 512]⟩
abbrev S1x512 : Shape := ⟨2, ![1, 512]⟩
abbrev S512x256 : Shape := ⟨2, ![512, 256]⟩

abbrev nBuf : Space → Nat
  | .hbm => 14
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S4x6144, .f32⟩
  | .hbm, ⟨3, _⟩ => ⟨S6144, .f32⟩
  | .hbm, ⟨4, _⟩ => ⟨S2x10304x2048, .f32⟩
  | .hbm, ⟨5, _⟩ => ⟨S_, .f32⟩
  | .hbm, ⟨6, _⟩ => ⟨S8x6144, .f32⟩
  | .hbm, ⟨7, _⟩ => ⟨S_, .i32⟩
  | .hbm, ⟨8, _⟩ => ⟨S1, .i32⟩
  | .hbm, ⟨9, _⟩ => ⟨S8x6144, .f32⟩
  | .hbm, ⟨10, _⟩ => ⟨S_, .i32⟩
  | .hbm, ⟨11, _⟩ => ⟨S1, .i32⟩
  | .hbm, ⟨12, _⟩ => ⟨S8x6144, .f32⟩
  | .hbm, ⟨13, _⟩ => ⟨S6144x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .f32⟩
  | .local _ .vmem, ⟨3, _⟩ => ⟨S1x512x2048, .f32⟩
  | .local _ .vmem, ⟨4, _⟩ => ⟨S8x512, .f32⟩
  | .local _ .vmem, ⟨5, _⟩ => ⟨S8x512, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S8x512, .f32⟩
  | .local _ .vmem, ⟨10, _⟩ => ⟨S1032x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvInReferenceIdeal.lean ====
abbrev S8192x2048 : Shape := ⟨2, ![8192, 2048]⟩
abbrev S2x2048x10304 : Shape := ⟨3, ![2, 2048, 10304]⟩
abbrev S4x6144 : Shape := ⟨2, ![4, 6144]⟩
abbrev S6144 : Shape := ⟨1, ![6144]⟩
abbrev S1x2048x10304 : Shape := ⟨3, ![1, 2048, 10304]⟩
abbrev S2048x10304 : Shape := ⟨2, ![2048, 10304]⟩
abbrev S2048x6144 : Shape := ⟨2, ![2048, 6144]⟩
abbrev S8192x6144 : Shape := ⟨2, ![8192, 6144]⟩
abbrev S2x4096x6144 : Shape := ⟨3, ![2, 4096, 6144]⟩
abbrev S_ : Shape := ⟨0, ![]⟩
abbrev S2x3x6144 : Shape := ⟨3, ![2, 3, 6144]⟩
abbrev S2x4099x6144 : Shape := ⟨3, ![2, 4099, 6144]⟩
abbrev S1x6144 : Shape := ⟨2, ![1, 6144]⟩
abbrev S1x1x6144 : Shape := ⟨3, ![1, 1, 6144]⟩
abbrev S6144x8192 : Shape := ⟨2, ![6144, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S4x6144, .f32⟩
  | .hbm, ⟨3, _⟩ => ⟨S6144, .f32⟩
  | .hbm, ⟨4, _⟩ => ⟨S8192x2048, .f32⟩
  | .hbm, ⟨5, _⟩ => ⟨S1x2048x10304, .f32⟩
  | .hbm, ⟨6, _⟩ => ⟨S2048x10304, .f32⟩
  | .hbm, ⟨7, _⟩ => ⟨S2048x6144, .f32⟩
  | .hbm, ⟨8, _⟩ => ⟨S8192x6144, .f32⟩
  | .hbm, ⟨9, _⟩ => ⟨S2x4096x6144, .f32⟩
  | .hbm, ⟨10, _⟩ => ⟨S_, .f32⟩
  | .hbm, ⟨11, _⟩ => ⟨S2x3x6144, .f32⟩
  | .hbm, ⟨12, _⟩ => ⟨S2x4099x6144, .f32⟩
  | .hbm, ⟨13, _⟩ => ⟨S2x4096x6144, .f32⟩
  | .hbm, ⟨14, _⟩ => ⟨S1x6144, .f32⟩
  | .hbm, ⟨15, _⟩ => ⟨S6144, .f32⟩
  | .hbm, ⟨16, _⟩ => ⟨S1x1x6144, .f32⟩
  | .hbm, ⟨17, _⟩ => ⟨S2x4096x6144, .f32⟩
  | .hbm, ⟨18, _⟩ => ⟨S2x4096x6144, .f32⟩
  | .hbm, ⟨19, _⟩ => ⟨S_, .f32⟩
  | .hbm, ⟨20, _⟩ => ⟨S2x4096x6144, .f32⟩
  | .hbm, ⟨21, _⟩ => ⟨S2x4096x6144, .f32⟩
  | .hbm, ⟨22, _⟩ => ⟨S2x4096x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S2x4096x6144, .f32⟩
  | .hbm, ⟨27, _⟩ => ⟨S2x4096x6144, .f32⟩
  | .hbm, ⟨28, _⟩ => ⟨S2x4096x6144, .f32⟩
  | .hbm, ⟨29, _⟩ => ⟨S2x4096x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S2x4096x6144, .f32⟩
  | .hbm, ⟨34, _⟩ => ⟨S2x4096x6144, .f32⟩
  | .hbm, ⟨35, _⟩ => ⟨S2x4096x6144, .f32⟩
  | .hbm, ⟨36, _⟩ => ⟨S2x4096x6144, .f32⟩
  | .hbm, ⟨37, _⟩ => ⟨S1x6144, .f32⟩
  | .hbm, ⟨38, _⟩ => ⟨S6144, .f32⟩
  | .hbm, ⟨39, _⟩ => ⟨S1x1x6144, .f32⟩
  | .hbm, ⟨40, _⟩ => ⟨S2x4096x6144, .f32⟩
  | .hbm, ⟨41, _⟩ => ⟨S2x4096x6144, .f32⟩
  | .hbm, ⟨42, _⟩ => ⟨S2x4096x6144, .f32⟩
  | .hbm, ⟨43, _⟩ => ⟨S1x1x6144, .f32⟩
  | .hbm, ⟨44, _⟩ => ⟨S2x4096x6144, .f32⟩
  | .hbm, ⟨45, _⟩ => ⟨S2x4096x6144, .f32⟩
  | .hbm, ⟨46, _⟩ => ⟨S2x4096x6144, .f32⟩
  | .hbm, ⟨47, _⟩ => ⟨S2x4096x6144, .f32⟩
  | .hbm, ⟨48, _⟩ => ⟨S_, .f32⟩
  | .hbm, ⟨49, _⟩ => ⟨S2x4096x6144, .f32⟩
  | .hbm, ⟨50, _⟩ => ⟨S2x4096x6144, .f32⟩
  | .hbm, ⟨51, _⟩ => ⟨S_, .f32⟩
  | .hbm, ⟨52, _⟩ => ⟨S2x4096x6144, .f32⟩
  | .hbm, ⟨53, _⟩ => ⟨S2x4096x6144, .f32⟩
  | .hbm, ⟨54, _⟩ => ⟨S2x4096x6144, .f32⟩
  | .hbm, ⟨55, _⟩ => ⟨S8192x6144, .f32⟩
  | .hbm, ⟨56, _⟩ => ⟨S6144x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.RunMoeUpIdeal.lean ====
/- The body of one grid point of the expert up-projection, run from any contents, and what its branches depend on. -/
module

public import proofs.«01_k».proof.Proof.Gen.MoeUpIdeal.Launch
public import proofs.«01_k».proof.Proof.Gen.MoeUpIdeal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

-- membership in a rectangle of production extents (`View.cover_of_tiled`): the elaborator's structural look
-- recurses once per coordinate of the long axes
set_option maxRecDepth 16384

noncomputable section

namespace Cert.MoeUpIdeal.Run
open Cert.MoeUpIdeal Cert.MoeUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_up (grid0.coords t) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg3
abbrev htbM0_0 : tbM0_0.IsWhole := Memref.isWhole_whole _
abbrev tbM0_1 : Memref sig .tc .smem S1 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeUpIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- One staging buffer of output window 3, through which its contents are stated (`View.read_writes_of_cover`: the
    choice does not matter). -/
abbrev VO0_3 : View sig .tc .vmem S512x512 .bf16 := (Memref.whole cc0_stg3_0 : Memref sig .tc .vmem S512x512 .bf16).view
/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x512 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S2048x512 .bf16 := Memref.whole cc0_scratch0
abbrev scM0_1 : Memref sig .tc .vmem S2048x512 .bf16 := Memref.whole cc0_scratch1
/-- The scratch `arg8` the kernel carries between points, as a view: what it holds is stated through it. -/
abbrev VS0_0 : View sig .tc .vmem S2048x512 .bf16 := scM0_0.view
/-- The scratch `arg9` the kernel carries between points, as a view: what it holds is stated through it. -/
abbrev VS0_1 : View sig .tc .vmem S2048x512 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body's conditions, from the words it loads -/

/-- The number of blocks in use, as the body loads it. -/
abbrev wN (c : Dev nD) (xt1 : TbBuf0 (F := F) c tbM0_1) : BitVec 32 :=
  View.readAt (Elt F) tbM0_1.view (Rect.unit (s := S1) ![0] S1.size inb_S1_S1_0).toLoadRect xt1 (Shape.Idx.first (numel1_S1.symm ▸ Nat.one_pos))
/-- The expert of the point's block, as the body loads it. -/
abbrev wE (c : Dev nD) (i : grid0.Coords) (xt0 : TbBuf0 (F := F) c tbM0_0) : BitVec 32 :=
  View.readAt (Elt F) tbM0_0.view (Rect.unit (s := S40) (k0_off2 i) S1.size (k0_off2_inb i)).toLoadRect xt0 (Shape.Idx.first (numel1_S1.symm ▸ Nat.one_pos))
/-- The expert of the block before it, as the body loads it. -/
abbrev wP (c : Dev nD) (i : grid0.Coords) (xt0 : TbBuf0 (F := F) c tbM0_0) : BitVec 32 :=
  View.readAt (Elt F) tbM0_0.view (Rect.unit (s := S40) (k0_off3 i) S1.size (k0_off3_inb i)).toLoadRect xt0 (Shape.Idx.first (numel1_S1.symm ▸ Nat.one_pos))
/-- The block is in use. -/
abbrev Used (c : Dev nD) (i : grid0.Coords) (xt1 : TbBuf0 (F := F) c tbM0_1) : Prop := k0_cond1 i (wN c xt1) = 1#1
/-- The block is the first of its column or its expert is not the one of the block before. -/
abbrev Changed (c : Dev nD) (i : grid0.Coords) (xt0 : TbBuf0 (F := F) c tbM0_0) : Prop :=
  Scalar.cmpi .ne (Scalar.extui (Scalar.ori (Scalar.cmpi .eq (BitVec.ofNat 32 (i 1).val) 0#32) (Scalar.cmpi .ne (wE c i xt0) (wP c i xt0)))) 0#32 = 1#1

/-- The second branch is taken exactly where the first is not. -/
theorem cond3_iff (i : grid0.Coords) (w : BitVec 32) : k0_cond3 i w = 1#1 ↔ ¬ k0_cond1 i w = 1#1 := by
  unfold k0_cond3 k0_cond1
  have e : w.sle (BitVec.ofNat 32 (i 1).val) = !(BitVec.ofNat 32 (i 1).val).slt w := by
    rw [BitVec.sle_eq_decide, BitVec.slt_eq_decide]
    by_cases h : (BitVec.ofNat 32 (i 1).val).toInt < w.toInt
    · rw [decide_eq_true h, decide_eq_false (not_le.mpr h)]; rfl
    · rw [decide_eq_false h, decide_eq_true (not_lt.mp h)]; rfl
  simp only [Scalar.cmpi, Scalar.extui, IntOp.cmpi, e]
  cases (BitVec.ofNat 32 (i 1).val).slt w <;> decide

/-- What a weight's scratch holds after a point: the new weight where it is loaded, else what it held. -/
def keep (c : Dev nD) (i : grid0.Coords) (xt0 : TbBuf0 (F := F) c tbM0_0) (xt1 : TbBuf0 (F := F) c tbM0_1) (w s : Vec F S2048x512 .bf16) : Vec F S2048x512 .bf16 :=
  if Used c i xt1 then (if Changed c i xt0 then w else s) else s

set_option maxHeartbeats 4000000 in
/-- The body from any contents: what it leaves in the output's buffer and in the two scratches. -/
theorem body_run (c : Dev nD) (i : grid0.Coords) (arg4 : Memref sig .tc .vmem S512x2048 .bf16) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S512x512 .bf16) (harg7 : arg7.IsWhole) (arg8 : Memref sig .tc .vmem S2048x512 .bf16) (harg8 : arg8.IsWhole) (arg9 : Memref sig .tc .vmem S2048x512 .bf16) (harg9 : arg9.IsWhole)
    (x0 : Vec F S512x2048 .bf16) (x1 : Vec F S1x1x2048x512 .f32) (x2 : Vec F S1x1x2048x512 .f32) (s0 s1 : Vec F S2048x512 .bf16) (xt0 : TbBuf0 (F := F) c tbM0_0) (xt1 : TbBuf0 (F := F) c tbM0_1) (E : Set ℕ) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare s0 ∗ owns (c : Thread nD τ) arg9 fullShare s1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2
                ∗ owns (c : Thread nD τ) arg7 fullShare (if Used c i xt1 then k0_pay3 x0 (keep c i xt0 xt1 (k0_pay1 x1) s0) (keep c i xt0 xt1 (k0_pay2 x2) s1) else k0_pay4)
                ∗ owns (c : Thread nD τ) arg8 fullShare (keep c i xt0 xt1 (k0_pay1 x1) s0) ∗ owns (c : Thread nD τ) arg9 fullShare (keep c i xt0 xt1 (k0_pay2 x2) s1)
                ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9) K := by
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, Hk⟩
    obtain rfl := harg4.eq_unread hf0; obtain rfl := harg5.eq_unread hf1; obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr
      swap; · iexact H3
      ipureintro
      by_cases hu : Used c i xt1
      · have h3 : ¬ k0_cond3 i (body_run.sl.r c xt1) = 1#1 := fun h => (cond3_iff i _).mp h hu
        rw [dif_neg h3, dif_pos (show k0_cond1 i (body_run.sl.r c xt1) = 1#1 from hu), if_pos hu]
        rw [View.read_writes_full]
        rw [View.readAt_full, hf0]
        congr 1
        · unfold body_run.sl.v20 keep; rw [if_pos hu]
          by_cases hch : Changed c i xt0
          · rw [dif_pos (show body_run.sl.v18 c i xt0 = 1#1 from hch), if_pos hch, View.readAt_writes_full, View.readAt_full, hf1]
          · rw [dif_neg (show ¬ body_run.sl.v18 c i xt0 = 1#1 from hch), if_neg hch, View.readAt_full, hfs0]
        · unfold body_run.sl.v22 keep; rw [if_pos hu]
          by_cases hch : Changed c i xt0
          · rw [dif_pos (show body_run.sl.v18 c i xt0 = 1#1 from hch), if_pos hch, View.readAt_writes_full, View.readAt_full, hf2]
          · rw [dif_neg (show ¬ body_run.sl.v18 c i xt0 = 1#1 from hch), if_neg hch, View.readAt_full, hfs1]
      · have h3 : k0_cond3 i (body_run.sl.r c xt1) = 1#1 := (cond3_iff i _).mpr hu
        rw [dif_pos h3, if_neg hu, View.read_writes_full]
    isplitl [HS0]
    · iexists _; isplitr
      swap; · iexact HS0
      ipureintro
      unfold keep
      by_cases hu : Used c i xt1
      · rw [dif_pos (show k0_cond1 i (body_run.sl.r c xt1) = 1#1 from hu), if_pos hu]
        by_cases hch : Changed c i xt0
        · rw [dif_pos (show body_run.sl.v18 c i xt0 = 1#1 from hch), if_pos hch, View.read_writes_full, View.readAt_full, hf1]
        · rw [dif_neg (show ¬ body_run.sl.v18 c i xt0 = 1#1 from hch), if_neg hch, hfs0]
      · rw [dif_neg (show ¬ k0_cond1 i (body_run.sl.r c xt1) = 1#1 from hu), if_neg hu, hfs0]
    isplitl [HS1]
    · iexists _; isplitr
      swap; · iexact HS1
      ipureintro
      unfold keep
      by_cases hu : Used c i xt1
      · rw [dif_pos (show k0_cond1 i (body_run.sl.r c xt1) = 1#1 from hu), if_pos hu]
        by_cases hch : Changed c i xt0
        · rw [dif_pos (show body_run.sl.v18 c i xt0 = 1#1 from hch), if_pos hch, View.read_writes_full, View.readAt_full, hf2]
        · rw [dif_neg (show ¬ body_run.sl.v18 c i xt0 = 1#1 from hch), if_neg hch, hfs1]
      · rw [dif_neg (show ¬ k0_cond1 i (body_run.sl.r c xt1) = 1#1 from hu), if_neg hu, hfs1]
    isplitl [HT0]; · iexact HT0
    iexact HT1

end Cert.MoeUpIdeal.Run

end
-- ==== Proof.WordsMoeUpIdeal.lean ====
/- The words of the two tables as the body and the index maps read them, and why a kept weight is the right one. -/
module

public import proofs.«01_k».proof.Proof.RunMoeUpIdeal

@[expose] public section

-- membership in a rectangle of production extents (`View.cover_of_tiled`): the elaborator's structural look
-- recurses once per coordinate of the long axes
set_option maxRecDepth 16384

noncomputable section

namespace Cert.MoeUpIdeal.Run
open Cert.MoeUpIdeal Cert.MoeUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words of the tables -/

/-- The number of blocks in use. -/
def tN : BitVec 32 := tbl m 1 (fun | ⟨0, _⟩ => (⟨0, Nat.one_pos⟩ : Fin 1) : S1.Idx)
/-- The expert of block `k`. -/
def tE (k : Fin 40) : BitVec 32 := tbl m 0 (fun | ⟨0, _⟩ => k : S40.Idx)

theorem wN_eq (c : Dev nD) : wN c (tbl m 1) = tN m := by
  show tbl m 1 _ = tbl m 1 _
  congr 1; funext a
  match a with
  | ⟨0, _⟩ => exact Subsingleton.elim (α := Fin 1) _ _

/-- The block of a grid point. -/
abbrev bI (i : grid0.Coords) : Fin 40 := i 1
theorem ofNat_coord (i : grid0.Coords) : (BitVec.ofNat 32 (i 1).val).toNat = (i 1).val := by
  rw [BitVec.toNat_ofNat]; have : (i 1).val < 40 := (i 1).isLt; omega
theorem ofNat_coord0 (i : grid0.Coords) : (BitVec.ofNat 32 (i 0).val).toNat = (i 0).val := by
  rw [BitVec.toNat_ofNat]; have : (i 0).val < 11 := (i 0).isLt; omega

theorem wE_eq (c : Dev nD) (i : grid0.Coords) : wE c i (tbl m 0) = tE m (bI i) := by
  show tbl m 0 _ = tbl m 0 _
  congr 1; funext a
  match a with
  | ⟨0, _⟩ =>
  refine Fin.ext ?_
  show (BitVec.ofNat 32 (i 1).val).toNat + 1 * 0 = (i 1).val
  rw [ofNat_coord]; omega

theorem wP_eq (c : Dev nD) (i : grid0.Coords) (h : (i 1).val ≠ 0) : wP c i (tbl m 0) = tE m ⟨(i 1).val - 1, by have : (i 1).val < 40 := (i 1).isLt; omega⟩ := by
  show tbl m 0 _ = tbl m 0 _
  congr 1; funext a
  match a with
  | ⟨0, _⟩ =>
  refine Fin.ext ?_
  show k0_off3 i 0 + 1 * 0 = (i 1).val - 1
  have : ∀ n : Fin 40, n.val ≠ 0 → (Scalar.indexCast (Scalar.maxsi (Scalar.subi (BitVec.ofNat 32 n.val) 1#32) 0#32) : Index).toNat = n.val - 1 := by decide +kernel
  exact (Nat.add_zero _).trans (this (i 1) h)

/-- In use: the block's number is below the count. -/
theorem used_iff (c : Dev nD) (i : grid0.Coords) : Used c i (tbl m 1) ↔ ((i 1).val : ℤ) < (tN m).toInt := by
  unfold Used k0_cond1
  rw [wN_eq]
  have hi : (i 1).val < 40 := (i 1).isLt
  have e : (BitVec.ofNat 32 (i 1).val).toInt = ((i 1).val : ℤ) := by
    rw [BitVec.toInt_eq_toNat_of_lt (by rw [ofNat_coord]; omega), ofNat_coord]
  simp only [Scalar.cmpi, Scalar.extui, IntOp.cmpi, BitVec.slt_eq_decide, e]
  by_cases h : ((i 1).val : ℤ) < (tN m).toInt
  · simp [h]
  · simp [h]

/-- Not loaded anew: not the first block of the column, and the expert of the block before. -/
theorem not_changed (c : Dev nD) (i : grid0.Coords) (h : ¬ Changed c i (tbl m 0)) :
    ∃ h0 : (i 1).val ≠ 0, tE m (bI i) = tE m ⟨(i 1).val - 1, by have : (i 1).val < 40 := (i 1).isLt; omega⟩ := by
  have hi : (i 1).val < 40 := (i 1).isLt
  have h' : ¬ ((BitVec.ofNat 32 (i 1).val = 0#32) ∨ wE c i (tbl m 0) ≠ wP c i (tbl m 0)) := by
    intro hc
    refine h ?_
    simp only [Changed, Scalar.cmpi, Scalar.extui, Scalar.ori, IntOp.cmpi]
    rcases hc with hc | hc
    · rw [hc]; generalize (wE c i (tbl m 0) != wP c i (tbl m 0)) = b; cases b <;> decide
    · have e : (wE c i (tbl m 0) != wP c i (tbl m 0)) = true := by simpa using hc
      rw [e]; generalize (BitVec.ofNat 32 (i 1).val == 0#32) = b; cases b <;> decide
  push Not at h'
  have h0 : (i 1).val ≠ 0 := fun hz => h'.1 (by rw [hz])
  refine ⟨h0, ?_⟩
  have := h'.2
  rwa [wE_eq, wP_eq m c i h0] at this

/-- The weights' block index. -/
theorem tr1_eq (i : grid0.Coords) : cc0_transform_1 k0_off1_inb numel1_S1 (tbl m) i = ![0, (tE m (bI i)).toNat, 0, (i 0).val] := by
  have e : ((tbl m).at 0 (Rect.unit (s := S40) ![(Scalar.indexCast (BitVec.ofNat 32 (i 1).val) : Index).toNat] S1.size (k0_off1_inb i)) numel1_S1) = tE m (bI i) := by
    show tbl m 0 _ = tbl m 0 _
    congr 1; funext a
    match a with
    | ⟨0, _⟩ =>
    refine Fin.ext ?_
    show (BitVec.ofNat 32 (i 1).val).toNat + 1 * 0 = (i 1).val
    rw [ofNat_coord]; omega
  unfold cc0_transform_1
  dsimp only
  rw [e, ofNat_coord0]; rfl
theorem tr2_eq (i : grid0.Coords) : cc0_transform_2 k0_off1_inb numel1_S1 (tbl m) i = ![0, (tE m (bI i)).toNat, 0, (i 0).val] := tr1_eq m i

/-- Experts in range keep the weights' blocks inside their arrays. -/
theorem ok_of (h : ∀ k, (tE m k).toNat < 8) : Ok m := by
  refine ⟨fun i => ⟨fun a => ?_, .inl rfl⟩, fun i => ⟨fun a => ?_, .inl rfl⟩⟩
  · have h0 := h (bI i)
    have hi : (i 0).val < 11 := (i 0).isLt
    rw [tr1_eq]
    match a with
    | ⟨0, _⟩ => show (0 + 1) * 1 ≤ 2; omega
    | ⟨1, _⟩ => show ((tE m (bI i)).toNat + 1) * 1 ≤ 8; omega
    | ⟨2, _⟩ => show (0 + 1) * 2048 ≤ 2048; omega
    | ⟨3, _⟩ => show ((i 0).val + 1) * 512 ≤ 5632; omega
  · have h0 := h (bI i)
    have hi : (i 0).val < 11 := (i 0).isLt
    rw [tr2_eq]
    match a with
    | ⟨0, _⟩ => show (0 + 1) * 1 ≤ 2; omega
    | ⟨1, _⟩ => show ((tE m (bI i)).toNat + 1) * 1 ≤ 8; omega
    | ⟨2, _⟩ => show (0 + 1) * 2048 ≤ 2048; omega
    | ⟨3, _⟩ => show ((i 0).val + 1) * 512 ≤ 5632; omega

/-! ## A kept weight -/

theorem coords0 (t : Fin grid0.N) : (grid0.coords t 0).val = t.val / 40 := by
  have ht : t.val < 440 := Nat.lt_of_lt_of_eq t.isLt N_0
  have e0 : (grid0.coords t 0).val = t.val / 40 % 11 := Pipeline.Grid.coords_val t 0 (by decide) rfl
  omega
theorem coords1 (t : Fin grid0.N) : (grid0.coords t 1).val = t.val % 40 := by
  have e1 : (grid0.coords t 1).val = t.val / 1 % 40 := Pipeline.Grid.coords_val t 1 (by decide) rfl
  omega

theorem iblk1_congr (hO : Ok m) (c : Dev nD) (t t' : Fin grid0.N)
    (h : cc0_transform_1 k0_off1_inb numel1_S1 (tbl m) (grid0.coords t') = cc0_transform_1 k0_off1_inb numel1_S1 (tbl m) (grid0.coords t)) :
    (iblk m hO c 1 t' : Vec F S1x1x2048x512 .f32) = (iblk m hO c 1 t : Vec F S1x1x2048x512 .f32) := by
  funext y
  show V m c main_arg1 ((((cfgM m hO).win 1).blk t').view.emb y) = V m c main_arg1 ((((cfgM m hO).win 1).blk t).view.emb y)
  congr 1; funext a; refine Fin.ext ?_
  show cc0_transform_1 k0_off1_inb numel1_S1 (tbl m) (grid0.coords t') a * S1x1x2048x512.size a + 1 * (y a).val = cc0_transform_1 k0_off1_inb numel1_S1 (tbl m) (grid0.coords t) a * S1x1x2048x512.size a + 1 * (y a).val
  rw [h]
theorem iblk2_congr (hO : Ok m) (c : Dev nD) (t t' : Fin grid0.N)
    (h : cc0_transform_2 k0_off1_inb numel1_S1 (tbl m) (grid0.coords t') = cc0_transform_2 k0_off1_inb numel1_S1 (tbl m) (grid0.coords t)) :
    (iblk m hO c 2 t' : Vec F S1x1x2048x512 .f32) = (iblk m hO c 2 t : Vec F S1x1x2048x512 .f32) := by
  funext y
  show V m c main_arg2 ((((cfgM m hO).win 2).blk t').view.emb y) = V m c main_arg2 ((((cfgM m hO).win 2).blk t).view.emb y)
  congr 1; funext a; refine Fin.ext ?_
  show cc0_transform_2 k0_off1_inb numel1_S1 (tbl m) (grid0.coords t') a * S1x1x2048x512.size a + 1 * (y a).val = cc0_transform_2 k0_off1_inb numel1_S1 (tbl m) (grid0.coords t) a * S1x1x2048x512.size a + 1 * (y a).val
  rw [h]

/-- Where a block in use keeps the weights, the point before is in use and works on the same weights' blocks. -/
theorem kept (hO : Ok m) (c : Dev nD) (t : Fin grid0.N) (hu : Used c (grid0.coords t) (tbl m 1)) (hc : ¬ Changed c (grid0.coords t) (tbl m 0)) :
    ∃ t' : Fin grid0.N, t'.val + 1 = t.val ∧ Used c (grid0.coords t') (tbl m 1)
      ∧ (iblk m hO c 1 t' : Vec F S1x1x2048x512 .f32) = (iblk m hO c 1 t : Vec F S1x1x2048x512 .f32)
      ∧ (iblk m hO c 2 t' : Vec F S1x1x2048x512 .f32) = (iblk m hO c 2 t : Vec F S1x1x2048x512 .f32) := by
  obtain ⟨h0, he⟩ := not_changed m c _ hc
  have ht : t.val < 440 := Nat.lt_of_lt_of_eq t.isLt N_0
  have h1 := coords1 t
  have hp : t.val - 1 < grid0.N := by have := t.isLt; omega
  have h1' : (grid0.coords ⟨t.val - 1, hp⟩ 1).val = (grid0.coords t 1).val - 1 := by rw [coords1, h1]; dsimp only; omega
  have h0' : (grid0.coords ⟨t.val - 1, hp⟩ 0).val = (grid0.coords t 0).val := by rw [coords0, coords0]; dsimp only; omega
  have hE : tE m (bI (grid0.coords ⟨t.val - 1, hp⟩)) = tE m (bI (grid0.coords t)) := by
    rw [he]; congr 1; exact Fin.ext h1'
  refine ⟨⟨t.val - 1, hp⟩, by dsimp only; omega, ?_, iblk1_congr m hO c _ _ ?_, iblk2_congr m hO c _ _ ?_⟩
  · rw [used_iff] at hu ⊢; rw [h1']; omega
  · rw [tr1_eq, tr1_eq, hE, h0']
  · rw [tr2_eq, tr2_eq, hE, h0']

end Cert.MoeUpIdeal.Run

end
-- ==== Proof.FrameMoeUpIdeal.lean ====
/- The launch, point by point: what it carries, the body at a point, the run, and the frame. -/
module

public import proofs.«01_k».proof.Proof.WordsMoeUpIdeal

@[expose] public section

-- membership in a rectangle of production extents (`View.cover_of_tiled`): the elaborator's structural look
-- recurses once per coordinate of the long axes
set_option maxRecDepth 16384

noncomputable section

namespace Cert.MoeUpIdeal.Run
open Cert.MoeUpIdeal Cert.MoeUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch carries from point to point -/

/-- What a point leaves in the output's buffer. -/
def outAt (hO : Ok m) (c : Dev nD) (t : Fin grid0.N) : Vec F S512x512 .bf16 :=
  if Used c (grid0.coords t) (tbl m 1) then k0_pay3 (iblk m hO c 0 t) (k0_pay1 (iblk m hO c 1 t)) (k0_pay2 (iblk m hO c 2 t)) else k0_pay4

/-- The scratches hold the weights of the point before, where that point's block is in use. -/
def Holds (hO : Ok m) (c : Dev nD) (n : ℕ) (s0 s1 : Vec F S2048x512 .bf16) : Prop :=
  ∀ t : Fin grid0.N, t.val + 1 = n → Used c (grid0.coords t) (tbl m 1) → s0 = k0_pay1 (iblk m hO c 1 t) ∧ s1 = k0_pay2 (iblk m hO c 2 t)

/-- Before point `n`: the scratches at such contents, the generator register and the tables. -/
def PhiS (hO : Ok m) (c : Dev nD) (n : ℕ) : sProp 𝕄 :=
  iprop((∃ s0 s1, ⌜Holds m hO c n s0 s1⌝ ∗ owns (c : Thread nD τ) scM0_0 fullShare s0 ∗ owns (c : Thread nD τ) scM0_1 fullShare s1)
    ∗ (∃ r, prngReg c r) ∗ tbPt0 c tbM0_0 (tbl m 0) ∗ tbPt0 c tbM0_1 (tbl m 1))

/-- In use, the scratches end at the point's own weights. -/
theorem keep_eq (hO : Ok m) (c : Dev nD) (t : Fin grid0.N) (s0 s1 : Vec F S2048x512 .bf16) (h : Holds m hO c t.val s0 s1) (hu : Used c (grid0.coords t) (tbl m 1)) :
    keep c (grid0.coords t) (tbl m 0) (tbl m 1) (k0_pay1 (iblk m hO c 1 t)) s0 = k0_pay1 (iblk m hO c 1 t)
      ∧ keep c (grid0.coords t) (tbl m 0) (tbl m 1) (k0_pay2 (iblk m hO c 2 t)) s1 = k0_pay2 (iblk m hO c 2 t) := by
  unfold keep
  rw [if_pos hu, if_pos hu]
  by_cases hc : Changed c (grid0.coords t) (tbl m 0)
  · rw [if_pos hc, if_pos hc]; exact ⟨rfl, rfl⟩
  · rw [if_neg hc, if_neg hc]
    obtain ⟨t', h1, h2, h3, h4⟩ := kept m hO c t hu hc
    obtain ⟨e0, e1⟩ := h t' h1 h2
    exact ⟨e0.trans (congrArg k0_pay1 h3), e1.trans (congrArg k0_pay2 h4)⟩

/-- The proof data of the launch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiS m hO c t.val
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start. -/
theorem PhiS_castSucc (hO : Ok m) (c : Dev nD) (t : Fin (cfgM m hO).N) : (dats m hO 0 c).Φ t.castSucc = PhiS m hO c t.val := by
  dsimp only [dats]; exact congrArg (PhiS m hO c) (Fin.val_castSucc t)

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

/-- An input is never idle, and the output's buffer is stored into at every point. -/
theorem live0 (hO : Ok m) (w : Fin 4) (t : Fin (cfgM m hO).N) : (cfgM m hO).idle w ((cfgM m hO).grid.coords t) = false := by
  match w with
  | ⟨0, _⟩ => rfl
  | ⟨1, _⟩ => rfl
  | ⟨2, _⟩ => rfl
  | ⟨3, _⟩ =>
    show (!(k0_cond1 (grid0.coords t) ((tbl m).atD 1 ![0]) == 1#1) && !(k0_cond3 (grid0.coords t) ((tbl m).atD 1 ![0]) == 1#1)) = false
    generalize (tbl m).atD 1 ![0] = w
    have := cond3_iff (grid0.coords t) w
    by_cases h : k0_cond1 (grid0.coords t) w = 1#1
    · simp [h]
    · simp [this.mpr h]

theorem live0_0 (hO : Ok m) (t : Fin (cfgM m hO).N) : (cfgM m hO).idle 0 (grid0.coords t) = false := live0 m hO 0 t
theorem live0_1 (hO : Ok m) (t : Fin (cfgM m hO).N) : (cfgM m hO).idle 1 (grid0.coords t) = false := live0 m hO 1 t
theorem live0_2 (hO : Ok m) (t : Fin (cfgM m hO).N) : (cfgM m hO).idle 2 (grid0.coords t) = false := live0 m hO 2 t
theorem live0_3 (hO : Ok m) (t : Fin (cfgM m hO).N) : (cfgM m hO).idle 3 (grid0.coords t) = false := live0 m hO 3 t

set_option maxHeartbeats 1000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) from rfl, PhiS_castSucc m hO c t]
  rw [show (dats m hO 0 c).leavesExact 0 t = owns (c : Thread nD τ) (ms0_0 m hO t) fullShare ((dats m hO 0 c).after 0 t) from by
      unfold Dat.leavesExact; rw [live0_0 m hO t]; try rfl, after0_0]
  rw [show (dats m hO 0 c).leavesExact 1 t = owns (c : Thread nD τ) (ms0_1 m hO t) fullShare ((dats m hO 0 c).after 1 t) from by
      unfold Dat.leavesExact; rw [live0_1 m hO t]; try rfl, after0_1]
  rw [show (dats m hO 0 c).leavesExact 2 t = owns (c : Thread nD τ) (ms0_2 m hO t) fullShare ((dats m hO 0 c).after 2 t) from by
      unfold Dat.leavesExact; rw [live0_2 m hO t]; try rfl, after0_2]
  rw [show (dats m hO 0 c).leavesExact 3 t = owns (c : Thread nD τ) (ms0_3 m hO t) fullShare ((dats m hO 0 c).after 3 t) from by
      unfold Dat.leavesExact; rw [live0_3 m hO t]; try rfl, after0_3]
  unfold PhiS
  iintro ⟨⟨⟨%s0, %s1, %hH, HS0, HS1⟩, Hg, HT0, HT1⟩, Ho, ⟨%d0, H0⟩, ⟨%d1, H1⟩, ⟨%d2, H2⟩, ⟨%d3, H3⟩⟩
  iapply (body_run c (grid0.coords t) _ _ _ _ _ _ _ _ _ _ _ _ (iblk m hO c 0 t) (iblk m hO c 1 t) (iblk m hO c 2 t) s0 s1 (tbl m 0) (tbl m 1) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HT0]; · iexact HT0
  isplitl [HT1]; · iexact HT1
  iintro ⟨H0, H1, H2, H3, HS0, HS1, HT0, HT1⟩
  isplitl [HS0 HS1 Hg HT0 HT1]
  · isplitl [HS0 HS1]
    · iexists _; iexists _
      isplitr
      swap
      · isplitl [HS0]; · iexact HS0
        iexact HS1
      · ipureintro
        intro t' ht' hu'
        obtain rfl : t' = t := Fin.ext (by omega)
        exact keep_eq m hO c t' s0 s1 hH hu'
    isplitl [Hg]; · iexact Hg
    isplitl [HT0]; · iexact HT0
    iexact HT1
  isplitl [Ho]; · iexact Ho
  isplitl [H0]; · iexact H0
  isplitl [H1]; · iexact H1
  isplitl [H2]; · iexact H2
  have e : outAt m hO c t = (if Used c (grid0.coords t) (tbl m 1) then k0_pay3 (iblk m hO c 0 t)
      (keep c (grid0.coords t) (tbl m 0) (tbl m 1) (k0_pay1 (iblk m hO c 1 t)) s0) (keep c (grid0.coords t) (tbl m 0) (tbl m 1) (k0_pay2 (iblk m hO c 2 t)) s1) else k0_pay4) := by
    unfold outAt
    by_cases hu : Used c (grid0.coords t) (tbl m 1)
    · rw [if_pos hu, if_pos hu, (keep_eq m hO c t s0 s1 hH hu).1, (keep_eq m hO c t s0 s1 hH hu).2]
    · rw [if_neg hu, if_neg hu]
  rw [e]
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq, PhiT0_eq]
  unfold PhiS
  iintro ⟨⟨⟨⟨%s0, HS0⟩, ⟨%s1, HS1⟩⟩, Hg⟩, ⟨HT0, HT1⟩⟩
  isplitl [HS0 HS1]
  · iexists s0; iexists s1
    isplitr
    · ipureintro; intro t ht; omega
    isplitl [HS0]; · iexact HS0
    iexact HS1
  isplitl [Hg]; · iexact Hg
  isplitl [HT0]; · iexact HT0
  iexact HT1

/-- After the last point the scratches' contents are forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨⟨%s0, %s1, -, HS0, HS1⟩, Hg, -⟩
  isplitl [HS0 HS1]
  · isplitl [HS0]
    · iexists _; iexact HS0
    iexists _; iexact HS1
  iexact Hg

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: the run ends, the arguments as they were and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.MoeUpIdeal.Run

end
-- ==== Proof.RefMoeUp.lean ====
/- The reference of the gated up projection, read at an index: each row goes through the expert of its block. -/
module

public import proofs.«01_k».proof.Proof.Gen.MoeUpReferenceIdeal
public import proofs.«01_k».proof.Proof.Gen.MoeUpReferenceIdeal.Run
public import Idealize.ShloMosaic.Lib.Pipeline.ValueKit

@[expose] public section

set_option maxRecDepth 16384

noncomputable section

namespace Cert.MoeUpReferenceIdeal.Rows

open Cert.MoeUpReferenceIdeal Cert.MoeUpReferenceIdeal.Gen Cert.MoeUpReferenceIdeal.Value
open Idealize.ShloMosaic Idealize.ShloMosaic.TcCoe Idealize.ShloMosaic.Tactic Idealize.ShloMosaic.StableHlo

/-- The gated unit of one entry: `g` the gate's product, `u` the up projection's. -/
def gated (g u : EReal) : EReal := g * Ideal.div 1 (1 + Ideal.exp (-g)) * u

/-- Row `r` of the tokens against column `d` of expert `e`'s matrix. -/
def rowDot (X : FVec Ideal S20480x2048 .bf16) (W : FVec Ideal S2x8x2048x5632 .f32) (e : Fin 8) (r : Fin 20480) (d : Fin 5632) : EReal :=
  ∑ k : Fin 2048, (X (ix2 r k) : EReal) * W (ix4 (0 : Fin 2) e k d)

/-- The tokens, one matrix product with an expert's slice of the weights. -/
def dotT (X : FVec Ideal S20480x2048 .bf16) (W : FVec Ideal S2x8x2048x5632 .f32) (e : ℕ) (h : S2x8x2048x5632.Slices ![0, e, 0, 0] S1x1x2048x5632) : FVec Ideal S20480x5632 .f32 :=
  Host.dotGeneral dot_S20480x2048_S2048x5632_S20480x5632_1_0_0_1_n_n none (extf .f32 X bitsLt_bf16_f32) (shapeCast _ (extractStridedSlice S1x1x2048x5632 ![0, e, 0, 0] W h) shapeCasts_S1x1x2048x5632_S2048x5632)

/-- The gated unit of one expert, on every row. -/
def heT (X : FVec Ideal S20480x2048 .bf16) (G U : FVec Ideal S2x8x2048x5632 .f32) (e : ℕ) (h : S2x8x2048x5632.Slices ![0, e, 0, 0] S1x1x2048x5632) : FVec Ideal S20480x5632 .f32 :=
  mulf (mulf (dotT X G e h) (Host.divf (broadcastInDim S20480x5632 ![] bcast_S_S20480x5632 (constant S_ .f32 0x3F800000#32)) (addf (broadcastInDim S20480x5632 ![] bcast_S_S20480x5632 (constant S_ .f32 0x3F800000#32)) (Host.exp (Host.negf (dotT X G e h)))))) (dotT X U e h)

/-- The expert of each row. -/
def expT (B : IVec S40 32) : IVec S20480x1 32 :=
  shapeCast _ (broadcastInDim S40x512 ![0, 1] bcast_S40x1_S40x512_0_1 (broadcastInDim S40x1 ![0] bcast_S40_S40x1_0 B)) shapeCasts_S40x512_S20480x1

/-- Expert `e`'s rows taken from `he`, the others kept. -/
def pickT (B : IVec S40 32) (e : BitVec 32) (he out : FVec Ideal S20480x5632 .f32) : FVec Ideal S20480x5632 .f32 :=
  select (broadcastInDim S20480x5632 ![0, 1] bcast_S20480x1_S20480x5632_0_1 (cmpi .eq (expT B) (broadcastInDim S20480x1 ![] bcast_S_S20480x1 (constantI S_ 32 e)))) he out

/-- Which rows a block in use holds. -/
def usedT (N : IVec S1 32) : IVec S20480x1 1 :=
  shapeCast _ (broadcastInDim S40x512 ![0, 1] bcast_S40x1_S40x512_0_1 (broadcastInDim S40x1 ![0] bcast_S40_S40x1_0 (cmpi .slt (iotaInDim S40 32 0) (broadcastInDim S40 ![] bcast_S_S40 (shapeCast _ N shapeCasts_S1_S_))))) shapeCasts_S40x512_S20480x1

/-- The result. -/
def outT (X : FVec Ideal S20480x2048 .bf16) (G U : FVec Ideal S2x8x2048x5632 .f32) (B : IVec S40 32) (N : IVec S1 32) : FVec Ideal S20480x5632 .bf16 :=
  truncf .bf16 (select (broadcastInDim S20480x5632 ![0, 1] bcast_S20480x1_S20480x5632_0_1 (usedT N))
    (pickT B 7#32 (heT X G U 7 slices_S2x8x2048x5632_S1x1x2048x5632_0_7_0_0)
    (pickT B 6#32 (heT X G U 6 slices_S2x8x2048x5632_S1x1x2048x5632_0_6_0_0)
    (pickT B 5#32 (heT X G U 5 slices_S2x8x2048x5632_S1x1x2048x5632_0_5_0_0)
    (pickT B 4#32 (heT X G U 4 slices_S2x8x2048x5632_S1x1x2048x5632_0_4_0_0)
    (pickT B 3#32 (heT X G U 3 slices_S2x8x2048x5632_S1x1x2048x5632_0_3_0_0)
    (pickT B 2#32 (heT X G U 2 slices_S2x8x2048x5632_S1x1x2048x5632_0_2_0_0)
    (pickT B 1#32 (heT X G U 1 slices_S2x8x2048x5632_S1x1x2048x5632_0_1_0_0)
    (pickT B 0#32 (heT X G U 0 slices_S2x8x2048x5632_S1x1x2048x5632_0_0_0_0)
      (broadcastInDim S20480x5632 ![] bcast_S_S20480x5632 (constant S_ .f32 0x00000000#32))))))))))
    (broadcastInDim S20480x5632 ![] bcast_S_S20480x5632 (id (constant S_ .f32 0x00000000#32)))) bitsLt_bf16_f32

/-- The reference runs to that result. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v101) = outT (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run (F := Ideal) m ρ

theorem zero_f32 : Ideal.ofBits .f32 0x00000000#32 = 0 := by
  simp [Ideal.ofBits, Ideal.ieee]

theorem dot_at (X : FVec Ideal S20480x2048 .bf16) (W : FVec Ideal S2x8x2048x5632 .f32) (e : Fin 8) (h : S2x8x2048x5632.Slices ![0, e.val, 0, 0] S1x1x2048x5632)
    (r : Fin 20480) (d : Fin 5632) : dotT X W e.val h (ix2 r d) = rowDot X W e r d := by
  pointwise [dotT]
  rfl

theorem he_at (X : FVec Ideal S20480x2048 .bf16) (G U : FVec Ideal S2x8x2048x5632 .f32) (e : Fin 8) (h : S2x8x2048x5632.Slices ![0, e.val, 0, 0] S1x1x2048x5632)
    (r : Fin 20480) (d : Fin 5632) : heT X G U e.val h (ix2 r d) = gated (rowDot X G e r d) (rowDot X U e r d) := by
  rw [← dot_at X G e h, ← dot_at X U e h]
  pointwise [heT]
  rfl

theorem exp_at (B : IVec S40 32) (r : Fin 20480) : expT B (ix2 r (0 : Fin 1)) = B (ix1 (⟨r.val / 512, by omega⟩ : Fin 40)) := by
  pointwise [expT]

theorem used_at (N : IVec S1 32) (r : Fin 20480) : usedT N (ix2 r (0 : Fin 1)) = BitVec.ofBool (decide (((r.val / 512 : ℕ) : ℤ) < (N (ix1 (0 : Fin 1))).toInt)) := by
  pointwise [usedT]
  have e : (BitVec.ofNat 32 (r.val / 512)).toInt = ((r.val / 512 : ℕ) : ℤ) := by
    have h : (BitVec.ofNat 32 (r.val / 512)).toNat = r.val / 512 := by rw [BitVec.toNat_ofNat]; omega
    rw [BitVec.toInt_eq_toNat_of_lt (by omega), h]
  simp only [IntOp.cmpi, BitVec.slt_eq_decide, e]

theorem pick_at (B : IVec S40 32) (e : BitVec 32) (he out : FVec Ideal S20480x5632 .f32) (r : Fin 20480) (d : Fin 5632) :
    pickT B e he out (ix2 r d) = if B (ix1 (⟨r.val / 512, by omega⟩ : Fin 40)) = e then he (ix2 r d) else out (ix2 r d) := by
  pointwise [pickT]
  rw [exp_at]
  simp only [IntOp.cmpi]
  by_cases h : B (ix1 (⟨r.val / 512, by omega⟩ : Fin 40)) = e
  · rw [if_pos h, h, beq_self_eq_true]; rfl
  · rw [if_neg h, beq_eq_false_iff_ne.mpr h]; rfl

theorem out_at (X : FVec Ideal S20480x2048 .bf16) (G U : FVec Ideal S2x8x2048x5632 .f32) (B : IVec S40 32) (N : IVec S1 32) (r : Fin 20480) (d : Fin 5632) (e : Fin 8)
    (he : B (ix1 (⟨r.val / 512, by omega⟩ : Fin 40)) = BitVec.ofNat 32 e.val) :
    outT X G U B N (ix2 r d) = if ((r.val / 512 : ℕ) : ℤ) < (N (ix1 (0 : Fin 1))).toInt then gated (rowDot X G e r d) (rowDot X U e r d) else 0 := by
  pointwise [outT]
  rw [used_at]
  simp only [pick_at, he]
  by_cases h : ((r.val / 512 : ℕ) : ℤ) < (N (ix1 (0 : Fin 1))).toInt
  · rw [if_pos h, decide_eq_true h]
    match e with
    | 0 => exact he_at X G U 0 slices_S2x8x2048x5632_S1x1x2048x5632_0_0_0_0 r d
    | 1 => exact he_at X G U 1 slices_S2x8x2048x5632_S1x1x2048x5632_0_1_0_0 r d
    | 2 => exact he_at X G U 2 slices_S2x8x2048x5632_S1x1x2048x5632_0_2_0_0 r d
    | 3 => exact he_at X G U 3 slices_S2x8x2048x5632_S1x1x2048x5632_0_3_0_0 r d
    | 4 => exact he_at X G U 4 slices_S2x8x2048x5632_S1x1x2048x5632_0_4_0_0 r d
    | 5 => exact he_at X G U 5 slices_S2x8x2048x5632_S1x1x2048x5632_0_5_0_0 r d
    | 6 => exact he_at X G U 6 slices_S2x8x2048x5632_S1x1x2048x5632_0_6_0_0 r d
    | 7 => exact he_at X G U 7 slices_S2x8x2048x5632_S1x1x2048x5632_0_7_0_0 r d
  · rw [if_neg h, decide_eq_false h]; exact zero_f32

end Cert.MoeUpReferenceIdeal.Rows
-- ==== Proof.OutMoeUp.lean ====
/- The result array of the gated up projection, entry by entry. -/
module

public import proofs.«01_k».proof.Proof.FrameMoeUpIdeal
public import proofs.«01_k».proof.Proof.RefMoeUp
public import Idealize.ShloMosaic.Lib.Pipeline.Covers

@[expose] public section

set_option maxRecDepth 16384

noncomputable section

namespace Cert.MoeUpIdeal.Rows

open Cert.MoeUpIdeal Cert.MoeUpIdeal.Gen Cert.MoeUpIdeal.Run
open Idealize.ShloMosaic Idealize.ShloMosaic.TcCoe Idealize.ShloMosaic.Tactic
open Cert.MoeUpReferenceIdeal.Rows (gated rowDot zero_f32)

/-- The result's tile, at an entry. -/
theorem pay_at (x : FVec Ideal S512x2048 .bf16) (g u : FVec Ideal S1x1x2048x512 .f32) (r d : Fin 512) :
    (k0_pay3 (F := Ideal) x (k0_pay1 (F := Ideal) g) (k0_pay2 (F := Ideal) u) : FVec Ideal S512x512 .bf16) (ix2 r d)
      = gated (∑ k : Fin 2048, (x (ix2 r k) : EReal) * g (ix4 (0 : Fin 1) (0 : Fin 1) k d)) (∑ k : Fin 2048, (x (ix2 r k) : EReal) * u (ix4 (0 : Fin 1) (0 : Fin 1) k d)) := by
  pointwise [k0_pay3, k0_pay1, k0_pay2]
  rw [zero_sub]
  rfl

theorem zero_at (r d : Fin 512) : (k0_pay4 (F := Ideal) : FVec Ideal S512x512 .bf16) (ix2 r d) = (0 : EReal) := by
  pointwise [k0_pay4]

variable (m : (ℓ : Loc nD τ sig) → Buf (Elt Ideal) ℓ) (c : Dev nD)

/-- What the result array holds: row `r`, column `d`. -/
def cell (hE : ∀ k, (tE m k).toNat < 8) (r : Fin 20480) (d : Fin 5632) : EReal :=
  if ((r.val / 512 : ℕ) : ℤ) < (tN m).toInt then
    gated (rowDot (V m c main_arg0) (V m c main_arg1) ⟨_, hE ⟨r.val / 512, by omega⟩⟩ r d) (rowDot (V m c main_arg0) (V m c main_arg2) ⟨_, hE ⟨r.val / 512, by omega⟩⟩ r d)
  else 0

/-- The grid's points reach every block of the result. -/
theorem covers (hO : Ok m) : ((cfgM m hO).win 3).Covers :=
  ((cfgM m hO).win 3).covers_of_indexMap_surj rfl (fun a => by match a with | ⟨0, _⟩ => show 0 < 512; norm_num | ⟨1, _⟩ => show 0 < 512; norm_num) fun (β : (a : Fin 2) → Fin (((cfgM m hO).win 3).nblk a)) => by
    have h0 : (β 0).val < 40 := lt_of_lt_of_eq (β 0).isLt (show (20480 + 512 - 1) / 512 = 40 by norm_num)
    have h1 : (β 1).val < 11 := lt_of_lt_of_eq (β 1).isLt (show (5632 + 512 - 1) / 512 = 11 by norm_num)
    refine ⟨fun | ⟨0, _⟩ => (⟨(β 1).val, h1⟩ : Fin 11) | ⟨1, _⟩ => (⟨(β 0).val, h0⟩ : Fin 40), fun a => ?_⟩
    match a with
    | ⟨0, _⟩ => exact (by rw [BitVec.toNat_ofNat]; omega : (BitVec.ofNat 32 (β 0).val).toNat = (β 0).val)
    | ⟨1, _⟩ => exact (by rw [BitVec.toNat_ofNat]; omega : (BitVec.ofNat 32 (β 1).val).toNat = (β 1).val)

/-! ## The blocks, read at an entry -/

theorem iblk0_at (hO : Ok m) (t : Fin grid0.N) (r : Fin 512) (k : Fin 2048) :
    (iblk m hO c 0 t : Vec Ideal S512x2048 .bf16) (ix2 r k) = (V m c main_arg0 : Vec Ideal S20480x2048 .bf16) (ix2 (⟨t.val % 40 * 512 + r.val, by omega⟩ : Fin 20480) k) := by
  show V m c main_arg0 ((((cfgM m hO).win 0).blk t).view.emb (ix2 r k)) = V m c main_arg0 _
  congr 1; funext a; refine Fin.ext ?_
  match a with
  | ⟨0, _⟩ => show (BitVec.ofNat 32 (grid0.coords t 1).val).toNat * 512 + 1 * r.val = t.val % 40 * 512 + r.val; rw [ofNat_coord, coords1, one_mul]
  | ⟨1, _⟩ => show 0 * 2048 + 1 * k.val = k.val; omega

theorem iblk1_at (hO : Ok m) (e : Fin 8) (t : Fin grid0.N) (he : (tE m (bI (grid0.coords t))).toNat = e.val) (k : Fin 2048) (d : Fin 512) :
    (iblk m hO c 1 t : Vec Ideal S1x1x2048x512 .f32) (ix4 (0 : Fin 1) (0 : Fin 1) k d) = (V m c main_arg1 : Vec Ideal S2x8x2048x5632 .f32)
      (ix4 (0 : Fin 2) e k (⟨t.val / 40 * 512 + d.val, by have ht : t.val < 440 := Nat.lt_of_lt_of_eq t.isLt N_0; omega⟩ : Fin 5632)) := by
  show V m c main_arg1 ((((cfgM m hO).win 1).blk t).view.emb (ix4 (0 : Fin 1) (0 : Fin 1) k d)) = V m c main_arg1 _
  congr 1; funext a; refine Fin.ext ?_
  show cc0_transform_1 k0_off1_inb numel1_S1 (tbl m) (grid0.coords t) a * S1x1x2048x512.size a + 1 * (ix4 (0 : Fin 1) (0 : Fin 1) k d a).val = _
  rw [tr1_eq]
  match a with
  | ⟨0, _⟩ => show 0 * 1 + 1 * 0 = 0; rfl
  | ⟨1, _⟩ => show (tE m (bI (grid0.coords t))).toNat * 1 + 1 * 0 = e.val; omega
  | ⟨2, _⟩ => show 0 * 2048 + 1 * k.val = k.val; omega
  | ⟨3, _⟩ => show (grid0.coords t 0).val * 512 + 1 * d.val = t.val / 40 * 512 + d.val; rw [coords0, one_mul]

theorem iblk2_at (hO : Ok m) (e : Fin 8) (t : Fin grid0.N) (he : (tE m (bI (grid0.coords t))).toNat = e.val) (k : Fin 2048) (d : Fin 512) :
    (iblk m hO c 2 t : Vec Ideal S1x1x2048x512 .f32) (ix4 (0 : Fin 1) (0 : Fin 1) k d) = (V m c main_arg2 : Vec Ideal S2x8x2048x5632 .f32)
      (ix4 (0 : Fin 2) e k (⟨t.val / 40 * 512 + d.val, by have ht : t.val < 440 := Nat.lt_of_lt_of_eq t.isLt N_0; omega⟩ : Fin 5632)) := by
  show V m c main_arg2 ((((cfgM m hO).win 2).blk t).view.emb (ix4 (0 : Fin 1) (0 : Fin 1) k d)) = V m c main_arg2 _
  congr 1; funext a; refine Fin.ext ?_
  show cc0_transform_2 k0_off1_inb numel1_S1 (tbl m) (grid0.coords t) a * S1x1x2048x512.size a + 1 * (ix4 (0 : Fin 1) (0 : Fin 1) k d a).val = _
  rw [tr2_eq]
  match a with
  | ⟨0, _⟩ => show 0 * 1 + 1 * 0 = 0; rfl
  | ⟨1, _⟩ => show (tE m (bI (grid0.coords t))).toNat * 1 + 1 * 0 = e.val; omega
  | ⟨2, _⟩ => show 0 * 2048 + 1 * k.val = k.val; omega
  | ⟨3, _⟩ => show (grid0.coords t 0).val * 512 + 1 * d.val = t.val / 40 * 512 + d.val; rw [coords0, one_mul]

/-- One tile of the result, at an entry. -/
theorem tile_at (hE : ∀ k, (tE m k).toNat < 8) (t : Fin grid0.N) (r d : Fin 512) (hr : t.val % 40 * 512 + r.val < 20480) (hd : t.val / 40 * 512 + d.val < 5632) :
    (outAt m (ok_of m hE) c t : FVec Ideal S512x512 .bf16) (ix2 r d) = cell m c hE ⟨t.val % 40 * 512 + r.val, hr⟩ ⟨t.val / 40 * 512 + d.val, hd⟩ := by
  have hdiv : (t.val % 40 * 512 + r.val) / 512 = t.val % 40 := by omega
  have hb : bI (grid0.coords t) = ⟨(t.val % 40 * 512 + r.val) / 512, by omega⟩ := Fin.ext ((coords1 t).trans hdiv.symm)
  unfold outAt cell
  dsimp only
  by_cases hu : Used c (grid0.coords t) (tbl m 1)
  · have hu' := (used_iff m c _).mp hu
    rw [coords1] at hu'
    rw [if_pos hu, if_pos (by rw [hdiv]; exact hu')]
    refine (pay_at (iblk m _ c 0 t) (iblk m _ c 1 t) (iblk m _ c 2 t) r d).trans ?_
    refine congrArg₂ gated (Finset.sum_congr rfl fun k _ => ?_) (Finset.sum_congr rfl fun k _ => ?_)
    · exact congrArg₂ (fun a b : EReal => a * b) (iblk0_at m c _ t r k) (iblk1_at m c _ ⟨_, hE _⟩ t (by rw [hb]) k d)
    · exact congrArg₂ (fun a b : EReal => a * b) (iblk0_at m c _ t r k) (iblk2_at m c _ ⟨_, hE _⟩ t (by rw [hb]) k d)
  · have hu' := mt (used_iff m c _).mpr hu
    rw [coords1] at hu'
    rw [if_neg hu, if_neg (by rw [hdiv]; exact hu')]
    exact zero_at r d

theorem two_axes (y : S512x512.Idx) : ∃ r d : Fin 512, y = ix2 r d := ⟨y 0, y 1, by ext i; fin_cases i <;> rfl⟩

theorem emb0 (hO : Ok m) (t : Fin grid0.N) (r d : Fin 512) : ((((cfgM m hO).win 3).blk t).view.emb (ix2 r d : S512x512.Idx) (0 : Fin 2)).val = t.val % 40 * 512 + r.val := by
  show (BitVec.ofNat 32 (grid0.coords t 1).val).toNat * 512 + 1 * r.val = _
  rw [ofNat_coord, coords1, one_mul]

theorem emb1 (hO : Ok m) (t : Fin grid0.N) (r d : Fin 512) : ((((cfgM m hO).win 3).blk t).view.emb (ix2 r d : S512x512.Idx) (1 : Fin 2)).val = t.val / 40 * 512 + d.val := by
  show (BitVec.ofNat 32 (grid0.coords t 0).val).toNat * 512 + 1 * d.val = _
  rw [ofNat_coord0, coords0, one_mul]

/-- The result array. -/
theorem out_eq (hE : ∀ k, (tE m k).toNat < 8) :
    (dats m (ok_of m hE) 0 c).arrAt 3 (cfgM m (ok_of m hE)).N = (fun y : S20480x5632.Idx => cell m c hE (y 0) (y 1)) := by
  refine (dats m (ok_of m hE) 0 c).arrAt_eq_of_covers 3 _ (covers m _) fun t _ y => ?_
  blk_simp
  rw [after0_3]
  obtain ⟨r, d, rfl⟩ := two_axes y
  have ht : t.val < 440 := Nat.lt_of_lt_of_eq t.isLt N_0
  have e0 := emb0 m (ok_of m hE) t r d
  have e1 := emb1 m (ok_of m hE) t r d
  exact (tile_at m c hE t r d (by omega) (by omega)).trans (congrArg₂ (cell m c hE) (Fin.ext e0.symm) (Fin.ext e1.symm))

end Cert.MoeUpIdeal.Rows
-- ==== Proof.RangeMoeUp.lean ====
/- The precondition, read: every block's expert is one of the eight. -/
module

public import proofs.«01_k».proof.Proof.Gen.Pre_experts2
public import Idealize.ShloMosaic.Lib.ReduceAll
public import Idealize.ShloMosaic.Lib.Pipeline.ValueKit

@[expose] public section

noncomputable section

namespace Cert.MoeUpRange

open Idealize.ShloMosaic Idealize.ShloMosaic.TcCoe Idealize.ShloMosaic.Tactic
open Cert.Pre_experts2 Cert.Pre_experts2.Gen

theorem word_lt (x : BitVec 32) (h : IntOp.andi (IntOp.cmpi .sge x 0#32) (IntOp.cmpi .slt x 8#32) = 1#1) : x.toNat < 8 := by
  simp only [IntOp.cmpi, IntOp.andi, BitVec.slt_eq_decide, BitVec.sle_eq_decide] at h
  have h0 : (0#32).toInt = 0 := by decide
  have h8 : (8#32).toInt = 8 := by decide
  rw [h0, h8] at h
  by_cases a : (0 : ℤ) ≤ x.toInt
  · by_cases b : x.toInt < 8
    · rw [BitVec.toInt_eq_toNat_cond] at a b
      have := x.isLt
      split at a <;> split at b <;> omega
    · rw [decide_eq_false b, decide_eq_true a] at h; exact absurd h (by decide)
  · rw [decide_eq_false a] at h
    generalize decide (x.toInt < 8) = b at h
    cases b <;> exact absurd h (by decide)

theorem in_range {F : FTy → Type} [FloatOps F] (x : FVec F S20480x2048 .bf16) (g u : FVec F S2x8x2048x5632 .f32) (B : IVec S40 32) (N : IVec S1 32)
    (h : Cert.Pre_experts2.fn (F := F) x g u B N = fun _ => 1#1) (k : Fin 40) : (B (fun | ⟨0, _⟩ => k : S40.Idx)).toNat < 8 := by
  have h' := congrFun h ix0
  unfold Cert.Pre_experts2.fn at h'
  dsimp only at h'
  haveI : Subsingleton Cert.Pre_experts2.S_.Idx := ⟨fun i j => funext fun k => k.elim0⟩
  have hx := Host.reduce_andi_all _ _ _ _ _ h' (fun | ⟨0, _⟩ => k : S40.Idx)
  exact word_lt _ hx

end Cert.MoeUpRange
-- ==== Proof.MeetMoeUp.lean ====
/- The gated up projection and its reference leave the same array. -/
module

public import proofs.«01_k».proof.Defs
public import proofs.«01_k».proof.Proof.OutMoeUp
public import proofs.«01_k».proof.Proof.RangeMoeUp
public import proofs.«01_k».proof.Proof.FrameMoeUp
public import Idealize.ShloMosaic.Lib.Claim
public import Idealize.ShloMosaic.Adequacy

@[expose] public section

set_option maxRecDepth 16384

noncomputable section

namespace Cert.MoeUpMeet

open Idealize.ShloMosaic Idealize.ShloMosaic.TcCoe Idealize.ShloMosaic.Tactic Idealize.SL.Sem
open Cert.MoeUpIdeal.Run (tE tN tbl ok_of dats cfgM V run_main Ok)

/-! ## The kernel's run, its result named -/

section
open Cert.MoeUpIdeal Cert.MoeUpIdeal.Gen Cert.MoeUpIdeal.Rows

theorem run_cells (m : (ℓ : Loc nD τ sig) → Buf (Elt Ideal) ℓ) (ρ : Dev nD → PrngReg) (hE : ∀ k, (tE m k).toNat < 8) :
    θ_run defs (onTc (τ := τ) (main (F := Ideal))) ⟨m, fun _ => 0, ρ⟩ (fun r => ∀ c : Dev nD,
      r.2.mem ((c.tc : Thread nD τ).loc main_v0) = (fun y : S20480x5632.Idx => cell m c hE (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 3).trans (out_eq m c hE), h.2 c⟩)
    (θ_run_and (run_main m ρ (ok_of m hE)) (Cert.MoeUpIdeal.Run.unchanged m ρ (ok_of m hE)))

theorem range (m : (ℓ : Loc nD τ sig) → Buf (Elt Ideal) ℓ) (h : Cert.Pre_MoeUpIdeal m) (k : Fin 40) : (tE m k).toNat < 8 :=
  Cert.MoeUpRange.in_range _ _ _ _ _ (h 0) k
end

theorem range_bits (m : (ℓ : Loc Cert.MoeUp.nD Cert.MoeUp.τ Cert.MoeUp.sig) → Buf (Elt Bits) ℓ) (h : Cert.Pre_MoeUp m) (k : Fin 40) : (Cert.MoeUp.Run.tE m k).toNat < 8 :=
  Cert.MoeUpRange.in_range _ _ _ _ _ (h 0) k

/-- The reference's array is the kernel's. -/
theorem meet (m : (ℓ : Loc Cert.MoeUpIdeal.nD Cert.MoeUpIdeal.τ Cert.MoeUpIdeal.sig) → Buf (Elt Ideal) ℓ) (c : Dev Cert.MoeUpIdeal.nD) (hE : ∀ k, (tE m k).toNat < 8) :
    Cert.MoeUpReferenceIdeal.Rows.outT (V m c Cert.MoeUpIdeal.main_arg0) (V m c Cert.MoeUpIdeal.main_arg1) (V m c Cert.MoeUpIdeal.main_arg2) (V m c Cert.MoeUpIdeal.main_arg3) (V m c Cert.MoeUpIdeal.main_arg4)
      = (fun y : Cert.MoeUpIdeal.S20480x5632.Idx => Cert.MoeUpIdeal.Rows.cell m c hE (y 0) (y 1)) := by
  obtain rfl : c = 0 := Subsingleton.elim _ _
  funext y
  obtain ⟨r, d, rfl⟩ : ∃ (r : Fin 20480) (d : Fin 5632), y = ix2 r d := ⟨y 0, y 1, by ext i; fin_cases i <;> rfl⟩
  have e3 : (V m 0 Cert.MoeUpIdeal.main_arg3 : IVec Cert.MoeUpIdeal.S40 32) (ix1 (⟨r.val / 512, by omega⟩ : Fin 40)) = tE m ⟨r.val / 512, by omega⟩ := by
    show tbl m 0 _ = tbl m 0 _
    congr 1; funext a
    match a with
    | ⟨0, _⟩ => rfl
  have e4 : (V m 0 Cert.MoeUpIdeal.main_arg4 : IVec Cert.MoeUpIdeal.S1 32) (ix1 (0 : Fin 1)) = tN m := by
    show tbl m 1 _ = tbl m 1 _
    congr 1; funext a
    match a with
    | ⟨0, _⟩ => rfl
  refine (Cert.MoeUpReferenceIdeal.Rows.out_at _ _ _ _ _ r d ⟨_, hE ⟨r.val / 512, by omega⟩⟩ (e3.trans ?_)).trans ?_
  · dsimp only; rw [BitVec.ofNat_toNat, BitVec.setWidth_eq]
  · rw [e4]; rfl

/-! ## The claims -/

theorem frame : Cert.quiescent_MoeUp := fun m g h => Cert.MoeUp.Run.frame m g (Cert.MoeUp.Run.ok_of m (range_bits m h))
theorem frame_ideal : Cert.quiescent_MoeUpIdeal := fun m g h => Cert.MoeUpIdeal.Run.frame m g (ok_of m (range m h))
theorem frame_reference : Cert.quiescent_MoeUpReferenceIdeal := fun m g _ =>
  (θ_run _ _ _).mono (fun r h => ⟨fun c => (h c).2, sem_eq_zero_of_no_sems rfl _⟩) (Cert.MoeUpReferenceIdeal.Value.run m g)

/-- On every row of a block in use, the gated unit of the block's expert; zero on the others. -/
theorem algebraic : Cert.algebraic_MoeUpIdeal_MoeUpReferenceIdeal := by
  pair_intro
  · run_from run_cells m g (range m hpre)
  · run_from Cert.MoeUpReferenceIdeal.Rows.run_out m' g'
    exact meet m c (range m hpre)

end Cert.MoeUpMeet
-- ==== Proof.RunMoeDownIdeal.lean ====
/- The body of one grid point of the expert down projection, run from any contents, and what its branches depend on. -/
module

public import proofs.«01_k».proof.Proof.Gen.MoeDownIdeal.Launch
public import proofs.«01_k».proof.Proof.Gen.MoeDownIdeal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

-- membership in a rectangle of production extents (`View.cover_of_tiled`): the elaborator's structural look
-- recurses once per coordinate of the long axes
set_option maxRecDepth 16384

noncomputable section

namespace Cert.MoeDownIdeal.Run
open Cert.MoeDownIdeal Cert.MoeDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg2
abbrev htbM0_0 : tbM0_0.IsWhole := Memref.isWhole_whole _
abbrev tbM0_1 : Memref sig .tc .smem S1 .i32 := Memref.whole main_arg3
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeDownIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x5632 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x5632x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x512 .f32 := spec0_2.stage ((cfgM m hO).slots t 2)
abbrev hs0_2 (hO : Ok m) (t : Fin (cfgM m hO).N) : (ms0_2 m hO t).IsWhole := hstage0_2 (((cfgM m hO).slots t 2).cast nbuf0_2)
/-- The scratch operand: a whole scoped buffer of the kernel's own, passed beside the windows. -/
abbrev scM0_0 : Memref sig .tc .vmem S5632x512 .bf16 := Memref.whole cc0_scratch0

/-- The frame kit's invariant with the scratch operand as a memref owned at some contents (`Gen.scopedRest0_eq`,
    Lib/Memref.lean `owns_whole`): what the body obligation hands the run and takes back. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-! ## The body's conditions, from the words it loads -/

/-- The number of blocks in use, as the body loads it. -/
abbrev wN (c : Dev nD) (xt1 : TbBuf0 (F := F) c tbM0_1) : BitVec 32 :=
  View.readAt (Elt F) tbM0_1.view (Rect.unit (s := S1) ![0] S1.size inb_S1_S1_0).toLoadRect xt1 (Shape.Idx.first (numel1_S1.symm ▸ Nat.one_pos))
/-- The expert of the point's block, as the body loads it. -/
abbrev wE (c : Dev nD) (i : grid0.Coords) (xt0 : TbBuf0 (F := F) c tbM0_0) : BitVec 32 :=
  View.readAt (Elt F) tbM0_0.view (Rect.unit (s := S40) (k0_off2 i) S1.size (k0_off2_inb i)).toLoadRect xt0 (Shape.Idx.first (numel1_S1.symm ▸ Nat.one_pos))
/-- The expert of the block before it, as the body loads it. -/
abbrev wP (c : Dev nD) (i : grid0.Coords) (xt0 : TbBuf0 (F := F) c tbM0_0) : BitVec 32 :=
  View.readAt (Elt F) tbM0_0.view (Rect.unit (s := S40) (k0_off3 i) S1.size (k0_off3_inb i)).toLoadRect xt0 (Shape.Idx.first (numel1_S1.symm ▸ Nat.one_pos))
/-- The block is in use. -/
abbrev Used (c : Dev nD) (i : grid0.Coords) (xt1 : TbBuf0 (F := F) c tbM0_1) : Prop := k0_cond1 i (wN c xt1) = 1#1
/-- The block is the first of its column or its expert is not the one of the block before. -/
abbrev Changed (c : Dev nD) (i : grid0.Coords) (xt0 : TbBuf0 (F := F) c tbM0_0) : Prop :=
  Scalar.cmpi .ne (Scalar.extui (Scalar.ori (Scalar.cmpi .eq (BitVec.ofNat 32 (i 1).val) 0#32) (Scalar.cmpi .ne (wE c i xt0) (wP c i xt0)))) 0#32 = 1#1

/-- The second branch is taken exactly where the first is not. -/
theorem cond3_iff (i : grid0.Coords) (w : BitVec 32) : k0_cond3 i w = 1#1 ↔ ¬ k0_cond1 i w = 1#1 := by
  unfold k0_cond3 k0_cond1
  have e : w.sle (BitVec.ofNat 32 (i 1).val) = !(BitVec.ofNat 32 (i 1).val).slt w := by
    rw [BitVec.sle_eq_decide, BitVec.slt_eq_decide]
    by_cases h : (BitVec.ofNat 32 (i 1).val).toInt < w.toInt
    · rw [decide_eq_true h, decide_eq_false (not_le.mpr h)]; rfl
    · rw [decide_eq_false h, decide_eq_true (not_lt.mp h)]; rfl
  simp only [Scalar.cmpi, Scalar.extui, IntOp.cmpi, e]
  cases (BitVec.ofNat 32 (i 1).val).slt w <;> decide

/-- What the weight's scratch holds after a point: the new weight where it is loaded, else what it held. -/
def keep (c : Dev nD) (i : grid0.Coords) (xt0 : TbBuf0 (F := F) c tbM0_0) (xt1 : TbBuf0 (F := F) c tbM0_1) (w s : Vec F S5632x512 .bf16) : Vec F S5632x512 .bf16 :=
  if Used c i xt1 then (if Changed c i xt0 then w else s) else s

set_option maxHeartbeats 4000000 in
/-- The body from any contents: what it leaves in the output's buffer and in the scratch. -/
theorem body_run (c : Dev nD) (i : grid0.Coords) (arg4 : Memref sig .tc .vmem S512x5632 .bf16) (harg4 : arg4.IsWhole) (arg5 : Memref sig .tc .vmem S1x1x5632x512 .f32) (harg5 : arg5.IsWhole) (arg6 : Memref sig .tc .vmem S512x512 .f32) (harg6 : arg6.IsWhole) (arg7 : Memref sig .tc .vmem S5632x512 .bf16) (harg7 : arg7.IsWhole)
    (x0 : Vec F S512x5632 .bf16) (x1 : Vec F S1x1x5632x512 .f32) (s0 : Vec F S5632x512 .bf16) (xt0 : TbBuf0 (F := F) c tbM0_0) (xt1 : TbBuf0 (F := F) c tbM0_1) (E : Set ℕ) (K : PUnit → sProp 𝕄) :
        iprop(owns (c : Thread nD τ) arg4 fullShare x0 ∗ owns (c : Thread nD τ) arg5 fullShare x1 ∗ (∃ d, owns (c : Thread nD τ) arg6 fullShare d) ∗ owns (c : Thread nD τ) arg7 fullShare s0 ∗ tbPt0 c tbM0_0 xt0 ∗ tbPt0 c tbM0_1 xt1
            ∗ (iprop(owns (c : Thread nD τ) arg4 fullShare x0 ∗ owns (c : Thread nD τ) arg5 fullShare x1
                ∗ owns (c : Thread nD τ) arg6 fullShare (if Used c i xt1 then k0_pay2 x0 (keep c i xt0 xt1 (k0_pay1 x1) s0) else k0_pay3)
                ∗ owns (c : Thread nD τ) arg7 fullShare (keep c i xt0 xt1 (k0_pay1 x1) s0)
                ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7) K := by
    simp only [cc0_moe_down_eq_skeleton]; unfold cc0_moe_down_skel
    unfold owns
    iintro ⟨⟨%f0, %hf0, H0⟩, ⟨%f1, %hf1, H1⟩, ⟨%d3, %f3, -, H3⟩, ⟨%fs0, %hfs0, HS0⟩, HT0, HT1, Hk⟩
    obtain rfl := harg4.eq_unread hf0; obtain rfl := harg5.eq_unread hf1
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H3]
    · iexists _; isplitr
      swap; · iexact H3
      ipureintro
      by_cases hu : Used c i xt1
      · have h3 : ¬ k0_cond3 i (body_run.sl.r c xt1) = 1#1 := fun h => (cond3_iff i _).mp h hu
        rw [dif_neg h3, dif_pos (show k0_cond1 i (body_run.sl.r c xt1) = 1#1 from hu), if_pos hu]
        rw [View.read_writes_full]
        rw [View.readAt_full, hf0]
        congr 1
        unfold body_run.sl.v20 keep; rw [if_pos hu]
        by_cases hch : Changed c i xt0
        · rw [dif_pos (show body_run.sl.v18 c i xt0 = 1#1 from hch), if_pos hch, View.readAt_writes_full, View.readAt_full, hf1]
        · rw [dif_neg (show ¬ body_run.sl.v18 c i xt0 = 1#1 from hch), if_neg hch, View.readAt_full, hfs0]
      · have h3 : k0_cond3 i (body_run.sl.r c xt1) = 1#1 := (cond3_iff i _).mpr hu
        rw [dif_pos h3, if_neg hu, View.read_writes_full]
    isplitl [HS0]
    · iexists _; isplitr
      swap; · iexact HS0
      ipureintro
      unfold keep
      by_cases hu : Used c i xt1
      · rw [dif_pos (show k0_cond1 i (body_run.sl.r c xt1) = 1#1 from hu), if_pos hu]
        by_cases hch : Changed c i xt0
        · rw [dif_pos (show body_run.sl.v18 c i xt0 = 1#1 from hch), if_pos hch, View.read_writes_full, View.readAt_full, hf1]
        · rw [dif_neg (show ¬ body_run.sl.v18 c i xt0 = 1#1 from hch), if_neg hch, hfs0]
      · rw [dif_neg (show ¬ k0_cond1 i (body_run.sl.r c xt1) = 1#1 from hu), if_neg hu, hfs0]
    isplitl [HT0]; · iexact HT0
    iexact HT1

end Cert.MoeDownIdeal.Run

end
-- ==== Proof.WordsMoeDownIdeal.lean ====
/- The words of the two tables as the body and the index maps read them, and why a kept weight is the right one. -/
module

public import proofs.«01_k».proof.Proof.RunMoeDownIdeal

@[expose] public section

-- membership in a rectangle of production extents (`View.cover_of_tiled`): the elaborator's structural look
-- recurses once per coordinate of the long axes
set_option maxRecDepth 16384

noncomputable section

namespace Cert.MoeDownIdeal.Run
open Cert.MoeDownIdeal Cert.MoeDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words of the tables -/

/-- The number of blocks in use. -/
def tN : BitVec 32 := tbl m 1 (fun | ⟨0, _⟩ => (⟨0, Nat.one_pos⟩ : Fin 1) : S1.Idx)
/-- The expert of block `k`. -/
def tE (k : Fin 40) : BitVec 32 := tbl m 0 (fun | ⟨0, _⟩ => k : S40.Idx)

theorem wN_eq (c : Dev nD) : wN c (tbl m 1) = tN m := by
  show tbl m 1 _ = tbl m 1 _
  congr 1; funext a
  match a with
  | ⟨0, _⟩ => exact Subsingleton.elim (α := Fin 1) _ _

/-- The block of a grid point. -/
abbrev bI (i : grid0.Coords) : Fin 40 := i 1
theorem ofNat_coord (i : grid0.Coords) : (BitVec.ofNat 32 (i 1).val).toNat = (i 1).val := by
  rw [BitVec.toNat_ofNat]; have : (i 1).val < 40 := (i 1).isLt; omega
theorem ofNat_coord0 (i : grid0.Coords) : (BitVec.ofNat 32 (i 0).val).toNat = (i 0).val := by
  rw [BitVec.toNat_ofNat]; have : (i 0).val < 4 := (i 0).isLt; omega

theorem wE_eq (c : Dev nD) (i : grid0.Coords) : wE c i (tbl m 0) = tE m (bI i) := by
  show tbl m 0 _ = tbl m 0 _
  congr 1; funext a
  match a with
  | ⟨0, _⟩ =>
  refine Fin.ext ?_
  show (BitVec.ofNat 32 (i 1).val).toNat + 1 * 0 = (i 1).val
  rw [ofNat_coord]; omega

theorem wP_eq (c : Dev nD) (i : grid0.Coords) (h : (i 1).val ≠ 0) : wP c i (tbl m 0) = tE m ⟨(i 1).val - 1, by have : (i 1).val < 40 := (i 1).isLt; omega⟩ := by
  show tbl m 0 _ = tbl m 0 _
  congr 1; funext a
  match a with
  | ⟨0, _⟩ =>
  refine Fin.ext ?_
  show k0_off3 i 0 + 1 * 0 = (i 1).val - 1
  have : ∀ n : Fin 40, n.val ≠ 0 → (Scalar.indexCast (Scalar.maxsi (Scalar.subi (BitVec.ofNat 32 n.val) 1#32) 0#32) : Index).toNat = n.val - 1 := by decide +kernel
  exact (Nat.add_zero _).trans (this (i 1) h)

/-- In use: the block's number is below the count. -/
theorem used_iff (c : Dev nD) (i : grid0.Coords) : Used c i (tbl m 1) ↔ ((i 1).val : ℤ) < (tN m).toInt := by
  unfold Used k0_cond1
  rw [wN_eq]
  have hi : (i 1).val < 40 := (i 1).isLt
  have e : (BitVec.ofNat 32 (i 1).val).toInt = ((i 1).val : ℤ) := by
    rw [BitVec.toInt_eq_toNat_of_lt (by rw [ofNat_coord]; omega), ofNat_coord]
  simp only [Scalar.cmpi, Scalar.extui, IntOp.cmpi, BitVec.slt_eq_decide, e]
  by_cases h : ((i 1).val : ℤ) < (tN m).toInt
  · simp [h]
  · simp [h]

/-- Not loaded anew: not the first block of the column, and the expert of the block before. -/
theorem not_changed (c : Dev nD) (i : grid0.Coords) (h : ¬ Changed c i (tbl m 0)) :
    ∃ h0 : (i 1).val ≠ 0, tE m (bI i) = tE m ⟨(i 1).val - 1, by have : (i 1).val < 40 := (i 1).isLt; omega⟩ := by
  have hi : (i 1).val < 40 := (i 1).isLt
  have h' : ¬ ((BitVec.ofNat 32 (i 1).val = 0#32) ∨ wE c i (tbl m 0) ≠ wP c i (tbl m 0)) := by
    intro hc
    refine h ?_
    simp only [Changed, Scalar.cmpi, Scalar.extui, Scalar.ori, IntOp.cmpi]
    rcases hc with hc | hc
    · rw [hc]; generalize (wE c i (tbl m 0) != wP c i (tbl m 0)) = b; cases b <;> decide
    · have e : (wE c i (tbl m 0) != wP c i (tbl m 0)) = true := by simpa using hc
      rw [e]; generalize (BitVec.ofNat 32 (i 1).val == 0#32) = b; cases b <;> decide
  push Not at h'
  have h0 : (i 1).val ≠ 0 := fun hz => h'.1 (by rw [hz])
  refine ⟨h0, ?_⟩
  have := h'.2
  rwa [wE_eq, wP_eq m c i h0] at this

/-- The weight's block index. -/
theorem tr1_eq (i : grid0.Coords) : cc0_transform_1 k0_off1_inb numel1_S1 (tbl m) i = ![0, (tE m (bI i)).toNat, 0, (i 0).val] := by
  have e : ((tbl m).at 0 (Rect.unit (s := S40) ![(Scalar.indexCast (BitVec.ofNat 32 (i 1).val) : Index).toNat] S1.size (k0_off1_inb i)) numel1_S1) = tE m (bI i) := by
    show tbl m 0 _ = tbl m 0 _
    congr 1; funext a
    match a with
    | ⟨0, _⟩ =>
    refine Fin.ext ?_
    show (BitVec.ofNat 32 (i 1).val).toNat + 1 * 0 = (i 1).val
    rw [ofNat_coord]; omega
  unfold cc0_transform_1
  dsimp only
  rw [e, ofNat_coord0]; rfl

/-- Experts in range keep the weight's blocks inside its array. -/
theorem ok_of (h : ∀ k, (tE m k).toNat < 8) : Ok m := by
  refine fun i => ⟨fun a => ?_, .inl rfl⟩
  have h0 := h (bI i)
  have hi : (i 0).val < 4 := (i 0).isLt
  rw [tr1_eq]
  match a with
  | ⟨0, _⟩ => show (0 + 1) * 1 ≤ 2; omega
  | ⟨1, _⟩ => show ((tE m (bI i)).toNat + 1) * 1 ≤ 8; omega
  | ⟨2, _⟩ => show (0 + 1) * 5632 ≤ 5632; omega
  | ⟨3, _⟩ => show ((i 0).val + 1) * 512 ≤ 2048; omega

/-! ## A kept weight -/

theorem coords0 (t : Fin grid0.N) : (grid0.coords t 0).val = t.val / 40 := by
  have ht : t.val < 160 := Nat.lt_of_lt_of_eq t.isLt N_0
  have e0 : (grid0.coords t 0).val = t.val / 40 % 4 := Pipeline.Grid.coords_val t 0 (by decide) rfl
  omega
theorem coords1 (t : Fin grid0.N) : (grid0.coords t 1).val = t.val % 40 := by
  have e1 : (grid0.coords t 1).val = t.val / 1 % 40 := Pipeline.Grid.coords_val t 1 (by decide) rfl
  omega

theorem iblk1_congr (hO : Ok m) (c : Dev nD) (t t' : Fin grid0.N)
    (h : cc0_transform_1 k0_off1_inb numel1_S1 (tbl m) (grid0.coords t') = cc0_transform_1 k0_off1_inb numel1_S1 (tbl m) (grid0.coords t)) :
    (iblk m hO c 1 t' : Vec F S1x1x5632x512 .f32) = (iblk m hO c 1 t : Vec F S1x1x5632x512 .f32) := by
  funext y
  show V m c main_arg1 ((((cfgM m hO).win 1).blk t').view.emb y) = V m c main_arg1 ((((cfgM m hO).win 1).blk t).view.emb y)
  congr 1; funext a; refine Fin.ext ?_
  show cc0_transform_1 k0_off1_inb numel1_S1 (tbl m) (grid0.coords t') a * S1x1x5632x512.size a + 1 * (y a).val = cc0_transform_1 k0_off1_inb numel1_S1 (tbl m) (grid0.coords t) a * S1x1x5632x512.size a + 1 * (y a).val
  rw [h]
/-- Where a block in use keeps the weight, the point before is in use and works on the same weight's block. -/
theorem kept (hO : Ok m) (c : Dev nD) (t : Fin grid0.N) (hu : Used c (grid0.coords t) (tbl m 1)) (hc : ¬ Changed c (grid0.coords t) (tbl m 0)) :
    ∃ t' : Fin grid0.N, t'.val + 1 = t.val ∧ Used c (grid0.coords t') (tbl m 1)
      ∧ (iblk m hO c 1 t' : Vec F S1x1x5632x512 .f32) = (iblk m hO c 1 t : Vec F S1x1x5632x512 .f32) := by
  obtain ⟨h0, he⟩ := not_changed m c _ hc
  have ht : t.val < 160 := Nat.lt_of_lt_of_eq t.isLt N_0
  have h1 := coords1 t
  have hp : t.val - 1 < grid0.N := by have := t.isLt; omega
  have h1' : (grid0.coords ⟨t.val - 1, hp⟩ 1).val = (grid0.coords t 1).val - 1 := by rw [coords1, h1]; dsimp only; omega
  have h0' : (grid0.coords ⟨t.val - 1, hp⟩ 0).val = (grid0.coords t 0).val := by rw [coords0, coords0]; dsimp only; omega
  have hE : tE m (bI (grid0.coords ⟨t.val - 1, hp⟩)) = tE m (bI (grid0.coords t)) := by
    rw [he]; congr 1; exact Fin.ext h1'
  refine ⟨⟨t.val - 1, hp⟩, by dsimp only; omega, ?_, iblk1_congr m hO c _ _ ?_⟩
  · rw [used_iff] at hu ⊢; rw [h1']; omega
  · rw [tr1_eq, tr1_eq, hE, h0']

end Cert.MoeDownIdeal.Run

end
-- ==== Proof.FrameMoeDownIdeal.lean ====
/- The launch, point by point: what it carries, the body at a point, the run, and the frame. -/
module

public import proofs.«01_k».proof.Proof.WordsMoeDownIdeal

@[expose] public section

-- membership in a rectangle of production extents (`View.cover_of_tiled`): the elaborator's structural look
-- recurses once per coordinate of the long axes
set_option maxRecDepth 16384

noncomputable section

namespace Cert.MoeDownIdeal.Run
open Cert.MoeDownIdeal Cert.MoeDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch carries from point to point -/

/-- What a point leaves in the output's buffer. -/
def outAt (hO : Ok m) (c : Dev nD) (t : Fin grid0.N) : Vec F S512x512 .f32 :=
  if Used c (grid0.coords t) (tbl m 1) then k0_pay2 (iblk m hO c 0 t) (k0_pay1 (iblk m hO c 1 t)) else k0_pay3

/-- The scratch holds the weight of the point before, where that point's block is in use. -/
def Holds (hO : Ok m) (c : Dev nD) (n : ℕ) (s0 : Vec F S5632x512 .bf16) : Prop :=
  ∀ t : Fin grid0.N, t.val + 1 = n → Used c (grid0.coords t) (tbl m 1) → s0 = k0_pay1 (iblk m hO c 1 t)

/-- Before point `n`: the scratch at such contents, the generator register and the tables. -/
def PhiS (hO : Ok m) (c : Dev nD) (n : ℕ) : sProp 𝕄 :=
  iprop((∃ s0, ⌜Holds m hO c n s0⌝ ∗ owns (c : Thread nD τ) scM0_0 fullShare s0)
    ∗ (∃ r, prngReg c r) ∗ tbPt0 c tbM0_0 (tbl m 0) ∗ tbPt0 c tbM0_1 (tbl m 1))

/-- In use, the scratch ends at the point's own weight. -/
theorem keep_eq (hO : Ok m) (c : Dev nD) (t : Fin grid0.N) (s0 : Vec F S5632x512 .bf16) (h : Holds m hO c t.val s0) (hu : Used c (grid0.coords t) (tbl m 1)) :
    keep c (grid0.coords t) (tbl m 0) (tbl m 1) (k0_pay1 (iblk m hO c 1 t)) s0 = k0_pay1 (iblk m hO c 1 t) := by
  unfold keep
  rw [if_pos hu]
  by_cases hc : Changed c (grid0.coords t) (tbl m 0)
  · rw [if_pos hc]
  · rw [if_neg hc]
    obtain ⟨t', h1, h2, h3⟩ := kept m hO c t hu hc
    exact (h t' h1 h2).trans (congrArg k0_pay1 h3)

/-- The proof data of the launch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := PhiS m hO c t.val
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start. -/
theorem PhiS_castSucc (hO : Ok m) (c : Dev nD) (t : Fin (cfgM m hO).N) : (dats m hO 0 c).Φ t.castSucc = PhiS m hO c t.val := by
  dsimp only [dats]; exact congrArg (PhiS m hO c) (Fin.val_castSucc t)

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t)

/-- An input is never idle, and the output's buffer is stored into at every point. -/
theorem live0 (hO : Ok m) (w : Fin 3) (t : Fin (cfgM m hO).N) : (cfgM m hO).idle w ((cfgM m hO).grid.coords t) = false := by
  match w with
  | ⟨0, _⟩ => rfl
  | ⟨1, _⟩ => rfl
  | ⟨2, _⟩ =>
    show (!(k0_cond1 (grid0.coords t) ((tbl m).atD 1 ![0]) == 1#1) && !(k0_cond3 (grid0.coords t) ((tbl m).atD 1 ![0]) == 1#1)) = false
    generalize (tbl m).atD 1 ![0] = w
    have := cond3_iff (grid0.coords t) w
    by_cases h : k0_cond1 (grid0.coords t) w = 1#1
    · simp [h]
    · simp [this.mpr h]

theorem live0_0 (hO : Ok m) (t : Fin (cfgM m hO).N) : (cfgM m hO).idle 0 (grid0.coords t) = false := live0 m hO 0 t
theorem live0_1 (hO : Ok m) (t : Fin (cfgM m hO).N) : (cfgM m hO).idle 1 (grid0.coords t) = false := live0 m hO 1 t
theorem live0_2 (hO : Ok m) (t : Fin (cfgM m hO).N) : (cfgM m hO).idle 2 (grid0.coords t) = false := live0 m hO 2 t

set_option maxHeartbeats 1000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl]
  rw [show (dats m hO 0 c).Φ t.succ = PhiS m hO c (t.val + 1) from rfl, PhiS_castSucc m hO c t]
  rw [show (dats m hO 0 c).leavesExact 0 t = owns (c : Thread nD τ) (ms0_0 m hO t) fullShare ((dats m hO 0 c).after 0 t) from by
      unfold Dat.leavesExact; rw [live0_0 m hO t]; try rfl, after0_0]
  rw [show (dats m hO 0 c).leavesExact 1 t = owns (c : Thread nD τ) (ms0_1 m hO t) fullShare ((dats m hO 0 c).after 1 t) from by
      unfold Dat.leavesExact; rw [live0_1 m hO t]; try rfl, after0_1]
  rw [show (dats m hO 0 c).leavesExact 2 t = owns (c : Thread nD τ) (ms0_2 m hO t) fullShare ((dats m hO 0 c).after 2 t) from by
      unfold Dat.leavesExact; rw [live0_2 m hO t]; try rfl, after0_2]
  unfold PhiS
  iintro ⟨⟨⟨%s0, %hH, HS0⟩, Hg, HT0, HT1⟩, Ho, ⟨%d0, H0⟩, ⟨%d1, H1⟩, ⟨%d2, H2⟩⟩
  iapply (body_run c (grid0.coords t) _ _ _ _ _ _ _ _ (iblk m hO c 0 t) (iblk m hO c 1 t) s0 (tbl m 0) (tbl m 1) Set.univ _)
  isplitl [H0]; · iexact H0
  isplitl [H1]; · iexact H1
  isplitl [H2]; · iexists _; iexact H2
  isplitl [HS0]; · iexact HS0
  isplitl [HT0]; · iexact HT0
  isplitl [HT1]; · iexact HT1
  iintro ⟨H0, H1, H2, HS0, HT0, HT1⟩
  isplitl [HS0 Hg HT0 HT1]
  · isplitl [HS0]
    · iexists _
      isplitr
      swap
      · iexact HS0
      · ipureintro
        intro t' ht' hu'
        obtain rfl : t' = t := Fin.ext (by omega)
        exact keep_eq m hO c t' s0 hH hu'
    isplitl [Hg]; · iexact Hg
    isplitl [HT0]; · iexact HT0
    iexact HT1
  isplitl [Ho]; · iexact Ho
  isplitl [H0]; · iexact H0
  isplitl [H1]; · iexact H1
  have e : outAt m hO c t = (if Used c (grid0.coords t) (tbl m 1) then k0_pay2 (iblk m hO c 0 t)
      (keep c (grid0.coords t) (tbl m 0) (tbl m 1) (k0_pay1 (iblk m hO c 1 t)) s0) else k0_pay3) := by
    unfold outAt
    by_cases hu : Used c (grid0.coords t) (tbl m 1)
    · rw [if_pos hu, if_pos hu, keep_eq m hO c t s0 hH hu]
    · rw [if_neg hu, if_neg hu]
  rw [e]
  iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq, PhiT0_eq]
  unfold PhiS
  iintro ⟨⟨⟨%s0, HS0⟩, Hg⟩, ⟨HT0, HT1⟩⟩
  isplitl [HS0]
  · iexists s0
    isplitr
    · ipureintro; intro t ht; omega
    iexact HS0
  isplitl [Hg]; · iexact Hg
  isplitl [HT0]; · iexact HT0
  iexact HT1

/-- After the last point the scratch's contents are forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨⟨%s0, -, HS0⟩, Hg, -⟩
  isplitl [HS0]
  · iexists _; iexact HS0
  iexact Hg

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The frame: the run ends, the arguments as they were and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.MoeDownIdeal.Run

end
-- ==== Proof.RefMoeDown.lean ====
/- The reference of the down projection, read at an index: each row goes through the expert of its block. -/
module

public import proofs.«01_k».proof.Proof.Gen.MoeDownReferenceIdeal
public import proofs.«01_k».proof.Proof.Gen.MoeDownReferenceIdeal.Run
public import Idealize.ShloMosaic.Lib.Pipeline.ValueKit

@[expose] public section

set_option maxRecDepth 16384

noncomputable section

namespace Cert.MoeDownReferenceIdeal.Rows

open Cert.MoeDownReferenceIdeal Cert.MoeDownReferenceIdeal.Gen Cert.MoeDownReferenceIdeal.Value
open Idealize.ShloMosaic Idealize.ShloMosaic.TcCoe Idealize.ShloMosaic.Tactic Idealize.ShloMosaic.StableHlo

/-- Row `r` of the hidden units against column `d` of expert `e`'s matrix. -/
def rowDot (X : FVec Ideal S20480x5632 .bf16) (W : FVec Ideal S2x8x5632x2048 .f32) (e : Fin 8) (r : Fin 20480) (d : Fin 2048) : EReal :=
  ∑ k : Fin 5632, (X (ix2 r k) : EReal) * W (ix4 (0 : Fin 2) e k d)

/-- The hidden units, one matrix product with an expert's slice of the weights. -/
def dotT (X : FVec Ideal S20480x5632 .bf16) (W : FVec Ideal S2x8x5632x2048 .f32) (e : ℕ) (h : S2x8x5632x2048.Slices ![0, e, 0, 0] S1x1x5632x2048) : FVec Ideal S20480x2048 .f32 :=
  Host.dotGeneral dot_S20480x5632_S5632x2048_S20480x2048_1_0_0_1_n_n none (extf .f32 X bitsLt_bf16_f32) (shapeCast _ (extractStridedSlice S1x1x5632x2048 ![0, e, 0, 0] W h) shapeCasts_S1x1x5632x2048_S5632x2048)

/-- The expert of each row. -/
def expT (B : IVec S40 32) : IVec S20480x1 32 :=
  shapeCast _ (broadcastInDim S40x512 ![0, 1] bcast_S40x1_S40x512_0_1 (broadcastInDim S40x1 ![0] bcast_S40_S40x1_0 B)) shapeCasts_S40x512_S20480x1

/-- Expert `e`'s rows taken from `he`, the others kept. -/
def pickT (B : IVec S40 32) (e : BitVec 32) (he out : FVec Ideal S20480x2048 .f32) : FVec Ideal S20480x2048 .f32 :=
  select (broadcastInDim S20480x2048 ![0, 1] bcast_S20480x1_S20480x2048_0_1 (cmpi .eq (expT B) (broadcastInDim S20480x1 ![] bcast_S_S20480x1 (constantI S_ 32 e)))) he out

/-- Which rows a block in use holds. -/
def usedT (N : IVec S1 32) : IVec S20480x1 1 :=
  shapeCast _ (broadcastInDim S40x512 ![0, 1] bcast_S40x1_S40x512_0_1 (broadcastInDim S40x1 ![0] bcast_S40_S40x1_0 (cmpi .slt (iotaInDim S40 32 0) (broadcastInDim S40 ![] bcast_S_S40 (shapeCast _ N shapeCasts_S1_S_))))) shapeCasts_S40x512_S20480x1

/-- The result. -/
def outT (X : FVec Ideal S20480x5632 .bf16) (W : FVec Ideal S2x8x5632x2048 .f32) (B : IVec S40 32) (N : IVec S1 32) : FVec Ideal S20480x2048 .f32 :=
  select (broadcastInDim S20480x2048 ![0, 1] bcast_S20480x1_S20480x2048_0_1 (usedT N))
    (pickT B 7#32 (dotT X W 7 slices_S2x8x5632x2048_S1x1x5632x2048_0_7_0_0)
    (pickT B 6#32 (dotT X W 6 slices_S2x8x5632x2048_S1x1x5632x2048_0_6_0_0)
    (pickT B 5#32 (dotT X W 5 slices_S2x8x5632x2048_S1x1x5632x2048_0_5_0_0)
    (pickT B 4#32 (dotT X W 4 slices_S2x8x5632x2048_S1x1x5632x2048_0_4_0_0)
    (pickT B 3#32 (dotT X W 3 slices_S2x8x5632x2048_S1x1x5632x2048_0_3_0_0)
    (pickT B 2#32 (dotT X W 2 slices_S2x8x5632x2048_S1x1x5632x2048_0_2_0_0)
    (pickT B 1#32 (dotT X W 1 slices_S2x8x5632x2048_S1x1x5632x2048_0_1_0_0)
    (pickT B 0#32 (dotT X W 0 slices_S2x8x5632x2048_S1x1x5632x2048_0_0_0_0)
      (broadcastInDim S20480x2048 ![] bcast_S_S20480x2048 (constant S_ .f32 0x00000000#32))))))))))
    (broadcastInDim S20480x2048 ![] bcast_S_S20480x2048 (id (constant S_ .f32 0x00000000#32)))

/-- The reference runs to that result. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = outT (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

theorem zero_f32 : Ideal.ofBits .f32 0x00000000#32 = 0 := by
  simp [Ideal.ofBits, Ideal.ieee]

theorem dot_at (X : FVec Ideal S20480x5632 .bf16) (W : FVec Ideal S2x8x5632x2048 .f32) (e : Fin 8) (h : S2x8x5632x2048.Slices ![0, e.val, 0, 0] S1x1x5632x2048)
    (r : Fin 20480) (d : Fin 2048) : dotT X W e.val h (ix2 r d) = rowDot X W e r d := by
  pointwise [dotT]
  rfl

theorem exp_at (B : IVec S40 32) (r : Fin 20480) : expT B (ix2 r (0 : Fin 1)) = B (ix1 (⟨r.val / 512, by omega⟩ : Fin 40)) := by
  pointwise [expT]

theorem used_at (N : IVec S1 32) (r : Fin 20480) : usedT N (ix2 r (0 : Fin 1)) = BitVec.ofBool (decide (((r.val / 512 : ℕ) : ℤ) < (N (ix1 (0 : Fin 1))).toInt)) := by
  pointwise [usedT]
  have e : (BitVec.ofNat 32 (r.val / 512)).toInt = ((r.val / 512 : ℕ) : ℤ) := by
    have h : (BitVec.ofNat 32 (r.val / 512)).toNat = r.val / 512 := by rw [BitVec.toNat_ofNat]; omega
    rw [BitVec.toInt_eq_toNat_of_lt (by omega), h]
  simp only [IntOp.cmpi, BitVec.slt_eq_decide, e]

theorem pick_at (B : IVec S40 32) (e : BitVec 32) (he out : FVec Ideal S20480x2048 .f32) (r : Fin 20480) (d : Fin 2048) :
    pickT B e he out (ix2 r d) = if B (ix1 (⟨r.val / 512, by omega⟩ : Fin 40)) = e then he (ix2 r d) else out (ix2 r d) := by
  pointwise [pickT]
  rw [exp_at]
  simp only [IntOp.cmpi]
  by_cases h : B (ix1 (⟨r.val / 512, by omega⟩ : Fin 40)) = e
  · rw [if_pos h, h, beq_self_eq_true]; rfl
  · rw [if_neg h, beq_eq_false_iff_ne.mpr h]; rfl

theorem out_at (X : FVec Ideal S20480x5632 .bf16) (W : FVec Ideal S2x8x5632x2048 .f32) (B : IVec S40 32) (N : IVec S1 32) (r : Fin 20480) (d : Fin 2048) (e : Fin 8)
    (he : B (ix1 (⟨r.val / 512, by omega⟩ : Fin 40)) = BitVec.ofNat 32 e.val) :
    outT X W B N (ix2 r d) = if ((r.val / 512 : ℕ) : ℤ) < (N (ix1 (0 : Fin 1))).toInt then rowDot X W e r d else 0 := by
  pointwise [outT]
  rw [used_at]
  simp only [pick_at, he]
  by_cases h : ((r.val / 512 : ℕ) : ℤ) < (N (ix1 (0 : Fin 1))).toInt
  · rw [if_pos h, decide_eq_true h]
    match e with
    | 0 => exact dot_at X W 0 slices_S2x8x5632x2048_S1x1x5632x2048_0_0_0_0 r d
    | 1 => exact dot_at X W 1 slices_S2x8x5632x2048_S1x1x5632x2048_0_1_0_0 r d
    | 2 => exact dot_at X W 2 slices_S2x8x5632x2048_S1x1x5632x2048_0_2_0_0 r d
    | 3 => exact dot_at X W 3 slices_S2x8x5632x2048_S1x1x5632x2048_0_3_0_0 r d
    | 4 => exact dot_at X W 4 slices_S2x8x5632x2048_S1x1x5632x2048_0_4_0_0 r d
    | 5 => exact dot_at X W 5 slices_S2x8x5632x2048_S1x1x5632x2048_0_5_0_0 r d
    | 6 => exact dot_at X W 6 slices_S2x8x5632x2048_S1x1x5632x2048_0_6_0_0 r d
    | 7 => exact dot_at X W 7 slices_S2x8x5632x2048_S1x1x5632x2048_0_7_0_0 r d
  · rw [if_neg h, decide_eq_false h]; exact zero_f32

end Cert.MoeDownReferenceIdeal.Rows
-- ==== Proof.OutMoeDown.lean ====
/- The result array of the down projection, entry by entry. -/
module

public import proofs.«01_k».proof.Proof.FrameMoeDownIdeal
public import proofs.«01_k».proof.Proof.RefMoeDown
public import Idealize.ShloMosaic.Lib.Pipeline.Covers

@[expose] public section

set_option maxRecDepth 16384

noncomputable section

namespace Cert.MoeDownIdeal.Rows

open Cert.MoeDownIdeal Cert.MoeDownIdeal.Gen Cert.MoeDownIdeal.Run
open Idealize.ShloMosaic Idealize.ShloMosaic.TcCoe Idealize.ShloMosaic.Tactic
open Cert.MoeDownReferenceIdeal.Rows (rowDot zero_f32)

/-- The result's tile, at an entry. -/
theorem pay_at (x : FVec Ideal S512x5632 .bf16) (w : FVec Ideal S1x1x5632x512 .f32) (r d : Fin 512) :
    (k0_pay2 (F := Ideal) x (k0_pay1 (F := Ideal) w) : FVec Ideal S512x512 .f32) (ix2 r d)
      = ∑ k : Fin 5632, (x (ix2 r k) : EReal) * w (ix4 (0 : Fin 1) (0 : Fin 1) k d) := by
  pointwise [k0_pay2, k0_pay1]

theorem zero_at (r d : Fin 512) : (k0_pay3 (F := Ideal) : FVec Ideal S512x512 .f32) (ix2 r d) = (0 : EReal) := by
  pointwise [k0_pay3]

variable (m : (ℓ : Loc nD τ sig) → Buf (Elt Ideal) ℓ) (c : Dev nD)

/-- What the result array holds: row `r`, column `d`. -/
def cell (hE : ∀ k, (tE m k).toNat < 8) (r : Fin 20480) (d : Fin 2048) : EReal :=
  if ((r.val / 512 : ℕ) : ℤ) < (tN m).toInt then
    rowDot (V m c main_arg0) (V m c main_arg1) ⟨_, hE ⟨r.val / 512, by omega⟩⟩ r d
  else 0

/-- The grid's points reach every block of the result. -/
theorem covers (hO : Ok m) : ((cfgM m hO).win 2).Covers :=
  ((cfgM m hO).win 2).covers_of_indexMap_surj rfl (fun a => by match a with | ⟨0, _⟩ => show 0 < 512; norm_num | ⟨1, _⟩ => show 0 < 512; norm_num) fun (β : (a : Fin 2) → Fin (((cfgM m hO).win 2).nblk a)) => by
    have h0 : (β 0).val < 40 := lt_of_lt_of_eq (β 0).isLt (show (20480 + 512 - 1) / 512 = 40 by norm_num)
    have h1 : (β 1).val < 4 := lt_of_lt_of_eq (β 1).isLt (show (2048 + 512 - 1) / 512 = 4 by norm_num)
    refine ⟨fun | ⟨0, _⟩ => (⟨(β 1).val, h1⟩ : Fin 4) | ⟨1, _⟩ => (⟨(β 0).val, h0⟩ : Fin 40), fun a => ?_⟩
    match a with
    | ⟨0, _⟩ => exact (by rw [BitVec.toNat_ofNat]; omega : (BitVec.ofNat 32 (β 0).val).toNat = (β 0).val)
    | ⟨1, _⟩ => exact (by rw [BitVec.toNat_ofNat]; omega : (BitVec.ofNat 32 (β 1).val).toNat = (β 1).val)

/-! ## The blocks, read at an entry -/

theorem iblk0_at (hO : Ok m) (t : Fin grid0.N) (r : Fin 512) (k : Fin 5632) :
    (iblk m hO c 0 t : Vec Ideal S512x5632 .bf16) (ix2 r k) = (V m c main_arg0 : Vec Ideal S20480x5632 .bf16) (ix2 (⟨t.val % 40 * 512 + r.val, by omega⟩ : Fin 20480) k) := by
  show V m c main_arg0 ((((cfgM m hO).win 0).blk t).view.emb (ix2 r k)) = V m c main_arg0 _
  congr 1; funext a; refine Fin.ext ?_
  match a with
  | ⟨0, _⟩ => show (BitVec.ofNat 32 (grid0.coords t 1).val).toNat * 512 + 1 * r.val = t.val % 40 * 512 + r.val; rw [ofNat_coord, coords1, one_mul]
  | ⟨1, _⟩ => show 0 * 5632 + 1 * k.val = k.val; omega

theorem iblk1_at (hO : Ok m) (e : Fin 8) (t : Fin grid0.N) (he : (tE m (bI (grid0.coords t))).toNat = e.val) (k : Fin 5632) (d : Fin 512) :
    (iblk m hO c 1 t : Vec Ideal S1x1x5632x512 .f32) (ix4 (0 : Fin 1) (0 : Fin 1) k d) = (V m c main_arg1 : Vec Ideal S2x8x5632x2048 .f32)
      (ix4 (0 : Fin 2) e k (⟨t.val / 40 * 512 + d.val, by have ht : t.val < 160 := Nat.lt_of_lt_of_eq t.isLt N_0; omega⟩ : Fin 2048)) := by
  show V m c main_arg1 ((((cfgM m hO).win 1).blk t).view.emb (ix4 (0 : Fin 1) (0 : Fin 1) k d)) = V m c main_arg1 _
  congr 1; funext a; refine Fin.ext ?_
  show cc0_transform_1 k0_off1_inb numel1_S1 (tbl m) (grid0.coords t) a * S1x1x5632x512.size a + 1 * (ix4 (0 : Fin 1) (0 : Fin 1) k d a).val = _
  rw [tr1_eq]
  match a with
  | ⟨0, _⟩ => show 0 * 1 + 1 * 0 = 0; rfl
  | ⟨1, _⟩ => show (tE m (bI (grid0.coords t))).toNat * 1 + 1 * 0 = e.val; omega
  | ⟨2, _⟩ => show 0 * 5632 + 1 * k.val = k.val; omega
  | ⟨3, _⟩ => show (grid0.coords t 0).val * 512 + 1 * d.val = t.val / 40 * 512 + d.val; rw [coords0, one_mul]

/-- One tile of the result, at an entry. -/
theorem tile_at (hE : ∀ k, (tE m k).toNat < 8) (t : Fin grid0.N) (r d : Fin 512) (hr : t.val % 40 * 512 + r.val < 20480) (hd : t.val / 40 * 512 + d.val < 2048) :
    (outAt m (ok_of m hE) c t : FVec Ideal S512x512 .f32) (ix2 r d) = cell m c hE ⟨t.val % 40 * 512 + r.val, hr⟩ ⟨t.val / 40 * 512 + d.val, hd⟩ := by
  have hdiv : (t.val % 40 * 512 + r.val) / 512 = t.val % 40 := by omega
  have hb : bI (grid0.coords t) = ⟨(t.val % 40 * 512 + r.val) / 512, by omega⟩ := Fin.ext ((coords1 t).trans hdiv.symm)
  unfold outAt cell
  dsimp only
  by_cases hu : Used c (grid0.coords t) (tbl m 1)
  · have hu' := (used_iff m c _).mp hu
    rw [coords1] at hu'
    rw [if_pos hu, if_pos (by rw [hdiv]; exact hu')]
    refine (pay_at (iblk m _ c 0 t) (iblk m _ c 1 t) r d).trans (Finset.sum_congr rfl fun k _ => ?_)
    exact congrArg₂ (fun a b : EReal => a * b) (iblk0_at m c _ t r k) (iblk1_at m c _ ⟨_, hE _⟩ t (by rw [hb]) k d)
  · have hu' := mt (used_iff m c _).mpr hu
    rw [coords1] at hu'
    rw [if_neg hu, if_neg (by rw [hdiv]; exact hu')]
    exact zero_at r d

theorem two_axes (y : S512x512.Idx) : ∃ r d : Fin 512, y = ix2 r d := ⟨y 0, y 1, by ext i; fin_cases i <;> rfl⟩

theorem emb0 (hO : Ok m) (t : Fin grid0.N) (r d : Fin 512) : ((((cfgM m hO).win 2).blk t).view.emb (ix2 r d : S512x512.Idx) (0 : Fin 2)).val = t.val % 40 * 512 + r.val := by
  show (BitVec.ofNat 32 (grid0.coords t 1).val).toNat * 512 + 1 * r.val = _
  rw [ofNat_coord, coords1, one_mul]

theorem emb1 (hO : Ok m) (t : Fin grid0.N) (r d : Fin 512) : ((((cfgM m hO).win 2).blk t).view.emb (ix2 r d : S512x512.Idx) (1 : Fin 2)).val = t.val / 40 * 512 + d.val := by
  show (BitVec.ofNat 32 (grid0.coords t 0).val).toNat * 512 + 1 * d.val = _
  rw [ofNat_coord0, coords0, one_mul]

/-- The result array. -/
theorem out_eq (hE : ∀ k, (tE m k).toNat < 8) :
    (dats m (ok_of m hE) 0 c).arrAt 2 (cfgM m (ok_of m hE)).N = (fun y : S20480x2048.Idx => cell m c hE (y 0) (y 1)) := by
  refine (dats m (ok_of m hE) 0 c).arrAt_eq_of_covers 2 _ (covers m _) fun t _ y => ?_
  blk_simp
  rw [after0_2]
  obtain ⟨r, d, rfl⟩ := two_axes y
  have ht : t.val < 160 := Nat.lt_of_lt_of_eq t.isLt N_0
  have e0 := emb0 m (ok_of m hE) t r d
  have e1 := emb1 m (ok_of m hE) t r d
  exact (tile_at m c hE t r d (by omega) (by omega)).trans (congrArg₂ (cell m c hE) (Fin.ext e0.symm) (Fin.ext e1.symm))

end Cert.MoeDownIdeal.Rows
-- ==== Proof.RangeMoeDown.lean ====
/- The precondition, read: every block's expert is one of the eight. -/
module

public import proofs.«01_k».proof.Proof.Gen.Pre_experts3
public import proofs.«01_k».proof.Proof.RangeMoeUp
public import Idealize.ShloMosaic.Lib.ReduceAll
public import Idealize.ShloMosaic.Lib.Pipeline.ValueKit

@[expose] public section

noncomputable section

namespace Cert.MoeDownRange

open Idealize.ShloMosaic Idealize.ShloMosaic.TcCoe Idealize.ShloMosaic.Tactic
open Cert.Pre_experts3 Cert.Pre_experts3.Gen

theorem in_range {F : FTy → Type} [FloatOps F] (x : FVec F S20480x5632 .bf16) (w : FVec F S2x8x5632x2048 .f32) (B : IVec S40 32) (N : IVec S1 32)
    (h : Cert.Pre_experts3.fn (F := F) x w B N = fun _ => 1#1) (k : Fin 40) : (B (fun | ⟨0, _⟩ => k : S40.Idx)).toNat < 8 := by
  have h' := congrFun h ix0
  unfold Cert.Pre_experts3.fn at h'
  dsimp only at h'
  haveI : Subsingleton Cert.Pre_experts3.S_.Idx := ⟨fun i j => funext fun k => k.elim0⟩
  have hx := Host.reduce_andi_all _ _ _ _ _ h' (fun | ⟨0, _⟩ => k : S40.Idx)
  exact Cert.MoeUpRange.word_lt _ hx

end Cert.MoeDownRange
-- ==== Proof.MeetMoeDown.lean ====
/- The down projection and its reference leave the same array. -/
module

public import proofs.«01_k».proof.Defs
public import proofs.«01_k».proof.Proof.OutMoeDown
public import proofs.«01_k».proof.Proof.RangeMoeDown
public import proofs.«01_k».proof.Proof.FrameMoeDown
public import Idealize.ShloMosaic.Lib.Claim
public import Idealize.ShloMosaic.Adequacy

@[expose] public section

set_option maxRecDepth 16384

noncomputable section

namespace Cert.MoeDownMeet

open Idealize.ShloMosaic Idealize.ShloMosaic.TcCoe Idealize.ShloMosaic.Tactic Idealize.SL.Sem
open Cert.MoeDownIdeal.Run (tE tN tbl ok_of dats cfgM V run_main Ok)

/-! ## The kernel's run, its result named -/

section
open Cert.MoeDownIdeal Cert.MoeDownIdeal.Gen Cert.MoeDownIdeal.Rows

theorem run_cells (m : (ℓ : Loc nD τ sig) → Buf (Elt Ideal) ℓ) (ρ : Dev nD → PrngReg) (hE : ∀ k, (tE m k).toNat < 8) :
    θ_run defs (onTc (τ := τ) (main (F := Ideal))) ⟨m, fun _ => 0, ρ⟩ (fun r => ∀ c : Dev nD,
      r.2.mem ((c.tc : Thread nD τ).loc main_v0) = (fun y : S20480x2048.Idx => cell m c hE (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 2).trans (out_eq m c hE), h.2 c⟩)
    (θ_run_and (run_main m ρ (ok_of m hE)) (Cert.MoeDownIdeal.Run.unchanged m ρ (ok_of m hE)))

theorem range (m : (ℓ : Loc nD τ sig) → Buf (Elt Ideal) ℓ) (h : Cert.Pre_MoeDownIdeal m) (k : Fin 40) : (tE m k).toNat < 8 :=
  Cert.MoeDownRange.in_range _ _ _ _ (h 0) k
end

theorem range_bits (m : (ℓ : Loc Cert.MoeDown.nD Cert.MoeDown.τ Cert.MoeDown.sig) → Buf (Elt Bits) ℓ) (h : Cert.Pre_MoeDown m) (k : Fin 40) : (Cert.MoeDown.Run.tE m k).toNat < 8 :=
  Cert.MoeDownRange.in_range _ _ _ _ (h 0) k

/-- The reference's array is the kernel's. -/
theorem meet (m : (ℓ : Loc Cert.MoeDownIdeal.nD Cert.MoeDownIdeal.τ Cert.MoeDownIdeal.sig) → Buf (Elt Ideal) ℓ) (c : Dev Cert.MoeDownIdeal.nD) (hE : ∀ k, (tE m k).toNat < 8) :
    Cert.MoeDownReferenceIdeal.Rows.outT (V m c Cert.MoeDownIdeal.main_arg0) (V m c Cert.MoeDownIdeal.main_arg1) (V m c Cert.MoeDownIdeal.main_arg2) (V m c Cert.MoeDownIdeal.main_arg3)
      = (fun y : Cert.MoeDownIdeal.S20480x2048.Idx => Cert.MoeDownIdeal.Rows.cell m c hE (y 0) (y 1)) := by
  obtain rfl : c = 0 := Subsingleton.elim _ _
  funext y
  obtain ⟨r, d, rfl⟩ : ∃ (r : Fin 20480) (d : Fin 2048), y = ix2 r d := ⟨y 0, y 1, by ext i; fin_cases i <;> rfl⟩
  have e3 : (V m 0 Cert.MoeDownIdeal.main_arg2 : IVec Cert.MoeDownIdeal.S40 32) (ix1 (⟨r.val / 512, by omega⟩ : Fin 40)) = tE m ⟨r.val / 512, by omega⟩ := by
    show tbl m 0 _ = tbl m 0 _
    congr 1; funext a
    match a with
    | ⟨0, _⟩ => rfl
  have e4 : (V m 0 Cert.MoeDownIdeal.main_arg3 : IVec Cert.MoeDownIdeal.S1 32) (ix1 (0 : Fin 1)) = tN m := by
    show tbl m 1 _ = tbl m 1 _
    congr 1; funext a
    match a with
    | ⟨0, _⟩ => rfl
  refine (Cert.MoeDownReferenceIdeal.Rows.out_at _ _ _ _ r d ⟨_, hE ⟨r.val / 512, by omega⟩⟩ (e3.trans ?_)).trans ?_
  · dsimp only; rw [BitVec.ofNat_toNat, BitVec.setWidth_eq]
  · rw [e4]; rfl

/-! ## The claims -/

theorem frame : Cert.quiescent_MoeDown := fun m g h => Cert.MoeDown.Run.frame m g (Cert.MoeDown.Run.ok_of m (range_bits m h))
theorem frame_ideal : Cert.quiescent_MoeDownIdeal := fun m g h => Cert.MoeDownIdeal.Run.frame m g (ok_of m (range m h))
theorem frame_reference : Cert.quiescent_MoeDownReferenceIdeal := fun m g _ =>
  (θ_run _ _ _).mono (fun r h => ⟨fun c => (h c).2, sem_eq_zero_of_no_sems rfl _⟩) (Cert.MoeDownReferenceIdeal.Value.run m g)

/-- On every row of a block in use, the row times the weights of the block's expert; zero on the others. -/
theorem algebraic : Cert.algebraic_MoeDownIdeal_MoeDownReferenceIdeal := by
  pair_intro
  · run_from run_cells m g (range m hpre)
  · run_from Cert.MoeDownReferenceIdeal.Rows.run_out m' g'
    exact meet m c (range m hpre)

end Cert.MoeDownMeet
-- ==== Proof.RefDenseUp.lean ====
/- The reference of the dense gated up projection, read at an entry. -/
module

public import proofs.«01_k».proof.Proof.Gen.DenseUpReferenceIdeal
public import proofs.«01_k».proof.Proof.Gen.DenseUpReferenceIdeal.Run
public import Idealize.ShloMosaic.Lib.Pipeline.ValueKit

@[expose] public section

set_option maxRecDepth 16384

noncomputable section

namespace Cert.DenseUpReferenceIdeal.Rows

open Cert.DenseUpReferenceIdeal Cert.DenseUpReferenceIdeal.Gen Cert.DenseUpReferenceIdeal.Value
open Idealize.ShloMosaic Idealize.ShloMosaic.TcCoe Idealize.ShloMosaic.Tactic Idealize.ShloMosaic.StableHlo

/-- The gated unit of one entry: `g` the gate's product, `u` the up projection's. -/
def gated (g u : EReal) : EReal := g * Ideal.div 1 (1 + Ideal.exp (-g)) * u

/-- Row `r`, column `d` of the result. -/
def cell (X : FVec Ideal S8192x2048 .bf16) (G U : FVec Ideal S2x2048x5632 .f32) (r : Fin 8192) (d : Fin 5632) : EReal :=
  gated (∑ k : Fin 2048, (X (ix2 r k) : EReal) * G (ix3 (0 : Fin 2) k d)) (∑ k : Fin 2048, (X (ix2 r k) : EReal) * U (ix3 (0 : Fin 2) k d))

/-- The reference's array. -/
def outT (X : FVec Ideal S8192x2048 .bf16) (G U : FVec Ideal S2x2048x5632 .f32) : FVec Ideal S8192x5632 .bf16 :=
  truncf .bf16 (mulf (mulf (Host.dotGeneral dot_S8192x2048_S2048x5632_S8192x5632_1_0_0_1_n_n none (extf .f32 X bitsLt_bf16_f32) (shapeCast _ (extractStridedSlice S1x2048x5632 ![0, 0, 0] G slices_S2x2048x5632_S1x2048x5632_0_0_0) shapeCasts_S1x2048x5632_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 X bitsLt_bf16_f32) (shapeCast _ (extractStridedSlice S1x2048x5632 ![0, 0, 0] G slices_S2x2048x5632_S1x2048x5632_0_0_0) shapeCasts_S1x2048x5632_S2048x5632))))))) (Host.dotGeneral dot_S8192x2048_S2048x5632_S8192x5632_1_0_0_1_n_n none (extf .f32 X bitsLt_bf16_f32) (shapeCast _ (extractStridedSlice S1x2048x5632 ![0, 0, 0] U slices_S2x2048x5632_S1x2048x5632_0_0_0) shapeCasts_S1x2048x5632_S2048x5632))) bitsLt_bf16_f32

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

theorem out_at (X : FVec Ideal S8192x2048 .bf16) (G U : FVec Ideal S2x2048x5632 .f32) (r : Fin 8192) (d : Fin 5632) : outT X G U (ix2 r d) = cell X G U r d := by
  pointwise [outT]
  rfl

end Cert.DenseUpReferenceIdeal.Rows
-- ==== Proof.OutDenseUp.lean ====
/- The result array of the dense gated up projection, entry by entry. -/
module

public import proofs.«01_k».proof.Proof.Gen.DenseUpIdeal.Value
public import proofs.«01_k».proof.Proof.Gen.DenseUpIdeal.Frame
public import proofs.«01_k».proof.Proof.RefDenseUp
public import Idealize.ShloMosaic.Lib.Pipeline.ValueKit
public import Idealize.ShloMosaic.Lib.Pipeline.Covers
public import Idealize.ShloMosaic.Lib.VecWindow

@[expose] public section

set_option maxRecDepth 16384

noncomputable section

namespace Cert.DenseUpIdeal.Rows

open Cert.DenseUpIdeal Cert.DenseUpIdeal.Gen
open Idealize.ShloMosaic Idealize.ShloMosaic.TcCoe Idealize.ShloMosaic.Tactic

variable (m : (ℓ : Loc nD τ sig) → Buf (Elt Ideal) ℓ) (c : Dev nD)

/-! ## What a point leaves -/

/-- Where the weight is cast, the scratch holds it. -/
theorem scratch_cast0 (t : Fin cfg0.N) (h0 : t.val % 8 = 0) : (outsAt0 m c t.val t.isLt).2.1 = k0_pay1 (iblk m c 1 t) := by
  rw [outsAt0_A m c t h0 h0]
  dsimp only
  unfold sout0_A_0 kernelRun0_A
  dsimp only
  unfold kernelRun0_A.sl.HS0_1
  rw [View.read_writes_full, View.readAt_full]
  exact congrArg k0_pay1 ((hs0_1 t).read_unread _)

theorem scratch_kept0 (t : Fin cfg0.N) (h0 : ¬ t.val % 8 = 0) :
    (outsAt0 m c t.val t.isLt).2.1 = (outsAt0 m c (t.val - 1) (Nat.lt_of_le_of_lt (Nat.sub_le _ _) t.isLt)).2.1 := by
  rw [outsAt0_B m c t h0 h0]
  rfl

/-- Where the weight is cast, the scratch holds it. -/
theorem scratch_cast1 (t : Fin cfg0.N) (h0 : t.val % 8 = 0) : (outsAt0 m c t.val t.isLt).2.2 = k0_pay2 (iblk m c 2 t) := by
  rw [outsAt0_A m c t h0 h0]
  dsimp only
  unfold sout0_A_1 kernelRun0_A
  dsimp only
  unfold kernelRun0_A.sl.HS1_1
  rw [View.read_writes_full, View.readAt_full]
  exact congrArg k0_pay2 ((hs0_2 t).read_unread _)

theorem scratch_kept1 (t : Fin cfg0.N) (h0 : ¬ t.val % 8 = 0) :
    (outsAt0 m c t.val t.isLt).2.2 = (outsAt0 m c (t.val - 1) (Nat.lt_of_le_of_lt (Nat.sub_le _ _) t.isLt)).2.2 := by
  rw [outsAt0_B m c t h0 h0]
  rfl

theorem out_cast (t : Fin cfg0.N) (h0 : t.val % 8 = 0) : (outsAt0 m c t.val t.isLt).1 = k0_pay3 (iblk m c 0 t) (k0_pay1 (iblk m c 1 t)) (k0_pay2 (iblk m c 2 t)) := by
  rw [outsAt0_A m c t h0 h0]
  dsimp only
  unfold out0_A_3 kernelRun0_A
  dsimp only
  rw [View.read_writes_full]
  unfold kernelRun0_A.sl.v7 kernelRun0_A.sl.v9
  try unfold kernelRun0_A.sl.HS0_1 kernelRun0_A.sl.HS1_1
  refine congr (congr (congrArg k0_pay3 ?_) ?_) ?_ <;> first
    | exact (View.readAt_full _ _ _).trans ((hs0_0 t).read_unread _)
    | exact (View.readCov_full _ _ _ _ _).trans (congrArg k0_pay1 ((View.readAt_full _ _ _).trans ((hs0_1 t).read_unread _)))
    | exact (View.readCov_full _ _ _ _ _).trans (congrArg k0_pay2 ((View.readAt_full _ _ _).trans ((hs0_2 t).read_unread _)))

theorem out_kept (t : Fin cfg0.N) (h0 : ¬ t.val % 8 = 0) :
    (outsAt0 m c t.val t.isLt).1 = k0_pay3 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0 h0]
  dsimp only
  unfold out0_B_3 kernelRun0_B
  dsimp only
  rw [View.read_writes_full]
  refine congr (congr (congrArg k0_pay3 ?_) ?_) ?_ <;> first
    | exact (View.readAt_full _ _ _).trans ((hs0_0 t).read_unread _)
    | exact (View.readAt_full _ _ _).trans ((Memref.isWhole_whole cc0_scratch0).read_unread _)
    | exact (View.readAt_full _ _ _).trans ((Memref.isWhole_whole cc0_scratch1).read_unread _)

/-! ## The blocks -/

theorem idx : ∀ t : Fin cfg0.N,
    win0_0.index t = ![t.val % 8, 0]
    ∧ win0_1.index t = ![0, 0, t.val / 8]
    ∧ win0_2.index t = ![0, 0, t.val / 8]
    ∧ win0_3.index t = ![t.val % 8, t.val / 8] :=
  (by decide +kernel : ∀ t : Fin grid0.N, _)

theorem lt_N (t : Fin cfg0.N) : t.val < 88 := Nat.lt_of_lt_of_eq t.isLt N_0

theorem iblk0_at (t : Fin cfg0.N) (r : Fin 1024) (k : Fin 2048) :
    (iblk m c 0 t : Vec Ideal S1024x2048 .bf16) (ix2 r k) = (V m c main_arg0 : Vec Ideal S8192x2048 .bf16) (ix2 (⟨t.val % 8 * 1024 + r.val, by omega⟩ : Fin 8192) k) := by
  show V m c main_arg0 (((cfg0.win 0).blk t).view.emb (ix2 r k)) = _
  blk_ext [idx t]

theorem iblk1_at (t : Fin cfg0.N) (k : Fin 2048) (d : Fin 512) :
    (iblk m c 1 t : Vec Ideal S1x2048x512 .f32) (ix3 (0 : Fin 1) k d) = (V m c main_arg1 : Vec Ideal S2x2048x5632 .f32)
      (ix3 (0 : Fin 2) k (⟨t.val / 8 * 512 + d.val, by have := lt_N t; omega⟩ : Fin 5632)) := by
  have := lt_N t
  show V m c main_arg1 (((cfg0.win 1).blk t).view.emb (ix3 (0 : Fin 1) k d)) = _
  blk_ext [idx t]

/-- The points of one column of tiles share the weight's block. -/
theorem iblk1_prev (t t' : Fin cfg0.N) (h : t'.val / 8 = t.val / 8) : (iblk m c 1 t' : Vec Ideal S1x2048x512 .f32) = (iblk m c 1 t : Vec Ideal S1x2048x512 .f32) := by
  funext y
  obtain ⟨a, k, d, rfl⟩ : ∃ (a : Fin 1) (k : Fin 2048) (d : Fin 512), y = ix3 a k d := ⟨y 0, y 1, y 2, by ext i; fin_cases i <;> rfl⟩
  obtain rfl : a = 0 := Subsingleton.elim _ _
  rw [iblk1_at, iblk1_at]
  simp only [h]

/-- The scratch holds the point's own weight. -/
theorem scratch0 (c : Dev nD) : ∀ (n : ℕ) (hn : n < cfg0.N), (outsAt0 m c n hn).2.1 = k0_pay1 (iblk m c 1 ⟨n, hn⟩)
  | 0, hn => scratch_cast0 m c ⟨0, hn⟩ (Nat.zero_mod _)
  | n + 1, hn => by
    by_cases h0 : (n + 1) % 8 = 0
    · exact scratch_cast0 m c ⟨n + 1, hn⟩ h0
    · refine (scratch_kept0 m c ⟨n + 1, hn⟩ h0).trans ?_
      refine (scratch0 c n (Nat.lt_of_succ_lt hn)).trans (congrArg k0_pay1 (iblk1_prev m c ⟨n + 1, hn⟩ ⟨n, _⟩ ?_))
      dsimp only; omega

theorem iblk2_at (t : Fin cfg0.N) (k : Fin 2048) (d : Fin 512) :
    (iblk m c 2 t : Vec Ideal S1x2048x512 .f32) (ix3 (0 : Fin 1) k d) = (V m c main_arg2 : Vec Ideal S2x2048x5632 .f32)
      (ix3 (0 : Fin 2) k (⟨t.val / 8 * 512 + d.val, by have := lt_N t; omega⟩ : Fin 5632)) := by
  have := lt_N t
  show V m c main_arg2 (((cfg0.win 2).blk t).view.emb (ix3 (0 : Fin 1) k d)) = _
  blk_ext [idx t]

/-- The points of one column of tiles share the weight's block. -/
theorem iblk2_prev (t t' : Fin cfg0.N) (h : t'.val / 8 = t.val / 8) : (iblk m c 2 t' : Vec Ideal S1x2048x512 .f32) = (iblk m c 2 t : Vec Ideal S1x2048x512 .f32) := by
  funext y
  obtain ⟨a, k, d, rfl⟩ : ∃ (a : Fin 1) (k : Fin 2048) (d : Fin 512), y = ix3 a k d := ⟨y 0, y 1, y 2, by ext i; fin_cases i <;> rfl⟩
  obtain rfl : a = 0 := Subsingleton.elim _ _
  rw [iblk2_at, iblk2_at]
  simp only [h]

/-- The scratch holds the point's own weight. -/
theorem scratch1 (c : Dev nD) : ∀ (n : ℕ) (hn : n < cfg0.N), (outsAt0 m c n hn).2.2 = k0_pay2 (iblk m c 2 ⟨n, hn⟩)
  | 0, hn => scratch_cast1 m c ⟨0, hn⟩ (Nat.zero_mod _)
  | n + 1, hn => by
    by_cases h0 : (n + 1) % 8 = 0
    · exact scratch_cast1 m c ⟨n + 1, hn⟩ h0
    · refine (scratch_kept1 m c ⟨n + 1, hn⟩ h0).trans ?_
      refine (scratch1 c n (Nat.lt_of_succ_lt hn)).trans (congrArg k0_pay2 (iblk2_prev m c ⟨n + 1, hn⟩ ⟨n, _⟩ ?_))
      dsimp only; omega

/-- Every point leaves the tile of its rows and columns. -/
theorem out_tile (t : Fin cfg0.N) : (outsAt0 m c t.val t.isLt).1 = k0_pay3 (iblk m c 0 t) (k0_pay1 (iblk m c 1 t)) (k0_pay2 (iblk m c 2 t)) := by
  by_cases h0 : t.val % 8 = 0
  · exact out_cast m c t h0
  · refine (out_kept m c t h0).trans ?_
    have hp : t.val - 1 < cfg0.N := Nat.lt_of_le_of_lt (Nat.sub_le _ _) t.isLt
    have hd : (t.val - 1) / 8 = t.val / 8 := by omega
    have e0 := (scratch0 m c (t.val - 1) hp).trans (congrArg k0_pay1 (iblk1_prev m c t ⟨t.val - 1, hp⟩ hd))
    have e1 := (scratch1 m c (t.val - 1) hp).trans (congrArg k0_pay2 (iblk2_prev m c t ⟨t.val - 1, hp⟩ hd))
    rw [e0, e1]

theorem pay_at (x : FVec Ideal S1024x2048 .bf16) (g u : FVec Ideal S1x2048x512 .f32) (r : Fin 1024) (d : Fin 512) :
    (k0_pay3 (F := Ideal) x (k0_pay1 (F := Ideal) g) (k0_pay2 (F := Ideal) u) : FVec Ideal S1024x512 .bf16) (ix2 r d) = Cert.DenseUpReferenceIdeal.Rows.gated (∑ k : Fin 2048, (x (ix2 r k) : EReal) * g (ix3 (0 : Fin 1) k d)) (∑ k : Fin 2048, (x (ix2 r k) : EReal) * u (ix3 (0 : Fin 1) k d)) := by
  pointwise [k0_pay3, k0_pay1, k0_pay2]
  rw [zero_sub]
  rfl

/-- One tile of the result, at an entry. -/
theorem tile_at (t : Fin cfg0.N) (r : Fin 1024) (d : Fin 512) (hr : t.val % 8 * 1024 + r.val < 8192) (hd : t.val / 8 * 512 + d.val < 5632) :
    ((outsAt0 m c t.val t.isLt).1 : FVec Ideal S1024x512 .bf16) (ix2 r d)
      = Cert.DenseUpReferenceIdeal.Rows.cell (V m c main_arg0) (V m c main_arg1) (V m c main_arg2) ⟨t.val % 8 * 1024 + r.val, hr⟩ ⟨t.val / 8 * 512 + d.val, hd⟩ := by
  rw [out_tile]
  refine (pay_at (iblk m c 0 t) (iblk m c 1 t) (iblk m c 2 t) r d).trans ?_
  exact congrArg₂ Cert.DenseUpReferenceIdeal.Rows.gated
    (Finset.sum_congr rfl fun k _ => congrArg₂ (fun a b : EReal => a * b) (iblk0_at m c t r k) (iblk1_at m c t k d))
    (Finset.sum_congr rfl fun k _ => congrArg₂ (fun a b : EReal => a * b) (iblk0_at m c t r k) (iblk2_at m c t k d))

/-- The result array. -/
theorem out_eq : (dats m 0 c).arrAt 3 cfg0.N = (fun y : S8192x5632.Idx => Cert.DenseUpReferenceIdeal.Rows.cell (V m c main_arg0) (V m c main_arg1) (V m c main_arg2) (y 0) (y 1)) := by
  refine (dats m 0 c).arrAt_eq_of_covers 3 _ (by decide +kernel) fun t _ y => ?_
  blk_simp
  rw [after0_3]
  obtain ⟨r, d, rfl⟩ : ∃ (r : Fin 1024) (d : Fin 512), y = ix2 r d := ⟨y 0, y 1, by ext i; fin_cases i <;> rfl⟩
  have ht := lt_N t
  refine (tile_at m c t r d (by omega) (by omega)).trans (congrArg₂ (Cert.DenseUpReferenceIdeal.Rows.cell (V m c main_arg0) (V m c main_arg1) (V m c main_arg2)) (Fin.ext ?_) (Fin.ext ?_))
  · show _ = win0_3.index t 0 * 1024 + 1 * r.val
    rw [(idx t).2.2.2]; show t.val % 8 * 1024 + r.val = t.val % 8 * 1024 + 1 * r.val; omega
  · show _ = win0_3.index t 1 * 512 + 1 * d.val
    rw [(idx t).2.2.2]; show t.val / 8 * 512 + d.val = t.val / 8 * 512 + 1 * d.val; omega

end Cert.DenseUpIdeal.Rows
-- ==== Proof.MeetDenseUp.lean ====
/- The dense gated up projection and its reference leave the same array. -/
module

public import proofs.«01_k».proof.Defs
public import proofs.«01_k».proof.Proof.Gen.DenseUp
public import proofs.«01_k».proof.Proof.Gen.DenseUp.Frame
public import proofs.«01_k».proof.Proof.OutDenseUp
public import Idealize.ShloMosaic.Lib.Claim
public import Idealize.ShloMosaic.Adequacy

@[expose] public section

set_option maxRecDepth 16384

noncomputable section

namespace Cert.DenseUpMeet

open Idealize.ShloMosaic Idealize.ShloMosaic.TcCoe Idealize.ShloMosaic.Tactic Idealize.SL.Sem
open Cert.DenseUpIdeal.Gen (V)

section
open Cert.DenseUpIdeal Cert.DenseUpIdeal.Gen Cert.DenseUpIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (fun y : S8192x5632.Idx => Cert.DenseUpReferenceIdeal.Rows.cell (V m c main_arg0) (V m c main_arg1) (V m c main_arg2) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (out_eq m c), (h c).2⟩) (Cert.DenseUpIdeal.Value.run_blocks m ρ)
end

/-- The reference's array is the kernel's. -/
theorem meet (m : (ℓ : Loc Cert.DenseUpIdeal.nD Cert.DenseUpIdeal.τ Cert.DenseUpIdeal.sig) → Buf (Elt Ideal) ℓ) (c : Dev Cert.DenseUpIdeal.nD) :
    Cert.DenseUpReferenceIdeal.Rows.outT (V m c Cert.DenseUpIdeal.main_arg0) (V m c Cert.DenseUpIdeal.main_arg1) (V m c Cert.DenseUpIdeal.main_arg2)
      = (fun y : Cert.DenseUpIdeal.S8192x5632.Idx => Cert.DenseUpReferenceIdeal.Rows.cell (V m c Cert.DenseUpIdeal.main_arg0) (V m c Cert.DenseUpIdeal.main_arg1) (V m c Cert.DenseUpIdeal.main_arg2) (y 0) (y 1)) := by
  funext y
  obtain ⟨r, d, rfl⟩ : ∃ (r : Fin 8192) (d : Fin 5632), y = ix2 r d := ⟨y 0, y 1, by ext i; fin_cases i <;> rfl⟩
  exact Cert.DenseUpReferenceIdeal.Rows.out_at _ _ _ r d

/-! ## The claims -/

theorem frame : Cert.quiescent_DenseUp := fun m g _ => Cert.DenseUp.Gen.frame m g
theorem frame_ideal : Cert.quiescent_DenseUpIdeal := fun m g _ => Cert.DenseUpIdeal.Gen.frame m g
theorem frame_reference : Cert.quiescent_DenseUpReferenceIdeal := fun m g _ =>
  (θ_run _ _ _).mono (fun r h => ⟨fun c => (h c).2, sem_eq_zero_of_no_sems rfl _⟩) (Cert.DenseUpReferenceIdeal.Value.run m g)

/-- The kernel's array equals the reference's, as extended reals. -/
theorem algebraic : Cert.algebraic_DenseUpIdeal_DenseUpReferenceIdeal := by
  pair_intro
  · run_from run_cells m g
  · run_from Cert.DenseUpReferenceIdeal.Rows.run_out m' g'
    obtain rfl : c = 0 := Subsingleton.elim _ _
    exact meet m 0

end Cert.DenseUpMeet
-- ==== Proof.RefDenseDown.lean ====
/- The reference of the dense down projection, read at an entry. -/
module

public import proofs.«01_k».proof.Proof.Gen.DenseDownReferenceIdeal
public import proofs.«01_k».proof.Proof.Gen.DenseDownReferenceIdeal.Run
public import Idealize.ShloMosaic.Lib.Pipeline.ValueKit

@[expose] public section

set_option maxRecDepth 16384

noncomputable section

namespace Cert.DenseDownReferenceIdeal.Rows

open Cert.DenseDownReferenceIdeal Cert.DenseDownReferenceIdeal.Gen Cert.DenseDownReferenceIdeal.Value
open Idealize.ShloMosaic Idealize.ShloMosaic.TcCoe Idealize.ShloMosaic.Tactic Idealize.ShloMosaic.StableHlo

/-- Row `r`, column `d` of the result. -/
def cell (X : FVec Ideal S8192x5632 .bf16) (W : FVec Ideal S2x5632x2048 .f32) (H : FVec Ideal S8192x2048 .f32) (r : Fin 8192) (d : Fin 2048) : EReal :=
  H (ix2 r d) + ∑ k : Fin 5632, (X (ix2 r k) : EReal) * W (ix3 (0 : Fin 2) k d)

/-- The reference's array. -/
def outT (X : FVec Ideal S8192x5632 .bf16) (W : FVec Ideal S2x5632x2048 .f32) (H : FVec Ideal S8192x2048 .f32) : FVec Ideal S8192x2048 .f32 :=
  addf H (Host.dotGeneral dot_S8192x5632_S5632x2048_S8192x2048_1_0_0_1_n_n none (extf .f32 X bitsLt_bf16_f32) (shapeCast _ (extractStridedSlice S1x5632x2048 ![0, 0, 0] W slices_S2x5632x2048_S1x5632x2048_0_0_0) shapeCasts_S1x5632x2048_S5632x2048))

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

theorem out_at (X : FVec Ideal S8192x5632 .bf16) (W : FVec Ideal S2x5632x2048 .f32) (H : FVec Ideal S8192x2048 .f32) (r : Fin 8192) (d : Fin 2048) : outT X W H (ix2 r d) = cell X W H r d := by
  pointwise [outT]
  rfl

end Cert.DenseDownReferenceIdeal.Rows
-- ==== Proof.OutDenseDown.lean ====
/- The result array of the dense down projection, entry by entry. -/
module

public import proofs.«01_k».proof.Proof.Gen.DenseDownIdeal.Value
public import proofs.«01_k».proof.Proof.Gen.DenseDownIdeal.Frame
public import proofs.«01_k».proof.Proof.RefDenseDown
public import Idealize.ShloMosaic.Lib.Pipeline.ValueKit
public import Idealize.ShloMosaic.Lib.Pipeline.Covers
public import Idealize.ShloMosaic.Lib.VecWindow

@[expose] public section

set_option maxRecDepth 16384

noncomputable section

namespace Cert.DenseDownIdeal.Rows

open Cert.DenseDownIdeal Cert.DenseDownIdeal.Gen
open Idealize.ShloMosaic Idealize.ShloMosaic.TcCoe Idealize.ShloMosaic.Tactic

variable (m : (ℓ : Loc nD τ sig) → Buf (Elt Ideal) ℓ) (c : Dev nD)

/-! ## What a point leaves -/

/-- Where the weight is cast, the scratch holds it. -/
theorem scratch_cast0 (t : Fin cfg0.N) (h0 : t.val % 16 = 0) : (outsAt0 m c t.val t.isLt).2 = k0_pay1 (iblk m c 1 t) := by
  rw [outsAt0_A m c t h0]
  dsimp only
  unfold sout0_A_0 kernelRun0_A
  dsimp only
  unfold kernelRun0_A.sl.HS0_1
  rw [View.read_writes_full, View.readAt_full]
  exact congrArg k0_pay1 ((hs0_1 t).read_unread _)

theorem scratch_kept0 (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  rfl

theorem out_cast (t : Fin cfg0.N) (h0 : t.val % 16 = 0) : (outsAt0 m c t.val t.isLt).1 = k0_pay2 (iblk m c 2 t) (iblk m c 0 t) (k0_pay1 (iblk m c 1 t)) := by
  rw [outsAt0_A m c t h0]
  dsimp only
  unfold out0_A_3 kernelRun0_A
  dsimp only
  rw [View.read_writes_full]
  unfold kernelRun0_A.sl.v5
  try unfold kernelRun0_A.sl.HS0_1
  refine congr (congr (congrArg k0_pay2 ?_) ?_) ?_ <;> first
    | exact (View.readAt_full _ _ _).trans ((hs0_0 t).read_unread _)
    | exact (View.readAt_full _ _ _).trans ((hs0_2 t).read_unread _)
    | exact (View.readCov_full _ _ _ _ _).trans (congrArg k0_pay1 ((View.readAt_full _ _ _).trans ((hs0_1 t).read_unread _)))

theorem out_kept (t : Fin cfg0.N) (h0 : ¬ t.val % 16 = 0) :
    (outsAt0 m c t.val t.isLt).1 = k0_pay2 (iblk m c 2 t) (iblk m c 0 t) (outsAt0 m c (t.val - 1) (Nat.lt_of_le_of_lt (Nat.sub_le _ _) t.isLt)).2 := by
  rw [outsAt0_B m c t h0]
  dsimp only
  unfold out0_B_3 kernelRun0_B
  dsimp only
  rw [View.read_writes_full]
  refine congr (congr (congrArg k0_pay2 ?_) ?_) ?_ <;> first
    | exact (View.readAt_full _ _ _).trans ((hs0_0 t).read_unread _)
    | exact (View.readAt_full _ _ _).trans ((hs0_2 t).read_unread _)
    | exact (View.readAt_full _ _ _).trans ((Memref.isWhole_whole cc0_scratch0).read_unread _)

/-! ## The blocks -/

theorem idx : ∀ t : Fin cfg0.N,
    win0_0.index t = ![t.val % 16, 0]
    ∧ win0_1.index t = ![0, 0, t.val / 16]
    ∧ win0_2.index t = ![t.val % 16, t.val / 16]
    ∧ win0_3.index t = ![t.val % 16, t.val / 16] :=
  (by decide +kernel : ∀ t : Fin grid0.N, _)

theorem lt_N (t : Fin cfg0.N) : t.val < 64 := Nat.lt_of_lt_of_eq t.isLt N_0

theorem iblk0_at (t : Fin cfg0.N) (r : Fin 512) (k : Fin 5632) :
    (iblk m c 0 t : Vec Ideal S512x5632 .bf16) (ix2 r k) = (V m c main_arg0 : Vec Ideal S8192x5632 .bf16) (ix2 (⟨t.val % 16 * 512 + r.val, by omega⟩ : Fin 8192) k) := by
  show V m c main_arg0 (((cfg0.win 0).blk t).view.emb (ix2 r k)) = _
  blk_ext [idx t]

theorem iblk1_at (t : Fin cfg0.N) (k : Fin 5632) (d : Fin 512) :
    (iblk m c 1 t : Vec Ideal S1x5632x512 .f32) (ix3 (0 : Fin 1) k d) = (V m c main_arg1 : Vec Ideal S2x5632x2048 .f32)
      (ix3 (0 : Fin 2) k (⟨t.val / 16 * 512 + d.val, by have := lt_N t; omega⟩ : Fin 2048)) := by
  have := lt_N t
  show V m c main_arg1 (((cfg0.win 1).blk t).view.emb (ix3 (0 : Fin 1) k d)) = _
  blk_ext [idx t]

/-- The points of one column of tiles share the weight's block. -/
theorem iblk1_prev (t t' : Fin cfg0.N) (h : t'.val / 16 = t.val / 16) : (iblk m c 1 t' : Vec Ideal S1x5632x512 .f32) = (iblk m c 1 t : Vec Ideal S1x5632x512 .f32) := by
  funext y
  obtain ⟨a, k, d, rfl⟩ : ∃ (a : Fin 1) (k : Fin 5632) (d : Fin 512), y = ix3 a k d := ⟨y 0, y 1, y 2, by ext i; fin_cases i <;> rfl⟩
  obtain rfl : a = 0 := Subsingleton.elim _ _
  rw [iblk1_at, iblk1_at]
  simp only [h]

/-- The scratch holds the point's own weight. -/
theorem scratch0 (c : Dev nD) : ∀ (n : ℕ) (hn : n < cfg0.N), (outsAt0 m c n hn).2 = k0_pay1 (iblk m c 1 ⟨n, hn⟩)
  | 0, hn => scratch_cast0 m c ⟨0, hn⟩ (Nat.zero_mod _)
  | n + 1, hn => by
    by_cases h0 : (n + 1) % 16 = 0
    · exact scratch_cast0 m c ⟨n + 1, hn⟩ h0
    · refine (scratch_kept0 m c ⟨n + 1, hn⟩ h0).trans ?_
      refine (scratch0 c n (Nat.lt_of_succ_lt hn)).trans (congrArg k0_pay1 (iblk1_prev m c ⟨n + 1, hn⟩ ⟨n, _⟩ ?_))
      dsimp only; omega

theorem iblk2_at (t : Fin cfg0.N) (r : Fin 512) (d : Fin 512) :
    (iblk m c 2 t : Vec Ideal S512x512 .f32) (ix2 r d) = (V m c main_arg2 : Vec Ideal S8192x2048 .f32)
      (ix2 (⟨t.val % 16 * 512 + r.val, by omega⟩ : Fin 8192) (⟨t.val / 16 * 512 + d.val, by have := lt_N t; omega⟩ : Fin 2048)) := by
  have := lt_N t
  show V m c main_arg2 (((cfg0.win 2).blk t).view.emb (ix2 r d)) = _
  blk_ext [idx t]

/-- Every point leaves the tile of its rows and columns. -/
theorem out_tile (t : Fin cfg0.N) : (outsAt0 m c t.val t.isLt).1 = k0_pay2 (iblk m c 2 t) (iblk m c 0 t) (k0_pay1 (iblk m c 1 t)) := by
  by_cases h0 : t.val % 16 = 0
  · exact out_cast m c t h0
  · refine (out_kept m c t h0).trans ?_
    have hp : t.val - 1 < cfg0.N := Nat.lt_of_le_of_lt (Nat.sub_le _ _) t.isLt
    have hd : (t.val - 1) / 16 = t.val / 16 := by omega
    have e0 := (scratch0 m c (t.val - 1) hp).trans (congrArg k0_pay1 (iblk1_prev m c t ⟨t.val - 1, hp⟩ hd))
    rw [e0]

theorem pay_at (h : FVec Ideal S512x512 .f32) (x : FVec Ideal S512x5632 .bf16) (w : FVec Ideal S1x5632x512 .f32) (r : Fin 512) (d : Fin 512) :
    (k0_pay2 (F := Ideal) h x (k0_pay1 (F := Ideal) w) : FVec Ideal S512x512 .f32) (ix2 r d) = (h (ix2 r d) : EReal) + (∑ k : Fin 5632, (x (ix2 r k) : EReal) * w (ix3 (0 : Fin 1) k d)) := by
  pointwise [k0_pay2, k0_pay1]

/-- One tile of the result, at an entry. -/
theorem tile_at (t : Fin cfg0.N) (r : Fin 512) (d : Fin 512) (hr : t.val % 16 * 512 + r.val < 8192) (hd : t.val / 16 * 512 + d.val < 2048) :
    ((outsAt0 m c t.val t.isLt).1 : FVec Ideal S512x512 .f32) (ix2 r d)
      = Cert.DenseDownReferenceIdeal.Rows.cell (V m c main_arg0) (V m c main_arg1) (V m c main_arg2) ⟨t.val % 16 * 512 + r.val, hr⟩ ⟨t.val / 16 * 512 + d.val, hd⟩ := by
  rw [out_tile]
  refine (pay_at (iblk m c 2 t) (iblk m c 0 t) (iblk m c 1 t) r d).trans ?_
  exact congrArg₂ (fun a b : EReal => a + b) (iblk2_at m c t r d) (Finset.sum_congr rfl fun k _ =>
    congrArg₂ (fun a b : EReal => a * b) (iblk0_at m c t r k) (iblk1_at m c t k d))

/-- The result array. -/
theorem out_eq : (dats m 0 c).arrAt 3 cfg0.N = (fun y : S8192x2048.Idx => Cert.DenseDownReferenceIdeal.Rows.cell (V m c main_arg0) (V m c main_arg1) (V m c main_arg2) (y 0) (y 1)) := by
  refine (dats m 0 c).arrAt_eq_of_covers 3 _ (by decide +kernel) fun t _ y => ?_
  blk_simp
  rw [after0_3]
  obtain ⟨r, d, rfl⟩ : ∃ (r : Fin 512) (d : Fin 512), y = ix2 r d := ⟨y 0, y 1, by ext i; fin_cases i <;> rfl⟩
  have ht := lt_N t
  refine (tile_at m c t r d (by omega) (by omega)).trans (congrArg₂ (Cert.DenseDownReferenceIdeal.Rows.cell (V m c main_arg0) (V m c main_arg1) (V m c main_arg2)) (Fin.ext ?_) (Fin.ext ?_))
  · show _ = win0_3.index t 0 * 512 + 1 * r.val
    rw [(idx t).2.2.2]; show t.val % 16 * 512 + r.val = t.val % 16 * 512 + 1 * r.val; omega
  · show _ = win0_3.index t 1 * 512 + 1 * d.val
    rw [(idx t).2.2.2]; show t.val / 16 * 512 + d.val = t.val / 16 * 512 + 1 * d.val; omega

end Cert.DenseDownIdeal.Rows
-- ==== Proof.MeetDenseDown.lean ====
/- The dense down projection and its reference leave the same array. -/
module

public import proofs.«01_k».proof.Defs
public import proofs.«01_k».proof.Proof.Gen.DenseDown
public import proofs.«01_k».proof.Proof.Gen.DenseDown.Frame
public import proofs.«01_k».proof.Proof.OutDenseDown
public import Idealize.ShloMosaic.Lib.Claim
public import Idealize.ShloMosaic.Adequacy

@[expose] public section

set_option maxRecDepth 16384

noncomputable section

namespace Cert.DenseDownMeet

open Idealize.ShloMosaic Idealize.ShloMosaic.TcCoe Idealize.ShloMosaic.Tactic Idealize.SL.Sem
open Cert.DenseDownIdeal.Gen (V)

section
open Cert.DenseDownIdeal Cert.DenseDownIdeal.Gen Cert.DenseDownIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (fun y : S8192x2048.Idx => Cert.DenseDownReferenceIdeal.Rows.cell (V m c main_arg0) (V m c main_arg1) (V m c main_arg2) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (out_eq m c), (h c).2⟩) (Cert.DenseDownIdeal.Value.run_blocks m ρ)
end

/-- The reference's array is the kernel's. -/
theorem meet (m : (ℓ : Loc Cert.DenseDownIdeal.nD Cert.DenseDownIdeal.τ Cert.DenseDownIdeal.sig) → Buf (Elt Ideal) ℓ) (c : Dev Cert.DenseDownIdeal.nD) :
    Cert.DenseDownReferenceIdeal.Rows.outT (V m c Cert.DenseDownIdeal.main_arg0) (V m c Cert.DenseDownIdeal.main_arg1) (V m c Cert.DenseDownIdeal.main_arg2)
      = (fun y : Cert.DenseDownIdeal.S8192x2048.Idx => Cert.DenseDownReferenceIdeal.Rows.cell (V m c Cert.DenseDownIdeal.main_arg0) (V m c Cert.DenseDownIdeal.main_arg1) (V m c Cert.DenseDownIdeal.main_arg2) (y 0) (y 1)) := by
  funext y
  obtain ⟨r, d, rfl⟩ : ∃ (r : Fin 8192) (d : Fin 2048), y = ix2 r d := ⟨y 0, y 1, by ext i; fin_cases i <;> rfl⟩
  exact Cert.DenseDownReferenceIdeal.Rows.out_at _ _ _ r d

/-! ## The claims -/

theorem frame : Cert.quiescent_DenseDown := fun m g _ => Cert.DenseDown.Gen.frame m g
theorem frame_ideal : Cert.quiescent_DenseDownIdeal := fun m g _ => Cert.DenseDownIdeal.Gen.frame m g
theorem frame_reference : Cert.quiescent_DenseDownReferenceIdeal := fun m g _ =>
  (θ_run _ _ _).mono (fun r h => ⟨fun c => (h c).2, sem_eq_zero_of_no_sems rfl _⟩) (Cert.DenseDownReferenceIdeal.Value.run m g)

/-- The kernel's array equals the reference's, as extended reals. -/
theorem algebraic : Cert.algebraic_DenseDownIdeal_DenseDownReferenceIdeal := by
  pair_intro
  · run_from run_cells m g
  · run_from Cert.DenseDownReferenceIdeal.Rows.run_out m' g'
    obtain rfl : c = 0 := Subsingleton.elim _ _
    exact meet m 0

end Cert.DenseDownMeet
-- ==== Proof.RefQkv.lean ====
/- The reference of the projection of queries, keys and values, read at an entry. -/
module

public import proofs.«01_k».proof.Proof.Gen.QkvReferenceIdeal
public import proofs.«01_k».proof.Proof.Gen.QkvReferenceIdeal.Run
public import Idealize.ShloMosaic.Lib.Pipeline.ValueKit

@[expose] public section

set_option maxRecDepth 16384

noncomputable section

namespace Cert.QkvReferenceIdeal.Rows

open Cert.QkvReferenceIdeal Cert.QkvReferenceIdeal.Gen Cert.QkvReferenceIdeal.Value
open Idealize.ShloMosaic Idealize.ShloMosaic.TcCoe Idealize.ShloMosaic.Tactic Idealize.ShloMosaic.StableHlo

/-- What the queries are scaled by: the reciprocal root of the head's width, over the logarithm of two. -/
def factor : EReal := (((Real.log 2)⁻¹ * (Real.sqrt 128)⁻¹ : ℝ) : EReal)

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- The reference's spelling of the factor. -/
theorem factor_eq : Ideal.div (Ideal.div 1 (Ideal.sqrt (Ideal.ofBits .f32 0x43000000#32))) (Ideal.log (Ideal.ofBits .f32 0x40000000#32)) = factor := by
  have h1 : Real.sqrt 128 ≠ 0 := (Real.sqrt_pos.2 (by norm_num)).ne'
  have h2 : Real.log 2 ≠ 0 := (Real.log_pos (by norm_num)).ne'
  rw [ofBits_128, ofBits_2, Ideal.sqrt_coe, Ideal.log_coe, if_neg (by norm_num), if_neg (by norm_num), Ideal.div_coe h1, Ideal.div_coe h2, one_mul, ← EReal.coe_mul]
  unfold factor
  congr 1
  rw [one_div, one_div, mul_comm]

theorem low : ∀ d : Fin 6144, IntOp.cmpi CmpIPredicate.slt (BitVec.ofNat 32 d.val) 2048#32 = if d.val < 2048 then 1#1 else 0#1 := by decide +kernel

/-- Row `r`, column `d` of the result. -/
def cell (X : FVec Ideal S8192x2048 .bf16) (W : FVec Ideal S2x2048x6144 .f32) (r : Fin 8192) (d : Fin 6144) : EReal :=
  if d.val < 2048 then ((∑ k : Fin 2048, (X (ix2 r k) : EReal) * W (ix3 (0 : Fin 2) k d)) * factor : EReal) else (∑ k : Fin 2048, (X (ix2 r k) : EReal) * W (ix3 (0 : Fin 2) k d))

/-- The reference's array. -/
def outT (X : FVec Ideal S8192x2048 .bf16) (W : FVec Ideal S2x2048x6144 .f32) : FVec Ideal S8192x6144 .bf16 :=
  truncf .bf16 (select (broadcastInDim S8192x6144 ![1] bcast_S6144_S8192x6144_1 (cmpi .slt (iotaInDim S6144 32 0) (broadcastInDim S6144 ![] bcast_S_S6144 (constantI S_ 32 2048#32)))) (mulf (Host.dotGeneral dot_S8192x2048_S2048x6144_S8192x6144_1_0_0_1_n_n none (extf .f32 X bitsLt_bf16_f32) (shapeCast _ (extractStridedSlice S1x2048x6144 ![0, 0, 0] W slices_S2x2048x6144_S1x2048x6144_0_0_0) shapeCasts_S1x2048x6144_S2048x6144)) (broadcastInDim S8192x6144 ![] bcast_S_S8192x6144 (Host.divf (Host.divf (constant S_ .f32 0x3F800000#32) (Host.sqrt (constant S_ .f32 0x43000000#32))) (Host.log (constant S_ .f32 0x40000000#32))))) (Host.dotGeneral dot_S8192x2048_S2048x6144_S8192x6144_1_0_0_1_n_n none (extf .f32 X bitsLt_bf16_f32) (shapeCast _ (extractStridedSlice S1x2048x6144 ![0, 0, 0] W slices_S2x2048x6144_S1x2048x6144_0_0_0) shapeCasts_S1x2048x6144_S2048x6144))) bitsLt_bf16_f32

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

theorem out_at (X : FVec Ideal S8192x2048 .bf16) (W : FVec Ideal S2x2048x6144 .f32) (r : Fin 8192) (d : Fin 6144) : outT X W (ix2 r d) = cell X W r d := by
  pointwise [outT]
  rw [low, factor_eq]
  unfold cell
  by_cases h : d.val < 2048
  · rw [if_pos h, if_pos h]; rfl
  · rw [if_neg h, if_neg h]; rfl

end Cert.QkvReferenceIdeal.Rows
-- ==== Proof.OutQkv.lean ====
/- The result array of the projection of queries, keys and values, entry by entry. -/
module

public import proofs.«01_k».proof.Proof.Gen.QkvIdeal.Value
public import proofs.«01_k».proof.Proof.Gen.QkvIdeal.Frame
public import proofs.«01_k».proof.Proof.RefQkv
public import Idealize.ShloMosaic.Lib.Pipeline.ValueKit
public import Idealize.ShloMosaic.Lib.Pipeline.Covers
public import Idealize.ShloMosaic.Lib.VecWindow

@[expose] public section

set_option maxRecDepth 16384

noncomputable section

namespace Cert.QkvIdeal.Rows

open Cert.QkvIdeal Cert.QkvIdeal.Gen
open Idealize.ShloMosaic Idealize.ShloMosaic.TcCoe Idealize.ShloMosaic.Tactic

variable (m : (ℓ : Loc nD τ sig) → Buf (Elt Ideal) ℓ) (c : Dev nD)

/-! ## What a point leaves -/

/-- Where the weight is cast, the scratch holds it. -/
theorem scratch_cast0 (t : Fin cfg0.N) (h0 : t.val % 8 = 0) : (outsAt0 m c t.val t.isLt).2 = k0_pay1 (iblk m c 1 t) := by
  rw [outsAt0_A m c t h0]
  dsimp only
  unfold sout0_A_0 kernelRun0_A
  dsimp only
  unfold kernelRun0_A.sl.HS0_1
  rw [View.read_writes_full, View.readAt_full]
  exact congrArg k0_pay1 ((hs0_1 t).read_unread _)

theorem scratch_kept0 (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

theorem out_cast (t : Fin cfg0.N) (h0 : t.val % 8 = 0) : (outsAt0 m c t.val t.isLt).1 = k0_pay2 (grid0.coords t) (iblk m c 0 t) (k0_pay1 (iblk m c 1 t)) := by
  rw [outsAt0_A m c t h0]
  dsimp only
  unfold out0_A_2 kernelRun0_A
  dsimp only
  rw [View.read_writes_full]
  unfold kernelRun0_A.sl.v4
  try unfold kernelRun0_A.sl.HS0_1
  refine congr (congrArg (k0_pay2 _) ?_) ?_ <;> first
    | exact (View.readAt_full _ _ _).trans ((hs0_0 t).read_unread _)
    | exact (View.readCov_full _ _ _ _ _).trans (congrArg k0_pay1 ((View.readAt_full _ _ _).trans ((hs0_1 t).read_unread _)))

theorem out_kept (t : Fin cfg0.N) (h0 : ¬ t.val % 8 = 0) :
    (outsAt0 m c t.val t.isLt).1 = k0_pay2 (grid0.coords t) (iblk m c 0 t) (outsAt0 m c (t.val - 1) (Nat.lt_of_le_of_lt (Nat.sub_le _ _) t.isLt)).2 := by
  rw [outsAt0_B m c t h0]
  dsimp only
  unfold out0_B_2 kernelRun0_B
  dsimp only
  rw [View.read_writes_full]
  refine congr (congrArg (k0_pay2 _) ?_) ?_ <;> first
    | exact (View.readAt_full _ _ _).trans ((hs0_0 t).read_unread _)
    | exact (View.readAt_full _ _ _).trans ((Memref.isWhole_whole cc0_scratch0).read_unread _)

/-! ## The blocks -/

theorem idx : ∀ t : Fin cfg0.N,
    win0_0.index t = ![t.val % 8, 0]
    ∧ win0_1.index t = ![0, 0, t.val / 8]
    ∧ win0_2.index t = ![t.val % 8, t.val / 8] :=
  (by decide +kernel : ∀ t : Fin grid0.N, _)

theorem lt_N (t : Fin cfg0.N) : t.val < 96 := Nat.lt_of_lt_of_eq t.isLt N_0

theorem iblk0_at (t : Fin cfg0.N) (r : Fin 1024) (k : Fin 2048) :
    (iblk m c 0 t : Vec Ideal S1024x2048 .bf16) (ix2 r k) = (V m c main_arg0 : Vec Ideal S8192x2048 .bf16) (ix2 (⟨t.val % 8 * 1024 + r.val, by omega⟩ : Fin 8192) k) := by
  show V m c main_arg0 (((cfg0.win 0).blk t).view.emb (ix2 r k)) = _
  blk_ext [idx t]

theorem iblk1_at (t : Fin cfg0.N) (k : Fin 2048) (d : Fin 512) :
    (iblk m c 1 t : Vec Ideal S1x2048x512 .f32) (ix3 (0 : Fin 1) k d) = (V m c main_arg1 : Vec Ideal S2x2048x6144 .f32)
      (ix3 (0 : Fin 2) k (⟨t.val / 8 * 512 + d.val, by have := lt_N t; omega⟩ : Fin 6144)) := by
  have := lt_N t
  show V m c main_arg1 (((cfg0.win 1).blk t).view.emb (ix3 (0 : Fin 1) k d)) = _
  blk_ext [idx t]

/-- The points of one column of tiles share the weight's block. -/
theorem iblk1_prev (t t' : Fin cfg0.N) (h : t'.val / 8 = t.val / 8) : (iblk m c 1 t' : Vec Ideal S1x2048x512 .f32) = (iblk m c 1 t : Vec Ideal S1x2048x512 .f32) := by
  funext y
  obtain ⟨a, k, d, rfl⟩ : ∃ (a : Fin 1) (k : Fin 2048) (d : Fin 512), y = ix3 a k d := ⟨y 0, y 1, y 2, by ext i; fin_cases i <;> rfl⟩
  obtain rfl : a = 0 := Subsingleton.elim _ _
  rw [iblk1_at, iblk1_at]
  simp only [h]

/-- The scratch holds the point's own weight. -/
theorem scratch0 (c : Dev nD) : ∀ (n : ℕ) (hn : n < cfg0.N), (outsAt0 m c n hn).2 = k0_pay1 (iblk m c 1 ⟨n, hn⟩)
  | 0, hn => scratch_cast0 m c ⟨0, hn⟩ (Nat.zero_mod _)
  | n + 1, hn => by
    by_cases h0 : (n + 1) % 8 = 0
    · exact scratch_cast0 m c ⟨n + 1, hn⟩ h0
    · refine (scratch_kept0 m c ⟨n + 1, hn⟩ h0).trans ?_
      refine (scratch0 c n (Nat.lt_of_succ_lt hn)).trans (congrArg k0_pay1 (iblk1_prev m c ⟨n + 1, hn⟩ ⟨n, _⟩ ?_))
      dsimp only; omega

/-- Every point leaves the tile of its rows and columns. -/
theorem out_tile (t : Fin cfg0.N) : (outsAt0 m c t.val t.isLt).1 = k0_pay2 (grid0.coords t) (iblk m c 0 t) (k0_pay1 (iblk m c 1 t)) := by
  by_cases h0 : t.val % 8 = 0
  · exact out_cast m c t h0
  · refine (out_kept m c t h0).trans ?_
    have hp : t.val - 1 < cfg0.N := Nat.lt_of_le_of_lt (Nat.sub_le _ _) t.isLt
    have hd : (t.val - 1) / 8 = t.val / 8 := by omega
    have e0 := (scratch0 m c (t.val - 1) hp).trans (congrArg k0_pay1 (iblk1_prev m c t ⟨t.val - 1, hp⟩ hd))
    rw [e0]

theorem pay_at (i : grid0.Coords) (x : FVec Ideal S1024x2048 .bf16) (w : FVec Ideal S1x2048x512 .f32) (r : Fin 1024) (d : Fin 512) :
    (k0_pay2 (F := Ideal) i x (k0_pay1 (F := Ideal) w) : FVec Ideal S1024x512 .bf16) (ix2 r d) = (∑ k : Fin 2048, (x (ix2 r k) : EReal) * w (ix3 (0 : Fin 1) k d))
      * Scalar.select (Scalar.cmpi .slt (BitVec.ofNat 32 (i 0).val) 4#32) Cert.QkvReferenceIdeal.Rows.factor (1 : EReal) := by
  have hn : Named.named (F := Ideal) κ "scale" (φ := .f32) 0x3E0293EE#32 = Cert.QkvReferenceIdeal.Rows.factor :=
    IdealRules.named_const.ideal_named_scalar _ _ _ _ rfl
  pointwise [k0_pay2, k0_pay1]
  rw [hn]

theorem low : ∀ n : Fin 12, Scalar.cmpi .slt (BitVec.ofNat 32 n.val) 4#32 = if n.val < 4 then 1#1 else 0#1 := by decide +kernel

theorem scaled (t : Fin cfg0.N) (a : EReal) (d : Fin 512) :
    a * Scalar.select (Scalar.cmpi .slt (BitVec.ofNat 32 (grid0.coords t 0).val) 4#32) Cert.QkvReferenceIdeal.Rows.factor (1 : EReal)
      = if t.val / 8 * 512 + d.val < 2048 then a * Cert.QkvReferenceIdeal.Rows.factor else a := by
  have e0 : (grid0.coords t 0).val = t.val / 8 % 12 := Pipeline.Grid.coords_val t 0 (by decide) rfl
  have ht := lt_N t
  have e1 : (grid0.coords t 0).val = t.val / 8 := by omega
  have e2 := low ⟨t.val / 8, by omega⟩
  rw [e1]
  dsimp only at e2
  rw [e2]
  by_cases h : t.val / 8 < 4
  · rw [if_pos h, if_pos (by omega)]; rfl
  · rw [if_neg h, if_neg (by omega)]; exact mul_one a

/-- One tile of the result, at an entry. -/
theorem tile_at (t : Fin cfg0.N) (r : Fin 1024) (d : Fin 512) (hr : t.val % 8 * 1024 + r.val < 8192) (hd : t.val / 8 * 512 + d.val < 6144) :
    ((outsAt0 m c t.val t.isLt).1 : FVec Ideal S1024x512 .bf16) (ix2 r d)
      = Cert.QkvReferenceIdeal.Rows.cell (V m c main_arg0) (V m c main_arg1) ⟨t.val % 8 * 1024 + r.val, hr⟩ ⟨t.val / 8 * 512 + d.val, hd⟩ := by
  rw [out_tile]
  refine (pay_at (grid0.coords t) (iblk m c 0 t) (iblk m c 1 t) r d).trans ?_
  exact (scaled t _ d).trans (congrArg (fun a : EReal => if t.val / 8 * 512 + d.val < 2048 then a * Cert.QkvReferenceIdeal.Rows.factor else a)
    (Finset.sum_congr rfl fun k _ => congrArg₂ (fun a b : EReal => a * b) (iblk0_at m c t r k) (iblk1_at m c t k d)))

/-- The result array. -/
theorem out_eq : (dats m 0 c).arrAt 2 cfg0.N = (fun y : S8192x6144.Idx => Cert.QkvReferenceIdeal.Rows.cell (V m c main_arg0) (V m c main_arg1) (y 0) (y 1)) := by
  refine (dats m 0 c).arrAt_eq_of_covers 2 _ (by decide +kernel) fun t _ y => ?_
  blk_simp
  rw [after0_2]
  obtain ⟨r, d, rfl⟩ : ∃ (r : Fin 1024) (d : Fin 512), y = ix2 r d := ⟨y 0, y 1, by ext i; fin_cases i <;> rfl⟩
  have ht := lt_N t
  refine (tile_at m c t r d (by omega) (by omega)).trans (congrArg₂ (Cert.QkvReferenceIdeal.Rows.cell (V m c main_arg0) (V m c main_arg1)) (Fin.ext ?_) (Fin.ext ?_))
  · show _ = win0_2.index t 0 * 1024 + 1 * r.val
    rw [(idx t).2.2]; show t.val % 8 * 1024 + r.val = t.val % 8 * 1024 + 1 * r.val; omega
  · show _ = win0_2.index t 1 * 512 + 1 * d.val
    rw [(idx t).2.2]; show t.val / 8 * 512 + d.val = t.val / 8 * 512 + 1 * d.val; omega

end Cert.QkvIdeal.Rows
-- ==== Proof.MeetQkv.lean ====
/- The projection of queries, keys and values and its reference leave the same array. -/
module

public import proofs.«01_k».proof.Defs
public import proofs.«01_k».proof.Proof.Gen.Qkv
public import proofs.«01_k».proof.Proof.Gen.Qkv.Frame
public import proofs.«01_k».proof.Proof.OutQkv
public import Idealize.ShloMosaic.Lib.Claim
public import Idealize.ShloMosaic.Adequacy

@[expose] public section

set_option maxRecDepth 16384

noncomputable section

namespace Cert.QkvMeet

open Idealize.ShloMosaic Idealize.ShloMosaic.TcCoe Idealize.ShloMosaic.Tactic Idealize.SL.Sem
open Cert.QkvIdeal.Gen (V)

section
open Cert.QkvIdeal Cert.QkvIdeal.Gen Cert.QkvIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (fun y : S8192x6144.Idx => Cert.QkvReferenceIdeal.Rows.cell (V m c main_arg0) (V m c main_arg1) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (out_eq m c), (h c).2⟩) (Cert.QkvIdeal.Value.run_blocks m ρ)
end

/-- The reference's array is the kernel's. -/
theorem meet (m : (ℓ : Loc Cert.QkvIdeal.nD Cert.QkvIdeal.τ Cert.QkvIdeal.sig) → Buf (Elt Ideal) ℓ) (c : Dev Cert.QkvIdeal.nD) :
    Cert.QkvReferenceIdeal.Rows.outT (V m c Cert.QkvIdeal.main_arg0) (V m c Cert.QkvIdeal.main_arg1)
      = (fun y : Cert.QkvIdeal.S8192x6144.Idx => Cert.QkvReferenceIdeal.Rows.cell (V m c Cert.QkvIdeal.main_arg0) (V m c Cert.QkvIdeal.main_arg1) (y 0) (y 1)) := by
  funext y
  obtain ⟨r, d, rfl⟩ : ∃ (r : Fin 8192) (d : Fin 6144), y = ix2 r d := ⟨y 0, y 1, by ext i; fin_cases i <;> rfl⟩
  exact Cert.QkvReferenceIdeal.Rows.out_at _ _ r d

/-! ## The claims -/

theorem frame : Cert.quiescent_Qkv := fun m g _ => Cert.Qkv.Gen.frame m g
theorem frame_ideal : Cert.quiescent_QkvIdeal := fun m g _ => Cert.QkvIdeal.Gen.frame m g
theorem frame_reference : Cert.quiescent_QkvReferenceIdeal := fun m g _ =>
  (θ_run _ _ _).mono (fun r h => ⟨fun c => (h c).2, sem_eq_zero_of_no_sems rfl _⟩) (Cert.QkvReferenceIdeal.Value.run m g)

/-- The kernel's array equals the reference's, as extended reals. -/
theorem algebraic : Cert.algebraic_QkvIdeal_QkvReferenceIdeal := by
  pair_intro
  · run_from run_cells m g
  · run_from Cert.QkvReferenceIdeal.Rows.run_out m' g'
    obtain rfl : c = 0 := Subsingleton.elim _ _
    exact meet m 0

end Cert.QkvMeet
-- ==== Proof.RefScanOut.lean ====
/- The reference of the projection after the scan, read at an entry. -/
module

public import proofs.«01_k».proof.Proof.Gen.ScanOutReferenceIdeal
public import proofs.«01_k».proof.Proof.Gen.ScanOutReferenceIdeal.Run
public import Idealize.ShloMosaic.Lib.Pipeline.ValueKit

@[expose] public section

set_option maxRecDepth 16384

noncomputable section

namespace Cert.ScanOutReferenceIdeal.Rows

open Cert.ScanOutReferenceIdeal Cert.ScanOutReferenceIdeal.Gen Cert.ScanOutReferenceIdeal.Value
open Idealize.ShloMosaic Idealize.ShloMosaic.TcCoe Idealize.ShloMosaic.Tactic Idealize.ShloMosaic.StableHlo

/-- Row `r`, column `d` of the result. -/
def cell (X : FVec Ideal S4096x8192 .bf16) (W : FVec Ideal S2x4096x2048 .f32) (H : FVec Ideal S8192x2048 .f32) (r : Fin 8192) (d : Fin 2048) : EReal :=
  H (ix2 r d) + ∑ k : Fin 4096, (X (ix2 k r) : EReal) * W (ix3 (0 : Fin 2) k d)

/-- The reference's array. -/
def outT (X : FVec Ideal S4096x8192 .bf16) (W : FVec Ideal S2x4096x2048 .f32) (H : FVec Ideal S8192x2048 .f32) : FVec Ideal S8192x2048 .f32 :=
  addf H (Host.dotGeneral dot_S8192x4096_S4096x2048_S8192x2048_1_0_0_1_n_n none (transpose S8192x4096 [1, 0] (extf .f32 X bitsLt_bf16_f32) transposes_S4096x8192_S8192x4096_1_0) (shapeCast _ (extractStridedSlice S1x4096x2048 ![0, 0, 0] W slices_S2x4096x2048_S1x4096x2048_0_0_0) shapeCasts_S1x4096x2048_S4096x2048))

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

theorem out_at (X : FVec Ideal S4096x8192 .bf16) (W : FVec Ideal S2x4096x2048 .f32) (H : FVec Ideal S8192x2048 .f32) (r : Fin 8192) (d : Fin 2048) : outT X W H (ix2 r d) = cell X W H r d := by
  pointwise [outT]
  rfl

end Cert.ScanOutReferenceIdeal.Rows
-- ==== Proof.OutScanOut.lean ====
/- The result array of the projection after the scan, entry by entry. -/
module

public import proofs.«01_k».proof.Proof.Gen.ScanOutIdeal.Value
public import proofs.«01_k».proof.Proof.Gen.ScanOutIdeal.Frame
public import proofs.«01_k».proof.Proof.RefScanOut
public import Idealize.ShloMosaic.Lib.Pipeline.ValueKit
public import Idealize.ShloMosaic.Lib.Pipeline.Covers
public import Idealize.ShloMosaic.Lib.VecWindow

@[expose] public section

set_option maxRecDepth 16384

noncomputable section

namespace Cert.ScanOutIdeal.Rows

open Cert.ScanOutIdeal Cert.ScanOutIdeal.Gen
open Idealize.ShloMosaic Idealize.ShloMosaic.TcCoe Idealize.ShloMosaic.Tactic

variable (m : (ℓ : Loc nD τ sig) → Buf (Elt Ideal) ℓ) (c : Dev nD)

/-! ## What a point leaves -/

/-- Where the weight is cast, the scratch holds it. -/
theorem scratch_cast0 (t : Fin cfg0.N) (h0 : t.val % 8 = 0) : (outsAt0 m c t.val t.isLt).2 = k0_pay1 (iblk m c 1 t) := by
  rw [outsAt0_A m c t h0]
  dsimp only
  unfold sout0_A_0 kernelRun0_A
  dsimp only
  unfold kernelRun0_A.sl.HS0_1
  rw [View.read_writes_full, View.readAt_full]
  exact congrArg k0_pay1 ((hs0_1 t).read_unread _)

theorem scratch_kept0 (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

theorem out_cast (t : Fin cfg0.N) (h0 : t.val % 8 = 0) : (outsAt0 m c t.val t.isLt).1 = k0_pay2 (iblk m c 0 t) (k0_pay1 (iblk m c 1 t)) (iblk m c 2 t) := by
  rw [outsAt0_A m c t h0]
  dsimp only
  unfold out0_A_3 kernelRun0_A
  dsimp only
  rw [View.read_writes_full]
  unfold kernelRun0_A.sl.v4
  try unfold kernelRun0_A.sl.HS0_1
  refine congr (congr (congrArg k0_pay2 ?_) ?_) ?_ <;> first
    | exact (View.readAt_full _ _ _).trans ((hs0_0 t).read_unread _)
    | exact (View.readAt_full _ _ _).trans ((hs0_2 t).read_unread _)
    | exact (View.readCov_full _ _ _ _ _).trans (congrArg k0_pay1 ((View.readAt_full _ _ _).trans ((hs0_1 t).read_unread _)))

theorem out_kept (t : Fin cfg0.N) (h0 : ¬ t.val % 8 = 0) :
    (outsAt0 m c t.val t.isLt).1 = k0_pay2 (iblk m c 0 t) (outsAt0 m c (t.val - 1) (Nat.lt_of_le_of_lt (Nat.sub_le _ _) t.isLt)).2 (iblk m c 2 t) := by
  rw [outsAt0_B m c t h0]
  dsimp only
  unfold out0_B_3 kernelRun0_B
  dsimp only
  rw [View.read_writes_full]
  refine congr (congr (congrArg k0_pay2 ?_) ?_) ?_ <;> first
    | exact (View.readAt_full _ _ _).trans ((hs0_0 t).read_unread _)
    | exact (View.readAt_full _ _ _).trans ((hs0_2 t).read_unread _)
    | exact (View.readAt_full _ _ _).trans ((Memref.isWhole_whole cc0_scratch0).read_unread _)

/-! ## The blocks -/

theorem idx : ∀ t : Fin cfg0.N,
    win0_0.index t = ![0, t.val % 8]
    ∧ win0_1.index t = ![0, 0, t.val / 8]
    ∧ win0_2.index t = ![t.val % 8, t.val / 8]
    ∧ win0_3.index t = ![t.val % 8, t.val / 8] :=
  (by decide +kernel : ∀ t : Fin grid0.N, _)

theorem lt_N (t : Fin cfg0.N) : t.val < 32 := Nat.lt_of_lt_of_eq t.isLt N_0

theorem iblk0_at (t : Fin cfg0.N) (r : Fin 1024) (k : Fin 4096) :
    (iblk m c 0 t : Vec Ideal S4096x1024 .bf16) (ix2 k r) = (V m c main_arg0 : Vec Ideal S4096x8192 .bf16) (ix2 k (⟨t.val % 8 * 1024 + r.val, by omega⟩ : Fin 8192)) := by
  show V m c main_arg0 (((cfg0.win 0).blk t).view.emb (ix2 k r)) = _
  blk_ext [idx t]

theorem iblk1_at (t : Fin cfg0.N) (k : Fin 4096) (d : Fin 512) :
    (iblk m c 1 t : Vec Ideal S1x4096x512 .f32) (ix3 (0 : Fin 1) k d) = (V m c main_arg1 : Vec Ideal S2x4096x2048 .f32)
      (ix3 (0 : Fin 2) k (⟨t.val / 8 * 512 + d.val, by have := lt_N t; omega⟩ : Fin 2048)) := by
  have := lt_N t
  show V m c main_arg1 (((cfg0.win 1).blk t).view.emb (ix3 (0 : Fin 1) k d)) = _
  blk_ext [idx t]

/-- The points of one column of tiles share the weight's block. -/
theorem iblk1_prev (t t' : Fin cfg0.N) (h : t'.val / 8 = t.val / 8) : (iblk m c 1 t' : Vec Ideal S1x4096x512 .f32) = (iblk m c 1 t : Vec Ideal S1x4096x512 .f32) := by
  funext y
  obtain ⟨a, k, d, rfl⟩ : ∃ (a : Fin 1) (k : Fin 4096) (d : Fin 512), y = ix3 a k d := ⟨y 0, y 1, y 2, by ext i; fin_cases i <;> rfl⟩
  obtain rfl : a = 0 := Subsingleton.elim _ _
  rw [iblk1_at, iblk1_at]
  simp only [h]

/-- The scratch holds the point's own weight. -/
theorem scratch0 (c : Dev nD) : ∀ (n : ℕ) (hn : n < cfg0.N), (outsAt0 m c n hn).2 = k0_pay1 (iblk m c 1 ⟨n, hn⟩)
  | 0, hn => scratch_cast0 m c ⟨0, hn⟩ (Nat.zero_mod _)
  | n + 1, hn => by
    by_cases h0 : (n + 1) % 8 = 0
    · exact scratch_cast0 m c ⟨n + 1, hn⟩ h0
    · refine (scratch_kept0 m c ⟨n + 1, hn⟩ h0).trans ?_
      refine (scratch0 c n (Nat.lt_of_succ_lt hn)).trans (congrArg k0_pay1 (iblk1_prev m c ⟨n + 1, hn⟩ ⟨n, _⟩ ?_))
      dsimp only; omega

theorem iblk2_at (t : Fin cfg0.N) (r : Fin 1024) (d : Fin 512) :
    (iblk m c 2 t : Vec Ideal S1024x512 .f32) (ix2 r d) = (V m c main_arg2 : Vec Ideal S8192x2048 .f32)
      (ix2 (⟨t.val % 8 * 1024 + r.val, by omega⟩ : Fin 8192) (⟨t.val / 8 * 512 + d.val, by have := lt_N t; omega⟩ : Fin 2048)) := by
  have := lt_N t
  show V m c main_arg2 (((cfg0.win 2).blk t).view.emb (ix2 r d)) = _
  blk_ext [idx t]

/-- Every point leaves the tile of its rows and columns. -/
theorem out_tile (t : Fin cfg0.N) : (outsAt0 m c t.val t.isLt).1 = k0_pay2 (iblk m c 0 t) (k0_pay1 (iblk m c 1 t)) (iblk m c 2 t) := by
  by_cases h0 : t.val % 8 = 0
  · exact out_cast m c t h0
  · refine (out_kept m c t h0).trans ?_
    have hp : t.val - 1 < cfg0.N := Nat.lt_of_le_of_lt (Nat.sub_le _ _) t.isLt
    have hd : (t.val - 1) / 8 = t.val / 8 := by omega
    have e0 := (scratch0 m c (t.val - 1) hp).trans (congrArg k0_pay1 (iblk1_prev m c t ⟨t.val - 1, hp⟩ hd))
    rw [e0]

theorem pay_at (h : FVec Ideal S1024x512 .f32) (x : FVec Ideal S4096x1024 .bf16) (w : FVec Ideal S1x4096x512 .f32) (r : Fin 1024) (d : Fin 512) :
    (k0_pay2 (F := Ideal) x (k0_pay1 (F := Ideal) w) h : FVec Ideal S1024x512 .f32) (ix2 r d) = (h (ix2 r d) : EReal) + (∑ k : Fin 4096, (x (ix2 k r) : EReal) * w (ix3 (0 : Fin 1) k d)) := by
  pointwise [k0_pay2, k0_pay1]

/-- One tile of the result, at an entry. -/
theorem tile_at (t : Fin cfg0.N) (r : Fin 1024) (d : Fin 512) (hr : t.val % 8 * 1024 + r.val < 8192) (hd : t.val / 8 * 512 + d.val < 2048) :
    ((outsAt0 m c t.val t.isLt).1 : FVec Ideal S1024x512 .f32) (ix2 r d)
      = Cert.ScanOutReferenceIdeal.Rows.cell (V m c main_arg0) (V m c main_arg1) (V m c main_arg2) ⟨t.val % 8 * 1024 + r.val, hr⟩ ⟨t.val / 8 * 512 + d.val, hd⟩ := by
  rw [out_tile]
  refine (pay_at (iblk m c 2 t) (iblk m c 0 t) (iblk m c 1 t) r d).trans ?_
  exact congrArg₂ (fun a b : EReal => a + b) (iblk2_at m c t r d) (Finset.sum_congr rfl fun k _ =>
    congrArg₂ (fun a b : EReal => a * b) (iblk0_at m c t r k) (iblk1_at m c t k d))

/-- The result array. -/
theorem out_eq : (dats m 0 c).arrAt 3 cfg0.N = (fun y : S8192x2048.Idx => Cert.ScanOutReferenceIdeal.Rows.cell (V m c main_arg0) (V m c main_arg1) (V m c main_arg2) (y 0) (y 1)) := by
  refine (dats m 0 c).arrAt_eq_of_covers 3 _ (by decide +kernel) fun t _ y => ?_
  blk_simp
  rw [after0_3]
  obtain ⟨r, d, rfl⟩ : ∃ (r : Fin 1024) (d : Fin 512), y = ix2 r d := ⟨y 0, y 1, by ext i; fin_cases i <;> rfl⟩
  have ht := lt_N t
  refine (tile_at m c t r d (by omega) (by omega)).trans (congrArg₂ (Cert.ScanOutReferenceIdeal.Rows.cell (V m c main_arg0) (V m c main_arg1) (V m c main_arg2)) (Fin.ext ?_) (Fin.ext ?_))
  · show _ = win0_3.index t 0 * 1024 + 1 * r.val
    rw [(idx t).2.2.2]; show t.val % 8 * 1024 + r.val = t.val % 8 * 1024 + 1 * r.val; omega
  · show _ = win0_3.index t 1 * 512 + 1 * d.val
    rw [(idx t).2.2.2]; show t.val / 8 * 512 + d.val = t.val / 8 * 512 + 1 * d.val; omega

end Cert.ScanOutIdeal.Rows
-- ==== Proof.MeetScanOut.lean ====
/- The projection after the scan and its reference leave the same array. -/
module

public import proofs.«01_k».proof.Defs
public import proofs.«01_k».proof.Proof.Gen.ScanOut
public import proofs.«01_k».proof.Proof.Gen.ScanOut.Frame
public import proofs.«01_k».proof.Proof.OutScanOut
public import Idealize.ShloMosaic.Lib.Claim
public import Idealize.ShloMosaic.Adequacy

@[expose] public section

set_option maxRecDepth 16384

noncomputable section

namespace Cert.ScanOutMeet

open Idealize.ShloMosaic Idealize.ShloMosaic.TcCoe Idealize.ShloMosaic.Tactic Idealize.SL.Sem
open Cert.ScanOutIdeal.Gen (V)

section
open Cert.ScanOutIdeal Cert.ScanOutIdeal.Gen Cert.ScanOutIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (fun y : S8192x2048.Idx => Cert.ScanOutReferenceIdeal.Rows.cell (V m c main_arg0) (V m c main_arg1) (V m c main_arg2) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (out_eq m c), (h c).2⟩) (Cert.ScanOutIdeal.Value.run_blocks m ρ)
end

/-- The reference's array is the kernel's. -/
theorem meet (m : (ℓ : Loc Cert.ScanOutIdeal.nD Cert.ScanOutIdeal.τ Cert.ScanOutIdeal.sig) → Buf (Elt Ideal) ℓ) (c : Dev Cert.ScanOutIdeal.nD) :
    Cert.ScanOutReferenceIdeal.Rows.outT (V m c Cert.ScanOutIdeal.main_arg0) (V m c Cert.ScanOutIdeal.main_arg1) (V m c Cert.ScanOutIdeal.main_arg2)
      = (fun y : Cert.ScanOutIdeal.S8192x2048.Idx => Cert.ScanOutReferenceIdeal.Rows.cell (V m c Cert.ScanOutIdeal.main_arg0) (V m c Cert.ScanOutIdeal.main_arg1) (V m c Cert.ScanOutIdeal.main_arg2) (y 0) (y 1)) := by
  funext y
  obtain ⟨r, d, rfl⟩ : ∃ (r : Fin 8192) (d : Fin 2048), y = ix2 r d := ⟨y 0, y 1, by ext i; fin_cases i <;> rfl⟩
  exact Cert.ScanOutReferenceIdeal.Rows.out_at _ _ _ r d

/-! ## The claims -/

theorem frame : Cert.quiescent_ScanOut := fun m g _ => Cert.ScanOut.Gen.frame m g
theorem frame_ideal : Cert.quiescent_ScanOutIdeal := fun m g _ => Cert.ScanOutIdeal.Gen.frame m g
theorem frame_reference : Cert.quiescent_ScanOutReferenceIdeal := fun m g _ =>
  (θ_run _ _ _).mono (fun r h => ⟨fun c => (h c).2, sem_eq_zero_of_no_sems rfl _⟩) (Cert.ScanOutReferenceIdeal.Value.run m g)

/-- The kernel's array equals the reference's, as extended reals. -/
theorem algebraic : Cert.algebraic_ScanOutIdeal_ScanOutReferenceIdeal := by
  pair_intro
  · run_from run_cells m g
  · run_from Cert.ScanOutReferenceIdeal.Rows.run_out m' g'
    obtain rfl : c = 0 := Subsingleton.elim _ _
    exact meet m 0

end Cert.ScanOutMeet
-- ==== Proof.RefStickOut.lean ====
/- The reference of the projection after the attention, read at an entry. -/
module

public import proofs.«01_k».proof.Proof.Gen.StickOutReferenceIdeal
public import proofs.«01_k».proof.Proof.Gen.StickOutReferenceIdeal.Run
public import Idealize.ShloMosaic.Lib.Pipeline.ValueKit

@[expose] public section

set_option maxRecDepth 16384

noncomputable section

namespace Cert.StickOutReferenceIdeal.Rows

open Cert.StickOutReferenceIdeal Cert.StickOutReferenceIdeal.Gen Cert.StickOutReferenceIdeal.Value
open Idealize.ShloMosaic Idealize.ShloMosaic.TcCoe Idealize.ShloMosaic.Tactic Idealize.ShloMosaic.StableHlo

/-- Row `r`, column `d` of the result. -/
def cell (X : FVec Ideal S8192x2048 .bf16) (W : FVec Ideal S2x2048x2048 .f32) (H : FVec Ideal S8192x2048 .f32) (r : Fin 8192) (d : Fin 2048) : EReal :=
  H (ix2 r d) + ∑ k : Fin 2048, (X (ix2 r k) : EReal) * W (ix3 (0 : Fin 2) k d)

/-- The reference's array. -/
def outT (X : FVec Ideal S8192x2048 .bf16) (W : FVec Ideal S2x2048x2048 .f32) (H : FVec Ideal S8192x2048 .f32) : FVec Ideal S8192x2048 .f32 :=
  addf H (Host.dotGeneral dot_S8192x2048_S2048x2048_S8192x2048_1_0_0_1_n_n none (extf .f32 X bitsLt_bf16_f32) (shapeCast _ (extractStridedSlice S1x2048x2048 ![0, 0, 0] W slices_S2x2048x2048_S1x2048x2048_0_0_0) shapeCasts_S1x2048x2048_S2048x2048))

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

theorem out_at (X : FVec Ideal S8192x2048 .bf16) (W : FVec Ideal S2x2048x2048 .f32) (H : FVec Ideal S8192x2048 .f32) (r : Fin 8192) (d : Fin 2048) : outT X W H (ix2 r d) = cell X W H r d := by
  pointwise [outT]
  rfl

end Cert.StickOutReferenceIdeal.Rows
-- ==== Proof.OutStickOut.lean ====
/- The result array of the projection after the attention, entry by entry. -/
module

public import proofs.«01_k».proof.Proof.Gen.StickOutIdeal.Value
public import proofs.«01_k».proof.Proof.Gen.StickOutIdeal.Frame
public import proofs.«01_k».proof.Proof.RefStickOut
public import Idealize.ShloMosaic.Lib.Pipeline.ValueKit
public import Idealize.ShloMosaic.Lib.Pipeline.Covers
public import Idealize.ShloMosaic.Lib.VecWindow

@[expose] public section

set_option maxRecDepth 16384

noncomputable section

namespace Cert.StickOutIdeal.Rows

open Cert.StickOutIdeal Cert.StickOutIdeal.Gen
open Idealize.ShloMosaic Idealize.ShloMosaic.TcCoe Idealize.ShloMosaic.Tactic

variable (m : (ℓ : Loc nD τ sig) → Buf (Elt Ideal) ℓ) (c : Dev nD)

/-! ## What a point leaves -/

/-- Where the weight is cast, the scratch holds it. -/
theorem scratch_cast0 (t : Fin cfg0.N) (h0 : t.val % 8 = 0) : (outsAt0 m c t.val t.isLt).2 = k0_pay1 (iblk m c 1 t) := by
  rw [outsAt0_A m c t h0]
  dsimp only
  unfold sout0_A_0 kernelRun0_A
  dsimp only
  unfold kernelRun0_A.sl.HS0_1
  rw [View.read_writes_full, View.readAt_full]
  exact congrArg k0_pay1 ((hs0_1 t).read_unread _)

theorem scratch_kept0 (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

theorem out_cast (t : Fin cfg0.N) (h0 : t.val % 8 = 0) : (outsAt0 m c t.val t.isLt).1 = k0_pay2 (iblk m c 2 t) (iblk m c 0 t) (k0_pay1 (iblk m c 1 t)) := by
  rw [outsAt0_A m c t h0]
  dsimp only
  unfold out0_A_3 kernelRun0_A
  dsimp only
  rw [View.read_writes_full]
  unfold kernelRun0_A.sl.v5
  try unfold kernelRun0_A.sl.HS0_1
  refine congr (congr (congrArg k0_pay2 ?_) ?_) ?_ <;> first
    | exact (View.readAt_full _ _ _).trans ((hs0_0 t).read_unread _)
    | exact (View.readAt_full _ _ _).trans ((hs0_2 t).read_unread _)
    | exact (View.readCov_full _ _ _ _ _).trans (congrArg k0_pay1 ((View.readAt_full _ _ _).trans ((hs0_1 t).read_unread _)))

theorem out_kept (t : Fin cfg0.N) (h0 : ¬ t.val % 8 = 0) :
    (outsAt0 m c t.val t.isLt).1 = k0_pay2 (iblk m c 2 t) (iblk m c 0 t) (outsAt0 m c (t.val - 1) (Nat.lt_of_le_of_lt (Nat.sub_le _ _) t.isLt)).2 := by
  rw [outsAt0_B m c t h0]
  dsimp only
  unfold out0_B_3 kernelRun0_B
  dsimp only
  rw [View.read_writes_full]
  refine congr (congr (congrArg k0_pay2 ?_) ?_) ?_ <;> first
    | exact (View.readAt_full _ _ _).trans ((hs0_0 t).read_unread _)
    | exact (View.readAt_full _ _ _).trans ((hs0_2 t).read_unread _)
    | exact (View.readAt_full _ _ _).trans ((Memref.isWhole_whole cc0_scratch0).read_unread _)

/-! ## The blocks -/

theorem idx : ∀ t : Fin cfg0.N,
    win0_0.index t = ![t.val % 8, 0]
    ∧ win0_1.index t = ![0, 0, t.val / 8]
    ∧ win0_2.index t = ![t.val % 8, t.val / 8]
    ∧ win0_3.index t = ![t.val % 8, t.val / 8] :=
  (by decide +kernel : ∀ t : Fin grid0.N, _)

theorem lt_N (t : Fin cfg0.N) : t.val < 32 := Nat.lt_of_lt_of_eq t.isLt N_0

theorem iblk0_at (t : Fin cfg0.N) (r : Fin 1024) (k : Fin 2048) :
    (iblk m c 0 t : Vec Ideal S1024x2048 .bf16) (ix2 r k) = (V m c main_arg0 : Vec Ideal S8192x2048 .bf16) (ix2 (⟨t.val % 8 * 1024 + r.val, by omega⟩ : Fin 8192) k) := by
  show V m c main_arg0 (((cfg0.win 0).blk t).view.emb (ix2 r k)) = _
  blk_ext [idx t]

theorem iblk1_at (t : Fin cfg0.N) (k : Fin 2048) (d : Fin 512) :
    (iblk m c 1 t : Vec Ideal S1x2048x512 .f32) (ix3 (0 : Fin 1) k d) = (V m c main_arg1 : Vec Ideal S2x2048x2048 .f32)
      (ix3 (0 : Fin 2) k (⟨t.val / 8 * 512 + d.val, by have := lt_N t; omega⟩ : Fin 2048)) := by
  have := lt_N t
  show V m c main_arg1 (((cfg0.win 1).blk t).view.emb (ix3 (0 : Fin 1) k d)) = _
  blk_ext [idx t]

/-- The points of one column of tiles share the weight's block. -/
theorem iblk1_prev (t t' : Fin cfg0.N) (h : t'.val / 8 = t.val / 8) : (iblk m c 1 t' : Vec Ideal S1x2048x512 .f32) = (iblk m c 1 t : Vec Ideal S1x2048x512 .f32) := by
  funext y
  obtain ⟨a, k, d, rfl⟩ : ∃ (a : Fin 1) (k : Fin 2048) (d : Fin 512), y = ix3 a k d := ⟨y 0, y 1, y 2, by ext i; fin_cases i <;> rfl⟩
  obtain rfl : a = 0 := Subsingleton.elim _ _
  rw [iblk1_at, iblk1_at]
  simp only [h]

/-- The scratch holds the point's own weight. -/
theorem scratch0 (c : Dev nD) : ∀ (n : ℕ) (hn : n < cfg0.N), (outsAt0 m c n hn).2 = k0_pay1 (iblk m c 1 ⟨n, hn⟩)
  | 0, hn => scratch_cast0 m c ⟨0, hn⟩ (Nat.zero_mod _)
  | n + 1, hn => by
    by_cases h0 : (n + 1) % 8 = 0
    · exact scratch_cast0 m c ⟨n + 1, hn⟩ h0
    · refine (scratch_kept0 m c ⟨n + 1, hn⟩ h0).trans ?_
      refine (scratch0 c n (Nat.lt_of_succ_lt hn)).trans (congrArg k0_pay1 (iblk1_prev m c ⟨n + 1, hn⟩ ⟨n, _⟩ ?_))
      dsimp only; omega

theorem iblk2_at (t : Fin cfg0.N) (r : Fin 1024) (d : Fin 512) :
    (iblk m c 2 t : Vec Ideal S1024x512 .f32) (ix2 r d) = (V m c main_arg2 : Vec Ideal S8192x2048 .f32)
      (ix2 (⟨t.val % 8 * 1024 + r.val, by omega⟩ : Fin 8192) (⟨t.val / 8 * 512 + d.val, by have := lt_N t; omega⟩ : Fin 2048)) := by
  have := lt_N t
  show V m c main_arg2 (((cfg0.win 2).blk t).view.emb (ix2 r d)) = _
  blk_ext [idx t]

/-- Every point leaves the tile of its rows and columns. -/
theorem out_tile (t : Fin cfg0.N) : (outsAt0 m c t.val t.isLt).1 = k0_pay2 (iblk m c 2 t) (iblk m c 0 t) (k0_pay1 (iblk m c 1 t)) := by
  by_cases h0 : t.val % 8 = 0
  · exact out_cast m c t h0
  · refine (out_kept m c t h0).trans ?_
    have hp : t.val - 1 < cfg0.N := Nat.lt_of_le_of_lt (Nat.sub_le _ _) t.isLt
    have hd : (t.val - 1) / 8 = t.val / 8 := by omega
    have e0 := (scratch0 m c (t.val - 1) hp).trans (congrArg k0_pay1 (iblk1_prev m c t ⟨t.val - 1, hp⟩ hd))
    rw [e0]

theorem pay_at (h : FVec Ideal S1024x512 .f32) (x : FVec Ideal S1024x2048 .bf16) (w : FVec Ideal S1x2048x512 .f32) (r : Fin 1024) (d : Fin 512) :
    (k0_pay2 (F := Ideal) h x (k0_pay1 (F := Ideal) w) : FVec Ideal S1024x512 .f32) (ix2 r d) = (h (ix2 r d) : EReal) + (∑ k : Fin 2048, (x (ix2 r k) : EReal) * w (ix3 (0 : Fin 1) k d)) := by
  pointwise [k0_pay2, k0_pay1]

/-- One tile of the result, at an entry. -/
theorem tile_at (t : Fin cfg0.N) (r : Fin 1024) (d : Fin 512) (hr : t.val % 8 * 1024 + r.val < 8192) (hd : t.val / 8 * 512 + d.val < 2048) :
    ((outsAt0 m c t.val t.isLt).1 : FVec Ideal S1024x512 .f32) (ix2 r d)
      = Cert.StickOutReferenceIdeal.Rows.cell (V m c main_arg0) (V m c main_arg1) (V m c main_arg2) ⟨t.val % 8 * 1024 + r.val, hr⟩ ⟨t.val / 8 * 512 + d.val, hd⟩ := by
  rw [out_tile]
  refine (pay_at (iblk m c 2 t) (iblk m c 0 t) (iblk m c 1 t) r d).trans ?_
  exact congrArg₂ (fun a b : EReal => a + b) (iblk2_at m c t r d) (Finset.sum_congr rfl fun k _ =>
    congrArg₂ (fun a b : EReal => a * b) (iblk0_at m c t r k) (iblk1_at m c t k d))

/-- The result array. -/
theorem out_eq : (dats m 0 c).arrAt 3 cfg0.N = (fun y : S8192x2048.Idx => Cert.StickOutReferenceIdeal.Rows.cell (V m c main_arg0) (V m c main_arg1) (V m c main_arg2) (y 0) (y 1)) := by
  refine (dats m 0 c).arrAt_eq_of_covers 3 _ (by decide +kernel) fun t _ y => ?_
  blk_simp
  rw [after0_3]
  obtain ⟨r, d, rfl⟩ : ∃ (r : Fin 1024) (d : Fin 512), y = ix2 r d := ⟨y 0, y 1, by ext i; fin_cases i <;> rfl⟩
  have ht := lt_N t
  refine (tile_at m c t r d (by omega) (by omega)).trans (congrArg₂ (Cert.StickOutReferenceIdeal.Rows.cell (V m c main_arg0) (V m c main_arg1) (V m c main_arg2)) (Fin.ext ?_) (Fin.ext ?_))
  · show _ = win0_3.index t 0 * 1024 + 1 * r.val
    rw [(idx t).2.2.2]; show t.val % 8 * 1024 + r.val = t.val % 8 * 1024 + 1 * r.val; omega
  · show _ = win0_3.index t 1 * 512 + 1 * d.val
    rw [(idx t).2.2.2]; show t.val / 8 * 512 + d.val = t.val / 8 * 512 + 1 * d.val; omega

end Cert.StickOutIdeal.Rows
-- ==== Proof.MeetStickOut.lean ====
/- The projection after the attention and its reference leave the same array. -/
module

public import proofs.«01_k».proof.Defs
public import proofs.«01_k».proof.Proof.Gen.StickOut
public import proofs.«01_k».proof.Proof.Gen.StickOut.Frame
public import proofs.«01_k».proof.Proof.OutStickOut
public import Idealize.ShloMosaic.Lib.Claim
public import Idealize.ShloMosaic.Adequacy

@[expose] public section

set_option maxRecDepth 16384

noncomputable section

namespace Cert.StickOutMeet

open Idealize.ShloMosaic Idealize.ShloMosaic.TcCoe Idealize.ShloMosaic.Tactic Idealize.SL.Sem
open Cert.StickOutIdeal.Gen (V)

section
open Cert.StickOutIdeal Cert.StickOutIdeal.Gen Cert.StickOutIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (fun y : S8192x2048.Idx => Cert.StickOutReferenceIdeal.Rows.cell (V m c main_arg0) (V m c main_arg1) (V m c main_arg2) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (out_eq m c), (h c).2⟩) (Cert.StickOutIdeal.Value.run_blocks m ρ)
end

/-- The reference's array is the kernel's. -/
theorem meet (m : (ℓ : Loc Cert.StickOutIdeal.nD Cert.StickOutIdeal.τ Cert.StickOutIdeal.sig) → Buf (Elt Ideal) ℓ) (c : Dev Cert.StickOutIdeal.nD) :
    Cert.StickOutReferenceIdeal.Rows.outT (V m c Cert.StickOutIdeal.main_arg0) (V m c Cert.StickOutIdeal.main_arg1) (V m c Cert.StickOutIdeal.main_arg2)
      = (fun y : Cert.StickOutIdeal.S8192x2048.Idx => Cert.StickOutReferenceIdeal.Rows.cell (V m c Cert.StickOutIdeal.main_arg0) (V m c Cert.StickOutIdeal.main_arg1) (V m c Cert.StickOutIdeal.main_arg2) (y 0) (y 1)) := by
  funext y
  obtain ⟨r, d, rfl⟩ : ∃ (r : Fin 8192) (d : Fin 2048), y = ix2 r d := ⟨y 0, y 1, by ext i; fin_cases i <;> rfl⟩
  exact Cert.StickOutReferenceIdeal.Rows.out_at _ _ _ r d

/-! ## The claims -/

theorem frame : Cert.quiescent_StickOut := fun m g _ => Cert.StickOut.Gen.frame m g
theorem frame_ideal : Cert.quiescent_StickOutIdeal := fun m g _ => Cert.StickOutIdeal.Gen.frame m g
theorem frame_reference : Cert.quiescent_StickOutReferenceIdeal := fun m g _ =>
  (θ_run _ _ _).mono (fun r h => ⟨fun c => (h c).2, sem_eq_zero_of_no_sems rfl _⟩) (Cert.StickOutReferenceIdeal.Value.run m g)

/-- The kernel's array equals the reference's, as extended reals. -/
theorem algebraic : Cert.algebraic_StickOutIdeal_StickOutReferenceIdeal := by
  pair_intro
  · run_from run_cells m g
  · run_from Cert.StickOutReferenceIdeal.Rows.run_out m' g'
    obtain rfl : c = 0 := Subsingleton.elim _ _
    exact meet m 0

end Cert.StickOutMeet
-- ==== Proof.RefGateIn.lean ====
/- The reference of the gate's projection before the scan, read at an entry. -/
module

public import proofs.«01_k».proof.Proof.Gen.GateInReferenceIdeal
public import proofs.«01_k».proof.Proof.Gen.GateInReferenceIdeal.Run
public import Idealize.ShloMosaic.Lib.Pipeline.ValueKit

@[expose] public section

set_option maxRecDepth 16384

noncomputable section

namespace Cert.GateInReferenceIdeal.Rows

open Cert.GateInReferenceIdeal Cert.GateInReferenceIdeal.Gen Cert.GateInReferenceIdeal.Value
open Idealize.ShloMosaic Idealize.ShloMosaic.TcCoe Idealize.ShloMosaic.Tactic Idealize.ShloMosaic.StableHlo

/-- The sigmoid-weighted value. -/
def silu (z : EReal) : EReal := z * Ideal.div 1 (1 + Ideal.exp (-z))

/-- Channel `r` of token `d`. -/
def cell (X : FVec Ideal S8192x2048 .bf16) (W : FVec Ideal S2x2048x10304 .f32) (r : Fin 4096) (d : Fin 8192) : EReal :=
  silu (∑ k : Fin 2048, (X (ix2 d k) : EReal) * W (ix3 (0 : Fin 2) k (⟨r.val, by omega⟩ : Fin 10304)))

/-- The reference's array. -/
def outT (X : FVec Ideal S8192x2048 .bf16) (W : FVec Ideal S2x2048x10304 .f32) : FVec Ideal S4096x8192 .bf16 :=
  truncf .bf16 (transpose S4096x8192 [1, 0] (mulf (Host.dotGeneral dot_S8192x2048_S2048x4096_S8192x4096_1_0_0_1_n_n none (extf .f32 X bitsLt_bf16_f32) (extractStridedSlice S2048x4096 ![0, 0] (shapeCast _ (extractStridedSlice S1x2048x10304 ![0, 0, 0] W slices_S2x2048x10304_S1x2048x10304_0_0_0) shapeCasts_S1x2048x10304_S2048x10304) slices_S2048x10304_S2048x4096_0_0)) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (Host.dotGeneral dot_S8192x2048_S2048x4096_S8192x4096_1_0_0_1_n_n none (extf .f32 X bitsLt_bf16_f32) (extractStridedSlice S2048x4096 ![0, 0] (shapeCast _ (extractStridedSlice S1x2048x10304 ![0, 0, 0] W slices_S2x2048x10304_S1x2048x10304_0_0_0) shapeCasts_S1x2048x10304_S2048x10304) slices_S2048x10304_S2048x4096_0_0))))))) transposes_S8192x4096_S4096x8192_1_0) bitsLt_bf16_f32

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

theorem out_at (X : FVec Ideal S8192x2048 .bf16) (W : FVec Ideal S2x2048x10304 .f32) (r : Fin 4096) (d : Fin 8192) : outT X W (ix2 r d) = cell X W r d := by
  pointwise [outT]
  rfl

end Cert.GateInReferenceIdeal.Rows
-- ==== Proof.OutGateIn.lean ====
/- The result array of the gate's projection before the scan, entry by entry. -/
module

public import proofs.«01_k».proof.Proof.Gen.GateInIdeal.Value
public import proofs.«01_k».proof.Proof.Gen.GateInIdeal.Frame
public import proofs.«01_k».proof.Proof.RefGateIn
public import Idealize.ShloMosaic.Lib.Pipeline.ValueKit
public import Idealize.ShloMosaic.Lib.Pipeline.Covers
public import Idealize.ShloMosaic.Lib.VecWindow

@[expose] public section

set_option maxRecDepth 16384

noncomputable section

namespace Cert.GateInIdeal.Rows

open Cert.GateInIdeal Cert.GateInIdeal.Gen
open Idealize.ShloMosaic Idealize.ShloMosaic.TcCoe Idealize.ShloMosaic.Tactic

/-! ## One piece of the tile -/

/-- One entry of the tile: row `r` of the cast weight, against a token's row `x`. -/
def tile (w : FVec Ideal S512x2048 .bf16) (x : Fin 2048 → EReal) (r : Fin 512) : EReal :=
  Cert.GateInReferenceIdeal.Rows.silu (∑ k : Fin 2048, (w (ix2 r k) : EReal) * x k)

theorem pay1_at (w : FVec Ideal S512x2048 .bf16) (x : FVec Ideal S256x2048 .bf16) (r : Fin 512) (d : Fin 256) :
    (k0_pay1 (F := Ideal) w x : FVec Ideal S512x256 .bf16) (ix2 r d) = tile w (fun k => x (ix2 d k)) r := by
  pointwise [k0_pay1]
  rw [zero_sub]
  rfl

theorem pay2_at (w : FVec Ideal S512x2048 .bf16) (x : FVec Ideal S256x2048 .bf16) (r : Fin 512) (d : Fin 256) :
    (k0_pay2 (F := Ideal) w x : FVec Ideal S512x256 .bf16) (ix2 r d) = tile w (fun k => x (ix2 d k)) r := by
  pointwise [k0_pay2]
  rw [zero_sub]
  rfl

theorem pay4_at (w : FVec Ideal S512x2048 .bf16) (x : FVec Ideal S256x2048 .bf16) (r : Fin 512) (d : Fin 256) :
    (k0_pay4 (F := Ideal) w x : FVec Ideal S512x256 .bf16) (ix2 r d) = tile w (fun k => x (ix2 d k)) r := by
  pointwise [k0_pay4]
  rw [zero_sub]
  rfl

theorem pay5_at (w : FVec Ideal S512x2048 .bf16) (x : FVec Ideal S256x2048 .bf16) (r : Fin 512) (d : Fin 256) :
    (k0_pay5 (F := Ideal) w x : FVec Ideal S512x256 .bf16) (ix2 r d) = tile w (fun k => x (ix2 d k)) r := by
  pointwise [k0_pay5]
  rw [zero_sub]
  rfl

variable (m : (ℓ : Loc nD τ sig) → Buf (Elt Ideal) ℓ) (c : Dev nD)

/-- A run of 256 rows of the staged tokens. -/
theorem rows_at (t : Fin cfg0.N) (x : FVec Ideal S1024x2048 .bf16) (off : ℕ) (inb) (d : Fin 256) (k : Fin 2048) (h : off + d.val < 1024) :
    ((ms0_0 t).view.readAt (Elt Ideal) (Rect.unit (s := S1024x2048) ![off, 0] ![256, 2048] inb).toLoadRect ((hs0_0 t).unread x) : FVec Ideal S256x2048 .bf16) (ix2 d k)
      = x (ix2 (⟨off + d.val, h⟩ : Fin 1024) k) := by
  rw [View.readAt_unit _ _ inb rfl inb, (hs0_0 t).read_unread]
  unfold VecWindow.window
  refine congrArg x ?_
  ext i
  fin_cases i
  · show off + 1 * d.val = off + d.val; omega
  · show 0 + 1 * k.val = k.val; omega

/-- The tile of the cast weight `w` against the staged tokens `x`. -/
def tileT (w : FVec Ideal S512x2048 .bf16) (x : FVec Ideal S1024x2048 .bf16) : FVec Ideal S512x1024 .bf16 :=
  fun y => tile w (fun k => x (ix2 (y 1) k)) (y 0)

/-- A piece of 256 columns, computed from the same columns' tokens, is that piece of the tile. -/
theorem piece_at (t : Fin cfg0.N) (w : FVec Ideal S512x2048 .bf16) (x : FVec Ideal S1024x2048 .bf16) (off : ℕ) (hoff : off ≤ 768) (inb) (inb')
    (v : FVec Ideal S512x256 .bf16)
    (hv : ∀ (r : Fin 512) (d : Fin 256), v (ix2 r d) = tile w (fun k =>
      ((ms0_0 t).view.readAt (Elt Ideal) (Rect.unit (s := S1024x2048) ![off, 0] ![256, 2048] inb).toLoadRect ((hs0_0 t).unread x) : FVec Ideal S256x2048 .bf16) (ix2 d k)) r)
    (z : S512x256.Idx) : v z = tileT w x ((Rect.unit (s := S512x1024) ![0, off] ![512, 256] inb').emb z) := by
  obtain ⟨r, d, rfl⟩ : ∃ (r : Fin 512) (d : Fin 256), z = ix2 r d := ⟨z 0, z 1, by ext i; fin_cases i <;> rfl⟩
  rw [hv]
  unfold tileT
  refine congr (congrArg (tile w) (funext fun k => ?_)) (Fin.ext ?_)
  · rw [rows_at t x off inb d k (by omega)]
    refine congrArg x (congrArg (ix2 · k) (Fin.ext ?_))
    show off + d.val = off + 1 * d.val; omega
  · show r.val = 0 + 1 * r.val; omega

/-! ## What a point leaves -/

/-- Where the weight is cast, the scratch holds it. -/
theorem scratch_cast (t : Fin cfg0.N) (h0 : t.val % 8 = 0) : (outsAt0 m c t.val t.isLt).2 = k0_pay3 (X0_1 m c t) := by
  rw [outsAt0_A m c t h0]
  dsimp only
  unfold sout0_A_0 kernelRun0_A
  dsimp only
  unfold kernelRun0_A.sl.HS0_1
  rw [View.read_writes_full, View.readAt_full]
  exact congrArg k0_pay3 ((hs0_1 t).read_unread _)

theorem scratch_kept (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

theorem out_cast (t : Fin cfg0.N) (h0 : t.val % 8 = 0) (y : S512x1024.Idx) :
    (outsAt0 m c t.val t.isLt).1 y = tileT (k0_pay3 (X0_1 m c t)) (iblk m c 0 t) y := by
  rw [outsAt0_A m c t h0]
  dsimp only
  unfold out0_A_2
  rw [View.read_writes_junk_eq_canon]
  refine View.canon_apply_of_pieces (Val := Elt Ideal) (S := S512x1024) (e := .bf16) (tileT (k0_pay3 (X0_1 m c t)) (iblk m c 0 t)) _ ?_ y (cover0_A_2 _ _ _ _ _ _ _ _ _ _ _ _ _ _)
  intro p hp x
  unfold kernelRun0_A at hp
  dsimp only at hp
  have e : kernelRun0_A.sl.v3 (F := Ideal) c (ms0_1 t) (hs0_1 t) scM0_0 (X0_1 m c t) = k0_pay3 (X0_1 m c t) := by
    unfold kernelRun0_A.sl.v3 kernelRun0_A.sl.HS0_1
    rw [View.readCov_full]
    rw [View.readAt_full]
    exact congrArg k0_pay3 ((hs0_1 t).read_unread _)
  have e' : kernelRun0_A.sl.v42 (F := Ideal) c (ms0_1 t) (hs0_1 t) scM0_0 (X0_1 m c t) = k0_pay3 (X0_1 m c t) := by
    unfold kernelRun0_A.sl.v42 kernelRun0_A.sl.HS0_1
    rw [View.readCov_full]
    rw [View.readAt_full]
    exact congrArg k0_pay3 ((hs0_1 t).read_unread _)
  rw [e, e'] at hp
  simp only [List.mem_cons, List.not_mem_nil, or_false] at hp
  rcases hp with rfl | rfl | rfl | rfl
  · exact piece_at t _ _ 768 (by omega) _ inb_S512x1024_S512x256_0_768 _ (fun r d => pay2_at _ _ r d) x
  · exact piece_at t _ _ 512 (by omega) _ inb_S512x1024_S512x256_0_512 _ (fun r d => pay1_at _ _ r d) x
  · exact piece_at t _ _ 256 (by omega) _ inb_S512x1024_S512x256_0_256 _ (fun r d => pay5_at _ _ r d) x
  · exact piece_at t _ _ 0 (by omega) _ inb_S512x1024_S512x256_0_0 _ (fun r d => pay4_at _ _ r d) x

theorem out_kept (t : Fin cfg0.N) (h0 : ¬ t.val % 8 = 0) (y : S512x1024.Idx) :
    (outsAt0 m c t.val t.isLt).1 y
      = tileT (outsAt0 m c (t.val - 1) (Nat.lt_of_le_of_lt (Nat.sub_le _ _) t.isLt)).2 (iblk m c 0 t) y := by
  rw [outsAt0_B m c t h0]
  dsimp only
  unfold out0_B_2
  rw [View.read_writes_junk_eq_canon]
  generalize (outsAt0 m c (t.val - 1) (Nat.lt_of_le_of_lt (Nat.sub_le _ _) t.isLt)).2 = w
  refine View.canon_apply_of_pieces (Val := Elt Ideal) (S := S512x1024) (e := .bf16) (tileT w (iblk m c 0 t)) _ ?_ y (cover0_B_2 _ _ _ _ _ _ _ _ _ _ _ _ _ _ _)
  intro p hp x
  unfold kernelRun0_B at hp
  dsimp only at hp
  have hr : View.readAt (Elt Ideal) scM0_0.view (Rect.unit (s := S512x2048) ![0, 0] ![512, 2048] inb_S512x2048_S512x2048_0_0).toLoadRect
      ((Memref.isWhole_whole cc0_scratch0).unread w) = w := (View.readAt_full _ _ _).trans (Memref.IsWhole.read_unread _ _)
  simp only [List.mem_cons, List.not_mem_nil, or_false] at hp
  rcases hp with rfl | rfl | rfl | rfl
  · exact (piece_at t _ _ 768 (by omega) _ inb_S512x1024_S512x256_0_768 _ (fun r d => pay2_at _ _ r d) x).trans (congrFun (congrArg (tileT · (iblk m c 0 t)) hr) _)
  · exact (piece_at t _ _ 512 (by omega) _ inb_S512x1024_S512x256_0_512 _ (fun r d => pay1_at _ _ r d) x).trans (congrFun (congrArg (tileT · (iblk m c 0 t)) hr) _)
  · exact (piece_at t _ _ 256 (by omega) _ inb_S512x1024_S512x256_0_256 _ (fun r d => pay5_at _ _ r d) x).trans (congrFun (congrArg (tileT · (iblk m c 0 t)) hr) _)
  · exact (piece_at t _ _ 0 (by omega) _ inb_S512x1024_S512x256_0_0 _ (fun r d => pay4_at _ _ r d) x).trans (congrFun (congrArg (tileT · (iblk m c 0 t)) hr) _)

/-! ## The blocks, read at an entry -/

/-- The weights with their last two axes exchanged, which the host writes before the call. -/
def turned (W : FVec Ideal S2x2048x10304 .f32) : FVec Ideal S2x10304x2048 .f32 :=
  transpose S2x10304x2048 [0, 2, 1] W transposes_S2x2048x10304_S2x10304x2048_0_2_1

theorem turned_at (W : FVec Ideal S2x2048x10304 .f32) (l : Fin 2) (r : Fin 10304) (k : Fin 2048) : turned W (ix3 l r k) = W (ix3 l k r) := by
  pointwise [turned]

theorem V_turned : V m c main_v0 = turned (m ((c.tc : Thread nD τ).loc main_arg1)) := by
  show StableHlo.after (List.flatten [hostOps0]) (fun b => m (c, b)) (Proc.devRef .tc main_v0) = _
  simp only [hostOps0, List.flatten_cons, List.flatten_nil, List.append_nil, List.cons_append,
      List.nil_append, StableHlo.unary, StableHlo.TRef.unary, StableHlo.TRef.toBuf, StableHlo.TRef.ofBuf, cast_eq]
  after_results_simp
  rfl

theorem idx : ∀ t : Fin cfg0.N,
    win0_0.index t = ![t.val % 8, 0] ∧ win0_1.index t = ![0, t.val / 8, 0] ∧ win0_2.index t = ![t.val / 8, t.val % 8] :=
  (by decide +kernel : ∀ t : Fin grid0.N, _)

theorem lt_N (t : Fin cfg0.N) : t.val < 64 := Nat.lt_of_lt_of_eq t.isLt N_0

theorem iblk0_at (t : Fin cfg0.N) (d : Fin 1024) (k : Fin 2048) :
    (iblk m c 0 t : Vec Ideal S1024x2048 .bf16) (ix2 d k) = (V m c main_arg0 : Vec Ideal S8192x2048 .bf16) (ix2 (⟨t.val % 8 * 1024 + d.val, by omega⟩ : Fin 8192) k) := by
  show V m c main_arg0 (((cfg0.win 0).blk t).view.emb (ix2 d k)) = _
  blk_ext [idx t]

theorem weight_at (t : Fin cfg0.N) (r : Fin 512) (k : Fin 2048) :
    (X0_1 m c t : FVec Ideal S1x512x2048 .f32) (ix3 (0 : Fin 1) r k)
      = ((m ((c.tc : Thread nD τ).loc main_arg1)) : FVec Ideal S2x2048x10304 .f32) (ix3 (0 : Fin 2) k (⟨t.val / 8 * 512 + r.val, by have := lt_N t; omega⟩ : Fin 10304)) := by
  have := lt_N t
  refine Eq.trans ?_ (turned_at _ 0 (⟨t.val / 8 * 512 + r.val, by omega⟩ : Fin 10304) k)
  unfold X0_1 Pipeline.Window.fill
  rw [dif_pos (moved0_1 t _)]
  show V m c main_v0 (((cfg0.win 1).blk t).view.emb _) = _
  rw [V_turned]
  blk_ext [idx t]

/-- The cast weight, at an entry. -/
theorem pay3_at (w : FVec Ideal S1x512x2048 .f32) (r : Fin 512) (k : Fin 2048) : (k0_pay3 (F := Ideal) w : FVec Ideal S512x2048 .bf16) (ix2 r k) = w (ix3 (0 : Fin 1) r k) := by
  pointwise [k0_pay3]

/-- What a point of a row of tiles finds cast in the scratch. -/
def held (n : ℕ) (hn : n < 8) : FVec Ideal S512x2048 .bf16 := fun y =>
  ((m ((c.tc : Thread nD τ).loc main_arg1)) : FVec Ideal S2x2048x10304 .f32) (ix3 (0 : Fin 2) (y 1) (⟨n * 512 + (y 0).val, by have h : (y 0).val < 512 := (y 0).isLt; omega⟩ : Fin 10304))

theorem cast_eq_held (t : Fin cfg0.N) : k0_pay3 (X0_1 m c t) = held m c (t.val / 8) (by have := lt_N t; omega) := by
  funext y
  obtain ⟨r, k, rfl⟩ : ∃ (r : Fin 512) (k : Fin 2048), y = ix2 r k := ⟨y 0, y 1, by ext i; fin_cases i <;> rfl⟩
  exact (pay3_at _ r k).trans (weight_at m c t r k)

theorem scratch_at (n : ℕ) (hn : n < cfg0.N) : (outsAt0 m c n hn).2 = held m c (n / 8) (by have : n < 64 := lt_N ⟨n, hn⟩; omega) := by
  induction n with
  | zero => exact (scratch_cast m c ⟨0, hn⟩ rfl).trans (cast_eq_held m c ⟨0, hn⟩)
  | succ n ih =>
    by_cases h0 : (n + 1) % 8 = 0
    · exact (scratch_cast m c ⟨n + 1, hn⟩ h0).trans (cast_eq_held m c ⟨n + 1, hn⟩)
    · refine (scratch_kept m c ⟨n + 1, hn⟩ h0).trans ((ih (Nat.lt_of_succ_lt hn)).trans ?_)
      show held m c (n / 8) _ = held m c ((n + 1) / 8) _
      congr 1
      omega

/-- Every point leaves the tile of its channels and tokens. -/
theorem out_tile (t : Fin cfg0.N) (y : S512x1024.Idx) :
    (outsAt0 m c t.val t.isLt).1 y = tileT (held m c (t.val / 8) (by have := lt_N t; omega)) (iblk m c 0 t) y := by
  by_cases h0 : t.val % 8 = 0
  · rw [out_cast m c t h0, cast_eq_held]
  · rw [out_kept m c t h0, scratch_at]
    refine congrFun (congrArg (tileT · (iblk m c 0 t)) ?_) y
    show held m c ((t.val - 1) / 8) _ = held m c (t.val / 8) _
    congr 1
    omega

/-- One tile of the result, at an entry. -/
theorem tile_at (t : Fin cfg0.N) (r : Fin 512) (d : Fin 1024) (hr : t.val / 8 * 512 + r.val < 4096) (hd : t.val % 8 * 1024 + d.val < 8192) :
    ((outsAt0 m c t.val t.isLt).1 : FVec Ideal S512x1024 .bf16) (ix2 r d)
      = Cert.GateInReferenceIdeal.Rows.cell (V m c main_arg0) (m ((c.tc : Thread nD τ).loc main_arg1)) ⟨t.val / 8 * 512 + r.val, hr⟩ ⟨t.val % 8 * 1024 + d.val, hd⟩ := by
  rw [out_tile]
  unfold tileT tile Cert.GateInReferenceIdeal.Rows.cell
  refine congrArg _ (Finset.sum_congr rfl fun k _ => ?_)
  refine (mul_comm (_ : EReal) _).trans ?_
  exact congrArg₂ (fun a b : EReal => a * b) (iblk0_at m c t d k) rfl

/-- The result array. -/
theorem out_eq : (dats m 0 c).arrAt 2 cfg0.N = (fun y : S4096x8192.Idx => Cert.GateInReferenceIdeal.Rows.cell (V m c main_arg0) (m ((c.tc : Thread nD τ).loc main_arg1)) (y 0) (y 1)) := by
  refine (dats m 0 c).arrAt_eq_of_covers 2 _ (by decide +kernel) fun t _ y => ?_
  blk_simp
  rw [after0_2]
  obtain ⟨r, d, rfl⟩ : ∃ (r : Fin 512) (d : Fin 1024), y = ix2 r d := ⟨y 0, y 1, by ext i; fin_cases i <;> rfl⟩
  have ht := lt_N t
  refine (tile_at m c t r d (by omega) (by omega)).trans (congrArg₂ (Cert.GateInReferenceIdeal.Rows.cell (V m c main_arg0) (m ((c.tc : Thread nD τ).loc main_arg1))) (Fin.ext ?_) (Fin.ext ?_))
  · show _ = win0_2.index t 0 * 512 + 1 * r.val
    rw [(idx t).2.2]; show t.val / 8 * 512 + r.val = t.val / 8 * 512 + 1 * r.val; omega
  · show _ = win0_2.index t 1 * 1024 + 1 * d.val
    rw [(idx t).2.2]; show t.val % 8 * 1024 + d.val = t.val % 8 * 1024 + 1 * d.val; omega

end Cert.GateInIdeal.Rows
-- ==== Proof.MeetGateIn.lean ====
/- The gate's projection before the scan and its reference leave the same array. -/
module

public import proofs.«01_k».proof.Defs
public import proofs.«01_k».proof.Proof.Gen.GateIn
public import proofs.«01_k».proof.Proof.Gen.GateIn.Frame
public import proofs.«01_k».proof.Proof.OutGateIn
public import Idealize.ShloMosaic.Lib.Claim
public import Idealize.ShloMosaic.Adequacy

@[expose] public section

set_option maxRecDepth 16384

noncomputable section

namespace Cert.GateInMeet

open Idealize.ShloMosaic Idealize.ShloMosaic.TcCoe Idealize.ShloMosaic.Tactic Idealize.SL.Sem
open Cert.GateInIdeal.Gen (V)

section
open Cert.GateInIdeal Cert.GateInIdeal.Gen Cert.GateInIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = (fun y : S4096x8192.Idx => Cert.GateInReferenceIdeal.Rows.cell (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((out_eq m c).trans (by rw [V_main_arg0])), (h c).2⟩) (Cert.GateInIdeal.Value.run_blocks m ρ)
end

/-- The reference's array is the kernel's. -/
theorem meet (X : FVec Ideal Cert.GateInReferenceIdeal.S8192x2048 .bf16) (W : FVec Ideal Cert.GateInReferenceIdeal.S2x2048x10304 .f32) :
    Cert.GateInReferenceIdeal.Rows.outT X W = (fun y : Cert.GateInIdeal.S4096x8192.Idx => Cert.GateInReferenceIdeal.Rows.cell X W (y 0) (y 1)) := by
  funext y
  obtain ⟨r, d, rfl⟩ : ∃ (r : Fin 4096) (d : Fin 8192), y = ix2 r d := ⟨y 0, y 1, by ext i; fin_cases i <;> rfl⟩
  exact Cert.GateInReferenceIdeal.Rows.out_at _ _ r d

/-! ## The claims -/

theorem frame : Cert.quiescent_GateIn := fun m g _ => Cert.GateIn.Gen.frame m g
theorem frame_ideal : Cert.quiescent_GateInIdeal := fun m g _ => Cert.GateInIdeal.Gen.frame m g
theorem frame_reference : Cert.quiescent_GateInReferenceIdeal := fun m g _ =>
  (θ_run _ _ _).mono (fun r h => ⟨fun c => (h c).2, sem_eq_zero_of_no_sems rfl _⟩) (Cert.GateInReferenceIdeal.Value.run m g)

/-- The kernel's array equals the reference's, as extended reals. -/
theorem algebraic : Cert.algebraic_GateInIdeal_GateInReferenceIdeal := by
  pair_intro
  · run_from run_cells m g
  · run_from Cert.GateInReferenceIdeal.Rows.run_out m' g'
    obtain rfl : c = 0 := Subsingleton.elim _ _
    exact meet _ _

end Cert.GateInMeet
-- ==== Proof.RunConvInIdeal.lean ====
/- One point of the launch: the windows, the memrefs the body is called on, and the body run in the two cases of its test. -/
module

public import proofs.«01_k».proof.Proof.Gen.ConvInIdeal.Launch
public import proofs.«01_k».proof.Proof.Gen.ConvInIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ConvInIdeal.Run
open Cert.ConvInIdeal Cert.ConvInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-- Window 0 (operand 0 (%arg0)) is fetched at every point. -/
theorem fetch0_0 : ∀ t : Fin cfg0.N, (cfg0.win 0).fetch t = true :=
  (fun t => (Pipeline.Window.fetch_reads win0_0 rfl 1 (by decide) (by decide) (Pipeline.Window.sep_of_coord cc0_transform_0 1 0 (fun _ => rfl) (by decide)) (P := 1) (by decide) t).mpr (Nat.mod_one _) : ∀ t : Fin grid0.N, win0_0.fetch t = true)
/-- Window 1 (operand 1 (%0)) is fetched at the points ≡ 0 (mod 8). -/
theorem fetch0_1 : ∀ t : Fin cfg0.N, (cfg0.win 1).fetch t = true ↔ t.val % 8 = 0 :=
  (by decide +kernel : ∀ t : Fin grid0.N, win0_1.fetch t = true ↔ t.val % 8 = 0)
/-- Window 2 (operand 2 (%5)) is fetched at the points ≡ 0 (mod 8). -/
theorem fetch0_2 : ∀ t : Fin cfg0.N, (cfg0.win 2).fetch t = true ↔ t.val % 8 = 0 :=
  (fun t => Pipeline.Window.fetch_reads win0_2 rfl 0 (by decide) (by decide) (Pipeline.Window.sep_of_coord cc0_transform_2 0 1 (fun _ => rfl) (by decide)) (P := 8) (by decide) t : ∀ t : Fin grid0.N, win0_2.fetch t = true ↔ t.val % 8 = 0)
/-- Window 3 (result 0 (%6)) is written back at every point. -/
theorem flush0_3 : ∀ t : Fin cfg0.N, (cfg0.win 3).flush t = true :=
  (fun t => (Pipeline.Window.flush_reads win0_3 rfl 1 (by decide) (by decide) (Pipeline.Window.sep_of_coord cc0_transform_3 1 1 (fun _ => rfl) (by decide)) (P := 1) (m := 0) (by decide) rfl t).mpr (Nat.mod_one _) : ∀ t : Fin grid0.N, win0_3.flush t = true)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

abbrev bodyAt0 (t : Fin cfg0.N) : Prog (TpuEff nD τ sig (Elt F) Λ₀ .tc) PUnit :=
  cc0_ssd_inproj_conv (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)

/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight's block, as the buffer holds it. -/
def dflt0_1 : (cfg0.win 1).block.Idx → Elt F (cfg0.win 1).elt := fun _ => Classical.choice inferInstance
/-- What input window 1's current staging buffer holds when the body runs at `t`: its block read off the array,
    filled over `dflt0_1` (block-typed, where `iblk` is typed at the cut). -/
def X0_1 (c : Dev nD) (t : Fin cfg0.N) : (cfg0.win 1).block.Idx → Elt F (cfg0.win 1).elt :=
  (cfg0.win 1).fill (cfg0.grid.coords t) dflt0_1 (iblk m c 1 t)
/-- At every point the cut's extent is the block's, decided over the grid: no transfer of input window 1 is cut. -/
theorem xsize0_1 : ∀ t : Fin cfg0.N, ∀ a, (cfg0.win 1).xsize (cfg0.grid.coords t) a = (cfg0.win 1).size a := by decide +kernel
/-- Every index of input window 1's block is moved at every point. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- The weight's block, as the buffer holds it. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- An input's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = X0_1 m c t) (t : Fin cfg0.N) (d) : dat.before 1 t d = X0_1 m c t :=
  (dat.before_in_eq_fetched 1 rfl (fun _ => rfl)
      (fun t t' h => funext fun a => congrArg (fun n => Pipeline.Clip.of n ((cfg0.win 1).size a) (S2x10304x2048.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- An input's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame's statement, from a run of the launch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The body -/

abbrev VO0_3 : View sig .tc .vmem S512x1024 .f32 := (Memref.whole cc0_stg3_0 : Memref sig .tc .vmem S512x1024 .f32).view
/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev scM0_0 : Memref sig .tc .vmem S512x2048 .bf16 := Memref.whole cc0_scratch0
abbrev scM0_1 : Memref sig .tc .vmem S8x512 .f32 := Memref.whole cc0_scratch1
abbrev scM0_2 : Memref sig .tc .vmem S1032x512 .f32 := Memref.whole cc0_scratch2
abbrev VS0_0 : View sig .tc .vmem S512x2048 .bf16 := scM0_0.view
/-- The scratch `arg7` the kernel carries between points, as a view: what it holds is stated through it. -/
abbrev VS0_1 : View sig .tc .vmem S8x512 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The rows in front of the tile, at a sequence's first tile: zeros. -/
def front (i : grid0.Coords) : FVec F S8x512 .f32 := k0_pay4 i (fun _ => Scalar.ofBits .f32 0x00000000#32)

/-- At a channel block's first point the rows in front of the tile do not depend on what the kernel kept. -/
theorem front_eq (i : grid0.Coords) (h : cond0_0 i) (v : Vec F S8x512 .f32) : k0_pay4 i v = front i := by
  have key : ∀ n : Fin 8, (Scalar.cmpi .ne (Scalar.extui (Scalar.cmpi .eq (BitVec.ofNat 32 n.val) 0#32)) 0#32) = 1#1 → n.val = 0 := by decide
  have h1 : (i 1).val = 0 := key (i 1) h
  unfold front k0_pay4
  simp only [h1]
  rfl

set_option maxHeartbeats 1000000 in
/-- The body at a channel block's first point, and the stores it leaves. -/
noncomputable def kernelRun0_A (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i)
    (x0 : Vec F S1024x2048 .bf16) (x1 : Vec F S1x512x2048 .f32) (x2 : Vec F S8x512 .f32) :
    Σ' (L3 : List (View.Piece (Elt F) S512x1024 .f32)), Σ' (LS0 : List (View.Piece (Elt F) S512x2048 .bf16)), Σ' (LS1 : List (View.Piece (Elt F) S8x512 .f32)), { LT2 : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LT2)) -∗ K ⟨⟩))
          ⊢ wp frame (wpE (defs₀ (F := F)) Variants.none c none) E (cc0_ssd_inproj_conv i arg2 harg2 arg3 harg3 arg4 harg4 arg5 harg5 arg6 harg6 arg7 harg7 arg8 harg8) K } := by
  refine ⟨?_, ?_, ?_, ?_, fun E K => ?run⟩
  case run =>
    simp only [cc0_ssd_inproj_conv_eq_skeleton]; unfold cc0_ssd_inproj_conv_skel
    simp only [k0_part1_eq_skeleton, k0_part2_eq_skeleton, k0_part3_eq_skeleton, k0_part4_eq_skeleton]
    unfold k0_part1_skel
    simp -zeta only [front_eq i hc0]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

set_option maxHeartbeats 1000000 in
/-- The body at any other point, and the stores it leaves. -/
noncomputable def kernelRun0_B (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i)
    (x0 : Vec F S1024x2048 .bf16) (x1 : Vec F S1x512x2048 .f32) (x2 : Vec F S8x512 .f32) (xs0 : Vec F S512x2048 .bf16) (xs1 : Vec F S8x512 .f32) :
    Σ' (L3 : List (View.Piece (Elt F) S512x1024 .f32)), Σ' (LS0 : List (View.Piece (Elt F) S512x2048 .bf16)), Σ' (LS1 : List (View.Piece (Elt F) S8x512 .f32)), { LT2 : List (View.Piece (Elt F) S1032x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LT2)) -∗ K ⟨⟩))
          ⊢ wp frame (wpE (defs₀ (F := F)) Variants.none c none) E (cc0_ssd_inproj_conv i arg2 harg2 arg3 harg3 arg4 harg4 arg5 harg5 arg6 harg6 arg7 harg7 arg8 harg8) K } := by
  refine ⟨?_, [], ?_, ?_, fun E K => ?run⟩
  case run =>
    simp only [cc0_ssd_inproj_conv_eq_skeleton]; unfold cc0_ssd_inproj_conv_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]; · iexists _; iexact HS1
    iexists _; iexact HS2

end Cert.ConvInIdeal.Run

end
-- ==== Proof.FrameConvInIdeal.lean ====
/- The launch, point by point: what each point leaves, the body at a point, the run, and the frame. -/
module

public import proofs.«01_k».proof.Proof.RunConvInIdeal

@[expose] public section

set_option maxRecDepth 16384

noncomputable section

namespace Cert.ConvInIdeal.Run
open Cert.ConvInIdeal Cert.ConvInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores cover the tile. -/
theorem cover0_A_3 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i)
    (x0 : Vec F S1024x2048 .bf16) (x1 : Vec F S1x512x2048 .f32) (x2 : Vec F S8x512 .f32) (y : S512x1024.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S512x256.size (by sl_kernel_rfl) y

/-- What the case leaves in the output's buffer. -/
def out0_A_3 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i)
    (x0 : Vec F S1024x2048 .bf16) (x1 : Vec F S1x512x2048 .f32) (x2 : Vec F S8x512 .f32) : Vec F S512x1024 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- The stores cover the scratch. -/
theorem scover0_A_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i)
    (x0 : Vec F S1024x2048 .bf16) (x1 : Vec F S1x512x2048 .f32) (x2 : Vec F S8x512 .f32) (y : S512x2048.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S512x2048.size (by sl_kernel_rfl) y

/-- What the case leaves in the scratch. -/
def sout0_A_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i)
    (x0 : Vec F S1024x2048 .bf16) (x1 : Vec F S1x512x2048 .f32) (x2 : Vec F S8x512 .f32) : Vec F S512x2048 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2).2.1)

/-- The stores cover the scratch. -/
theorem scover0_A_1 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i)
    (x0 : Vec F S1024x2048 .bf16) (x1 : Vec F S1x512x2048 .f32) (x2 : Vec F S8x512 .f32) (y : S8x512.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S8x512.size (by sl_kernel_rfl) y

/-- What the case leaves in the scratch. -/
def sout0_A_1 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i)
    (x0 : Vec F S1024x2048 .bf16) (x1 : Vec F S1x512x2048 .f32) (x2 : Vec F S8x512 .f32) : Vec F S8x512 .f32 :=
  VS0_1.read (Elt F) (VS0_1.writes (Elt F) VS0_1.junk (kernelRun0_A c i arg2 harg2 arg3 harg3 arg4 harg4 arg5 harg5 arg6 harg6 arg7 harg7 arg8 harg8 hc0 x0 x1 x2).2.2.1)

/-- The stores cover the tile. -/
theorem cover0_B_3 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i)
    (x0 : Vec F S1024x2048 .bf16) (x1 : Vec F S1x512x2048 .f32) (x2 : Vec F S8x512 .f32) (xs0 : Vec F S512x2048 .bf16) (xs1 : Vec F S8x512 .f32) (y : S512x1024.Idx) :
    ∃ pc ∈ (kernelRun0_B c i arg2 harg2 arg3 harg3 arg4 harg4 arg5 harg5 arg6 harg6 arg7 harg7 arg8 harg8 hc0 x0 x1 x2 xs0 xs1).1, y ∈ pc.1.set :=
  View.cover_of_tiledL (kernelRun0_B c i arg2 harg2 arg3 harg3 arg4 harg4 arg5 harg5 arg6 harg6 arg7 harg7 arg8 harg8 hc0 x0 x1 x2 xs0 xs1).1 S512x256.size (by sl_kernel_rfl) y

/-- What the case leaves in the output's buffer. -/
def out0_B_3 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i)
    (x0 : Vec F S1024x2048 .bf16) (x1 : Vec F S1x512x2048 .f32) (x2 : Vec F S8x512 .f32) (xs0 : Vec F S512x2048 .bf16) (xs1 : Vec F S8x512 .f32) : Vec F S512x1024 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xs0 xs1).1)

/-- What the case leaves in the scratch. -/
def sout0_B_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i)
    (x0 : Vec F S1024x2048 .bf16) (x1 : Vec F S1x512x2048 .f32) (x2 : Vec F S8x512 .f32) (xs0 : Vec F S512x2048 .bf16) (xs1 : Vec F S8x512 .f32) : Vec F S512x2048 .bf16 := xs0

/-- The stores cover the scratch. -/
theorem scover0_B_1 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i)
    (x0 : Vec F S1024x2048 .bf16) (x1 : Vec F S1x512x2048 .f32) (x2 : Vec F S8x512 .f32) (xs0 : Vec F S512x2048 .bf16) (xs1 : Vec F S8x512 .f32) (y : S8x512.Idx) :
    ∃ pc ∈ (kernelRun0_B c i arg2 harg2 arg3 harg3 arg4 harg4 arg5 harg5 arg6 harg6 arg7 harg7 arg8 harg8 hc0 x0 x1 x2 xs0 xs1).2.2.1, y ∈ pc.1.set :=
  View.cover_of_tiledL (kernelRun0_B c i arg2 harg2 arg3 harg3 arg4 harg4 arg5 harg5 arg6 harg6 arg7 harg7 arg8 harg8 hc0 x0 x1 x2 xs0 xs1).2.2.1 S8x512.size (by sl_kernel_rfl) y

/-- What the case leaves in the scratch. -/
def sout0_B_1 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i)
    (x0 : Vec F S1024x2048 .bf16) (x1 : Vec F S1x512x2048 .f32) (x2 : Vec F S8x512 .f32) (xs0 : Vec F S512x2048 .bf16) (xs1 : Vec F S8x512 .f32) : Vec F S8x512 .f32 :=
  VS0_1.read (Elt F) (VS0_1.writes (Elt F) VS0_1.junk (kernelRun0_B c i arg2 harg2 arg3 harg3 arg4 harg4 arg5 harg5 arg6 harg6 arg7 harg7 arg8 harg8 hc0 x0 x1 x2 xs0 xs1).2.2.1)

/-! ## What the outputs hold after each point -/

/-- What the output's buffer and the kept scratches hold after a point. -/
def outsAt0 (c : Dev nD) : (n : ℕ) → n < cfg0.N → Vec F S512x1024 .f32 × Vec F S512x2048 .bf16 × Vec F S8x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (X0_1 m c ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (X0_1 m c ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (X0_1 m c ⟨0, hn⟩) (iblk m c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (X0_1 m c ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (X0_1 m c ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (X0_1 m c ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (X0_1 m c ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (X0_1 m c ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (X0_1 m c ⟨n + 1, hn⟩) (iblk m c 2 ⟨n + 1, hn⟩) (outsAt0 c n (Nat.lt_of_succ_lt hn)).2.1 (outsAt0 c n (Nat.lt_of_succ_lt hn)).2.2)

/-- What the output's buffer and the kept scratches hold after a point. -/
theorem outsAt0_A (c : Dev nD) (t : Fin cfg0.N) (h0 : t.val % 8 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (X0_1 m c t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (X0_1 m c t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (X0_1 m c t) (iblk m c 2 t)) := by
  obtain ⟨n, hn⟩ := t
  cases n with
  | zero => exact rfl
  | succ n => exact (dif_pos h0).trans rfl

/-- What the output's buffer and the kept scratches hold after a point. -/
theorem outsAt0_B (c : Dev nD) (t : Fin cfg0.N) (h0 : ¬t.val % 8 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (X0_1 m c t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (X0_1 m c t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (X0_1 m c t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- Before a point: the kept scratches hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- The invariant at a point's end. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

/-- The invariant before any other point. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

/-! ## The pipeline's proof data -/

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => (outsAt0 m c t.val t.isLt).1
  Φ t := PhiS m c t.val (Nat.le_of_lt_succ t.isLt)
  q _ := fullShare
  owed _ := 0

/-- The arrays of the proof data are the ones the launch starts from. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in a window. -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body gives back at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- The body at any point gives back what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 96 := lt_of_lt_of_eq t.isLt (show cfg0.N = 96 from N_0)
  by_cases h0 : t.val % 8 = 0
  · by_cases hz : t.val = 0
    · rw [PhiS_castSucc m c t, PhiS_zero m c _ _ hz, PhiA0_eq]
      rw [outsAt0_A m c t h0]
      unfold out0_A_3 sout0_A_0 sout0_A_1; (try dsimp only)
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (X0_1 m c t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
    · rw [PhiS_castSucc m c t, PhiS_pos m c _ _ hz]
      rw [outsAt0_A m c t h0]
      unfold out0_A_3 sout0_A_0 sout0_A_1; (try dsimp only)
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (iblk m c 0 t) (X0_1 m c t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexact HS2
      iintro ⟨H0, H1, H2, ⟨%e3, H3⟩, ⟨%es0, HS0⟩, ⟨%es1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _)
  · by_cases hz : t.val = 0
    · exfalso; have hN : t.val < 96 := lt_of_lt_of_eq t.isLt (show cfg0.N = 96 from N_0); omega
    · rw [PhiS_castSucc m c t, PhiS_pos m c _ _ hz]
      rw [outsAt0_B m c t h0]
      unfold out0_B_3 sout0_B_0 sout0_B_1; (try dsimp only)
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (iblk m c 0 t) (X0_1 m c t) (iblk m c 2 t) _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, ⟨%es1, HS1⟩, ⟨%fT2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _)
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _ _ _)

/-- The body of a point, on the point's memrefs. -/
theorem defs₀_row (t : Fin cfg0.N) :
    defs₀ (F := F) .tc cfg0.body (cfg0.bodyArgs t (cfg0.slots t)) = bodyAt0 t := by
  unfold defs₀; rw [Defs.onTc_tc]

/-- The same as the launch asks it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch starts with the invariant of the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the contents of the scratches may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

set_option backward.isDefEq.respectTransparency.types false in
/-- The whole launch, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole launch. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the launch ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ConvInIdeal.Run

end
-- ==== Proof.RefConvIn.lean ====
/- The reference of the projection before the convolution, and of the convolution, read at an entry. -/
module

public import proofs.«01_k».proof.Proof.Gen.ConvInReferenceIdeal
public import proofs.«01_k».proof.Proof.Gen.ConvInReferenceIdeal.Run
public import Idealize.ShloMosaic.Lib.Pipeline.ValueKit

@[expose] public section

set_option maxRecDepth 16384

noncomputable section

namespace Cert.ConvInReferenceIdeal.Rows

open Cert.ConvInReferenceIdeal Cert.ConvInReferenceIdeal.Gen Cert.ConvInReferenceIdeal.Value
open Idealize.ShloMosaic Idealize.ShloMosaic.TcCoe Idealize.ShloMosaic.Tactic Idealize.ShloMosaic.StableHlo

/-- The sigmoid-weighted value. -/
def silu (z : EReal) : EReal := z * Ideal.div 1 (1 + Ideal.exp (-z))

/-- Channel `r` of token `d`, projected. -/
def proj (X : FVec Ideal S8192x2048 .bf16) (W : FVec Ideal S2x2048x10304 .f32) (r : Fin 6144) (d : Fin 8192) : EReal :=
  ∑ k : Fin 2048, (X (ix2 d k) : EReal) * W (ix3 (0 : Fin 2) k (⟨4096 + r.val, by omega⟩ : Fin 10304))

/-- Channel `r` of the token `3 - j` before token `d`, or zero before the sequence's first. -/
def past (X : FVec Ideal S8192x2048 .bf16) (W : FVec Ideal S2x2048x10304 .f32) (r : Fin 6144) (d : Fin 8192) (j : Fin 4) : EReal :=
  if h : d.val % 4096 + j.val < 3 then 0 else proj X W r ⟨d.val + j.val - 3, by omega⟩

/-- The convolution and its bias, before the nonlinearity. -/
def lin (X : FVec Ideal S8192x2048 .bf16) (W : FVec Ideal S2x2048x10304 .f32) (C : FVec Ideal S4x6144 .f32) (B : FVec Ideal S6144 .f32) (r : Fin 6144) (d : Fin 8192) : EReal :=
  ((((past X W r d 0 * C (ix2 (0 : Fin 4) r)) + past X W r d 1 * C (ix2 (1 : Fin 4) r)) + past X W r d 2 * C (ix2 (2 : Fin 4) r)) + past X W r d 3 * C (ix2 (3 : Fin 4) r)) + B (ix1 r)

/-- One entry of the result. -/
def cell (X : FVec Ideal S8192x2048 .bf16) (W : FVec Ideal S2x2048x10304 .f32) (C : FVec Ideal S4x6144 .f32) (B : FVec Ideal S6144 .f32) (r : Fin 6144) (d : Fin 8192) : EReal := silu (lin X W C B r d)

/-- The projection, by sequence. -/
def projT (X : FVec Ideal S8192x2048 .bf16) (W : FVec Ideal S2x2048x10304 .f32) : FVec Ideal S2x4096x6144 .f32 :=
  (shapeCast _ (Host.dotGeneral dot_S8192x2048_S2048x6144_S8192x6144_1_0_0_1_n_n none (extf .f32 X bitsLt_bf16_f32) (extractStridedSlice S2048x6144 ![0, 4096] (shapeCast _ (extractStridedSlice S1x2048x10304 ![0, 0, 0] W slices_S2x2048x10304_S1x2048x10304_0_0_0) shapeCasts_S1x2048x10304_S2048x10304) slices_S2048x10304_S2048x6144_0_4096)) shapeCasts_S8192x6144_S2x4096x6144)

/-- Three rows of zeros before each sequence. -/
def padT (X : FVec Ideal S8192x2048 .bf16) (W : FVec Ideal S2x2048x10304 .f32) : FVec Ideal S2x4099x6144 .f32 :=
  (concatenate S2x4099x6144 1 [⟨S2x3x6144, (broadcastInDim S2x3x6144 ![] bcast_S_S2x3x6144 (constant S_ .f32 0x00000000#32))⟩, ⟨S2x4096x6144, (projT X W)⟩] concatenates_S2x3x6144_S2x4096x6144_S2x4099x6144_d1)

/-- The convolution. -/
def linT (X : FVec Ideal S8192x2048 .bf16) (W : FVec Ideal S2x2048x10304 .f32) (C : FVec Ideal S4x6144 .f32) (B : FVec Ideal S6144 .f32) : FVec Ideal S2x4096x6144 .f32 :=
  (addf (addf (addf (addf (addf (broadcastInDim S2x4096x6144 ![] bcast_S_S2x4096x6144 (constant S_ .f32 0x00000000#32)) (mulf (extractStridedSlice S2x4096x6144 ![0, 0, 0] (padT X W) slices_S2x4099x6144_S2x4096x6144_0_0_0) (broadcastInDim S2x4096x6144 ![0, 1, 2] bcast_S1x1x6144_S2x4096x6144_0_1_2 (broadcastInDim S1x1x6144 ![2] bcast_S6144_S1x1x6144_2 (shapeCast _ (extractStridedSlice S1x6144 ![0, 0] C slices_S4x6144_S1x6144_0_0) shapeCasts_S1x6144_S6144))))) (mulf (extractStridedSlice S2x4096x6144 ![0, 1, 0] (padT X W) slices_S2x4099x6144_S2x4096x6144_0_1_0) (broadcastInDim S2x4096x6144 ![0, 1, 2] bcast_S1x1x6144_S2x4096x6144_0_1_2 (broadcastInDim S1x1x6144 ![2] bcast_S6144_S1x1x6144_2 (shapeCast _ (extractStridedSlice S1x6144 ![1, 0] C slices_S4x6144_S1x6144_1_0) shapeCasts_S1x6144_S6144))))) (mulf (extractStridedSlice S2x4096x6144 ![0, 2, 0] (padT X W) slices_S2x4099x6144_S2x4096x6144_0_2_0) (broadcastInDim S2x4096x6144 ![0, 1, 2] bcast_S1x1x6144_S2x4096x6144_0_1_2 (broadcastInDim S1x1x6144 ![2] bcast_S6144_S1x1x6144_2 (shapeCast _ (extractStridedSlice S1x6144 ![2, 0] C slices_S4x6144_S1x6144_2_0) shapeCasts_S1x6144_S6144))))) (mulf (extractStridedSlice S2x4096x6144 ![0, 3, 0] (padT X W) slices_S2x4099x6144_S2x4096x6144_0_3_0) (broadcastInDim S2x4096x6144 ![0, 1, 2] bcast_S1x1x6144_S2x4096x6144_0_1_2 (broadcastInDim S1x1x6144 ![2] bcast_S6144_S1x1x6144_2 (shapeCast _ (extractStridedSlice S1x6144 ![3, 0] C slices_S4x6144_S1x6144_3_0) shapeCasts_S1x6144_S6144))))) (broadcastInDim S2x4096x6144 ![0, 1, 2] bcast_S1x1x6144_S2x4096x6144_0_1_2 (broadcastInDim S1x1x6144 ![2] bcast_S6144_S1x1x6144_2 B)))

/-- The reference's array. -/
def outT (X : FVec Ideal S8192x2048 .bf16) (W : FVec Ideal S2x2048x10304 .f32) (C : FVec Ideal S4x6144 .f32) (B : FVec Ideal S6144 .f32) : FVec Ideal S6144x8192 .f32 :=
  transpose S6144x8192 [1, 0] (shapeCast _ (mulf (linT X W C B) (Host.divf (broadcastInDim S2x4096x6144 ![] bcast_S_S2x4096x6144 (constant S_ .f32 0x3F800000#32)) (addf (broadcastInDim S2x4096x6144 ![] bcast_S_S2x4096x6144 (constant S_ .f32 0x3F800000#32)) (Host.exp (Host.negf (linT X W C B)))))) shapeCasts_S2x4096x6144_S8192x6144) transposes_S8192x6144_S6144x8192_1_0

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = outT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

theorem projT_at (X : FVec Ideal S8192x2048 .bf16) (W : FVec Ideal S2x2048x10304 .f32) (s : Fin 2) (d : Fin 4096) (r : Fin 6144) :
    projT X W (ix3 s d r) = proj X W r ⟨s.val * 4096 + d.val, by omega⟩ := by
  pointwise [projT]
  rfl

theorem padT_at (X : FVec Ideal S8192x2048 .bf16) (W : FVec Ideal S2x2048x10304 .f32) (s : Fin 2) (d : Fin 4099) (r : Fin 6144) :
    padT X W (ix3 s d r) = if h : d.val < 3 then 0 else proj X W r ⟨s.val * 4096 + (d.val - 3), by omega⟩ := by
  pointwise [padT]
  split
  · rfl
  · next h => exact projT_at X W s ⟨d.val - 3, by omega⟩ r

theorem padT_past (X : FVec Ideal S8192x2048 .bf16) (W : FVec Ideal S2x2048x10304 .f32) (s : Fin 2) (d : Fin 4096) (j : Fin 4) (r : Fin 6144) :
    padT X W (ix3 s (⟨d.val + j.val, by omega⟩ : Fin 4099) r) = past X W r ⟨s.val * 4096 + d.val, by omega⟩ j := by
  rw [padT_at]
  unfold past
  have e : (s.val * 4096 + d.val) % 4096 = d.val := by omega
  by_cases h : d.val + j.val < 3
  · rw [dif_pos h, dif_pos (by show (s.val * 4096 + d.val) % 4096 + j.val < 3; omega)]
  · rw [dif_neg h, dif_neg (by show ¬ (s.val * 4096 + d.val) % 4096 + j.val < 3; omega)]
    congr 1
    ext
    show s.val * 4096 + (d.val + j.val - 3) = s.val * 4096 + d.val + j.val - 3
    omega

theorem linT_at (X : FVec Ideal S8192x2048 .bf16) (W : FVec Ideal S2x2048x10304 .f32) (C : FVec Ideal S4x6144 .f32) (B : FVec Ideal S6144 .f32) (s : Fin 2) (d : Fin 4096) (r : Fin 6144) :
    linT X W C B (ix3 s d r) = lin X W C B r ⟨s.val * 4096 + d.val, by omega⟩ := by
  have key : ∀ (n : ℕ) (hn : n < 4099) (j : Fin 4), n = d.val + j.val → padT X W (ix3 s (⟨n, hn⟩ : Fin 4099) r) = past X W r ⟨s.val * 4096 + d.val, by omega⟩ j := by
    rintro n hn j rfl
    exact padT_past X W s d j r
  have sum : ∀ a b e f a' b' e' f' p q u v w : EReal, a = a' → b = b' → e = e' → f = f' → (((a * p + b * q) + e * u) + f * v) + w = (((a' * p + b' * q) + e' * u) + f' * v) + w := by
    rintro a b e f a' b' e' f' p q u v w rfl rfl rfl rfl
    rfl
  unfold lin
  pointwise [linT]
  exact sum _ _ _ _ _ _ _ _ _ _ _ _ _ (key _ _ 0 (by show d.val = d.val + 0; omega)) (key _ _ 1 (by show 1 + d.val = d.val + 1; omega)) (key _ _ 2 (by show 2 + d.val = d.val + 2; omega)) (key _ _ 3 (by show 3 + d.val = d.val + 3; omega))

theorem out_at (X : FVec Ideal S8192x2048 .bf16) (W : FVec Ideal S2x2048x10304 .f32) (C : FVec Ideal S4x6144 .f32) (B : FVec Ideal S6144 .f32) (r : Fin 6144) (d : Fin 8192) : outT X W C B (ix2 r d) = cell X W C B r d := by
  have e := linT_at X W C B (⟨d.val / 4096, by omega⟩ : Fin 2) (⟨d.val % 4096, by omega⟩ : Fin 4096) r
  have ed : (⟨d.val / 4096 * 4096 + d.val % 4096, by omega⟩ : Fin 8192) = d := Fin.ext (by show d.val / 4096 * 4096 + d.val % 4096 = d.val; omega)
  rw [show (⟨(⟨d.val / 4096, by omega⟩ : Fin 2).val * 4096 + (⟨d.val % 4096, by omega⟩ : Fin 4096).val, by omega⟩ : Fin 8192) = d from ed] at e
  pointwise [outT]
  exact congrArg silu e

end Cert.ConvInReferenceIdeal.Rows
-- ==== Proof.PadConvIn.lean ====
/- The projection before the convolution: the rows a point holds, and what it computes from them. -/
module

public import proofs.«01_k».proof.Proof.Gen.ConvInIdeal
public import proofs.«01_k».proof.Proof.Gen.ConvInIdeal.Skeleton
public import proofs.«01_k».proof.Proof.RefConvIn
public import Idealize.ShloMosaic.Lib.Pipeline.ValueKit
public import Idealize.ShloMosaic.Lib.Pipeline.Covers
public import Idealize.ShloMosaic.Lib.VecWindow

@[expose] public section

set_option maxRecDepth 16384

noncomputable section

namespace Cert.ConvInIdeal.Rows

open Cert.ConvInIdeal Cert.ConvInIdeal.Gen
open Idealize.ShloMosaic Idealize.ShloMosaic.TcCoe Idealize.ShloMosaic.Tactic

/-! ## The payloads, read at an entry -/

/-- The convolution at channel `r` of a block of channels, and its bias: the taps are rows 0 to 3 of `cw`, the bias row 4. -/
def conv (cw : FVec Ideal S8x512 .f32) (r : Fin 512) (p0 p1 p2 p3 : EReal) : EReal :=
  (((cw (ix2 (4 : Fin 8) r) + cw (ix2 (3 : Fin 8) r) * p3) + cw (ix2 (0 : Fin 8) r) * p0) + cw (ix2 (1 : Fin 8) r) * p1) + cw (ix2 (2 : Fin 8) r) * p2

theorem pay10_at (cw : FVec Ideal S8x512 .f32) (w : FVec Ideal S512x2048 .bf16) (x : FVec Ideal S256x2048 .bf16) (p0 p1 p2 : FVec Ideal S256x512 .f32) (r : Fin 512) (d : Fin 256) :
    (k0_pay10 (F := Ideal) (k0_pay5 cw) (k0_pay8 cw) (k0_pay9 cw x w) p0 p1 p2 : FVec Ideal S512x256 .f32) (ix2 r d)
      = Cert.ConvInReferenceIdeal.Rows.silu (conv cw r (p0 (ix2 d r)) (p1 (ix2 d r)) (p2 (ix2 d r)) (∑ k : Fin 2048, (x (ix2 d k) : EReal) * w (ix2 r k))) := by
  pointwise [k0_pay10, k0_pay5, k0_pay8, k0_pay9, k0_pay6]
  rw [zero_sub]
  rfl

theorem pay15_at (cw : FVec Ideal S8x512 .f32) (w : FVec Ideal S512x2048 .bf16) (x : FVec Ideal S256x2048 .bf16) (p0 p1 p2 : FVec Ideal S256x512 .f32) (r : Fin 512) (d : Fin 256) :
    (k0_pay15 (F := Ideal) (k0_pay5 cw) (k0_pay13 (k0_pay5 cw) x w) (k0_pay14 (k0_pay5 cw)) p0 p1 p2 : FVec Ideal S512x256 .f32) (ix2 r d)
      = Cert.ConvInReferenceIdeal.Rows.silu (conv cw r (p0 (ix2 d r)) (p1 (ix2 d r)) (p2 (ix2 d r)) (∑ k : Fin 2048, (x (ix2 d k) : EReal) * w (ix2 r k))) := by
  pointwise [k0_pay15, k0_pay5, k0_pay13, k0_pay14, k0_pay11]
  rw [zero_sub]
  rfl

theorem pay20_at (cw : FVec Ideal S8x512 .f32) (w : FVec Ideal S512x2048 .bf16) (x : FVec Ideal S256x2048 .bf16) (p0 p1 p2 : FVec Ideal S256x512 .f32) (r : Fin 512) (d : Fin 256) :
    (k0_pay20 (F := Ideal) (k0_pay5 cw) (k0_pay18 (k0_pay5 cw) x w) (k0_pay19 (k0_pay5 cw)) p0 p1 p2 : FVec Ideal S512x256 .f32) (ix2 r d)
      = Cert.ConvInReferenceIdeal.Rows.silu (conv cw r (p0 (ix2 d r)) (p1 (ix2 d r)) (p2 (ix2 d r)) (∑ k : Fin 2048, (x (ix2 d k) : EReal) * w (ix2 r k))) := by
  pointwise [k0_pay20, k0_pay5, k0_pay18, k0_pay19, k0_pay16]
  rw [zero_sub]
  rfl

theorem pay1_at (cw : FVec Ideal S8x512 .f32) (w : FVec Ideal S512x2048 .bf16) (x : FVec Ideal S256x2048 .bf16) (p0 p1 p2 : FVec Ideal S256x512 .f32) (r : Fin 512) (d : Fin 256) :
    (k0_pay1 (F := Ideal) (k0_pay5 cw) (k0_pay23 (k0_pay5 cw) x w p0) p1 p2 : FVec Ideal S512x256 .f32) (ix2 r d)
      = Cert.ConvInReferenceIdeal.Rows.silu (conv cw r (p0 (ix2 d r)) (p1 (ix2 d r)) (p2 (ix2 d r)) (∑ k : Fin 2048, (x (ix2 d k) : EReal) * w (ix2 r k))) := by
  pointwise [k0_pay1, k0_pay5, k0_pay23, k0_pay21]
  rw [zero_sub]
  rfl

theorem pay7_at (w : FVec Ideal S512x2048 .bf16) (x : FVec Ideal S256x2048 .bf16) (d : Fin 256) (r : Fin 512) :
    (k0_pay7 (F := Ideal) x w : FVec Ideal S256x512 .f32) (ix2 d r) = ∑ k : Fin 2048, (x (ix2 d k) : EReal) * w (ix2 r k) := by
  pointwise [k0_pay7, k0_pay6]

theorem pay12_at (w : FVec Ideal S512x2048 .bf16) (x : FVec Ideal S256x2048 .bf16) (d : Fin 256) (r : Fin 512) :
    (k0_pay12 (F := Ideal) x w : FVec Ideal S256x512 .f32) (ix2 d r) = ∑ k : Fin 2048, (x (ix2 d k) : EReal) * w (ix2 r k) := by
  pointwise [k0_pay12, k0_pay11]

theorem pay17_at (w : FVec Ideal S512x2048 .bf16) (x : FVec Ideal S256x2048 .bf16) (d : Fin 256) (r : Fin 512) :
    (k0_pay17 (F := Ideal) x w : FVec Ideal S256x512 .f32) (ix2 d r) = ∑ k : Fin 2048, (x (ix2 d k) : EReal) * w (ix2 r k) := by
  pointwise [k0_pay17, k0_pay16]

theorem pay22_at (w : FVec Ideal S512x2048 .bf16) (x : FVec Ideal S256x2048 .bf16) (d : Fin 256) (r : Fin 512) :
    (k0_pay22 (F := Ideal) x w : FVec Ideal S256x512 .f32) (ix2 d r) = ∑ k : Fin 2048, (x (ix2 d k) : EReal) * w (ix2 r k) := by
  pointwise [k0_pay22, k0_pay21]

theorem pay2_at (v : FVec Ideal S8x512 .f32) (y : S8x512.Idx) : (k0_pay2 (F := Ideal) v : FVec Ideal S8x512 .f32) y = v y := by
  obtain ⟨a, r, rfl⟩ : ∃ (a : Fin 8) (r : Fin 512), y = ix2 a r := ⟨y 0, y 1, by ext i; fin_cases i <;> rfl⟩
  pointwise [k0_pay2]

/-- The cast weight, at an entry. -/
theorem pay3_at (w : FVec Ideal S1x512x2048 .f32) (r : Fin 512) (k : Fin 2048) : (k0_pay3 (F := Ideal) w : FVec Ideal S512x2048 .bf16) (ix2 r k) = w (ix3 (0 : Fin 1) r k) := by
  pointwise [k0_pay3]

/-! ## The rows a point holds -/

/-- Channel `r` of token `d` of a tile. -/
def dotRow (w : FVec Ideal S512x2048 .bf16) (x : FVec Ideal S1024x2048 .bf16) (r : Fin 512) (d : Fin 1024) : EReal :=
  ∑ k : Fin 2048, (x (ix2 d k) : EReal) * w (ix2 r k)

/-- Eight rows from before the tile, then the tile's own. -/
def padded (f : FVec Ideal S8x512 .f32) (w : FVec Ideal S512x2048 .bf16) (x : FVec Ideal S1024x2048 .bf16) : FVec Ideal S1032x512 .f32 := fun y =>
  if h : (y 0).val < 8 then f (ix2 (⟨(y 0).val, h⟩ : Fin 8) (y 1))
  else dotRow w x (y 1) ⟨(y 0).val - 8, by have : (y 0).val < 1032 := (y 0).isLt; omega⟩

theorem padded_front (f w x) (a : Fin 1032) (h : a.val < 8) (r : Fin 512) : padded f w x (ix2 a r) = f (ix2 (⟨a.val, h⟩ : Fin 8) r) := dif_pos h

theorem padded_own (f w x) (a : Fin 1032) (h : ¬ a.val < 8) (r : Fin 512) : padded f w x (ix2 a r) = dotRow w x r ⟨a.val - 8, by omega⟩ := dif_neg h

/-- One entry of the tile. -/
def tileT (cw f : FVec Ideal S8x512 .f32) (w : FVec Ideal S512x2048 .bf16) (x : FVec Ideal S1024x2048 .bf16) : FVec Ideal S512x1024 .f32 := fun y =>
  Cert.ConvInReferenceIdeal.Rows.silu (conv cw (y 0)
    (padded f w x (ix2 (⟨(y 1).val + 5, by have : (y 1).val < 1024 := (y 1).isLt; omega⟩ : Fin 1032) (y 0)))
    (padded f w x (ix2 (⟨(y 1).val + 6, by have : (y 1).val < 1024 := (y 1).isLt; omega⟩ : Fin 1032) (y 0)))
    (padded f w x (ix2 (⟨(y 1).val + 7, by have : (y 1).val < 1024 := (y 1).isLt; omega⟩ : Fin 1032) (y 0)))
    (dotRow w x (y 0) (y 1)))

section
variable (f : FVec Ideal S8x512 .f32) (w : FVec Ideal S512x2048 .bf16) (x : FVec Ideal S1024x2048 .bf16)

theorem front_piece (inb) (z : S8x512.Idx) : f z = padded f w x ((Rect.unit (s := S1032x512) ![0, 0] ![8, 512] inb).emb z) := by
  obtain ⟨a, r, rfl⟩ : ∃ (a : Fin 8) (r : Fin 512), z = ix2 a r := ⟨z 0, z 1, by ext i; fin_cases i <;> rfl⟩
  have e : (Rect.unit (s := S1032x512) ![0, 0] ![8, 512] inb).emb (ix2 a r) = ix2 (⟨a.val, by omega⟩ : Fin 1032) r := by
    ext i
    fin_cases i
    · show 0 + 1 * a.val = a.val; omega
    · show 0 + 1 * r.val = r.val; omega
  rw [e, padded_front _ _ _ _ a.isLt]

theorem row_piece (off o : ℕ) (ho : o = off + 8) (hoff : off ≤ 768) (inb) (xs : FVec Ideal S256x2048 .bf16) (hxs : ∀ (d : Fin 256) (k : Fin 2048), xs (ix2 d k) = x (ix2 (⟨off + d.val, by omega⟩ : Fin 1024) k))
    (v : FVec Ideal S256x512 .f32) (hv : ∀ (d : Fin 256) (r : Fin 512), v (ix2 d r) = ∑ k : Fin 2048, (xs (ix2 d k) : EReal) * w (ix2 r k)) (z : S256x512.Idx) :
    v z = padded f w x ((Rect.unit (s := S1032x512) ![o, 0] ![256, 512] inb).emb z) := by
  obtain ⟨d, r, rfl⟩ : ∃ (d : Fin 256) (r : Fin 512), z = ix2 d r := ⟨z 0, z 1, by ext i; fin_cases i <;> rfl⟩
  have e : (Rect.unit (s := S1032x512) ![o, 0] ![256, 512] inb).emb (ix2 d r) = ix2 (⟨o + d.val, by omega⟩ : Fin 1032) r := by
    ext i
    fin_cases i
    · show o + 1 * d.val = o + d.val; omega
    · show 0 + 1 * r.val = r.val; omega
  rw [e, padded_own _ _ _ _ (by show ¬ o + d.val < 8; omega), hv]
  unfold dotRow
  refine Finset.sum_congr rfl fun k _ => ?_
  rw [hxs]
  refine congrArg (fun a => (x (ix2 a k) : EReal) * w (ix2 r k)) (Fin.ext ?_)
  show off + d.val = o + d.val - 8
  omega

/-- A load of rows that the stores before it cover. -/
theorem load_at (m : Memref sig .tc .vmem S1032x512 .f32) (L : List (View.Piece (Elt Ideal) S1032x512 .f32))
    (hL : ∀ p ∈ L, ∀ z : p.1.shape.Idx, p.2 z = padded f w x (p.1.emb z)) (off n : ℕ) (inb) (hn : off + n ≤ 1032)
    (hcov : ∀ y : S1032x512.Idx, off ≤ (y 0).val → (y 0).val < off + n → ∃ p ∈ L, y ∈ p.1.set) (d : Fin n) (r : Fin 512) :
    (m.view.readCov (Val := Elt Ideal) L (Rect.unit (s := S1032x512) ![off, 0] ![n, 512] inb).toLoadRect : (⟨2, ![n, 512]⟩ : Shape).Idx → EReal) (ix2 d r)
      = padded f w x (ix2 (⟨off + d.val, by omega⟩ : Fin 1032) r) := by
  rw [View.readCov_eq_canon']
  have e : (Rect.unit (s := S1032x512) ![off, 0] ![n, 512] inb).toLoadRect.idx (ix2 d r) = ix2 (⟨off + d.val, by omega⟩ : Fin 1032) r := by
    ext i
    fin_cases i
    · show off + 1 * d.val = off + d.val; omega
    · show 0 + 1 * r.val = r.val; omega
  refine (congrArg (View.canon L) e).trans ?_
  exact View.canon_apply_of_pieces (Val := Elt Ideal) (S := S1032x512) (e := .f32) (padded f w x) L hL _ (hcov _ (by show off ≤ off + d.val; omega) (by show off + d.val < off + n; omega))

/-- A piece of 256 columns of the tile. -/
theorem piece_at (cw : FVec Ideal S8x512 .f32) (off : ℕ) (hoff : off ≤ 768) (inb') (xs : FVec Ideal S256x2048 .bf16)
    (hxs : ∀ (d : Fin 256) (k : Fin 2048), xs (ix2 d k) = x (ix2 (⟨off + d.val, by omega⟩ : Fin 1024) k))
    (p0 p1 p2 : FVec Ideal S256x512 .f32)
    (h0 : ∀ (d : Fin 256) (r : Fin 512), p0 (ix2 d r) = padded f w x (ix2 (⟨off + 5 + d.val, by omega⟩ : Fin 1032) r))
    (h1 : ∀ (d : Fin 256) (r : Fin 512), p1 (ix2 d r) = padded f w x (ix2 (⟨off + 6 + d.val, by omega⟩ : Fin 1032) r))
    (h2 : ∀ (d : Fin 256) (r : Fin 512), p2 (ix2 d r) = padded f w x (ix2 (⟨off + 7 + d.val, by omega⟩ : Fin 1032) r))
    (v : FVec Ideal S512x256 .f32)
    (hv : ∀ (r : Fin 512) (d : Fin 256), v (ix2 r d)
      = Cert.ConvInReferenceIdeal.Rows.silu (conv cw r (p0 (ix2 d r)) (p1 (ix2 d r)) (p2 (ix2 d r)) (∑ k : Fin 2048, (xs (ix2 d k) : EReal) * w (ix2 r k))))
    (z : S512x256.Idx) : v z = tileT cw f w x ((Rect.unit (s := S512x1024) ![0, off] ![512, 256] inb').emb z) := by
  obtain ⟨r, d, rfl⟩ : ∃ (r : Fin 512) (d : Fin 256), z = ix2 r d := ⟨z 0, z 1, by ext i; fin_cases i <;> rfl⟩
  have e : (Rect.unit (s := S512x1024) ![0, off] ![512, 256] inb').emb (ix2 r d) = ix2 r (⟨off + d.val, by omega⟩ : Fin 1024) := by
    ext i
    fin_cases i
    · show 0 + 1 * r.val = r.val; omega
    · show off + 1 * d.val = off + d.val; omega
  rw [e, hv, h0, h1, h2]
  have key : ∀ (n n' : ℕ) (hn : n < 1032) (hn' : n' < 1032), n = n' → padded f w x (ix2 (⟨n, hn⟩ : Fin 1032) r) = padded f w x (ix2 (⟨n', hn'⟩ : Fin 1032) r) := by
    rintro n n' hn hn' rfl
    rfl
  show _ = Cert.ConvInReferenceIdeal.Rows.silu (conv cw r (padded f w x (ix2 (⟨off + d.val + 5, by omega⟩ : Fin 1032) r)) (padded f w x (ix2 (⟨off + d.val + 6, by omega⟩ : Fin 1032) r))
    (padded f w x (ix2 (⟨off + d.val + 7, by omega⟩ : Fin 1032) r)) (dotRow w x r ⟨off + d.val, by omega⟩))
  rw [key (off + 5 + d.val) (off + d.val + 5) (by omega) (by omega) (by omega), key (off + 6 + d.val) (off + d.val + 6) (by omega) (by omega) (by omega),
    key (off + 7 + d.val) (off + d.val + 7) (by omega) (by omega) (by omega)]
  refine congrArg (fun s => Cert.ConvInReferenceIdeal.Rows.silu (conv cw r _ _ _ s)) (Finset.sum_congr rfl fun k _ => ?_)
  rw [hxs]

end

/-! ## The stores of a point -/

section
variable (cw f : FVec Ideal S8x512 .f32) (w : FVec Ideal S512x2048 .bf16) (x : FVec Ideal S1024x2048 .bf16) (xs0 xs1 xs2 xs3 : FVec Ideal S256x2048 .bf16)
  (a8 : Memref sig .tc .vmem S1032x512 .f32)

/-- The stores into the held rows, the last first: after the first stretch of 256 tokens, -/
def L2 : List (View.Piece (Elt Ideal) S1032x512 .f32) :=
  [⟨Rect.unit ![8, 0] ![256, 512] inb_S1032x512_S256x512_8_0, k0_pay7 (F := Ideal) xs0 w⟩, ⟨Rect.unit ![0, 0] ![8, 512] inb_S1032x512_S8x512_0_0, f⟩]
/-- the second, -/
def L3 : List (View.Piece (Elt Ideal) S1032x512 .f32) :=
  ⟨Rect.unit ![264, 0] ![256, 512] inb_S1032x512_S256x512_264_0, k0_pay12 (F := Ideal) xs1 w⟩ :: L2 f w xs0
/-- the third -/
def L4 : List (View.Piece (Elt Ideal) S1032x512 .f32) :=
  ⟨Rect.unit ![520, 0] ![256, 512] inb_S1032x512_S256x512_520_0, k0_pay17 (F := Ideal) xs2 w⟩ :: L3 f w xs0 xs1
/-- and the fourth. -/
def L5 : List (View.Piece (Elt Ideal) S1032x512 .f32) :=
  ⟨Rect.unit ![776, 0] ![256, 512] inb_S1032x512_S256x512_776_0, k0_pay22 (F := Ideal) xs3 w⟩ :: L4 f w xs0 xs1 xs2

theorem mem_rows (y : S1032x512.Idx) (o n : ℕ) (inb) (h : o ≤ (y 0).val) (h' : (y 0).val < o + n) : y ∈ (Rect.unit (s := S1032x512) ![o, 0] ![n, 512] inb).set := by
  rw [Rect.mem_set_unit]
  intro a
  have h1 : (y 1).val < 512 := (y 1).isLt
  fin_cases a
  · exact ⟨h, h'⟩
  · exact ⟨Nat.zero_le _, by show (y 1).val < 0 + 512; omega⟩

theorem cov2 (y : S1032x512.Idx) (h : (y 0).val < 264) : ∃ p ∈ L2 f w xs0, y ∈ p.1.set := by
  by_cases hy : (y 0).val < 8
  · exact ⟨_, List.mem_cons_of_mem _ List.mem_cons_self, mem_rows y 0 8 inb_S1032x512_S8x512_0_0 (Nat.zero_le _) (by omega)⟩
  · exact ⟨_, List.mem_cons_self, mem_rows y 8 256 inb_S1032x512_S256x512_8_0 (by omega) (by omega)⟩

theorem cov3 (y : S1032x512.Idx) (h : (y 0).val < 520) : ∃ p ∈ L3 f w xs0 xs1, y ∈ p.1.set := by
  by_cases hy : (y 0).val < 264
  · obtain ⟨p, hp, hm⟩ := cov2 f w xs0 y hy
    exact ⟨p, List.mem_cons_of_mem _ hp, hm⟩
  · exact ⟨_, List.mem_cons_self, mem_rows y 264 256 inb_S1032x512_S256x512_264_0 (by omega) (by omega)⟩

theorem cov4 (y : S1032x512.Idx) (h : (y 0).val < 776) : ∃ p ∈ L4 f w xs0 xs1 xs2, y ∈ p.1.set := by
  by_cases hy : (y 0).val < 520
  · obtain ⟨p, hp, hm⟩ := cov3 f w xs0 xs1 y hy
    exact ⟨p, List.mem_cons_of_mem _ hp, hm⟩
  · exact ⟨_, List.mem_cons_self, mem_rows y 520 256 inb_S1032x512_S256x512_520_0 (by omega) (by omega)⟩

theorem cov5 (y : S1032x512.Idx) (h : (y 0).val < 1032) : ∃ p ∈ L5 f w xs0 xs1 xs2 xs3, y ∈ p.1.set := by
  by_cases hy : (y 0).val < 776
  · obtain ⟨p, hp, hm⟩ := cov4 f w xs0 xs1 xs2 y hy
    exact ⟨p, List.mem_cons_of_mem _ hp, hm⟩
  · exact ⟨_, List.mem_cons_self, mem_rows y 776 256 inb_S1032x512_S256x512_776_0 (by omega) (by omega)⟩

theorem pieces2 (h0 : ∀ (d : Fin 256) (k : Fin 2048), xs0 (ix2 d k) = x (ix2 (⟨0 + d.val, by omega⟩ : Fin 1024) k)) :
    ∀ p ∈ L2 f w xs0, ∀ z : p.1.shape.Idx, p.2 z = padded f w x (p.1.emb z) := by
  intro p hp
  rcases List.mem_cons.1 hp with rfl | hp
  · exact row_piece f w x 0 8 (by omega) (by omega) inb_S1032x512_S256x512_8_0 xs0 h0 _ (pay7_at w xs0)
  · obtain rfl := List.mem_singleton.1 hp
    exact front_piece f w x inb_S1032x512_S8x512_0_0

theorem pieces3 (h0 : ∀ (d : Fin 256) (k : Fin 2048), xs0 (ix2 d k) = x (ix2 (⟨0 + d.val, by omega⟩ : Fin 1024) k)) (h1 : ∀ (d : Fin 256) (k : Fin 2048), xs1 (ix2 d k) = x (ix2 (⟨256 + d.val, by omega⟩ : Fin 1024) k)) :
    ∀ p ∈ L3 f w xs0 xs1, ∀ z : p.1.shape.Idx, p.2 z = padded f w x (p.1.emb z) := by
  intro p hp
  rcases List.mem_cons.1 hp with rfl | hp
  · exact row_piece f w x 256 264 (by omega) (by omega) inb_S1032x512_S256x512_264_0 xs1 h1 _ (pay12_at w xs1)
  · exact pieces2 f w x xs0 h0 p hp

theorem pieces4 (h0 : ∀ (d : Fin 256) (k : Fin 2048), xs0 (ix2 d k) = x (ix2 (⟨0 + d.val, by omega⟩ : Fin 1024) k)) (h1 : ∀ (d : Fin 256) (k : Fin 2048), xs1 (ix2 d k) = x (ix2 (⟨256 + d.val, by omega⟩ : Fin 1024) k)) (h2 : ∀ (d : Fin 256) (k : Fin 2048), xs2 (ix2 d k) = x (ix2 (⟨512 + d.val, by omega⟩ : Fin 1024) k)) :
    ∀ p ∈ L4 f w xs0 xs1 xs2, ∀ z : p.1.shape.Idx, p.2 z = padded f w x (p.1.emb z) := by
  intro p hp
  rcases List.mem_cons.1 hp with rfl | hp
  · exact row_piece f w x 512 520 (by omega) (by omega) inb_S1032x512_S256x512_520_0 xs2 h2 _ (pay17_at w xs2)
  · exact pieces3 f w x xs0 xs1 h0 h1 p hp

theorem pieces5 (h0 : ∀ (d : Fin 256) (k : Fin 2048), xs0 (ix2 d k) = x (ix2 (⟨0 + d.val, by omega⟩ : Fin 1024) k)) (h1 : ∀ (d : Fin 256) (k : Fin 2048), xs1 (ix2 d k) = x (ix2 (⟨256 + d.val, by omega⟩ : Fin 1024) k)) (h2 : ∀ (d : Fin 256) (k : Fin 2048), xs2 (ix2 d k) = x (ix2 (⟨512 + d.val, by omega⟩ : Fin 1024) k)) (h3 : ∀ (d : Fin 256) (k : Fin 2048), xs3 (ix2 d k) = x (ix2 (⟨768 + d.val, by omega⟩ : Fin 1024) k)) :
    ∀ p ∈ L5 f w xs0 xs1 xs2 xs3, ∀ z : p.1.shape.Idx, p.2 z = padded f w x (p.1.emb z) := by
  intro p hp
  rcases List.mem_cons.1 hp with rfl | hp
  · exact row_piece f w x 768 776 (by omega) (by omega) inb_S1032x512_S256x512_776_0 xs3 h3 _ (pay22_at w xs3)
  · exact pieces4 f w x xs0 xs1 xs2 h0 h1 h2 p hp

/-- A load of 256 of the held rows. -/
def ld (L : List (View.Piece (Elt Ideal) S1032x512 .f32)) (off : ℕ) (inb : ∀ a, (![off, 0] : Fin 2 → ℕ) a + (![256, 512] : Fin 2 → ℕ) a ≤ S1032x512.size a) : FVec Ideal S256x512 .f32 :=
  a8.view.readCov (Val := Elt Ideal) L (Rect.unit (s := S1032x512) ![off, 0] ![256, 512] inb).toLoadRect

/-- The load of the last eight. -/
def ld8 (L : List (View.Piece (Elt Ideal) S1032x512 .f32)) : FVec Ideal S8x512 .f32 :=
  a8.view.readCov (Val := Elt Ideal) L (Rect.unit (s := S1032x512) ![1024, 0] ![8, 512] inb_S1032x512_S8x512_1024_0).toLoadRect

/-- The stores into the tile, the last first. -/
def outL : List (View.Piece (Elt Ideal) S512x1024 .f32) :=
  [⟨Rect.unit ![0, 768] ![512, 256] inb_S512x1024_S512x256_0_768, k0_pay1 (F := Ideal) (k0_pay5 (F := Ideal) cw) (k0_pay23 (F := Ideal) (k0_pay5 (F := Ideal) cw) xs3 w (ld a8 (L5 f w xs0 xs1 xs2 xs3) 773 inb_S1032x512_S256x512_773_0)) (ld a8 (L5 f w xs0 xs1 xs2 xs3) 774 inb_S1032x512_S256x512_774_0) (ld a8 (L5 f w xs0 xs1 xs2 xs3) 775 inb_S1032x512_S256x512_775_0)⟩,
    ⟨Rect.unit ![0, 512] ![512, 256] inb_S512x1024_S512x256_0_512, k0_pay20 (F := Ideal) (k0_pay5 (F := Ideal) cw) (k0_pay18 (F := Ideal) (k0_pay5 (F := Ideal) cw) xs2 w) (k0_pay19 (F := Ideal) (k0_pay5 (F := Ideal) cw)) (ld a8 (L4 f w xs0 xs1 xs2) 517 inb_S1032x512_S256x512_517_0) (ld a8 (L4 f w xs0 xs1 xs2) 518 inb_S1032x512_S256x512_518_0) (ld a8 (L4 f w xs0 xs1 xs2) 519 inb_S1032x512_S256x512_519_0)⟩,
    ⟨Rect.unit ![0, 256] ![512, 256] inb_S512x1024_S512x256_0_256, k0_pay15 (F := Ideal) (k0_pay5 (F := Ideal) cw) (k0_pay13 (F := Ideal) (k0_pay5 (F := Ideal) cw) xs1 w) (k0_pay14 (F := Ideal) (k0_pay5 (F := Ideal) cw)) (ld a8 (L3 f w xs0 xs1) 261 inb_S1032x512_S256x512_261_0) (ld a8 (L3 f w xs0 xs1) 262 inb_S1032x512_S256x512_262_0) (ld a8 (L3 f w xs0 xs1) 263 inb_S1032x512_S256x512_263_0)⟩,
    ⟨Rect.unit ![0, 0] ![512, 256] inb_S512x1024_S512x256_0_0, k0_pay10 (F := Ideal) (k0_pay5 (F := Ideal) cw) (k0_pay8 (F := Ideal) cw) (k0_pay9 (F := Ideal) cw xs0 w) (ld a8 (L2 f w xs0) 5 inb_S1032x512_S256x512_5_0) (ld a8 (L2 f w xs0) 6 inb_S1032x512_S256x512_6_0) (ld a8 (L2 f w xs0) 7 inb_S1032x512_S256x512_7_0)⟩]

/-- They are the tile. -/
theorem outL_at (h0 : ∀ (d : Fin 256) (k : Fin 2048), xs0 (ix2 d k) = x (ix2 (⟨0 + d.val, by omega⟩ : Fin 1024) k)) (h1 : ∀ (d : Fin 256) (k : Fin 2048), xs1 (ix2 d k) = x (ix2 (⟨256 + d.val, by omega⟩ : Fin 1024) k)) (h2 : ∀ (d : Fin 256) (k : Fin 2048), xs2 (ix2 d k) = x (ix2 (⟨512 + d.val, by omega⟩ : Fin 1024) k)) (h3 : ∀ (d : Fin 256) (k : Fin 2048), xs3 (ix2 d k) = x (ix2 (⟨768 + d.val, by omega⟩ : Fin 1024) k)) :
    ∀ p ∈ outL cw f w xs0 xs1 xs2 xs3 a8, ∀ z : p.1.shape.Idx, p.2 z = tileT cw f w x (p.1.emb z) := by
  intro p hp
  unfold outL at hp
  simp only [List.mem_cons, List.not_mem_nil, or_false] at hp
  rcases hp with rfl | rfl | rfl | rfl
  · exact piece_at f w x cw 768 (by omega) inb_S512x1024_S512x256_0_768 xs3 h3 _ _ _ (load_at f w x a8 _ (pieces5 f w x xs0 xs1 xs2 xs3 h0 h1 h2 h3) 773 256 inb_S1032x512_S256x512_773_0 (by omega) (fun y _ h => cov5 f w xs0 xs1 xs2 xs3 y (by omega))) (load_at f w x a8 _ (pieces5 f w x xs0 xs1 xs2 xs3 h0 h1 h2 h3) 774 256 inb_S1032x512_S256x512_774_0 (by omega) (fun y _ h => cov5 f w xs0 xs1 xs2 xs3 y (by omega))) (load_at f w x a8 _ (pieces5 f w x xs0 xs1 xs2 xs3 h0 h1 h2 h3) 775 256 inb_S1032x512_S256x512_775_0 (by omega) (fun y _ h => cov5 f w xs0 xs1 xs2 xs3 y (by omega))) _ (fun r d => pay1_at cw w xs3 _ _ _ r d)
  · exact piece_at f w x cw 512 (by omega) inb_S512x1024_S512x256_0_512 xs2 h2 _ _ _ (load_at f w x a8 _ (pieces4 f w x xs0 xs1 xs2 h0 h1 h2) 517 256 inb_S1032x512_S256x512_517_0 (by omega) (fun y _ h => cov4 f w xs0 xs1 xs2 y (by omega))) (load_at f w x a8 _ (pieces4 f w x xs0 xs1 xs2 h0 h1 h2) 518 256 inb_S1032x512_S256x512_518_0 (by omega) (fun y _ h => cov4 f w xs0 xs1 xs2 y (by omega))) (load_at f w x a8 _ (pieces4 f w x xs0 xs1 xs2 h0 h1 h2) 519 256 inb_S1032x512_S256x512_519_0 (by omega) (fun y _ h => cov4 f w xs0 xs1 xs2 y (by omega))) _ (fun r d => pay20_at cw w xs2 _ _ _ r d)
  · exact piece_at f w x cw 256 (by omega) inb_S512x1024_S512x256_0_256 xs1 h1 _ _ _ (load_at f w x a8 _ (pieces3 f w x xs0 xs1 h0 h1) 261 256 inb_S1032x512_S256x512_261_0 (by omega) (fun y _ h => cov3 f w xs0 xs1 y (by omega))) (load_at f w x a8 _ (pieces3 f w x xs0 xs1 h0 h1) 262 256 inb_S1032x512_S256x512_262_0 (by omega) (fun y _ h => cov3 f w xs0 xs1 y (by omega))) (load_at f w x a8 _ (pieces3 f w x xs0 xs1 h0 h1) 263 256 inb_S1032x512_S256x512_263_0 (by omega) (fun y _ h => cov3 f w xs0 xs1 y (by omega))) _ (fun r d => pay15_at cw w xs1 _ _ _ r d)
  · exact piece_at f w x cw 0 (by omega) inb_S512x1024_S512x256_0_0 xs0 h0 _ _ _ (load_at f w x a8 _ (pieces2 f w x xs0 h0) 5 256 inb_S1032x512_S256x512_5_0 (by omega) (fun y _ h => cov2 f w xs0 y (by omega))) (load_at f w x a8 _ (pieces2 f w x xs0 h0) 6 256 inb_S1032x512_S256x512_6_0 (by omega) (fun y _ h => cov2 f w xs0 y (by omega))) (load_at f w x a8 _ (pieces2 f w x xs0 h0) 7 256 inb_S1032x512_S256x512_7_0 (by omega) (fun y _ h => cov2 f w xs0 y (by omega))) _ (fun r d => pay10_at cw w xs0 _ _ _ r d)

/-- The eight rows kept for the next tile are this tile's last eight. -/
theorem keep_at (h0 : ∀ (d : Fin 256) (k : Fin 2048), xs0 (ix2 d k) = x (ix2 (⟨0 + d.val, by omega⟩ : Fin 1024) k)) (h1 : ∀ (d : Fin 256) (k : Fin 2048), xs1 (ix2 d k) = x (ix2 (⟨256 + d.val, by omega⟩ : Fin 1024) k)) (h2 : ∀ (d : Fin 256) (k : Fin 2048), xs2 (ix2 d k) = x (ix2 (⟨512 + d.val, by omega⟩ : Fin 1024) k)) (h3 : ∀ (d : Fin 256) (k : Fin 2048), xs3 (ix2 d k) = x (ix2 (⟨768 + d.val, by omega⟩ : Fin 1024) k)) (y : S8x512.Idx) :
    (k0_pay2 (F := Ideal) (ld8 a8 (L5 f w xs0 xs1 xs2 xs3)) : FVec Ideal S8x512 .f32) y
      = dotRow w x (y 1) ⟨1016 + (y 0).val, by have : (y 0).val < 8 := (y 0).isLt; omega⟩ := by
  rw [pay2_at]
  obtain ⟨a, r, rfl⟩ : ∃ (a : Fin 8) (r : Fin 512), y = ix2 a r := ⟨y 0, y 1, by ext i; fin_cases i <;> rfl⟩
  refine (load_at f w x a8 _ (pieces5 f w x xs0 xs1 xs2 xs3 h0 h1 h2 h3) 1024 8 inb_S1032x512_S8x512_1024_0 (by omega) (fun y _ h => cov5 f w xs0 xs1 xs2 xs3 y (by omega)) a r).trans ?_
  rw [padded_own _ _ _ _ (by show ¬ 1024 + a.val < 8; omega)]
  refine congrArg (dotRow w x r) (Fin.ext ?_)
  show 1024 + a.val - 8 = 1016 + a.val
  omega

end

end Cert.ConvInIdeal.Rows
-- ==== Proof.CwConvIn.lean ====
/- The taps and the bias of the convolution as the host lays them out before the call, read at an entry. -/
module

public import proofs.«01_k».proof.Proof.Gen.ConvInIdeal
public import Idealize.ShloMosaic.Lib.Pipeline.ValueKit
public import Idealize.ShloMosaic.Lib.Routing.OpsOne

@[expose] public section

set_option maxRecDepth 16384

noncomputable section

namespace Cert.ConvInIdeal.Rows

open Cert.ConvInIdeal Cert.ConvInIdeal.Gen
open Idealize.ShloMosaic Idealize.ShloMosaic.TcCoe Idealize.ShloMosaic.Tactic

/-- The four taps in rows 0 to 3 of eight rows of zeros. -/
def laid (C : FVec Ideal S4x6144 .f32) : FVec Ideal S8x6144 .f32 :=
  Host.scatter scatter_S8x6144_S1_S4x6144_01_n_0_0 (fun _ b => b) (broadcastInDim S8x6144 ![] bcast_S_S8x6144 (constant S_ .f32 0x00000000#32)) (broadcastInDim S1 ![] bcast_S_S1 (constantI S_ 32 0#32)) C

/-- And the bias in row 4. -/
def cwT (C : FVec Ideal S4x6144 .f32) (B : FVec Ideal S6144 .f32) : FVec Ideal S8x6144 .f32 :=
  Host.scatter scatter_S8x6144_S1_S6144_0_0_0_0 (fun _ b => b) (laid C) (broadcastInDim S1 ![] bcast_S_S1 (constantI S_ 32 4#32)) B

/-- An update of the taps lands at its own row and column. -/
theorem lands_tap (idx : IVec S1 32) (hidx : (idx (ix1 (0 : Fin 1))).toInt = 0) (a : Fin 4) (b : Fin 6144) (r : Fin 8) (e : Fin 6144) :
    scatter_S8x6144_S1_S4x6144_01_n_0_0.resultIdx? (ix2 a b) idx = some (ix2 r e) ↔ r.val = a.val ∧ e = b := by
  have hw0 : scatter_S8x6144_S1_S4x6144_01_n_0_0.window (ix2 a b) 0 = a.val := by
    unfold ScatterDims.window
    rw [dif_pos (by decide)]
    rfl
  have hw1 : scatter_S8x6144_S1_S4x6144_01_n_0_0.window (ix2 a b) 1 = b.val := by
    unfold ScatterDims.window
    rw [dif_pos (by decide)]
    rfl
  have hs0 : scatter_S8x6144_S1_S4x6144_01_n_0_0.start (ix2 a b) idx 0 = 0 := by
    unfold ScatterDims.start
    rw [dif_pos (by decide)]
    refine (congrArg (fun y => (idx y).toInt) ?_).trans hidx
    funext b'
    match b' with
    | ⟨0, _⟩ => exact Subsingleton.elim (α := Fin 1) _ _
  have hs1 : scatter_S8x6144_S1_S4x6144_01_n_0_0.start (ix2 a b) idx 1 = 0 := by
    unfold ScatterDims.start
    rw [dif_neg (by decide)]
  rw [Fin.ext_iff]
  refine (Routing.resultIdx?_ix2 scatter_S8x6144_S1_S4x6144_01_n_0_0 _ _ r e).trans ?_
  rw [hs0, hw0, hs1, hw1]
  omega

/-- An update of the bias lands in row 4, at its own column. -/
theorem lands_bias (idx : IVec S1 32) (hidx : (idx (ix1 (0 : Fin 1))).toInt = 4) (b : Fin 6144) (r : Fin 8) (e : Fin 6144) :
    scatter_S8x6144_S1_S6144_0_0_0_0.resultIdx? (ix1 b) idx = some (ix2 r e) ↔ r.val = 4 ∧ e = b := by
  have hw0 : scatter_S8x6144_S1_S6144_0_0_0_0.window (ix1 b) 0 = 0 := by
    unfold ScatterDims.window
    rw [dif_neg (by decide)]
  have hw1 : scatter_S8x6144_S1_S6144_0_0_0_0.window (ix1 b) 1 = b.val := by
    unfold ScatterDims.window
    rw [dif_pos (by decide)]
    rfl
  have hs0 : scatter_S8x6144_S1_S6144_0_0_0_0.start (ix1 b) idx 0 = 4 := by
    unfold ScatterDims.start
    rw [dif_pos (by decide)]
    refine (congrArg (fun y => (idx y).toInt) ?_).trans hidx
    funext b'
    match b' with
    | ⟨0, _⟩ => exact Subsingleton.elim (α := Fin 1) _ _
  have hs1 : scatter_S8x6144_S1_S6144_0_0_0_0.start (ix1 b) idx 1 = 0 := by
    unfold ScatterDims.start
    rw [dif_neg (by decide)]
  rw [Fin.ext_iff]
  refine (Routing.resultIdx?_ix2 scatter_S8x6144_S1_S6144_0_0_0_0 _ _ r e).trans ?_
  rw [hs0, hw0, hs1, hw1]
  omega

theorem word_at (v : BitVec 32) : (broadcastInDim S1 ![] bcast_S_S1 (constantI S_ 32 v) : IVec S1 32) (ix1 (0 : Fin 1)) = v := rfl

theorem laid_at (C : FVec Ideal S4x6144 .f32) (j : Fin 4) (e : Fin 6144) : laid C (ix2 (⟨j.val, by omega⟩ : Fin 8) e) = C (ix2 j e) := by
  have hz : ((broadcastInDim S1 ![] bcast_S_S1 (constantI S_ 32 0#32) : IVec S1 32) (ix1 (0 : Fin 1))).toInt = 0 := by rw [word_at]; decide
  unfold laid
  refine Routing.scatter_set_hit _ _ _ _ _ _ (fun k hk => ?_) (ix2 j e) ((lands_tap _ hz j e _ _).2 ⟨rfl, rfl⟩)
  obtain ⟨a, b, rfl⟩ : ∃ (a : Fin 4) (b : Fin 6144), k = ix2 a b := ⟨k 0, k 1, by ext i; fin_cases i <;> rfl⟩
  obtain ⟨ha, rfl⟩ := (lands_tap _ hz a b _ _).1 hk
  exact congrArg (fun a => C (ix2 a e)) (Fin.ext ha.symm)

theorem cwT_tap (C : FVec Ideal S4x6144 .f32) (B : FVec Ideal S6144 .f32) (j : Fin 4) (e : Fin 6144) : cwT C B (ix2 (⟨j.val, by omega⟩ : Fin 8) e) = C (ix2 j e) := by
  have hz : ((broadcastInDim S1 ![] bcast_S_S1 (constantI S_ 32 4#32) : IVec S1 32) (ix1 (0 : Fin 1))).toInt = 4 := by rw [word_at]; decide
  unfold cwT
  refine (Routing.scatter_set_miss _ _ _ _ _ fun k hk => ?_).trans (laid_at C j e)
  obtain ⟨b, rfl⟩ : ∃ b : Fin 6144, k = ix1 b := ⟨k 0, by ext i; fin_cases i; rfl⟩
  have : j.val = 4 := ((lands_bias _ hz b _ _).1 hk).1
  omega

theorem cwT_bias (C : FVec Ideal S4x6144 .f32) (B : FVec Ideal S6144 .f32) (e : Fin 6144) : cwT C B (ix2 (4 : Fin 8) e) = B (ix1 e) := by
  have hz : ((broadcastInDim S1 ![] bcast_S_S1 (constantI S_ 32 4#32) : IVec S1 32) (ix1 (0 : Fin 1))).toInt = 4 := by rw [word_at]; decide
  unfold cwT
  refine Routing.scatter_set_hit _ _ _ _ _ _ (fun k hk => ?_) (ix1 e) ((lands_bias _ hz e _ _).2 ⟨rfl, rfl⟩)
  obtain ⟨b, rfl⟩ : ∃ b : Fin 6144, k = ix1 b := ⟨k 0, by ext i; fin_cases i; rfl⟩
  obtain ⟨_, rfl⟩ := (lands_bias _ hz b _ _).1 hk
  rfl

end Cert.ConvInIdeal.Rows
-- ==== Proof.ListConvIn.lean ====
/- The projection before the convolution: the lists of the stores of a point. -/
module

public import proofs.«01_k».proof.Proof.FrameConvInIdeal
public import proofs.«01_k».proof.Proof.PadConvIn
public import proofs.«01_k».proof.Proof.CwConvIn

@[expose] public section

set_option maxRecDepth 16384

noncomputable section

namespace Cert.ConvInIdeal.Rows

open Cert.ConvInIdeal Cert.ConvInIdeal.Gen Cert.ConvInIdeal.Run
open Idealize.ShloMosaic Idealize.ShloMosaic.TcCoe Idealize.ShloMosaic.Tactic

/-! ## The lists of a point's stores -/

/-- A run of 256 rows of the staged tokens. -/
def rd (a : Memref sig .tc .vmem S1024x2048 .bf16) (ha : a.IsWhole) (x : FVec Ideal S1024x2048 .bf16) (off : ℕ)
    (inb : ∀ b, (![off, 0] : Fin 2 → ℕ) b + (![256, 2048] : Fin 2 → ℕ) b ≤ S1024x2048.size b) : FVec Ideal S256x2048 .bf16 :=
  a.view.readAt (Elt Ideal) (Rect.unit (s := S1024x2048) ![off, 0] ![256, 2048] inb).toLoadRect (ha.unread x)

theorem rd_at (a : Memref sig .tc .vmem S1024x2048 .bf16) (ha : a.IsWhole) (x : FVec Ideal S1024x2048 .bf16) (off : ℕ) (hoff : off ≤ 768) (inb) (d : Fin 256) (k : Fin 2048) :
    rd a ha x off inb (ix2 d k) = x (ix2 (⟨off + d.val, by omega⟩ : Fin 1024) k) := by
  unfold rd
  rw [View.readAt_unit _ _ inb rfl inb, ha.read_unread]
  unfold VecWindow.window
  refine congrArg x ?_
  ext i
  fin_cases i
  · show off + 1 * d.val = off + d.val; omega
  · show 0 + 1 * k.val = k.val; omega

theorem list_A (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i) (x0 : Vec Ideal S1024x2048 .bf16) (x1 : Vec Ideal S1x512x2048 .f32) (x2 : Vec Ideal S8x512 .f32) :
    (kernelRun0_A (F := Ideal) c i arg2 harg2 arg3 harg3 arg4 harg4 arg5 harg5 arg6 harg6 arg7 harg7 arg8 harg8 hc0 x0 x1 x2).1 = outL (arg4.view.readAt (Elt Ideal) (Rect.unit (s := S8x512) ![0, 0] ![8, 512] inb_S8x512_S8x512_0_0).toLoadRect (harg4.unread x2)) (Run.front (F := Ideal) i) (kernelRun0_A.sl.v23 (F := Ideal) c arg3 harg3 arg6 x1) (rd arg2 harg2 x0 0 inb_S1024x2048_S256x2048_0_0) (rd arg2 harg2 x0 256 inb_S1024x2048_S256x2048_256_0) (rd arg2 harg2 x0 512 inb_S1024x2048_S256x2048_512_0) (rd arg2 harg2 x0 768 inb_S1024x2048_S256x2048_768_0) arg8 := rfl

theorem kept_A (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : cond0_0 i) (x0 : Vec Ideal S1024x2048 .bf16) (x1 : Vec Ideal S1x512x2048 .f32) (x2 : Vec Ideal S8x512 .f32) :
    (kernelRun0_A (F := Ideal) c i arg2 harg2 arg3 harg3 arg4 harg4 arg5 harg5 arg6 harg6 arg7 harg7 arg8 harg8 hc0 x0 x1 x2).2.2.1
      = [⟨Rect.unit ![0, 0] ![8, 512] inb_S8x512_S8x512_0_0, k0_pay2 (F := Ideal) (ld8 arg8 (L5 (Run.front (F := Ideal) i) (kernelRun0_A.sl.v23 (F := Ideal) c arg3 harg3 arg6 x1) (rd arg2 harg2 x0 0 inb_S1024x2048_S256x2048_0_0) (rd arg2 harg2 x0 256 inb_S1024x2048_S256x2048_256_0) (rd arg2 harg2 x0 512 inb_S1024x2048_S256x2048_512_0) (rd arg2 harg2 x0 768 inb_S1024x2048_S256x2048_768_0)))⟩] := rfl

theorem list_B (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i) (x0 : Vec Ideal S1024x2048 .bf16) (x1 : Vec Ideal S1x512x2048 .f32) (x2 : Vec Ideal S8x512 .f32) (xs0 : Vec Ideal S512x2048 .bf16) (xs1 : Vec Ideal S8x512 .f32) :
    (kernelRun0_B (F := Ideal) c i arg2 harg2 arg3 harg3 arg4 harg4 arg5 harg5 arg6 harg6 arg7 harg7 arg8 harg8 hc0 x0 x1 x2 xs0 xs1).1 = outL (arg4.view.readAt (Elt Ideal) (Rect.unit (s := S8x512) ![0, 0] ![8, 512] inb_S8x512_S8x512_0_0).toLoadRect (harg4.unread x2)) (k0_pay4 (F := Ideal) i (arg7.view.readAt (Elt Ideal) (Rect.unit (s := S8x512) ![0, 0] ![8, 512] inb_S8x512_S8x512_0_0).toLoadRect (harg7.unread xs1))) (arg6.view.readAt (Elt Ideal) (Rect.unit (s := S512x2048) ![0, 0] ![512, 2048] inb_S512x2048_S512x2048_0_0).toLoadRect (harg6.unread xs0)) (rd arg2 harg2 x0 0 inb_S1024x2048_S256x2048_0_0) (rd arg2 harg2 x0 256 inb_S1024x2048_S256x2048_256_0) (rd arg2 harg2 x0 512 inb_S1024x2048_S256x2048_512_0) (rd arg2 harg2 x0 768 inb_S1024x2048_S256x2048_768_0) arg8 := rfl

theorem kept_B (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S8x512 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S8x512 .f32) (harg7 : arg7.IsWhole) (arg8 : Memref sig .tc .vmem S1032x512 .f32) (harg8 : arg8.IsWhole) (hc0 : ¬cond0_0 i) (x0 : Vec Ideal S1024x2048 .bf16) (x1 : Vec Ideal S1x512x2048 .f32) (x2 : Vec Ideal S8x512 .f32) (xs0 : Vec Ideal S512x2048 .bf16) (xs1 : Vec Ideal S8x512 .f32) :
    (kernelRun0_B (F := Ideal) c i arg2 harg2 arg3 harg3 arg4 harg4 arg5 harg5 arg6 harg6 arg7 harg7 arg8 harg8 hc0 x0 x1 x2 xs0 xs1).2.2.1
      = [⟨Rect.unit ![0, 0] ![8, 512] inb_S8x512_S8x512_0_0, k0_pay2 (F := Ideal) (ld8 arg8 (L5 (k0_pay4 (F := Ideal) i (arg7.view.readAt (Elt Ideal) (Rect.unit (s := S8x512) ![0, 0] ![8, 512] inb_S8x512_S8x512_0_0).toLoadRect (harg7.unread xs1))) (arg6.view.readAt (Elt Ideal) (Rect.unit (s := S512x2048) ![0, 0] ![512, 2048] inb_S512x2048_S512x2048_0_0).toLoadRect (harg6.unread xs0)) (rd arg2 harg2 x0 0 inb_S1024x2048_S256x2048_0_0) (rd arg2 harg2 x0 256 inb_S1024x2048_S256x2048_256_0) (rd arg2 harg2 x0 512 inb_S1024x2048_S256x2048_512_0) (rd arg2 harg2 x0 768 inb_S1024x2048_S256x2048_768_0)))⟩] := rfl

end Cert.ConvInIdeal.Rows
-- ==== Proof.OutConvIn.lean ====
/- The result array of the projection before the convolution, entry by entry. -/
module

public import proofs.«01_k».proof.Proof.ListConvIn

@[expose] public section

set_option maxRecDepth 16384

noncomputable section

namespace Cert.ConvInIdeal.Rows

open Cert.ConvInIdeal Cert.ConvInIdeal.Gen Cert.ConvInIdeal.Run
open Idealize.ShloMosaic Idealize.ShloMosaic.TcCoe Idealize.ShloMosaic.Tactic

variable (m : (ℓ : Loc nD τ sig) → Buf (Elt Ideal) ℓ) (c : Dev nD)

/-! ## What a point leaves -/

theorem taps_read (a : Memref sig .tc .vmem S8x512 .f32) (ha : a.IsWhole) (v : Vec Ideal S8x512 .f32) :
    a.view.readAt (Elt Ideal) (Rect.unit (s := S8x512) ![0, 0] ![8, 512] inb_S8x512_S8x512_0_0).toLoadRect (ha.unread v) = v :=
  by
  rw [View.readAt_full]
  exact ha.read_unread _

theorem weight_read (a : Memref sig .tc .vmem S512x2048 .bf16) (ha : a.IsWhole) (v : Vec Ideal S512x2048 .bf16) :
    a.view.readAt (Elt Ideal) (Rect.unit (s := S512x2048) ![0, 0] ![512, 2048] inb_S512x2048_S512x2048_0_0).toLoadRect (ha.unread v) = v :=
  by
  rw [View.readAt_full]
  exact ha.read_unread _

theorem weight_cast (a3 : Memref sig .tc .vmem S1x512x2048 .f32) (h3 : a3.IsWhole) (a6 : Memref sig .tc .vmem S512x2048 .bf16) (v : Vec Ideal S1x512x2048 .f32) :
    (kernelRun0_A.sl.v23 (F := Ideal) c a3 h3 a6 v : FVec Ideal S512x2048 .bf16) = k0_pay3 (F := Ideal) v := by
  unfold kernelRun0_A.sl.v23 kernelRun0_A.sl.HS0_1
  rw [View.readCov_full]
  rw [View.readAt_full]
  exact congrArg k0_pay3 (h3.read_unread _)

/-- The tile a channel block's first point leaves. -/
theorem out_first (t : Fin cfg0.N) (h0 : t.val % 8 = 0) (y : S512x1024.Idx) :
    (outsAt0 m c t.val t.isLt).1 y = tileT (iblk m c 2 t) (Run.front (grid0.coords t)) (k0_pay3 (X0_1 m c t)) (iblk m c 0 t) y := by
  rw [outsAt0_A m c t h0]
  dsimp only
  unfold out0_A_3
  rw [View.read_writes_junk_eq_canon, list_A, taps_read, weight_cast]
  refine View.canon_apply_of_pieces (Val := Elt Ideal) (S := S512x1024) (e := .f32) _ _ (outL_at _ _ _ _ _ _ _ _ _ (rd_at _ _ _ 0 (by omega) _) (rd_at _ _ _ 256 (by omega) _) (rd_at _ _ _ 512 (by omega) _) (rd_at _ _ _ 768 (by omega) _)) y ?_
  have h := cover0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (X0_1 m c t) (iblk m c 2 t) y
  rw [list_A, taps_read, weight_cast] at h
  exact h

/-- The tile any other point leaves, over what the point before left. -/
theorem out_next (t : Fin cfg0.N) (h0 : ¬ t.val % 8 = 0) (y : S512x1024.Idx) :
    (outsAt0 m c t.val t.isLt).1 y = tileT (iblk m c 2 t) (k0_pay4 (grid0.coords t) (outsAt0 m c (t.val - 1) (Nat.lt_of_le_of_lt (Nat.sub_le _ _) t.isLt)).2.2)
      (outsAt0 m c (t.val - 1) (Nat.lt_of_le_of_lt (Nat.sub_le _ _) t.isLt)).2.1 (iblk m c 0 t) y := by
  rw [outsAt0_B m c t h0]
  dsimp only
  generalize (outsAt0 m c (t.val - 1) (Nat.lt_of_le_of_lt (Nat.sub_le _ _) t.isLt)).2.1 = w
  generalize (outsAt0 m c (t.val - 1) (Nat.lt_of_le_of_lt (Nat.sub_le _ _) t.isLt)).2.2 = f
  unfold out0_B_3
  rw [View.read_writes_junk_eq_canon, list_B, taps_read, weight_read, taps_read]
  refine View.canon_apply_of_pieces (Val := Elt Ideal) (S := S512x1024) (e := .f32) _ _ (outL_at _ _ _ _ _ _ _ _ _ (rd_at _ _ _ 0 (by omega) _) (rd_at _ _ _ 256 (by omega) _) (rd_at _ _ _ 512 (by omega) _) (rd_at _ _ _ 768 (by omega) _)) y ?_
  have h := cover0_B_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (X0_1 m c t) (iblk m c 2 t) w f y
  rw [list_B, taps_read, weight_read, taps_read] at h
  exact h

theorem scratch_first (t : Fin cfg0.N) (h0 : t.val % 8 = 0) : (outsAt0 m c t.val t.isLt).2.1 = k0_pay3 (X0_1 m c t) := by
  rw [outsAt0_A m c t h0]
  dsimp only
  unfold sout0_A_0 kernelRun0_A
  dsimp only
  unfold kernelRun0_A.sl.HS0_1
  rw [View.read_writes_full, View.readAt_full]
  exact congrArg k0_pay3 ((hs0_1 t).read_unread _)

theorem scratch_next (t : Fin cfg0.N) (h0 : ¬ t.val % 8 = 0) :
    (outsAt0 m c t.val t.isLt).2.1 = (outsAt0 m c (t.val - 1) (Nat.lt_of_le_of_lt (Nat.sub_le _ _) t.isLt)).2.1 := by
  rw [outsAt0_B m c t h0]
  rfl

/-- The rows a point keeps for the next are its tile's last eight. -/
theorem kept_first (t : Fin cfg0.N) (h0 : t.val % 8 = 0) (y : S8x512.Idx) :
    (outsAt0 m c t.val t.isLt).2.2 y = dotRow (k0_pay3 (X0_1 m c t)) (iblk m c 0 t) (y 1) ⟨1016 + (y 0).val, by have : (y 0).val < 8 := (y 0).isLt; omega⟩ := by
  rw [outsAt0_A m c t h0]
  dsimp only
  unfold sout0_A_1
  rw [kept_A, weight_cast, View.read_writes_full]
  exact keep_at _ _ (iblk m c 0 t) _ _ _ _ _ (rd_at _ _ _ 0 (by omega) _) (rd_at _ _ _ 256 (by omega) _) (rd_at _ _ _ 512 (by omega) _) (rd_at _ _ _ 768 (by omega) _) y

theorem kept_next (t : Fin cfg0.N) (h0 : ¬ t.val % 8 = 0) (y : S8x512.Idx) :
    (outsAt0 m c t.val t.isLt).2.2 y = dotRow (outsAt0 m c (t.val - 1) (Nat.lt_of_le_of_lt (Nat.sub_le _ _) t.isLt)).2.1 (iblk m c 0 t) (y 1) ⟨1016 + (y 0).val, by have : (y 0).val < 8 := (y 0).isLt; omega⟩ := by
  rw [outsAt0_B m c t h0]
  dsimp only
  generalize (outsAt0 m c (t.val - 1) (Nat.lt_of_le_of_lt (Nat.sub_le _ _) t.isLt)).2.1 = w
  generalize (outsAt0 m c (t.val - 1) (Nat.lt_of_le_of_lt (Nat.sub_le _ _) t.isLt)).2.2 = f
  unfold sout0_B_1
  rw [kept_B, weight_read, View.read_writes_full]
  exact keep_at _ _ (iblk m c 0 t) _ _ _ _ _ (rd_at _ _ _ 0 (by omega) _) (rd_at _ _ _ 256 (by omega) _) (rd_at _ _ _ 512 (by omega) _) (rd_at _ _ _ 768 (by omega) _) y

/-! ## The blocks, read at an entry -/

/-- The weights with their last two axes exchanged, which the host writes before the call. -/
def turned (W : FVec Ideal S2x2048x10304 .f32) : FVec Ideal S2x10304x2048 .f32 :=
  transpose S2x10304x2048 [0, 2, 1] W transposes_S2x2048x10304_S2x10304x2048_0_2_1

theorem turned_at (W : FVec Ideal S2x2048x10304 .f32) (l : Fin 2) (r : Fin 10304) (k : Fin 2048) : turned W (ix3 l r k) = W (ix3 l k r) := by
  pointwise [turned]

theorem V_turned : V m c main_v0 = turned (m ((c.tc : Thread nD τ).loc main_arg1)) := by
  show StableHlo.after (List.flatten [hostOps0]) (fun b => m (c, b)) (Proc.devRef .tc main_v0) = _
  simp only [hostOps0, List.flatten_cons, List.flatten_nil, List.append_nil, List.cons_append,
      List.nil_append, StableHlo.unary, StableHlo.TRef.unary, StableHlo.TRef.toBuf, StableHlo.TRef.ofBuf, cast_eq]
  after_results_simp
  rfl

theorem V_taps : V m c main_v5 = cwT (m ((c.tc : Thread nD τ).loc main_arg2)) (m ((c.tc : Thread nD τ).loc main_arg3)) := by
  show StableHlo.after (List.flatten [hostOps0]) (fun b => m (c, b)) (Proc.devRef .tc main_v5) = _
  simp only [hostOps0, List.flatten_cons, List.flatten_nil, List.append_nil, List.cons_append,
      List.nil_append]
  after_results_simp
  rfl

theorem idx : ∀ t : Fin cfg0.N,
    win0_0.index t = ![t.val % 8, 0] ∧ win0_1.index t = ![0, 8 + t.val / 8, 0] ∧ win0_2.index t = ![0, t.val / 8] ∧ win0_3.index t = ![t.val / 8, t.val % 8] :=
  (by decide +kernel : ∀ t : Fin grid0.N, _)

theorem coord : ∀ t : Fin cfg0.N, (grid0.coords t 1).val = t.val % 8 :=
  (by decide +kernel : ∀ t : Fin grid0.N, (grid0.coords t 1).val = t.val % 8)

theorem lt_N (t : Fin cfg0.N) : t.val < 96 := Nat.lt_of_lt_of_eq t.isLt N_0

theorem iblk0_at (t : Fin cfg0.N) (d : Fin 1024) (k : Fin 2048) :
    (iblk m c 0 t : Vec Ideal S1024x2048 .bf16) (ix2 d k) = (V m c main_arg0 : Vec Ideal S8192x2048 .bf16) (ix2 (⟨t.val % 8 * 1024 + d.val, by omega⟩ : Fin 8192) k) := by
  show V m c main_arg0 (((cfg0.win 0).blk t).view.emb (ix2 d k)) = _
  blk_ext [idx t]

theorem iblk2_at (t : Fin cfg0.N) (a : Fin 8) (r : Fin 512) :
    (iblk m c 2 t : Vec Ideal S8x512 .f32) (ix2 a r) = cwT (m ((c.tc : Thread nD τ).loc main_arg2)) (m ((c.tc : Thread nD τ).loc main_arg3)) (ix2 a (⟨t.val / 8 * 512 + r.val, by have := lt_N t; omega⟩ : Fin 6144)) := by
  have := lt_N t
  show V m c main_v5 (((cfg0.win 2).blk t).view.emb (ix2 a r)) = _
  rw [V_taps]
  blk_ext [idx t]

theorem weight_at (t : Fin cfg0.N) (r : Fin 512) (k : Fin 2048) :
    (X0_1 m c t : FVec Ideal S1x512x2048 .f32) (ix3 (0 : Fin 1) r k)
      = ((m ((c.tc : Thread nD τ).loc main_arg1)) : FVec Ideal S2x2048x10304 .f32) (ix3 (0 : Fin 2) k (⟨(8 + t.val / 8) * 512 + r.val, by have := lt_N t; omega⟩ : Fin 10304)) := by
  have := lt_N t
  refine Eq.trans ?_ (turned_at _ 0 (⟨(8 + t.val / 8) * 512 + r.val, by omega⟩ : Fin 10304) k)
  unfold X0_1 Pipeline.Window.fill
  rw [dif_pos (moved0_1 t _)]
  show V m c main_v0 (((cfg0.win 1).blk t).view.emb _) = _
  rw [V_turned]
  blk_ext [idx t]

/-- What the points of a channel block find cast in the scratch. -/
def held (n : ℕ) (hn : n < 12) : FVec Ideal S512x2048 .bf16 := fun y =>
  ((m ((c.tc : Thread nD τ).loc main_arg1)) : FVec Ideal S2x2048x10304 .f32) (ix3 (0 : Fin 2) (y 1) (⟨(8 + n) * 512 + (y 0).val, by have h : (y 0).val < 512 := (y 0).isLt; omega⟩ : Fin 10304))

theorem cast_eq_held (t : Fin cfg0.N) : k0_pay3 (X0_1 m c t) = held m c (t.val / 8) (by have := lt_N t; omega) := by
  funext y
  obtain ⟨r, k, rfl⟩ : ∃ (r : Fin 512) (k : Fin 2048), y = ix2 r k := ⟨y 0, y 1, by ext i; fin_cases i <;> rfl⟩
  exact (pay3_at _ r k).trans (weight_at m c t r k)

theorem scratch_at (n : ℕ) (hn : n < cfg0.N) : (outsAt0 m c n hn).2.1 = held m c (n / 8) (by have : n < 96 := lt_N ⟨n, hn⟩; omega) := by
  induction n with
  | zero => exact (scratch_first m c ⟨0, hn⟩ rfl).trans (cast_eq_held m c ⟨0, hn⟩)
  | succ n ih =>
    by_cases h0 : (n + 1) % 8 = 0
    · exact (scratch_first m c ⟨n + 1, hn⟩ h0).trans (cast_eq_held m c ⟨n + 1, hn⟩)
    · refine (scratch_next m c ⟨n + 1, hn⟩ h0).trans ((ih (Nat.lt_of_succ_lt hn)).trans ?_)
      show held m c (n / 8) _ = held m c ((n + 1) / 8) _
      congr 1
      omega

/-- The rows a point keeps, read at an entry. -/
theorem kept_at (t : Fin cfg0.N) (y : S8x512.Idx) :
    (outsAt0 m c t.val t.isLt).2.2 y = dotRow (held m c (t.val / 8) (by have := lt_N t; omega)) (iblk m c 0 t) (y 1) ⟨1016 + (y 0).val, by have : (y 0).val < 8 := (y 0).isLt; omega⟩ := by
  by_cases h0 : t.val % 8 = 0
  · rw [kept_first m c t h0, cast_eq_held]
  · rw [kept_next m c t h0, scratch_at]
    have e : held m c ((t.val - 1) / 8) (by have := lt_N t; omega) = held m c (t.val / 8) (by have := lt_N t; omega) := by
      congr 1
      omega
    exact congrFun (congrArg (fun w => dotRow w (iblk m c 0 t) (y 1)) e) _

/-- The rows in front of a tile: zero at a sequence's first tile, -/
theorem pay4_first (i : grid0.Coords) (v : FVec Ideal S8x512 .f32) (h : (i 1).val % 4 = 0) (y : S8x512.Idx) : (k0_pay4 (F := Ideal) i v : FVec Ideal S8x512 .f32) y = 0 := by
  have h8 : (i 1).val < 8 := (i 1).isLt
  have e : (i 1).val = 0 ∨ (i 1).val = 4 := by omega
  obtain ⟨a, r, rfl⟩ : ∃ (a : Fin 8) (r : Fin 512), y = ix2 a r := ⟨y 0, y 1, by ext j; fin_cases j <;> rfl⟩
  unfold k0_pay4
  rcases e with e | e
  · simp only [e]
    pointwise []
    rfl
  · simp only [e]
    pointwise []
    rfl

/-- and those kept before any other. -/
theorem pay4_next (i : grid0.Coords) (v : FVec Ideal S8x512 .f32) (h : ¬ (i 1).val % 4 = 0) (y : S8x512.Idx) : (k0_pay4 (F := Ideal) i v : FVec Ideal S8x512 .f32) y = v y := by
  have h8 : (i 1).val < 8 := (i 1).isLt
  have e : (i 1).val = 1 ∨ (i 1).val = 2 ∨ (i 1).val = 3 ∨ (i 1).val = 5 ∨ (i 1).val = 6 ∨ (i 1).val = 7 := by omega
  obtain ⟨a, r, rfl⟩ : ∃ (a : Fin 8) (r : Fin 512), y = ix2 a r := ⟨y 0, y 1, by ext j; fin_cases j <;> rfl⟩
  unfold k0_pay4
  rcases e with e | e | e | e | e | e
  all_goals
    simp only [e]
    pointwise []
    rfl

/-- What a point finds in front of its tile. -/
def before (t : Fin cfg0.N) : FVec Ideal S8x512 .f32 := fun y =>
  if h : t.val % 4 = 0 then 0 else
    dotRow (held m c (t.val / 8) (by have := lt_N t; omega)) (iblk m c 0 ⟨t.val - 1, Nat.lt_of_le_of_lt (Nat.sub_le _ _) t.isLt⟩) (y 1) ⟨1016 + (y 0).val, by have : (y 0).val < 8 := (y 0).isLt; omega⟩

/-- Every point leaves the tile of its channels and tokens. -/
theorem out_tile (t : Fin cfg0.N) (y : S512x1024.Idx) :
    (outsAt0 m c t.val t.isLt).1 y = tileT (iblk m c 2 t) (before m c t) (held m c (t.val / 8) (by have := lt_N t; omega)) (iblk m c 0 t) y := by
  have hc := coord t
  by_cases h0 : t.val % 8 = 0
  · rw [out_first m c t h0, cast_eq_held]
    have e : Run.front (F := Ideal) (grid0.coords t) = before m c t := by
      funext z
      unfold Run.front before
      rw [dif_pos (by omega), pay4_first _ _ (by omega)]
    rw [e]
  · rw [out_next m c t h0, scratch_at]
    have eh : held m c ((t.val - 1) / 8) (by have := lt_N t; omega) = held m c (t.val / 8) (by have := lt_N t; omega) := by
      congr 1
      omega
    have e : (k0_pay4 (F := Ideal) (grid0.coords t) (outsAt0 m c (t.val - 1) (Nat.lt_of_le_of_lt (Nat.sub_le _ _) t.isLt)).2.2 : FVec Ideal S8x512 .f32) = before m c t := by
      funext z
      unfold before
      by_cases h4 : t.val % 4 = 0
      · rw [dif_pos h4, pay4_first _ _ (by omega)]
      · rw [dif_neg h4, pay4_next _ _ (by omega)]
        refine (kept_at m c ⟨t.val - 1, Nat.lt_of_le_of_lt (Nat.sub_le _ _) t.isLt⟩ z).trans ?_
        exact congrFun (congrArg (fun w => dotRow w (iblk m c 0 ⟨t.val - 1, Nat.lt_of_le_of_lt (Nat.sub_le _ _) t.isLt⟩) (z 1)) eh) _
    exact congrFun (congrArg₂ (fun f w => tileT (iblk m c 2 t) f w (iblk m c 0 t)) e eh) y

/-! ## Against the reference -/

/-- A tile's row is the projection of that token. -/
theorem dotRow_at (t : Fin cfg0.N) (n : ℕ) (hn : n < 12) (r : Fin 512) (d : Fin 1024) :
    dotRow (held m c n hn) (iblk m c 0 t) r d
      = Cert.ConvInReferenceIdeal.Rows.proj (V m c main_arg0) (m ((c.tc : Thread nD τ).loc main_arg1)) ⟨n * 512 + r.val, by omega⟩ ⟨t.val % 8 * 1024 + d.val, by omega⟩ := by
  unfold dotRow Cert.ConvInReferenceIdeal.Rows.proj
  refine Finset.sum_congr rfl fun k _ => congrArg₂ (fun a b : EReal => a * b) (iblk0_at m c t d k) ?_
  show ((m ((c.tc : Thread nD τ).loc main_arg1)) : FVec Ideal S2x2048x10304 .f32) (ix3 (0 : Fin 2) k (⟨(8 + n) * 512 + r.val, _⟩ : Fin 10304)) = ((m ((c.tc : Thread nD τ).loc main_arg1)) : FVec Ideal S2x2048x10304 .f32) (ix3 (0 : Fin 2) k (⟨4096 + (n * 512 + r.val), _⟩ : Fin 10304))
  refine congrArg (fun a => ((m ((c.tc : Thread nD τ).loc main_arg1)) : FVec Ideal S2x2048x10304 .f32) (ix3 (0 : Fin 2) k a)) (Fin.ext ?_)
  show (8 + n) * 512 + r.val = 4096 + (n * 512 + r.val)
  omega

/-- The three rows before a token are the reference's. -/
theorem past_at (t : Fin cfg0.N) (r : Fin 512) (d : Fin 1024) (j : Fin 4) (hj : j.val < 3) (hr : t.val / 8 * 512 + r.val < 6144) (hd : t.val % 8 * 1024 + d.val < 8192) (a : ℕ) (ha : a < 1032) (e : a = d.val + 5 + j.val) :
    padded (before m c t) (held m c (t.val / 8) (by have := lt_N t; omega)) (iblk m c 0 t) (ix2 (⟨a, ha⟩ : Fin 1032) r)
      = Cert.ConvInReferenceIdeal.Rows.past (V m c main_arg0) (m ((c.tc : Thread nD τ).loc main_arg1)) ⟨t.val / 8 * 512 + r.val, hr⟩ ⟨t.val % 8 * 1024 + d.val, hd⟩ j := by
  subst e
  have ht := lt_N t
  have same : ∀ (n n' : ℕ) (hn : n < 8192) (hn' : n' < 8192), n = n' → Cert.ConvInReferenceIdeal.Rows.proj (V m c main_arg0) (m ((c.tc : Thread nD τ).loc main_arg1)) ⟨t.val / 8 * 512 + r.val, hr⟩ ⟨n, hn⟩
      = Cert.ConvInReferenceIdeal.Rows.proj (V m c main_arg0) (m ((c.tc : Thread nD τ).loc main_arg1)) ⟨t.val / 8 * 512 + r.val, hr⟩ ⟨n', hn'⟩ := by
    rintro n n' hn hn' rfl
    rfl
  unfold Cert.ConvInReferenceIdeal.Rows.past
  by_cases h : d.val + 5 + j.val < 8
  · rw [padded_front _ _ _ _ h]
    unfold before
    by_cases h4 : t.val % 4 = 0
    · rw [dif_pos h4, dif_pos (by show (t.val % 8 * 1024 + d.val) % 4096 + j.val < 3; omega)]
    · rw [dif_neg h4, dif_neg (by show ¬ (t.val % 8 * 1024 + d.val) % 4096 + j.val < 3; omega)]
      refine (dotRow_at m c ⟨t.val - 1, Nat.lt_of_le_of_lt (Nat.sub_le _ _) t.isLt⟩ (t.val / 8) (by omega) r _).trans (same _ _ _ _ ?_)
      show (t.val - 1) % 8 * 1024 + (1016 + (d.val + 5 + j.val)) = t.val % 8 * 1024 + d.val + j.val - 3
      omega
  · rw [padded_own _ _ _ _ h, dif_neg (by show ¬ (t.val % 8 * 1024 + d.val) % 4096 + j.val < 3; omega)]
    refine (dotRow_at m c t (t.val / 8) (by omega) r _).trans (same _ _ _ _ ?_)
    show t.val % 8 * 1024 + (d.val + 5 + j.val - 8) = t.val % 8 * 1024 + d.val + j.val - 3
    omega

theorem reorder (p0 p1 p2 p3 c0 c1 c2 c3 b : EReal) :
    (((b + c3 * p3) + c0 * p0) + c1 * p1) + c2 * p2 = (((p0 * c0 + p1 * c1) + p2 * c2) + p3 * c3) + b := by
  rw [mul_comm p0, mul_comm p1, mul_comm p2, mul_comm p3]
  ac_rfl

/-- One tile of the result, at an entry. -/
theorem tile_at (t : Fin cfg0.N) (r : Fin 512) (d : Fin 1024) (hr : t.val / 8 * 512 + r.val < 6144) (hd : t.val % 8 * 1024 + d.val < 8192) :
    ((outsAt0 m c t.val t.isLt).1 : FVec Ideal S512x1024 .f32) (ix2 r d)
      = Cert.ConvInReferenceIdeal.Rows.cell (V m c main_arg0) (m ((c.tc : Thread nD τ).loc main_arg1)) (m ((c.tc : Thread nD τ).loc main_arg2)) (m ((c.tc : Thread nD τ).loc main_arg3))
          ⟨t.val / 8 * 512 + r.val, hr⟩ ⟨t.val % 8 * 1024 + d.val, hd⟩ := by
  have ht := lt_N t
  have e3 : dotRow (held m c (t.val / 8) (by omega)) (iblk m c 0 t) r d
      = Cert.ConvInReferenceIdeal.Rows.past (V m c main_arg0) (m ((c.tc : Thread nD τ).loc main_arg1)) ⟨t.val / 8 * 512 + r.val, hr⟩ ⟨t.val % 8 * 1024 + d.val, hd⟩ 3 := by
    unfold Cert.ConvInReferenceIdeal.Rows.past
    rw [dif_neg (by show ¬ (t.val % 8 * 1024 + d.val) % 4096 + 3 < 3; omega)]
    exact dotRow_at m c t (t.val / 8) (by omega) r d
  rw [out_tile]
  unfold Cert.ConvInReferenceIdeal.Rows.cell
  refine congrArg Cert.ConvInReferenceIdeal.Rows.silu ?_
  show conv (iblk m c 2 t) r (padded _ _ _ (ix2 (⟨d.val + 5, _⟩ : Fin 1032) r)) (padded _ _ _ (ix2 (⟨d.val + 6, _⟩ : Fin 1032) r)) (padded _ _ _ (ix2 (⟨d.val + 7, _⟩ : Fin 1032) r)) (dotRow _ _ r d) = _
  rw [past_at m c t r d 0 (by decide) hr hd (d.val + 5) (by omega) (by show d.val + 5 = d.val + 5 + 0; omega), past_at m c t r d 1 (by decide) hr hd (d.val + 6) (by omega) (by show d.val + 6 = d.val + 5 + 1; omega),
    past_at m c t r d 2 (by decide) hr hd (d.val + 7) (by omega) (by show d.val + 7 = d.val + 5 + 2; omega), e3]
  unfold conv Cert.ConvInReferenceIdeal.Rows.lin
  rw [iblk2_at, iblk2_at, iblk2_at, iblk2_at, iblk2_at, cwT_bias]
  refine (reorder _ _ _ _ _ _ _ _ _).trans ?_
  have tap := fun j : Fin 4 => cwT_tap (m ((c.tc : Thread nD τ).loc main_arg2)) (m ((c.tc : Thread nD τ).loc main_arg3)) j ⟨t.val / 8 * 512 + r.val, hr⟩
  exact congrArg (· + _) (congrArg₂ (fun a b : EReal => a + b) (congrArg₂ (fun a b : EReal => a + b) (congrArg₂ (fun a b : EReal => a + b) (congrArg (fun a : EReal => _ * a) (tap 0)) (congrArg (fun a : EReal => _ * a) (tap 1)))
    (congrArg (fun a : EReal => _ * a) (tap 2))) (congrArg (fun a : EReal => _ * a) (tap 3)))

/-- The result array. -/
theorem out_eq : (dats m 0 c).arrAt 3 cfg0.N = (fun y : S6144x8192.Idx => Cert.ConvInReferenceIdeal.Rows.cell (V m c main_arg0) (m ((c.tc : Thread nD τ).loc main_arg1)) (m ((c.tc : Thread nD τ).loc main_arg2)) (m ((c.tc : Thread nD τ).loc main_arg3)) (y 0) (y 1)) := by
  refine (dats m 0 c).arrAt_eq_of_covers 3 _ (by decide +kernel) fun t _ y => ?_
  blk_simp
  rw [after0_3]
  obtain ⟨r, d, rfl⟩ : ∃ (r : Fin 512) (d : Fin 1024), y = ix2 r d := ⟨y 0, y 1, by ext i; fin_cases i <;> rfl⟩
  have ht := lt_N t
  refine (tile_at m c t r d (by omega) (by omega)).trans (congrArg₂ (Cert.ConvInReferenceIdeal.Rows.cell (V m c main_arg0) (m ((c.tc : Thread nD τ).loc main_arg1)) (m ((c.tc : Thread nD τ).loc main_arg2)) (m ((c.tc : Thread nD τ).loc main_arg3))) (Fin.ext ?_) (Fin.ext ?_))
  · show _ = win0_3.index t 0 * 512 + 1 * r.val
    rw [(idx t).2.2.2]; show t.val / 8 * 512 + r.val = t.val / 8 * 512 + 1 * r.val; omega
  · show _ = win0_3.index t 1 * 1024 + 1 * d.val
    rw [(idx t).2.2.2]; show t.val % 8 * 1024 + d.val = t.val % 8 * 1024 + 1 * d.val; omega

/-- The launch leaves the result array at its tiles and the arguments as they were. -/
theorem run_blocks (ρ : Dev nD → PrngReg) :
    θ_run defs (onTc (τ := τ) (main (F := Ideal))) ⟨m, fun _ => 0, ρ⟩ (fun r => ∀ c : Dev nD,
      r.2.mem ((c.tc : Thread nD τ).loc main_v6) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 3,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.ConvInIdeal.Rows
-- ==== Proof.MeetConvIn.lean ====
/- The projection before the convolution and its reference leave the same array. -/
module

public import proofs.«01_k».proof.Defs
public import proofs.«01_k».proof.Proof.Gen.ConvIn
public import proofs.«01_k».proof.Proof.FrameConvIn
public import proofs.«01_k».proof.Proof.OutConvIn
public import Idealize.ShloMosaic.Lib.Claim
public import Idealize.ShloMosaic.Adequacy

@[expose] public section

set_option maxRecDepth 16384

noncomputable section

namespace Cert.ConvInMeet

open Idealize.ShloMosaic Idealize.ShloMosaic.TcCoe Idealize.ShloMosaic.Tactic Idealize.SL.Sem

section
open Cert.ConvInIdeal Cert.ConvInIdeal.Gen Cert.ConvInIdeal.Run Cert.ConvInIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6) = (fun y : S6144x8192.Idx => Cert.ConvInReferenceIdeal.Rows.cell (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans ((out_eq m c).trans (by rw [V_main_arg0])), (h c).2⟩) (Cert.ConvInIdeal.Rows.run_blocks m ρ)
end

/-- The reference's array is the kernel's. -/
theorem meet (X : FVec Ideal Cert.ConvInReferenceIdeal.S8192x2048 .bf16) (W : FVec Ideal Cert.ConvInReferenceIdeal.S2x2048x10304 .f32) (C : FVec Ideal Cert.ConvInReferenceIdeal.S4x6144 .f32) (B : FVec Ideal Cert.ConvInReferenceIdeal.S6144 .f32) :
    Cert.ConvInReferenceIdeal.Rows.outT X W C B = (fun y : Cert.ConvInIdeal.S6144x8192.Idx => Cert.ConvInReferenceIdeal.Rows.cell X W C B (y 0) (y 1)) := by
  funext y
  obtain ⟨r, d, rfl⟩ : ∃ (r : Fin 6144) (d : Fin 8192), y = ix2 r d := ⟨y 0, y 1, by ext i; fin_cases i <;> rfl⟩
  exact Cert.ConvInReferenceIdeal.Rows.out_at _ _ _ _ r d

/-! ## The claims -/

theorem frame : Cert.quiescent_ConvIn := fun m g _ => Cert.ConvIn.Run.frame m g
theorem frame_ideal : Cert.quiescent_ConvInIdeal := fun m g _ => Cert.ConvInIdeal.Run.frame m g
theorem frame_reference : Cert.quiescent_ConvInReferenceIdeal := fun m g _ =>
  (θ_run _ _ _).mono (fun r h => ⟨fun c => (h c).2, sem_eq_zero_of_no_sems rfl _⟩) (Cert.ConvInReferenceIdeal.Value.run m g)

/-- The kernel's array equals the reference's, as extended reals. -/
theorem algebraic : Cert.algebraic_ConvInIdeal_ConvInReferenceIdeal := by
  pair_intro
  · run_from run_cells m g
  · run_from Cert.ConvInReferenceIdeal.Rows.run_out m' g'
    obtain rfl : c = 0 := Subsingleton.elim _ _
    exact meet _ _ _ _

end Cert.ConvInMeet
-- ==== Proof.RefNorm.lean ====
/- The reference of the first normalization of a sublayer, read at an entry. -/
module

public import proofs.«01_k».proof.Proof.Gen.NormReferenceIdeal
public import proofs.«01_k».proof.Proof.Gen.NormReferenceIdeal.Run
public import Idealize.ShloMosaic.Lib.Pipeline.ValueKit

@[expose] public section

set_option maxRecDepth 16384

noncomputable section

namespace Cert.NormReferenceIdeal.Rows

open Cert.NormReferenceIdeal Cert.NormReferenceIdeal.Gen Cert.NormReferenceIdeal.Value
open Idealize.ShloMosaic Idealize.ShloMosaic.TcCoe Idealize.ShloMosaic.Tactic Idealize.ShloMosaic.StableHlo

/-- One entry of a row `x`, of weight `w`: the value over the row's root mean square. -/
def entry (x : Fin 2048 → EReal) (v w : EReal) : EReal :=
  v * Ideal.rsqrt (Ideal.div (∑ k : Fin 2048, x k * x k) (Scalar.ofBits (F := Ideal) .f32 0x45000000#32) + Scalar.ofBits (F := Ideal) .f32 0x358637BD#32) * w

/-- Row `r`, channel `d`. -/
def cell (X : FVec Ideal S8192x2048 .f32) (W : FVec Ideal S2048 .f32) (r : Fin 8192) (d : Fin 2048) : EReal :=
  entry (fun k => X (ix2 r k)) (X (ix2 r d)) (W (ix1 d))

/-- The reference's array. -/
def outT (X : FVec Ideal S8192x2048 .f32) (W : FVec Ideal S2048 .f32) : FVec Ideal S8192x2048 .bf16 :=
  truncf .bf16 (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 W))) bitsLt_bf16_f32

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

theorem out_at (X : FVec Ideal S8192x2048 .f32) (W : FVec Ideal S2048 .f32) (r : Fin 8192) (d : Fin 2048) : outT X W (ix2 r d) = cell X W r d := by
  pointwise [outT]
  rfl

end Cert.NormReferenceIdeal.Rows
-- ==== Proof.OutNorm.lean ====
/- The result array of the first normalization of a sublayer, entry by entry. -/
module

public import proofs.«01_k».proof.Proof.Gen.NormIdeal.Value
public import proofs.«01_k».proof.Proof.Gen.NormIdeal.Frame
public import proofs.«01_k».proof.Proof.RefNorm
public import Idealize.ShloMosaic.Lib.Pipeline.ValueKit
public import Idealize.ShloMosaic.Lib.Pipeline.Covers

@[expose] public section

set_option maxRecDepth 16384

noncomputable section

namespace Cert.NormIdeal.Rows

open Cert.NormIdeal Cert.NormIdeal.Gen
open Idealize.ShloMosaic Idealize.ShloMosaic.TcCoe Idealize.ShloMosaic.Tactic

/-- What the body stores, at an entry. -/
theorem pay_at (x : FVec Ideal S512x2048 .f32) (w : FVec Ideal S1x2048 .f32) (r : Fin 512) (d : Fin 2048) :
    (k0_pay1 (F := Ideal) x w : FVec Ideal S512x2048 .bf16) (ix2 r d) = Cert.NormReferenceIdeal.Rows.entry (fun k => x (ix2 r k)) (x (ix2 r d)) (w (ix2 (0 : Fin 1) d)) := by
  pointwise [k0_pay1]
  rfl

variable (m : (ℓ : Loc nD τ sig) → Buf (Elt Ideal) ℓ) (c : Dev nD)

/-- The weight as one row, which the host writes before the call. -/
def weightRow (W : FVec Ideal S2048 .f32) : FVec Ideal S1x2048 .f32 := shapeCast S1x2048 W shapeCasts_S2048_S1x2048

theorem weightRow_at (W : FVec Ideal S2048 .f32) (d : Fin 2048) : weightRow W (ix2 (0 : Fin 1) d) = W (ix1 d) := by
  pointwise [weightRow]

theorem V_weight : V m c main_v0 = weightRow (m ((c.tc : Thread nD τ).loc main_arg1)) := by
  show StableHlo.after (List.flatten [hostOps0]) (fun b => m (c, b)) (Proc.devRef .tc main_v0) = _
  simp only [hostOps0, List.flatten_cons, List.flatten_nil, List.append_nil, List.cons_append,
      List.nil_append, StableHlo.reshape, StableHlo.unary, StableHlo.TRef.unary, StableHlo.TRef.toBuf, StableHlo.TRef.ofBuf, cast_eq]
  after_results_simp
  rfl

theorem idx : ∀ t : Fin cfg0.N, win0_0.index t = ![t.val, 0] ∧ win0_1.index t = ![0, 0] ∧ win0_2.index t = ![t.val, 0] :=
  (by decide +kernel : ∀ t : Fin grid0.N, _)

theorem lt_N (t : Fin cfg0.N) : t.val < 16 := Nat.lt_of_lt_of_eq t.isLt N_0

theorem iblk0_at (t : Fin cfg0.N) (r : Fin 512) (k : Fin 2048) :
    (iblk m c 0 t : Vec Ideal S512x2048 .f32) (ix2 r k) = (V m c main_arg0 : Vec Ideal S8192x2048 .f32) (ix2 (⟨t.val * 512 + r.val, by have := lt_N t; omega⟩ : Fin 8192) k) := by
  have := lt_N t
  show V m c main_arg0 (((cfg0.win 0).blk t).view.emb (ix2 r k)) = _
  blk_ext [idx t]

theorem iblk1_at (t : Fin cfg0.N) (d : Fin 2048) :
    (iblk m c 1 t : Vec Ideal S1x2048 .f32) (ix2 (0 : Fin 1) d) = ((m ((c.tc : Thread nD τ).loc main_arg1)) : Vec Ideal S2048 .f32) (ix1 d) := by
  refine Eq.trans ?_ (weightRow_at _ d)
  show V m c main_v0 (((cfg0.win 1).blk t).view.emb (ix2 (0 : Fin 1) d)) = _
  rw [V_weight]
  blk_ext [idx t]

/-- One tile of the result, at an entry. -/
theorem tile_at (t : Fin cfg0.N) (r : Fin 512) (d : Fin 2048) (hr : t.val * 512 + r.val < 8192) :
    (out0_2 (iblk m c 0 t) (iblk m c 1 t) : FVec Ideal S512x2048 .bf16) (ix2 r d) = Cert.NormReferenceIdeal.Rows.cell (V m c main_arg0) (m ((c.tc : Thread nD τ).loc main_arg1)) ⟨t.val * 512 + r.val, hr⟩ d := by
  unfold out0_2
  have z : (![0, 0] : Fin 2 → ℕ) = fun _ => 0 := by funext a; fin_cases a <;> rfl
  refine (congrFun (View.canon_unit_zero (S := S512x2048) (Val := Elt Ideal) (e := .bf16) z _ _) (ix2 r d)).trans ?_
  refine (congrFun (congrArg₂ k0_pay1 (View.ld_unit_zero (S := S512x2048) (Val := Elt Ideal) (e := .f32) z _ _)
    (View.ld_unit_zero (S := S1x2048) (Val := Elt Ideal) (e := .f32) z _ _)) _).trans ?_
  refine (pay_at _ _ r d).trans ?_
  unfold Cert.NormReferenceIdeal.Rows.cell
  rw [iblk1_at, iblk0_at]
  exact congrArg (Cert.NormReferenceIdeal.Rows.entry · _ _) (funext fun k => iblk0_at m c t r k)

/-- The result array. -/
theorem out_eq : (dats m 0 c).arrAt 2 cfg0.N = (fun y : S8192x2048.Idx => Cert.NormReferenceIdeal.Rows.cell (V m c main_arg0) (m ((c.tc : Thread nD τ).loc main_arg1)) (y 0) (y 1)) := by
  refine (dats m 0 c).arrAt_eq_of_covers 2 _ (by decide +kernel) fun t _ y => ?_
  blk_simp
  rw [after0_2]
  obtain ⟨r, d, rfl⟩ : ∃ (r : Fin 512) (d : Fin 2048), y = ix2 r d := ⟨y 0, y 1, by ext i; fin_cases i <;> rfl⟩
  have ht := lt_N t
  refine (tile_at m c t r d (by omega)).trans (congrArg₂ (Cert.NormReferenceIdeal.Rows.cell (V m c main_arg0) (m ((c.tc : Thread nD τ).loc main_arg1))) (Fin.ext ?_) (Fin.ext ?_))
  · show _ = win0_2.index t 0 * 512 + 1 * r.val
    rw [(idx t).2.2]; show t.val * 512 + r.val = t.val * 512 + 1 * r.val; omega
  · show _ = win0_2.index t 1 * 2048 + 1 * d.val
    rw [(idx t).2.2]; show d.val = 0 * 2048 + 1 * d.val; omega

end Cert.NormIdeal.Rows
-- ==== Proof.MeetNorm.lean ====
/- The first normalization of a sublayer and its reference leave the same array. -/
module

public import proofs.«01_k».proof.Defs
public import proofs.«01_k».proof.Proof.Gen.Norm
public import proofs.«01_k».proof.Proof.Gen.Norm.Frame
public import proofs.«01_k».proof.Proof.OutNorm
public import Idealize.ShloMosaic.Lib.Claim
public import Idealize.ShloMosaic.Adequacy

@[expose] public section

set_option maxRecDepth 16384

noncomputable section

namespace Cert.NormMeet

open Idealize.ShloMosaic Idealize.ShloMosaic.TcCoe Idealize.ShloMosaic.Tactic Idealize.SL.Sem
open Cert.NormIdeal.Gen (V)

section
open Cert.NormIdeal Cert.NormIdeal.Gen Cert.NormIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = (fun y : S8192x2048.Idx => Cert.NormReferenceIdeal.Rows.cell (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((out_eq m c).trans (by rw [V_main_arg0])), (h c).2⟩) (Cert.NormIdeal.Value.run_blocks m ρ)
end

/-- The reference's array is the kernel's. -/
theorem meet (X : FVec Ideal Cert.NormReferenceIdeal.S8192x2048 .f32) (W : FVec Ideal Cert.NormReferenceIdeal.S2048 .f32) :
    Cert.NormReferenceIdeal.Rows.outT X W = (fun y : Cert.NormIdeal.S8192x2048.Idx => Cert.NormReferenceIdeal.Rows.cell X W (y 0) (y 1)) := by
  funext y
  obtain ⟨r, d, rfl⟩ : ∃ (r : Fin 8192) (d : Fin 2048), y = ix2 r d := ⟨y 0, y 1, by ext i; fin_cases i <;> rfl⟩
  exact Cert.NormReferenceIdeal.Rows.out_at _ _ r d

/-! ## The claims -/

theorem frame : Cert.quiescent_Norm := fun m g _ => Cert.Norm.Gen.frame m g
theorem frame_ideal : Cert.quiescent_NormIdeal := fun m g _ => Cert.NormIdeal.Gen.frame m g
theorem frame_reference : Cert.quiescent_NormReferenceIdeal := fun m g _ =>
  (θ_run _ _ _).mono (fun r h => ⟨fun c => (h c).2, sem_eq_zero_of_no_sems rfl _⟩) (Cert.NormReferenceIdeal.Value.run m g)

/-- The kernel's array equals the reference's, as extended reals. -/
theorem algebraic : Cert.algebraic_NormIdeal_NormReferenceIdeal := by
  pair_intro
  · run_from run_cells m g
  · run_from Cert.NormReferenceIdeal.Rows.run_out m' g'
    obtain rfl : c = 0 := Subsingleton.elim _ _
    exact meet _ _

end Cert.NormMeet
-- ==== Proof.RefFinalNorm.lean ====
/- The reference of the last normalization, read at an entry. -/
module

public import proofs.«01_k».proof.Proof.Gen.FinalNormReferenceIdeal
public import proofs.«01_k».proof.Proof.Gen.FinalNormReferenceIdeal.Run
public import Idealize.ShloMosaic.Lib.Pipeline.ValueKit

@[expose] public section

set_option maxRecDepth 16384

noncomputable section

namespace Cert.FinalNormReferenceIdeal.Rows

open Cert.FinalNormReferenceIdeal Cert.FinalNormReferenceIdeal.Gen Cert.FinalNormReferenceIdeal.Value
open Idealize.ShloMosaic Idealize.ShloMosaic.TcCoe Idealize.ShloMosaic.Tactic Idealize.ShloMosaic.StableHlo

/-- One entry of a row `x`, of weight `w`: the value over the row's root mean square. -/
def entry (x : Fin 2048 → EReal) (v w : EReal) : EReal :=
  v * Ideal.rsqrt (Ideal.div (∑ k : Fin 2048, x k * x k) (Scalar.ofBits (F := Ideal) .f32 0x45000000#32) + Scalar.ofBits (F := Ideal) .f32 0x358637BD#32) * w

/-- Row `r`, channel `d`. -/
def cell (X : FVec Ideal S8192x2048 .f32) (W : FVec Ideal S2048 .f32) (r : Fin 8192) (d : Fin 2048) : EReal :=
  entry (fun k => X (ix2 r k)) (X (ix2 r d)) (W (ix1 d))

/-- The reference's array. -/
def outT (X : FVec Ideal S8192x2048 .f32) (W : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 W))

/-- The reference runs to that array. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

theorem out_at (X : FVec Ideal S8192x2048 .f32) (W : FVec Ideal S2048 .f32) (r : Fin 8192) (d : Fin 2048) : outT X W (ix2 r d) = cell X W r d := by
  pointwise [outT]
  rfl

end Cert.FinalNormReferenceIdeal.Rows
-- ==== Proof.OutFinalNorm.lean ====
/- The result array of the last normalization, entry by entry. -/
module

public import proofs.«01_k».proof.Proof.Gen.FinalNormIdeal.Value
public import proofs.«01_k».proof.Proof.Gen.FinalNormIdeal.Frame
public import proofs.«01_k».proof.Proof.RefFinalNorm
public import Idealize.ShloMosaic.Lib.Pipeline.ValueKit
public import Idealize.ShloMosaic.Lib.Pipeline.Covers

@[expose] public section

set_option maxRecDepth 16384

noncomputable section

namespace Cert.FinalNormIdeal.Rows

open Cert.FinalNormIdeal Cert.FinalNormIdeal.Gen
open Idealize.ShloMosaic Idealize.ShloMosaic.TcCoe Idealize.ShloMosaic.Tactic

/-- What the body stores, at an entry. -/
theorem pay_at (x : FVec Ideal S512x2048 .f32) (w : FVec Ideal S1x2048 .f32) (r : Fin 512) (d : Fin 2048) :
    (k0_pay1 (F := Ideal) x w : FVec Ideal S512x2048 .f32) (ix2 r d) = Cert.FinalNormReferenceIdeal.Rows.entry (fun k => x (ix2 r k)) (x (ix2 r d)) (w (ix2 (0 : Fin 1) d)) := by
  pointwise [k0_pay1]
  rfl

variable (m : (ℓ : Loc nD τ sig) → Buf (Elt Ideal) ℓ) (c : Dev nD)

/-- The weight as one row, which the host writes before the call. -/
def weightRow (W : FVec Ideal S2048 .f32) : FVec Ideal S1x2048 .f32 := shapeCast S1x2048 W shapeCasts_S2048_S1x2048

theorem weightRow_at (W : FVec Ideal S2048 .f32) (d : Fin 2048) : weightRow W (ix2 (0 : Fin 1) d) = W (ix1 d) := by
  pointwise [weightRow]

theorem V_weight : V m c main_v0 = weightRow (m ((c.tc : Thread nD τ).loc main_arg1)) := by
  show StableHlo.after (List.flatten [hostOps0]) (fun b => m (c, b)) (Proc.devRef .tc main_v0) = _
  simp only [hostOps0, List.flatten_cons, List.flatten_nil, List.append_nil, List.cons_append,
      List.nil_append, StableHlo.reshape, StableHlo.unary, StableHlo.TRef.unary, StableHlo.TRef.toBuf, StableHlo.TRef.ofBuf, cast_eq]
  after_results_simp
  rfl

theorem idx : ∀ t : Fin cfg0.N, win0_0.index t = ![t.val, 0] ∧ win0_1.index t = ![0, 0] ∧ win0_2.index t = ![t.val, 0] :=
  (by decide +kernel : ∀ t : Fin grid0.N, _)

theorem lt_N (t : Fin cfg0.N) : t.val < 16 := Nat.lt_of_lt_of_eq t.isLt N_0

theorem iblk0_at (t : Fin cfg0.N) (r : Fin 512) (k : Fin 2048) :
    (iblk m c 0 t : Vec Ideal S512x2048 .f32) (ix2 r k) = (V m c main_arg0 : Vec Ideal S8192x2048 .f32) (ix2 (⟨t.val * 512 + r.val, by have := lt_N t; omega⟩ : Fin 8192) k) := by
  have := lt_N t
  show V m c main_arg0 (((cfg0.win 0).blk t).view.emb (ix2 r k)) = _
  blk_ext [idx t]

theorem iblk1_at (t : Fin cfg0.N) (d : Fin 2048) :
    (iblk m c 1 t : Vec Ideal S1x2048 .f32) (ix2 (0 : Fin 1) d) = ((m ((c.tc : Thread nD τ).loc main_arg1)) : Vec Ideal S2048 .f32) (ix1 d) := by
  refine Eq.trans ?_ (weightRow_at _ d)
  show V m c main_v0 (((cfg0.win 1).blk t).view.emb (ix2 (0 : Fin 1) d)) = _
  rw [V_weight]
  blk_ext [idx t]

/-- One tile of the result, at an entry. -/
theorem tile_at (t : Fin cfg0.N) (r : Fin 512) (d : Fin 2048) (hr : t.val * 512 + r.val < 8192) :
    (out0_2 (iblk m c 0 t) (iblk m c 1 t) : FVec Ideal S512x2048 .f32) (ix2 r d) = Cert.FinalNormReferenceIdeal.Rows.cell (V m c main_arg0) (m ((c.tc : Thread nD τ).loc main_arg1)) ⟨t.val * 512 + r.val, hr⟩ d := by
  unfold out0_2
  have z : (![0, 0] : Fin 2 → ℕ) = fun _ => 0 := by funext a; fin_cases a <;> rfl
  refine (congrFun (View.canon_unit_zero (S := S512x2048) (Val := Elt Ideal) (e := .f32) z _ _) (ix2 r d)).trans ?_
  refine (congrFun (congrArg₂ k0_pay1 (View.ld_unit_zero (S := S512x2048) (Val := Elt Ideal) (e := .f32) z _ _)
    (View.ld_unit_zero (S := S1x2048) (Val := Elt Ideal) (e := .f32) z _ _)) _).trans ?_
  refine (pay_at _ _ r d).trans ?_
  unfold Cert.FinalNormReferenceIdeal.Rows.cell
  rw [iblk1_at, iblk0_at]
  exact congrArg (Cert.FinalNormReferenceIdeal.Rows.entry · _ _) (funext fun k => iblk0_at m c t r k)

/-- The result array. -/
theorem out_eq : (dats m 0 c).arrAt 2 cfg0.N = (fun y : S8192x2048.Idx => Cert.FinalNormReferenceIdeal.Rows.cell (V m c main_arg0) (m ((c.tc : Thread nD τ).loc main_arg1)) (y 0) (y 1)) := by
  refine (dats m 0 c).arrAt_eq_of_covers 2 _ (by decide +kernel) fun t _ y => ?_
  blk_simp
  rw [after0_2]
  obtain ⟨r, d, rfl⟩ : ∃ (r : Fin 512) (d : Fin 2048), y = ix2 r d := ⟨y 0, y 1, by ext i; fin_cases i <;> rfl⟩
  have ht := lt_N t
  refine (tile_at m c t r d (by omega)).trans (congrArg₂ (Cert.FinalNormReferenceIdeal.Rows.cell (V m c main_arg0) (m ((c.tc : Thread nD τ).loc main_arg1))) (Fin.ext ?_) (Fin.ext ?_))
  · show _ = win0_2.index t 0 * 512 + 1 * r.val
    rw [(idx t).2.2]; show t.val * 512 + r.val = t.val * 512 + 1 * r.val; omega
  · show _ = win0_2.index t 1 * 2048 + 1 * d.val
    rw [(idx t).2.2]; show d.val = 0 * 2048 + 1 * d.val; omega

end Cert.FinalNormIdeal.Rows
-- ==== Proof.MeetFinalNorm.lean ====
/- The last normalization and its reference leave the same array. -/
module

public import proofs.«01_k».proof.Defs
public import proofs.«01_k».proof.Proof.Gen.FinalNorm
public import proofs.«01_k».proof.Proof.Gen.FinalNorm.Frame
public import proofs.«01_k».proof.Proof.OutFinalNorm
public import Idealize.ShloMosaic.Lib.Claim
public import Idealize.ShloMosaic.Adequacy

@[expose] public section

set_option maxRecDepth 16384

noncomputable section

namespace Cert.FinalNormMeet

open Idealize.ShloMosaic Idealize.ShloMosaic.TcCoe Idealize.ShloMosaic.Tactic Idealize.SL.Sem
open Cert.FinalNormIdeal.Gen (V)

section
open Cert.FinalNormIdeal Cert.FinalNormIdeal.Gen Cert.FinalNormIdeal.Rows

theorem run_cells (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = (fun y : S8192x2048.Idx => Cert.FinalNormReferenceIdeal.Rows.cell (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((out_eq m c).trans (by rw [V_main_arg0])), (h c).2⟩) (Cert.FinalNormIdeal.Value.run_blocks m ρ)
end

/-- The reference's array is the kernel's. -/
theorem meet (X : FVec Ideal Cert.FinalNormReferenceIdeal.S8192x2048 .f32) (W : FVec Ideal Cert.FinalNormReferenceIdeal.S2048 .f32) :
    Cert.FinalNormReferenceIdeal.Rows.outT X W = (fun y : Cert.FinalNormIdeal.S8192x2048.Idx => Cert.FinalNormReferenceIdeal.Rows.cell X W (y 0) (y 1)) := by
  funext y
  obtain ⟨r, d, rfl⟩ : ∃ (r : Fin 8192) (d : Fin 2048), y = ix2 r d := ⟨y 0, y 1, by ext i; fin_cases i <;> rfl⟩
  exact Cert.FinalNormReferenceIdeal.Rows.out_at _ _ r d

/-! ## The claims -/

theorem frame : Cert.quiescent_FinalNorm := fun m g _ => Cert.FinalNorm.Gen.frame m g
theorem frame_ideal : Cert.quiescent_FinalNormIdeal := fun m g _ => Cert.FinalNormIdeal.Gen.frame m g
theorem frame_reference : Cert.quiescent_FinalNormReferenceIdeal := fun m g _ =>
  (θ_run _ _ _).mono (fun r h => ⟨fun c => (h c).2, sem_eq_zero_of_no_sems rfl _⟩) (Cert.FinalNormReferenceIdeal.Value.run m g)

/-- The kernel's array equals the reference's, as extended reals. -/
theorem algebraic : Cert.algebraic_FinalNormIdeal_FinalNormReferenceIdeal := by
  pair_intro
  · run_from run_cells m g
  · run_from Cert.FinalNormReferenceIdeal.Rows.run_out m' g'
    obtain rfl : c = 0 := Subsingleton.elim _ _
    exact meet _ _

end Cert.FinalNormMeet
-- ==== Proof.Trip.lean ====
/- One trip of the kernel's loop over the earlier key blocks, read head by head: what it adds to a head's plane of the
   accumulator and to that head's running sum. -/
module

public import proofs.«01_k».proof.Proof.Gen.KernelIdeal.Value

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic

/-! ## The tile of one head, as the operations compute it -/

/-- The scores of 256 queries against 256 keys. -/
def scoreT (q k : Vec Ideal S256x128 .bf16) : FVec Ideal S256x256 .f32 := k0_pay5 q k

/-- The softplus of the scores, in units of log 2. -/
def softT (z : FVec Ideal S256x256 .f32) : FVec Ideal S256x256 .f32 := k0_pay13 z

/-- A head's plane after the tile: the weights' product with the values is added. -/
def planeT (lt : FVec Ideal S256x256 .bf16) (carry : FVec Ideal S256x1 .f32) (old : Vec Ideal S1x256x128 .f32)
    (q k v : Vec Ideal S256x128 .bf16) : Vec Ideal S1x256x128 .f32 :=
  k0_pay41 (k0_pay40 carry (k0_pay24 lt (softT (scoreT q k))) (k0_pay32 (scoreT q k) (softT (scoreT q k))) old v)

/-- A head's running sum after the tile. -/
def carryT (carry : FVec Ideal S256x1 .f32) (q k : Vec Ideal S256x128 .bf16) : FVec Ideal S256x1 .f32 :=
  k0_pay163 carry (softT (scoreT q k))

/-! ## Where a head's columns lie -/

theorem rQ_inb (h : Fin 8) : ∀ a, ![0, 128 * h.val] a + S256x128.size a ≤ S256x1024.size a := by
  revert h; decide

/-- A head's columns of the query block. -/
abbrev rQ (h : Fin 8) : Rect S256x1024 := Rect.unit (s := S256x1024) ![0, 128 * h.val] S256x128.size (rQ_inb h)

theorem rK_inb (o : Fin 16) (h : Fin 8) : ∀ a, ![256 * o.val, 128 * h.val] a + S256x128.size a ≤ S4096x1024.size a := by
  revert o h; decide

/-- A head's columns of key (or value) block `o`. -/
abbrev rK (o : Fin 16) (h : Fin 8) : Rect S4096x1024 :=
  Rect.unit (s := S4096x1024) ![256 * o.val, 128 * h.val] S256x128.size (rK_inb o h)

theorem rP_inb (h : Fin 8) : ∀ a, ![h.val, 0, 0] a + S1x256x128.size a ≤ S8x256x128.size a := by
  revert h; decide

/-- A head's plane of the accumulator. -/
abbrev rP (h : Fin 8) : Rect S8x256x128 := Rect.unit (s := S8x256x128) ![h.val, 0, 0] S1x256x128.size (rP_inb h)

/-- The eight carried sums, by head. -/
def byHead {α : Type} (x : α × α × α × α × α × α × α × α) : Fin 8 → α :=
  ![x.1, x.2.1, x.2.2.1, x.2.2.2.1, x.2.2.2.2.1, x.2.2.2.2.2.1, x.2.2.2.2.2.2.1, x.2.2.2.2.2.2.2]

theorem trips_eq : ∀ i : grid0.Coords, (k0_t1_loop i).trips = (i 2).val := by decide +kernel

theorem trips_rest : ∀ i : grid0.Coords, (k0_t2_loop i).trips = 0 := by decide +kernel

/-- The printed offsets of a trip's key and value loads, by head. -/
def offK (i : grid0.Coords) (t : Fin (k0_t1_loop i).trips) (h : Fin 8) : Fin 2 → ℕ :=
  ![k0_off9 i t, k0_off10 i t, k0_off11 i t, k0_off12 i t, k0_off13 i t, k0_off14 i t, k0_off15 i t, k0_off16 i t] h

theorem offK_eq : ∀ (i : grid0.Coords) (t : Fin (k0_t1_loop i).trips) (h : Fin 8),
    offK i t h = ![256 * ((i 2).val - 1 - t.val), 128 * h.val] := by decide +kernel

theorem offK_inb (i : grid0.Coords) (t : Fin (k0_t1_loop i).trips) (h : Fin 8) :
    ∀ a, offK i t h a + S256x128.size a ≤ S4096x1024.size a := by
  fin_cases h
  · exact k0_off9_inb i t
  · exact k0_off10_inb i t
  · exact k0_off11_inb i t
  · exact k0_off12_inb i t
  · exact k0_off13_inb i t
  · exact k0_off14_inb i t
  · exact k0_off15_inb i t
  · exact k0_off16_inb i t

section Trip
variable (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg2 : BitVec 32) (v5 : FVec Ideal S256x256 .bf16) (v15 : FVec Ideal S256x1 .f32) (v16 : FVec Ideal S256x1 .f32) (v17 : FVec Ideal S256x1 .f32) (v165 : FVec Ideal S256x256 .f32) (v179 : FVec Ideal S256x256 .f32) (v342 : FVec Ideal S256x1 .f32) (v345 : FVec Ideal S256x1 .f32) (v348 : FVec Ideal S256x1 .f32) (v351 : FVec Ideal S256x1 .f32) (v354 : FVec Ideal S256x1 .f32) (v356 : FVec Ideal S256x1 .f32) (X_arg3 : BufTy.Contents (Elt Ideal) arg3.view.ty) (X_arg4 : BufTy.Contents (Elt Ideal) arg4.view.ty) (X_arg5 : BufTy.Contents (Elt Ideal) arg5.view.ty) (k : Fin (k0_t1_loop i).trips)

set_option maxHeartbeats 4000000 in
/-- The trip's new carried sums. -/
theorem tripR_eq (acc) (f : BufTy.Contents (Elt Ideal) arg7.view.ty) :
    (trip_k0_t1 (F := Ideal) 𝒱 c bd i arg3 harg3 arg4 harg4 arg5 harg5 arg6 harg6 arg7 harg7 arg2 v5 v15 v16 v17 v165 v179 v342 v345 v348 v351 v354 v356 X_arg3 X_arg4 X_arg5 k).1 acc f =
      (carryT (byHead acc 0) (arg3.view.readAt (Elt Ideal) (rQ 0).toLoadRect X_arg3) (arg4.view.readAt (Elt Ideal) (Rect.unit (s := S4096x1024) (offK i k 0) S256x128.size (offK_inb i k 0)).toLoadRect X_arg4), carryT (byHead acc 1) (arg3.view.readAt (Elt Ideal) (rQ 1).toLoadRect X_arg3) (arg4.view.readAt (Elt Ideal) (Rect.unit (s := S4096x1024) (offK i k 1) S256x128.size (offK_inb i k 1)).toLoadRect X_arg4), carryT (byHead acc 2) (arg3.view.readAt (Elt Ideal) (rQ 2).toLoadRect X_arg3) (arg4.view.readAt (Elt Ideal) (Rect.unit (s := S4096x1024) (offK i k 2) S256x128.size (offK_inb i k 2)).toLoadRect X_arg4), carryT (byHead acc 3) (arg3.view.readAt (Elt Ideal) (rQ 3).toLoadRect X_arg3) (arg4.view.readAt (Elt Ideal) (Rect.unit (s := S4096x1024) (offK i k 3) S256x128.size (offK_inb i k 3)).toLoadRect X_arg4), carryT (byHead acc 4) (arg3.view.readAt (Elt Ideal) (rQ 4).toLoadRect X_arg3) (arg4.view.readAt (Elt Ideal) (Rect.unit (s := S4096x1024) (offK i k 4) S256x128.size (offK_inb i k 4)).toLoadRect X_arg4), carryT (byHead acc 5) (arg3.view.readAt (Elt Ideal) (rQ 5).toLoadRect X_arg3) (arg4.view.readAt (Elt Ideal) (Rect.unit (s := S4096x1024) (offK i k 5) S256x128.size (offK_inb i k 5)).toLoadRect X_arg4), carryT (byHead acc 6) (arg3.view.readAt (Elt Ideal) (rQ 6).toLoadRect X_arg3) (arg4.view.readAt (Elt Ideal) (Rect.unit (s := S4096x1024) (offK i k 6) S256x128.size (offK_inb i k 6)).toLoadRect X_arg4), carryT (byHead acc 7) (arg3.view.readAt (Elt Ideal) (rQ 7).toLoadRect X_arg3) (arg4.view.readAt (Elt Ideal) (Rect.unit (s := S4096x1024) (offK i k 7) S256x128.size (offK_inb i k 7)).toLoadRect X_arg4)) := by
  unfold trip_k0_t1
  sl_unfold_run_names
  rfl

set_option maxHeartbeats 4000000 in
/-- The trip's stores: each head's plane, the last head's first. -/
theorem tripL_eq (acc) (f : BufTy.Contents (Elt Ideal) arg7.view.ty) :
    (trip_k0_t1 (F := Ideal) 𝒱 c bd i arg3 harg3 arg4 harg4 arg5 harg5 arg6 harg6 arg7 harg7 arg2 v5 v15 v16 v17 v165 v179 v342 v345 v348 v351 v354 v356 X_arg3 X_arg4 X_arg5 k).2.1 acc f =
      [⟨rP 7, planeT v5 (byHead acc 7) (arg7.view.readAt (Elt Ideal) (rP 7).toLoadRect f) (arg3.view.readAt (Elt Ideal) (rQ 7).toLoadRect X_arg3) (arg4.view.readAt (Elt Ideal) (Rect.unit (s := S4096x1024) (offK i k 7) S256x128.size (offK_inb i k 7)).toLoadRect X_arg4) (arg5.view.readAt (Elt Ideal) (Rect.unit (s := S4096x1024) (offK i k 7) S256x128.size (offK_inb i k 7)).toLoadRect X_arg5)⟩, ⟨rP 6, planeT v5 (byHead acc 6) (arg7.view.readAt (Elt Ideal) (rP 6).toLoadRect f) (arg3.view.readAt (Elt Ideal) (rQ 6).toLoadRect X_arg3) (arg4.view.readAt (Elt Ideal) (Rect.unit (s := S4096x1024) (offK i k 6) S256x128.size (offK_inb i k 6)).toLoadRect X_arg4) (arg5.view.readAt (Elt Ideal) (Rect.unit (s := S4096x1024) (offK i k 6) S256x128.size (offK_inb i k 6)).toLoadRect X_arg5)⟩, ⟨rP 5, planeT v5 (byHead acc 5) (arg7.view.readAt (Elt Ideal) (rP 5).toLoadRect f) (arg3.view.readAt (Elt Ideal) (rQ 5).toLoadRect X_arg3) (arg4.view.readAt (Elt Ideal) (Rect.unit (s := S4096x1024) (offK i k 5) S256x128.size (offK_inb i k 5)).toLoadRect X_arg4) (arg5.view.readAt (Elt Ideal) (Rect.unit (s := S4096x1024) (offK i k 5) S256x128.size (offK_inb i k 5)).toLoadRect X_arg5)⟩, ⟨rP 4, planeT v5 (byHead acc 4) (arg7.view.readAt (Elt Ideal) (rP 4).toLoadRect f) (arg3.view.readAt (Elt Ideal) (rQ 4).toLoadRect X_arg3) (arg4.view.readAt (Elt Ideal) (Rect.unit (s := S4096x1024) (offK i k 4) S256x128.size (offK_inb i k 4)).toLoadRect X_arg4) (arg5.view.readAt (Elt Ideal) (Rect.unit (s := S4096x1024) (offK i k 4) S256x128.size (offK_inb i k 4)).toLoadRect X_arg5)⟩, ⟨rP 3, planeT v5 (byHead acc 3) (arg7.view.readAt (Elt Ideal) (rP 3).toLoadRect f) (arg3.view.readAt (Elt Ideal) (rQ 3).toLoadRect X_arg3) (arg4.view.readAt (Elt Ideal) (Rect.unit (s := S4096x1024) (offK i k 3) S256x128.size (offK_inb i k 3)).toLoadRect X_arg4) (arg5.view.readAt (Elt Ideal) (Rect.unit (s := S4096x1024) (offK i k 3) S256x128.size (offK_inb i k 3)).toLoadRect X_arg5)⟩, ⟨rP 2, planeT v5 (byHead acc 2) (arg7.view.readAt (Elt Ideal) (rP 2).toLoadRect f) (arg3.view.readAt (Elt Ideal) (rQ 2).toLoadRect X_arg3) (arg4.view.readAt (Elt Ideal) (Rect.unit (s := S4096x1024) (offK i k 2) S256x128.size (offK_inb i k 2)).toLoadRect X_arg4) (arg5.view.readAt (Elt Ideal) (Rect.unit (s := S4096x1024) (offK i k 2) S256x128.size (offK_inb i k 2)).toLoadRect X_arg5)⟩, ⟨rP 1, planeT v5 (byHead acc 1) (arg7.view.readAt (Elt Ideal) (rP 1).toLoadRect f) (arg3.view.readAt (Elt Ideal) (rQ 1).toLoadRect X_arg3) (arg4.view.readAt (Elt Ideal) (Rect.unit (s := S4096x1024) (offK i k 1) S256x128.size (offK_inb i k 1)).toLoadRect X_arg4) (arg5.view.readAt (Elt Ideal) (Rect.unit (s := S4096x1024) (offK i k 1) S256x128.size (offK_inb i k 1)).toLoadRect X_arg5)⟩, ⟨rP 0, planeT v5 (byHead acc 0) (arg7.view.readAt (Elt Ideal) (rP 0).toLoadRect f) (arg3.view.readAt (Elt Ideal) (rQ 0).toLoadRect X_arg3) (arg4.view.readAt (Elt Ideal) (Rect.unit (s := S4096x1024) (offK i k 0) S256x128.size (offK_inb i k 0)).toLoadRect X_arg4) (arg5.view.readAt (Elt Ideal) (Rect.unit (s := S4096x1024) (offK i k 0) S256x128.size (offK_inb i k 0)).toLoadRect X_arg5)⟩] := by
  unfold trip_k0_t1
  sl_unfold_run_names
  rfl
end Trip

end Cert.KernelIdeal.Stick

end
-- ==== Proof.Body.lean ====
/- The kernel's body at one grid point, read head by head: the masked tile on the diagonal, the loop over the earlier key
   blocks, and the eight planes written out. -/
module

public import proofs.«01_k».proof.Proof.Trip

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic

/-! ## The masked tile of one head -/

/-- The softplus of the scores below the diagonal, 0 elsewhere. -/
def softM (z : FVec Ideal S256x256 .f32) : FVec Ideal S256x256 .f32 := k0_pay114 k0_pay93 z (k0_pay112 z) k0_pay113

/-- A head's plane after the diagonal tile. -/
def planeM (old : Vec Ideal S1x256x128 .f32) (q k v : Vec Ideal S256x128 .bf16) : Vec Ideal S1x256x128 .f32 :=
  k0_pay152 (k0_pay143 k0_pay93 (k0_pay142 k0_pay96 (scoreT q k) (softM (scoreT q k)) (k0_pay24 k0_pay94 (softM (scoreT q k))))) old v

/-- A head's running sum after the diagonal tile. -/
def carryM (q k : Vec Ideal S256x128 .bf16) : FVec Ideal S256x1 .f32 := k0_pay153 k0_pay96 (softM (scoreT q k))

/-- The printed offsets of the diagonal tile's key and value loads, by head. -/
def offD (i : grid0.Coords) (h : Fin 8) : Fin 2 → ℕ :=
  ![k0_off1 i, k0_off2 i, k0_off3 i, k0_off4 i, k0_off5 i, k0_off6 i, k0_off7 i, k0_off8 i] h

theorem offD_eq : ∀ (i : grid0.Coords) (h : Fin 8), offD i h = ![256 * (i 2).val, 128 * h.val] := by decide +kernel

theorem offD_inb (i : grid0.Coords) (h : Fin 8) : ∀ a, offD i h a + S256x128.size a ≤ S4096x1024.size a := by
  fin_cases h
  · exact k0_off1_inb i
  · exact k0_off2_inb i
  · exact k0_off3_inb i
  · exact k0_off4_inb i
  · exact k0_off5_inb i
  · exact k0_off6_inb i
  · exact k0_off7_inb i
  · exact k0_off8_inb i

/-- No trip of the remainder loop stores nothing. -/
theorem rest_zero (𝒱 : Variants) (c : Dev nD) (bd : Option 𝒱.V) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg2 : BitVec 32) (v5 : FVec Ideal S256x256 .bf16) (v15 : FVec Ideal S256x1 .f32) (v16 : FVec Ideal S256x1 .f32) (v17 : FVec Ideal S256x1 .f32) (v165 : FVec Ideal S256x256 .f32) (v179 : FVec Ideal S256x256 .f32) (v342 : FVec Ideal S256x1 .f32) (v345 : FVec Ideal S256x1 .f32) (v348 : FVec Ideal S256x1 .f32) (v351 : FVec Ideal S256x1 .f32) (v354 : FVec Ideal S256x1 .f32) (v356 : FVec Ideal S256x1 .f32) (v368 : BitVec 32) (X_arg3 : BufTy.Contents (Elt Ideal) arg3.view.ty) (X_arg4 : BufTy.Contents (Elt Ideal) arg4.view.ty) (X_arg5 : BufTy.Contents (Elt Ideal) arg5.view.ty) (G_arg7 : BufTy.Contents (Elt Ideal) arg7.view.ty) (init : FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32) :
    (st_k0_t2 (F := Ideal) 𝒱 c bd i arg3 harg3 arg4 harg4 arg5 harg5 arg6 harg6 arg7 harg7 arg2 v5 v15 v16 v17 v165 v179 v342 v345 v348 v351 v354 v356 v368 X_arg3 X_arg4 X_arg5 G_arg7 init 0).2 = [] := rfl

section Run
variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole)
    (x0 : Vec Ideal S256x1024 .bf16) (x1 : Vec Ideal S4096x1024 .bf16) (x2 : Vec Ideal S4096x1024 .bf16)

/-- A head's columns of the query block held. -/
abbrev qD (h : Fin 8) : Vec Ideal S256x128 .bf16 := (arg3.view.readAt (Elt Ideal) (rQ h).toLoadRect (harg3.unread x0))
/-- A head's columns of the keys of the diagonal block. -/
abbrev kD (h : Fin 8) : Vec Ideal S256x128 .bf16 := (arg4.view.readAt (Elt Ideal) (Rect.unit (s := S4096x1024) (offD i h) S256x128.size (offD_inb i h)).toLoadRect (harg4.unread x1))
/-- A head's columns of the values of the diagonal block. -/
abbrev vD (h : Fin 8) : Vec Ideal S256x128 .bf16 := (arg5.view.readAt (Elt Ideal) (Rect.unit (s := S4096x1024) (offD i h) S256x128.size (offD_inb i h)).toLoadRect (harg5.unread x2))

/-- The stores of the diagonal tile of the first `n` heads, newest first, above the zeros. -/
def diagL (n : ℕ) (hn : n ≤ 8) : List (View.Piece (Elt Ideal) S8x256x128 .f32) :=
  match n with
  | 0 => [⟨Rect.unit (s := S8x256x128) ![0, 0, 0] S8x256x128.size inb_S8x256x128_S8x256x128_0_0_0, k0_pay95 (F := Ideal)⟩]
  | n + 1 => ⟨rP ⟨n, hn⟩, planeM (arg7.view.readCov (diagL n (by omega)) (rP ⟨n, hn⟩).toLoadRect)
      (qD arg3 harg3 x0 ⟨n, hn⟩) (kD i arg4 harg4 x1 ⟨n, hn⟩) (vD i arg5 harg5 x2 ⟨n, hn⟩)⟩ :: diagL n (by omega)

/-- The carried sums the loop begins with. -/
abbrev carry0 : FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32 :=
  (carryM (qD arg3 harg3 x0 0) (kD i arg4 harg4 x1 0), carryM (qD arg3 harg3 x0 1) (kD i arg4 harg4 x1 1), carryM (qD arg3 harg3 x0 2) (kD i arg4 harg4 x1 2), carryM (qD arg3 harg3 x0 3) (kD i arg4 harg4 x1 3), carryM (qD arg3 harg3 x0 4) (kD i arg4 harg4 x1 4), carryM (qD arg3 harg3 x0 5) (kD i arg4 harg4 x1 5), carryM (qD arg3 harg3 x0 6) (kD i arg4 harg4 x1 6), carryM (qD arg3 harg3 x0 7) (kD i arg4 harg4 x1 7))

/-- A head's columns of the output block. -/
abbrev rO (h : Fin 8) : Rect S256x1024 := rQ h

theorem diagL_succ (n : ℕ) (hn : n + 1 ≤ 8) : diagL i arg3 harg3 arg4 harg4 arg5 harg5 arg7 x0 x1 x2 (n + 1) hn =
    ⟨rP ⟨n, hn⟩, planeM (arg7.view.readCov (diagL i arg3 harg3 arg4 harg4 arg5 harg5 arg7 x0 x1 x2 n (by omega)) (rP ⟨n, hn⟩).toLoadRect)
      (qD arg3 harg3 x0 ⟨n, hn⟩) (kD i arg4 harg4 x1 ⟨n, hn⟩) (vD i arg5 harg5 x2 ⟨n, hn⟩)⟩ ::
      diagL i arg3 harg3 arg4 harg4 arg5 harg5 arg7 x0 x1 x2 n (by omega) := rfl

theorem diag1 : kernelRun0_A.sl.HS0_1 (F := Ideal) = diagL i arg3 harg3 arg4 harg4 arg5 harg5 arg7 x0 x1 x2 0 (by omega) := rfl

theorem diag2 : kernelRun0_A.sl.HS0_2 (F := Ideal) c i arg3 harg3 arg4 harg4 arg5 harg5 arg7 x0 x1 x2 = diagL i arg3 harg3 arg4 harg4 arg5 harg5 arg7 x0 x1 x2 1 (by omega) := by
  unfold kernelRun0_A.sl.HS0_2 kernelRun0_A.sl.v260
  rw [diag1, diagL_succ i arg3 harg3 arg4 harg4 arg5 harg5 arg7 x0 x1 x2 0]
  rfl

theorem diag3 : kernelRun0_A.sl.HS0_3 (F := Ideal) c i arg3 harg3 arg4 harg4 arg5 harg5 arg7 x0 x1 x2 = diagL i arg3 harg3 arg4 harg4 arg5 harg5 arg7 x0 x1 x2 2 (by omega) := by
  unfold kernelRun0_A.sl.HS0_3 kernelRun0_A.sl.v270
  rw [diag2, diagL_succ i arg3 harg3 arg4 harg4 arg5 harg5 arg7 x0 x1 x2 1]
  rfl

theorem diag4 : kernelRun0_A.sl.HS0_4 (F := Ideal) c i arg3 harg3 arg4 harg4 arg5 harg5 arg7 x0 x1 x2 = diagL i arg3 harg3 arg4 harg4 arg5 harg5 arg7 x0 x1 x2 3 (by omega) := by
  unfold kernelRun0_A.sl.HS0_4
  unfold kernelRun0_A.sl.r_38 kernelRun0_A.sl.v280
  rw [diag3, diagL_succ i arg3 harg3 arg4 harg4 arg5 harg5 arg7 x0 x1 x2 2]
  rfl

theorem diag5 : kernelRun0_A.sl.HS0_5 (F := Ideal) c i arg3 harg3 arg4 harg4 arg5 harg5 arg7 x0 x1 x2 = diagL i arg3 harg3 arg4 harg4 arg5 harg5 arg7 x0 x1 x2 4 (by omega) := by
  unfold kernelRun0_A.sl.HS0_5 kernelRun0_A.sl.v290
  rw [diag4, diagL_succ i arg3 harg3 arg4 harg4 arg5 harg5 arg7 x0 x1 x2 3]
  rfl

theorem diag6 : kernelRun0_A.sl.HS0_6 (F := Ideal) c i arg3 harg3 arg4 harg4 arg5 harg5 arg7 x0 x1 x2 = diagL i arg3 harg3 arg4 harg4 arg5 harg5 arg7 x0 x1 x2 5 (by omega) := by
  unfold kernelRun0_A.sl.HS0_6 kernelRun0_A.sl.v300
  rw [diag5, diagL_succ i arg3 harg3 arg4 harg4 arg5 harg5 arg7 x0 x1 x2 4]
  rfl

theorem diag7 : kernelRun0_A.sl.HS0_7 (F := Ideal) c i arg3 harg3 arg4 harg4 arg5 harg5 arg7 x0 x1 x2 = diagL i arg3 harg3 arg4 harg4 arg5 harg5 arg7 x0 x1 x2 6 (by omega) := by
  unfold kernelRun0_A.sl.HS0_7 kernelRun0_A.sl.v310
  rw [diag6, diagL_succ i arg3 harg3 arg4 harg4 arg5 harg5 arg7 x0 x1 x2 5]
  rfl

theorem diag8 : kernelRun0_A.sl.HS0_8 (F := Ideal) c i arg3 harg3 arg4 harg4 arg5 harg5 arg7 x0 x1 x2 = diagL i arg3 harg3 arg4 harg4 arg5 harg5 arg7 x0 x1 x2 7 (by omega) := by
  unfold kernelRun0_A.sl.HS0_8 kernelRun0_A.sl.v320
  rw [diag7, diagL_succ i arg3 harg3 arg4 harg4 arg5 harg5 arg7 x0 x1 x2 6]
  rfl

theorem carry0_eq : (kernelRun0_A.sl.r_39 (F := Ideal) c i arg3 harg3 arg4 harg4 x0 x1, kernelRun0_A.sl.r_40 (F := Ideal) c i arg3 harg3 arg4 harg4 x0 x1, kernelRun0_A.sl.r_41 (F := Ideal) c i arg3 harg3 arg4 harg4 x0 x1,
    kernelRun0_A.sl.r_42 (F := Ideal) c i arg3 harg3 arg4 harg4 x0 x1, kernelRun0_A.sl.r_43 (F := Ideal) c i arg3 harg3 arg4 harg4 x0 x1, k0_pay159 k0_pay101 (kernelRun0_A.sl.r_44 (F := Ideal) c i arg3 harg3 arg4 harg4 x0 x1),
    k0_pay160 k0_pay102 (kernelRun0_A.sl.r_19 (F := Ideal) c i arg3 harg3 arg4 harg4 x0 x1), k0_pay161 k0_pay103 (kernelRun0_A.sl.r_20 (F := Ideal) c i arg3 harg3 arg4 harg4 x0 x1)) = carry0 i arg3 harg3 arg4 harg4 x0 x1 := rfl

theorem diag_last :
    ⟨Rect.unit (s := S8x256x128) ![7, 0, 0] S1x256x128.size inb_S8x256x128_S1x256x128_7_0_0,
      k0_pay152 (kernelRun0_A.sl.r_37 (F := Ideal) c i arg3 harg3 arg4 harg4 x0 x1) (kernelRun0_A.sl.v330 (F := Ideal) c i arg3 harg3 arg4 harg4 arg5 harg5 arg7 x0 x1 x2)
        (View.readAt (Elt Ideal) arg5.view (Rect.unit (s := S4096x1024) (k0_off8 i) S256x128.size (k0_off8_inb i)).toLoadRect (harg5.unread x2))⟩ ::
      kernelRun0_A.sl.HS0_8 (F := Ideal) c i arg3 harg3 arg4 harg4 arg5 harg5 arg7 x0 x1 x2 = diagL i arg3 harg3 arg4 harg4 arg5 harg5 arg7 x0 x1 x2 8 le_rfl := by
  unfold kernelRun0_A.sl.v330
  rw [diag8, diagL_succ i arg3 harg3 arg4 harg4 arg5 harg5 arg7 x0 x1 x2 7]
  rfl
set_option maxHeartbeats 4000000 in
/-- The body's stores: each head's plane of the accumulator after the loop, rounded. -/
theorem run_eq : ∃ v165 v179 v342 v345 v348 v351 v354 v356,
    (kernelRun0_A (F := Ideal) c i arg3 harg3 arg4 harg4 arg5 harg5 arg6 harg6 arg7 harg7 x0 x1 x2).1 =
      [7, 6, 5, 4, 3, 2, 1, 0].map fun h : Fin 8 => ⟨rO h, k0_pay1 (arg7.view.readCov
        ((st_k0_t1 (F := Ideal) Variants.none c none i arg3 harg3 arg4 harg4 arg5 harg5 arg6 harg6 arg7 harg7
            (BitVec.ofNat 32 (i 2).val) k0_pay94 k0_pay101 k0_pay102 k0_pay103 v165 v179 v342 v345 v348 v351 v354 v356
            (harg3.unread x0) (harg4.unread x1) (harg5.unread x2)
            (arg7.view.writes (Elt Ideal) arg7.view.junk (diagL i arg3 harg3 arg4 harg4 arg5 harg5 arg7 x0 x1 x2 8 le_rfl))
            (carry0 i arg3 harg3 arg4 harg4 x0 x1) (k0_t1_loop i).trips).2
          ++ diagL i arg3 harg3 arg4 harg4 arg5 harg5 arg7 x0 x1 x2 8 le_rfl) (rP h).toLoadRect)⟩ := by
  refine ⟨kernelRun0_A.sl.r_19 c i arg3 harg3 arg4 harg4 x0 x1, kernelRun0_A.sl.r_20 c i arg3 harg3 arg4 harg4 x0 x1,
    kernelRun0_A.sl.r_39 c i arg3 harg3 arg4 harg4 x0 x1, kernelRun0_A.sl.r_40 c i arg3 harg3 arg4 harg4 x0 x1,
    kernelRun0_A.sl.r_41 c i arg3 harg3 arg4 harg4 x0 x1, kernelRun0_A.sl.r_42 c i arg3 harg3 arg4 harg4 x0 x1,
    kernelRun0_A.sl.r_43 c i arg3 harg3 arg4 harg4 x0 x1, kernelRun0_A.sl.r_44 c i arg3 harg3 arg4 harg4 x0 x1, ?_⟩
  unfold kernelRun0_A
  dsimp only [List.map]
  unfold kernelRun0_A.sl.v371 kernelRun0_A.sl.v375 kernelRun0_A.sl.v379 kernelRun0_A.sl.v383 kernelRun0_A.sl.v387 kernelRun0_A.sl.v391 kernelRun0_A.sl.v395 kernelRun0_A.sl.v399 kernelRun0_A.sl.HS0_9
  have h2 : Scf.trips (k0_t2_loop i).lb (k0_t2_loop i).ub (k0_t2_loop i).st = 0 := trips_rest i
  simp only [k0_t2_loop] at h2
  simp only [h2, rest_zero, List.nil_append]
  rw [diag_last, carry0_eq]
  rfl
end Run

end Cert.KernelIdeal.Stick

end
-- ==== Proof.Tile.lean ====
/- One tile of the attention over the reals: what the kernel's vector words hold at an index when every entry read is a
   real number. -/
module

public import proofs.«01_k».proof.Proof.Body
public import Idealize.ShloMosaic.Lib.Pipeline.ValueKit

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Finset (range Ico)

/-! ## Sums of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_sum (n : ℕ) (f : ℕ → ℝ) : ∑ k : Fin n, ((f k.val : ℝ) : EReal) = ((∑ k ∈ range n, f k : ℝ) : EReal) := by
  rw [coe_sum, Finset.sum_range]

/-- A sum kept where `k < r`, over a range holding `r`. -/
theorem sum_below {n r : ℕ} (hr : r ≤ n) (f : ℕ → ℝ) : ∑ k ∈ range n, (if k < r then f k else 0) = ∑ k ∈ range r, f k := by
  rw [← Finset.sum_filter]
  refine Finset.sum_congr ?_ fun _ _ => rfl
  ext k; simp only [Finset.mem_filter, Finset.mem_range]; omega

/-- A sum kept where `j < k`. -/
theorem sum_above {n : ℕ} (j : ℕ) (f : ℕ → ℝ) : ∑ k ∈ range n, f k * (if j < k then 1 else 0) = ∑ k ∈ Ico (j + 1) n, f k := by
  simp only [mul_ite, mul_one, mul_zero]
  rw [← Finset.sum_filter]
  refine Finset.sum_congr ?_ fun _ _ => rfl
  ext k; simp only [Finset.mem_filter, Finset.mem_range, Finset.mem_Ico]; omega

/-! ## The softplus in base 2 -/

/-- Softplus in units of `log 2`, that is `log₂ (1 + 2 ^ z)`, as the kernel computes it. -/
def sp2 (z : ℝ) : ℝ := max z 0 + Real.log (1 + Real.rpow 2 (-max z (-z))) * (Real.log 2)⁻¹

theorem coe_max (a b : ℝ) : max (a : EReal) (b : EReal) = ((max a b : ℝ) : EReal) :=
  (EReal.coe_strictMono.monotone.map_max).symm

/-- The kernel's softplus of a real. -/
theorem sp2_coe (z : ℝ) :
    (max (z : EReal) 0 + Ideal.log (1 + FloatOps.exp2 (F := Ideal) (φ := .f32) ((0 : EReal) - FloatOps.absf (F := Ideal) (φ := .f32) (z : EReal)))
        * Named.named (F := Ideal) κ "log2e" (φ := .f32) 0x3FB8AA3B#32 : EReal) = ((sp2 z : ℝ) : EReal) := by
  have hn : Named.named (F := Ideal) κ "log2e" (φ := .f32) 0x3FB8AA3B#32 = (((Real.log 2)⁻¹ : ℝ) : EReal) :=
    IdealRules.named_const.ideal_named_scalar _ _ _ _ rfl
  rw [hn]
  have ha : FloatOps.absf (F := Ideal) (φ := .f32) (z : EReal) = ((max z (-z) : ℝ) : EReal) := by
    show max (z : EReal) (-(z : EReal)) = _
    rw [← EReal.coe_neg, coe_max]
  rw [ha, zero_sub, ← EReal.coe_neg]
  show max (z : EReal) 0 + Ideal.log (1 + Ideal.exp2 _) * _ = _
  have hp : (0 : ℝ) < 1 + Real.rpow 2 (-max z (-z)) := by
    have : (0 : ℝ) < Real.rpow 2 (-max z (-z)) := Real.rpow_pos_of_pos (by norm_num) _
    linarith
  rw [Ideal.exp2_coe, ← EReal.coe_one, ← EReal.coe_add, Ideal.log_coe, if_neg (not_le.mpr hp), ← EReal.coe_zero, coe_max,
    ← EReal.coe_mul, ← EReal.coe_add]
  rfl

/-! ## The mask -/

theorem lt_at (r j : Fin 256) : k0_pay93 (ix2 r j) = if j.val < r.val then 1#1 else 0#1 := by
  pointwise [k0_pay93]
  have h : ∀ r j : Fin 256, IntOp.cmpi CmpIPredicate.sgt (BitVec.ofNat 32 r.val) (BitVec.ofNat 32 j.val) = if j.val < r.val then 1#1 else 0#1 := by
    decide +kernel
  exact h r j

theorem ltf_at (r j : Fin 256) : k0_pay94 (F := Ideal) (ix2 r j) = (((if j.val < r.val then 1 else 0 : ℝ) : ℝ) : EReal) := by
  pointwise [k0_pay94, lt_at]
  show ((((BitVec.setWidth 32 (if j.val < r.val then 1#1 else 0#1)).toInt : ℝ)) : EReal) = _
  split_ifs <;> simp

/-! ## One tile -/

section
variable (q k v : Vec Ideal S256x128 .bf16) (Q K V : ℕ → ℕ → ℝ)
  (hq : ∀ (r : Fin 256) (d : Fin 128), q (ix2 r d) = ((Q r.val d.val : ℝ) : EReal))
  (hk : ∀ (r : Fin 256) (d : Fin 128), k (ix2 r d) = ((K r.val d.val : ℝ) : EReal))
  (hv : ∀ (r : Fin 256) (d : Fin 128), v (ix2 r d) = ((V r.val d.val : ℝ) : EReal))

/-- The score of a row against a column of the tile. -/
def score (Q K : ℕ → ℕ → ℝ) (r j : ℕ) : ℝ := ∑ d ∈ range 128, Q r d * K j d

/-- The weight of a row on a column of the tile, `c` the softplus mass between the tile's end (at `e`) and the row. -/
def weight (Q K : ℕ → ℕ → ℝ) (r j e : ℕ) (c : ℝ) : ℝ :=
  Real.rpow 2 (score Q K r j - sp2 (score Q K r j) - (∑ j' ∈ Ico (j + 1) e, sp2 (score Q K r j') + c))

include hq hk in
theorem score_at (r j : Fin 256) : scoreT q k (ix2 r j) = ((score Q K r.val j.val : ℝ) : EReal) := by
  pointwise [scoreT, k0_pay5, hq, hk]
  simp only [← EReal.coe_mul]
  exact fin_sum 128 fun d => Q r.val d * K j.val d

theorem soft_at (z : FVec Ideal S256x256 .f32) (Z : ℝ) (r j : Fin 256) (hz : z (ix2 r j) = (Z : EReal)) :
    softT z (ix2 r j) = ((sp2 Z : ℝ) : EReal) := by
  pointwise [softT, k0_pay13, hz]
  exact sp2_coe Z

theorem softM_at (z : FVec Ideal S256x256 .f32) (Z : ℝ) (r j : Fin 256) (hz : z (ix2 r j) = (Z : EReal)) :
    softM z (ix2 r j) = ((if j.val < r.val then sp2 Z else 0 : ℝ) : EReal) := by
  pointwise [softM, k0_pay114, k0_pay112, k0_pay113, hz, lt_at]
  rw [sp2_coe Z]
  by_cases h : j.val < r.val
  · rw [if_pos h, if_pos h]; rfl
  · rw [if_neg h, if_neg h]; rfl

include hq hk in
theorem carry_at (c : FVec Ideal S256x1 .f32) (C : ℕ → ℝ) (hc : ∀ r : Fin 256, c (ix2 r 0) = ((C r.val : ℝ) : EReal)) (r : Fin 256) :
    carryT c q k (ix2 r 0) = ((C r.val + ∑ j ∈ range 256, sp2 (score Q K r.val j) : ℝ) : EReal) := by
  pointwise [carryT, k0_pay163, hc]
  rw [EReal.coe_add, ← fin_sum]
  exact congrArg _ (Finset.sum_congr rfl fun j _ => soft_at _ _ r j (score_at q k Q K hq hk r j))

include hq hk in
theorem carryM_at (r : Fin 256) :
    carryM q k (ix2 r 0) = ((∑ j ∈ range r.val, sp2 (score Q K r.val j) : ℝ) : EReal) := by
  pointwise [carryM, k0_pay153, k0_pay96]
  rw [← sum_below (n := 256) r.isLt.le, ← fin_sum]
  exact Finset.sum_congr rfl fun j _ => softM_at _ _ r j (score_at q k Q K hq hk r j)

include hq hk hv in
theorem plane_at (c : FVec Ideal S256x1 .f32) (C : ℕ → ℝ) (hc : ∀ r : Fin 256, c (ix2 r 0) = ((C r.val : ℝ) : EReal))
    (old : Vec Ideal S1x256x128 .f32) (O : ℕ → ℕ → ℝ) (ho : ∀ (r : Fin 256) (d : Fin 128), old (ix3 0 r d) = ((O r.val d.val : ℝ) : EReal))
    (r : Fin 256) (d : Fin 128) :
    planeT k0_pay94 c old q k v (ix3 0 r d)
      = ((O r.val d.val + ∑ j ∈ range 256, weight Q K r.val j 256 (C r.val) * V j d.val : ℝ) : EReal) := by
  pointwise [planeT, k0_pay40, k0_pay41, k0_pay24, k0_pay32, hc, hv, ho]
  rw [EReal.coe_add, ← fin_sum]
  refine congrArg _ (Finset.sum_congr rfl fun j _ => ?_)
  have hs : ∀ x : Fin 256, softT (scoreT q k) (ix2 r x) = ((sp2 (score Q K r.val x.val) : ℝ) : EReal) :=
    fun x => soft_at _ _ r x (score_at q k Q K hq hk r x)
  have ht : (∑ x : Fin 256, softT (scoreT q k) (ix2 r x) * k0_pay94 (F := Ideal) (ix2 x j) : EReal)
      = ((∑ j' ∈ Ico (j.val + 1) 256, sp2 (score Q K r.val j') : ℝ) : EReal) := by
    rw [← sum_above, ← fin_sum]
    refine Finset.sum_congr rfl fun x _ => ?_
    rw [hs, ltf_at, ← EReal.coe_mul]
  rw [ht, hs, score_at q k Q K hq hk, ← EReal.coe_sub, ← EReal.coe_add, ← EReal.coe_sub, EReal.coe_mul]
  rfl

include hq hk hv in
theorem planeM_at (old : Vec Ideal S1x256x128 .f32) (O : ℕ → ℕ → ℝ) (ho : ∀ (r : Fin 256) (d : Fin 128), old (ix3 0 r d) = ((O r.val d.val : ℝ) : EReal))
    (r : Fin 256) (d : Fin 128) :
    planeM old q k v (ix3 0 r d)
      = ((O r.val d.val + ∑ j ∈ range r.val, weight Q K r.val j r.val 0 * V j d.val : ℝ) : EReal) := by
  pointwise [planeM, k0_pay152, k0_pay143, k0_pay142, k0_pay24, k0_pay96, hv, ho]
  rw [EReal.coe_add, ← sum_below (n := 256) r.isLt.le, ← fin_sum]
  refine congrArg _ (Finset.sum_congr rfl fun j _ => ?_)
  have hs : ∀ x : Fin 256, softM (scoreT q k) (ix2 r x) = ((if x.val < r.val then sp2 (score Q K r.val x.val) else 0 : ℝ) : EReal) :=
    fun x => softM_at _ _ r x (score_at q k Q K hq hk r x)
  have ht : (∑ x : Fin 256, softM (scoreT q k) (ix2 r x) * k0_pay94 (F := Ideal) (ix2 x j) : EReal)
      = ((∑ j' ∈ Ico (j.val + 1) r.val, sp2 (score Q K r.val j') : ℝ) : EReal) := by
    have : ∑ j' ∈ Ico (j.val + 1) r.val, sp2 (score Q K r.val j')
        = ∑ x ∈ range 256, (if x < r.val then sp2 (score Q K r.val x) else 0) * (if j.val < x then 1 else 0) := by
      rw [← sum_above, ← sum_below (n := 256) r.isLt.le]
      refine Finset.sum_congr rfl fun x _ => ?_
      split_ifs <;> simp
    rw [this, ← fin_sum]
    refine Finset.sum_congr rfl fun x _ => ?_
    rw [hs, ltf_at, ← EReal.coe_mul]
  rw [lt_at]
  by_cases h : j.val < r.val
  · rw [if_pos h, if_pos h, ht, hs, if_pos h, score_at q k Q K hq hk, ← EReal.coe_sub, ← EReal.coe_sub, EReal.coe_mul, weight, add_zero]
    rfl
  · rw [if_neg h, if_neg h]; rfl

end

end Cert.KernelIdeal.Stick

end
-- ==== Proof.State.lean ====
/- The state of a head along the loop, over the reals: the softplus mass and the weighted values of the columns taken so
   far, and what the body leaves in the output block. -/
module

public import proofs.«01_k».proof.Proof.Tile
public import Idealize.ShloMosaic.Lib.WholeRead

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Finset (range Ico)

/-! ## The attention of one row, over the reals -/

/-- The weight of a row on column `s`, `e` the end of the columns the row sees and `z` its scores in base 2. -/
def wt (z : ℕ → ℝ) (e s : ℕ) : ℝ := Real.rpow 2 (z s - sp2 (z s) - ∑ u ∈ Ico (s + 1) e, sp2 (z u))

/-- The softplus mass of the columns from `a` up to the row's end. -/
def mass (z : ℕ → ℝ) (a e : ℕ) : ℝ := ∑ u ∈ Ico a e, sp2 (z u)

/-- The weighted values of the columns from `a` up to the row's end. -/
def acc (z v : ℕ → ℝ) (a e : ℕ) : ℝ := ∑ s ∈ Ico a e, wt z e s * v s

theorem sum_tile (f : ℕ → ℝ) (a n : ℕ) : ∑ j ∈ range n, f (a + j) = ∑ u ∈ Ico a (a + n), f u := by
  rw [Finset.sum_Ico_eq_sum_range]; simp

theorem mass_step (z : ℕ → ℝ) (a n e : ℕ) (h : a + n ≤ e) :
    mass z (a + n) e + ∑ j ∈ range n, sp2 (z (a + j)) = mass z a e := by
  rw [sum_tile (fun u => sp2 (z u)), mass, mass, add_comm, Finset.sum_Ico_consecutive _ (by omega) h]

/-- The softplus mass after a column of a tile: the rest of the tile, then the columns after it. -/
theorem mass_tail (z : ℕ → ℝ) (a n e j : ℕ) (hj : j < n) (h : a + n ≤ e) :
    ∑ j' ∈ Ico (j + 1) n, sp2 (z (a + j')) + mass z (a + n) e = ∑ u ∈ Ico (a + j + 1) e, sp2 (z u) := by
  have : ∑ j' ∈ Ico (j + 1) n, sp2 (z (a + j')) = ∑ u ∈ Ico (a + (j + 1)) (a + n), sp2 (z u) := by
    rw [Finset.sum_Ico_add (fun u => sp2 (z u)) (j + 1) n a, add_comm a (j + 1), add_comm a n]
  rw [this, mass, Finset.sum_Ico_consecutive _ (by omega) h]; rfl

theorem acc_step (z v : ℕ → ℝ) (a n e : ℕ) (h : a + n ≤ e) :
    acc z v (a + n) e + ∑ j ∈ range n,
      Real.rpow 2 (z (a + j) - sp2 (z (a + j)) - (∑ j' ∈ Ico (j + 1) n, sp2 (z (a + j')) + mass z (a + n) e)) * v (a + j)
      = acc z v a e := by
  have : ∑ j ∈ range n,
      Real.rpow 2 (z (a + j) - sp2 (z (a + j)) - (∑ j' ∈ Ico (j + 1) n, sp2 (z (a + j')) + mass z (a + n) e)) * v (a + j)
      = ∑ j ∈ range n, (fun s => wt z e s * v s) (a + j) :=
    Finset.sum_congr rfl fun j hj => by rw [mass_tail z a n e j (Finset.mem_range.mp hj) h]; rfl
  rw [this, sum_tile (fun s => wt z e s * v s), acc, acc, add_comm, Finset.sum_Ico_consecutive _ (by omega) h]

/-! ## Planes of the accumulator -/

section Plane
variable (arg7 : Memref sig .tc .vmem S8x256x128 .f32) (f : BufTy.Contents (Elt Ideal) arg7.view.ty)
  (L : List (View.Piece (Elt Ideal) S8x256x128 .f32))

theorem plane_hit (h : Fin 8) (w : Vec Ideal S1x256x128 .f32) :
    arg7.view.readAt (Elt Ideal) (rP h).toLoadRect (arg7.view.writes (Elt Ideal) f (⟨rP h, w⟩ :: L)) = w :=
  funext fun x => View.read_writes_cons_emb _ _ _ _ _ _

theorem plane_miss (h h' : Fin 8) (hne : h ≠ h') (w : Vec Ideal S1x256x128 .f32) :
    arg7.view.readAt (Elt Ideal) (rP h).toLoadRect (arg7.view.writes (Elt Ideal) f (⟨rP h', w⟩ :: L))
      = arg7.view.readAt (Elt Ideal) (rP h).toLoadRect (arg7.view.writes (Elt Ideal) f L) := by
  funext x
  refine View.read_writes_cons_miss_of_axis _ _ _ _ _ (0 : Fin 3) h'.val 1 rfl rfl rfl ?_
  have hx : ((x (0 : Fin 3)).val : ℕ) < 1 := (x (0 : Fin 3)).isLt
  have hv : (((rP h).toLoadRect.idx x) (0 : Fin 3)).val = h.val + 1 * (x (0 : Fin 3)).val := rfl
  have : h.val ≠ h'.val := fun e => hne (Fin.ext e)
  omega

/-- After the eight planes' stores, each plane holds its own. -/
theorem planes_hit (w : Fin 8 → Vec Ideal S1x256x128 .f32) (h : Fin 8) :
    arg7.view.readAt (Elt Ideal) (rP h).toLoadRect (arg7.view.writes (Elt Ideal) f
      ([⟨rP 7, w 7⟩, ⟨rP 6, w 6⟩, ⟨rP 5, w 5⟩, ⟨rP 4, w 4⟩, ⟨rP 3, w 3⟩, ⟨rP 2, w 2⟩, ⟨rP 1, w 1⟩, ⟨rP 0, w 0⟩] ++ L)) = w h := by
  simp only [List.cons_append, List.nil_append]
  by_cases h7 : h = 7
  · subst h7; exact plane_hit ..
  rw [plane_miss _ _ _ _ _ h7]
  by_cases h6 : h = 6
  · subst h6; exact plane_hit ..
  rw [plane_miss _ _ _ _ _ h6]
  by_cases h5 : h = 5
  · subst h5; exact plane_hit ..
  rw [plane_miss _ _ _ _ _ h5]
  by_cases h4 : h = 4
  · subst h4; exact plane_hit ..
  rw [plane_miss _ _ _ _ _ h4]
  by_cases h3 : h = 3
  · subst h3; exact plane_hit ..
  rw [plane_miss _ _ _ _ _ h3]
  by_cases h2 : h = 2
  · subst h2; exact plane_hit ..
  rw [plane_miss _ _ _ _ _ h2]
  by_cases h1 : h = 1
  · subst h1; exact plane_hit ..
  rw [plane_miss _ _ _ _ _ h1]
  have h0 : h = 0 := by omega
  subst h0; exact plane_hit ..

end Plane

theorem byHead_mk {α : Type} (f : Fin 8 → α) (h : Fin 8) : byHead (f 0, f 1, f 2, f 3, f 4, f 5, f 6, f 7) h = f h := by
  fin_cases h <;> rfl

/-! ## The body at one grid point -/

/-- An output block stored head by head, read at a head's column. -/
theorem canon_heads (w : Fin 8 → Vec Ideal S256x128 .bf16) (h : Fin 8) (r : Fin 256) (d : Fin 128) :
    View.canon (Val := Elt Ideal) (s := S256x1024) (e := .bf16) ([7, 6, 5, 4, 3, 2, 1, 0].map fun h : Fin 8 => (⟨rO h, w h⟩ : View.Piece (Elt Ideal) S256x1024 .bf16))
        (ix2 r (⟨128 * h.val + d.val, by omega⟩ : Fin 1024)) = w h (ix2 r d) := by
  have hit : ∀ L, View.canon (Val := Elt Ideal) (s := S256x1024) (e := .bf16) (⟨rO h, w h⟩ :: L) (ix2 r (⟨128 * h.val + d.val, by omega⟩ : Fin 1024)) = w h (ix2 r d) := by
    intro L
    have e : (rO h).emb (ix2 r d) = ix2 r (⟨128 * h.val + d.val, by omega⟩ : Fin 1024) := by
      funext a; apply Fin.ext
      fin_cases a
      · show 0 + 1 * r.val = r.val; omega
      · show 128 * h.val + 1 * d.val = 128 * h.val + d.val; omega
    rw [← e, View.canon_cons_emb]
  have miss : ∀ (h' : Fin 8) L, h ≠ h' → View.canon (Val := Elt Ideal) (s := S256x1024) (e := .bf16) (⟨rO h', w h'⟩ :: L) (ix2 r (⟨128 * h.val + d.val, by omega⟩ : Fin 1024))
      = View.canon L (ix2 r (⟨128 * h.val + d.val, by omega⟩ : Fin 1024)) := by
    intro h' L hne
    refine View.canon_cons_of_not_mem _ _ (Rect.not_mem_set_of_axis _ _ (1 : Fin 2) (128 * h'.val) 128 rfl rfl rfl ?_)
    have : h.val ≠ h'.val := fun e => hne (Fin.ext e)
    show 128 * h.val + d.val < 128 * h'.val ∨ 128 * h'.val + 128 ≤ 128 * h.val + d.val
    omega
  simp only [List.map_cons, List.map_nil]
  by_cases h7 : h = 7
  · subst h7; exact hit _
  rw [miss _ _ h7]
  by_cases h6 : h = 6
  · subst h6; exact hit _
  rw [miss _ _ h6]
  by_cases h5 : h = 5
  · subst h5; exact hit _
  rw [miss _ _ h5]
  by_cases h4 : h = 4
  · subst h4; exact hit _
  rw [miss _ _ h4]
  by_cases h3 : h = 3
  · subst h3; exact hit _
  rw [miss _ _ h3]
  by_cases h2 : h = 2
  · subst h2; exact hit _
  rw [miss _ _ h2]
  by_cases h1 : h = 1
  · subst h1; exact hit _
  rw [miss _ _ h1]
  have h0 : h = 0 := by omega
  subst h0; exact hit _

section State
variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole)
    (x0 : Vec Ideal S256x1024 .bf16) (x1 : Vec Ideal S4096x1024 .bf16) (x2 : Vec Ideal S4096x1024 .bf16)
variable (Q0 K0 V0 : ℕ → ℕ → ℝ)
  (hx0 : ∀ (r : Fin 256) (d : Fin 1024), x0 (ix2 r d) = ((Q0 r.val d.val : ℝ) : EReal))
  (hx1 : ∀ (r : Fin 4096) (d : Fin 1024), x1 (ix2 r d) = ((K0 r.val d.val : ℝ) : EReal))
  (hx2 : ∀ (r : Fin 4096) (d : Fin 1024), x2 (ix2 r d) = ((V0 r.val d.val : ℝ) : EReal))

include hx0 in
/-- A head's columns of the query block, at an index. -/
theorem q_at (h : Fin 8) (r : Fin 256) (d : Fin 128) :
    qD arg3 harg3 x0 h (ix2 r d) = ((Q0 r.val (128 * h.val + d.val) : ℝ) : EReal) := by
  have e : (rQ h).toLoadRect.idx (ix2 r d) = ix2 r (⟨128 * h.val + d.val, by omega⟩ : Fin 1024) := by
    funext a; apply Fin.ext
    fin_cases a
    · show 0 + 1 * r.val = r.val; omega
    · show 128 * h.val + 1 * d.val = 128 * h.val + d.val; omega
  exact (harg3.readAt_unread x0 _ _).trans (by rw [e, hx0])

/-- A head's columns of key (or value) block `b`, at an index. -/
theorem kv_at (m : Memref sig .tc .vmem S4096x1024 .bf16) (hm : m.IsWhole) (x : Vec Ideal S4096x1024 .bf16) (X0 : ℕ → ℕ → ℝ)
    (hx : ∀ (r : Fin 4096) (d : Fin 1024), x (ix2 r d) = ((X0 r.val d.val : ℝ) : EReal))
    (o : Fin 2 → ℕ) (inb : ∀ a, o a + S256x128.size a ≤ S4096x1024.size a) (b : ℕ) (hb : b < 16) (h : Fin 8) (ho : o = ![256 * b, 128 * h.val])
    (r : Fin 256) (d : Fin 128) :
    m.view.readAt (Elt Ideal) (Rect.unit (s := S4096x1024) o S256x128.size inb).toLoadRect (hm.unread x) (ix2 r d)
      = ((X0 (256 * b + r.val) (128 * h.val + d.val) : ℝ) : EReal) := by
  subst ho
  have e : (Rect.unit (s := S4096x1024) ![256 * b, 128 * h.val] S256x128.size inb).toLoadRect.idx (ix2 r d)
      = ix2 (⟨256 * b + r.val, by omega⟩ : Fin 4096) (⟨128 * h.val + d.val, by omega⟩ : Fin 1024) := by
    funext a; apply Fin.ext
    fin_cases a
    · show 256 * b + 1 * r.val = 256 * b + r.val; omega
    · show 128 * h.val + 1 * d.val = 128 * h.val + d.val; omega
  exact (hm.readAt_unread x _ _).trans (by rw [e, hx])

/-- The scores of row `r` of the block under head `h`. -/
def zrow (h : Fin 8) (r u : ℕ) : ℝ := ∑ d ∈ range 128, Q0 r (128 * h.val + d) * K0 u (128 * h.val + d)

theorem i2_lt : (i 2).val < 16 := (i 2).isLt

include hx0 hx1 in
/-- The sums carried into the loop: the diagonal block's softplus mass. -/
theorem carry0_at (h : Fin 8) (r : Fin 256) :
    byHead (carry0 i arg3 harg3 arg4 harg4 x0 x1) h (ix2 r 0)
      = ((mass (zrow Q0 K0 h r.val) (256 * (i 2).val) (256 * (i 2).val + r.val) : ℝ) : EReal) := by
  have e := byHead_mk (fun h => carryM (qD arg3 harg3 x0 h) (kD i arg4 harg4 x1 h)) h
  refine (congrFun e (ix2 r 0)).trans ?_
  rw [carryM_at _ _ (fun r d => Q0 r (128 * h.val + d)) (fun j d => K0 (256 * (i 2).val + j) (128 * h.val + d))
    (q_at arg3 harg3 x0 Q0 hx0 h) (kv_at arg4 harg4 x1 K0 hx1 _ _ _ (i2_lt i) h (offD_eq i h))]
  rw [mass, ← sum_tile]; rfl

include hx0 hx1 hx2 in
/-- The accumulator after the diagonal tile of the first `n` heads. -/
theorem diag_at (n : ℕ) (hn : n ≤ 8) (h : Fin 8) (r : Fin 256) (d : Fin 128) :
    arg7.view.readAt (Elt Ideal) (rP h).toLoadRect (arg7.view.writes (Elt Ideal) arg7.view.junk
        (diagL i arg3 harg3 arg4 harg4 arg5 harg5 arg7 x0 x1 x2 n hn)) (ix3 0 r d)
      = ((if h.val < n then acc (zrow Q0 K0 h r.val) (fun s => V0 s (128 * h.val + d.val)) (256 * (i 2).val) (256 * (i 2).val + r.val) else 0 : ℝ) : EReal) := by
  induction n generalizing h r d with
  | zero =>
    rw [if_neg (by omega)]
    show arg7.view.read (Elt Ideal) _ _ = _
    refine (View.read_writes_cons_hit_of_coords _ _ _ _ _ ((rP h).toLoadRect.idx (ix3 0 r d)) _ (fun a => ?_)).trans ?_
    · fin_cases a
      · show _ = 0 + 1 * _; omega
      · show _ = 0 + 1 * _; omega
      · show _ = 0 + 1 * _; omega
    · pointwise [k0_pay95]; rfl
  | succ n ih =>
    rw [diagL_succ]
    by_cases e : h = ⟨n, hn⟩
    · subst e
      rw [plane_hit, if_pos (Nat.lt_succ_self n)]
      rw [planeM_at _ _ _ (fun r d => Q0 r (128 * n + d)) (fun j d => K0 (256 * (i 2).val + j) (128 * n + d)) (fun j d => V0 (256 * (i 2).val + j) (128 * n + d))
        (q_at arg3 harg3 x0 Q0 hx0 ⟨n, hn⟩) (kv_at arg4 harg4 x1 K0 hx1 _ _ _ (i2_lt i) ⟨n, hn⟩ (offD_eq i ⟨n, hn⟩))
        (kv_at arg5 harg5 x2 V0 hx2 _ _ _ (i2_lt i) ⟨n, hn⟩ (offD_eq i ⟨n, hn⟩)) _ (fun _ _ => 0) ?_]
      · congr 1
        have := acc_step (zrow Q0 K0 ⟨n, hn⟩ r.val) (fun s => V0 s (128 * n + d.val)) (256 * (i 2).val) r.val (256 * (i 2).val + r.val) le_rfl
        rw [← this]
        simp only [acc, mass, Finset.Ico_self, Finset.sum_empty]
        rfl
      · intro r d
        exact (ih (by omega) ⟨n, hn⟩ r d).trans (by rw [if_neg (by simp)])
    · rw [plane_miss _ _ _ _ _ e, ih (by omega) h r d]
      have : h.val ≠ n := fun c => e (Fin.ext c)
      congr 1
      by_cases hh : h.val < n
      · rw [if_pos hh, if_pos (by omega)]
      · rw [if_neg hh, if_neg (by omega)]

section Loop
variable (v165 : FVec Ideal S256x256 .f32) (v179 : FVec Ideal S256x256 .f32) (v342 : FVec Ideal S256x1 .f32) (v345 : FVec Ideal S256x1 .f32) (v348 : FVec Ideal S256x1 .f32) (v351 : FVec Ideal S256x1 .f32) (v354 : FVec Ideal S256x1 .f32) (v356 : FVec Ideal S256x1 .f32)

/-- The accumulator's contents when the loop begins. -/
abbrev G0 : BufTy.Contents (Elt Ideal) arg7.view.ty :=
  arg7.view.writes (Elt Ideal) arg7.view.junk (diagL i arg3 harg3 arg4 harg4 arg5 harg5 arg7 x0 x1 x2 8 le_rfl)

/-- The loop's state before trip `n`: the carried sums and the stores so far. -/
def loopSt (n : ℕ) := st_k0_t1 (F := Ideal) Variants.none c none i arg3 harg3 arg4 harg4 arg5 harg5 arg6 harg6 arg7 harg7 (BitVec.ofNat 32 (i 2).val) k0_pay94 k0_pay101 k0_pay102 k0_pay103 v165 v179 v342 v345 v348 v351 v354 v356 (harg3.unread x0) (harg4.unread x1) (harg5.unread x2)
  (G0 i arg3 harg3 arg4 harg4 arg5 harg5 arg7 x0 x1 x2) (carry0 i arg3 harg3 arg4 harg4 x0 x1) n

/-- A head's columns of the keys of trip `n`'s block. -/
abbrev kT (n : ℕ) (hk : n < (k0_t1_loop i).trips) (h : Fin 8) : Vec Ideal S256x128 .bf16 :=
  arg4.view.readAt (Elt Ideal) (Rect.unit (s := S4096x1024) (offK i ⟨n, hk⟩ h) S256x128.size (offK_inb i ⟨n, hk⟩ h)).toLoadRect (harg4.unread x1)

/-- A head's columns of the values of trip `n`'s block. -/
abbrev vT (n : ℕ) (hk : n < (k0_t1_loop i).trips) (h : Fin 8) : Vec Ideal S256x128 .bf16 :=
  arg5.view.readAt (Elt Ideal) (Rect.unit (s := S4096x1024) (offK i ⟨n, hk⟩ h) S256x128.size (offK_inb i ⟨n, hk⟩ h)).toLoadRect (harg5.unread x2)

/-- A head's carried sum after trip `n`. -/
def cT (n : ℕ) (hk : n < (k0_t1_loop i).trips) (h : Fin 8) : FVec Ideal S256x1 .f32 :=
  carryT (byHead (loopSt c i arg3 harg3 arg4 harg4 arg5 harg5 arg6 harg6 arg7 harg7 x0 x1 x2 v165 v179 v342 v345 v348 v351 v354 v356 n).1 h) (qD arg3 harg3 x0 h) (kT i arg4 harg4 x1 n hk h)

/-- A head's plane after trip `n`. -/
def pT (n : ℕ) (hk : n < (k0_t1_loop i).trips) (h : Fin 8) : Vec Ideal S1x256x128 .f32 :=
  planeT k0_pay94 (byHead (loopSt c i arg3 harg3 arg4 harg4 arg5 harg5 arg6 harg6 arg7 harg7 x0 x1 x2 v165 v179 v342 v345 v348 v351 v354 v356 n).1 h)
    (arg7.view.readAt (Elt Ideal) (rP h).toLoadRect (arg7.view.writes (Elt Ideal) (G0 i arg3 harg3 arg4 harg4 arg5 harg5 arg7 x0 x1 x2) (loopSt c i arg3 harg3 arg4 harg4 arg5 harg5 arg6 harg6 arg7 harg7 x0 x1 x2 v165 v179 v342 v345 v348 v351 v354 v356 n).2))
    (qD arg3 harg3 x0 h) (kT i arg4 harg4 x1 n hk h) (vT i arg5 harg5 x2 n hk h)

theorem loopSt_succ (n : ℕ) (hk : n < (k0_t1_loop i).trips) :
    loopSt c i arg3 harg3 arg4 harg4 arg5 harg5 arg6 harg6 arg7 harg7 x0 x1 x2 v165 v179 v342 v345 v348 v351 v354 v356 (n + 1) = ((cT c i arg3 harg3 arg4 harg4 arg5 harg5 arg6 harg6 arg7 harg7 x0 x1 x2 v165 v179 v342 v345 v348 v351 v354 v356 n hk 0, cT c i arg3 harg3 arg4 harg4 arg5 harg5 arg6 harg6 arg7 harg7 x0 x1 x2 v165 v179 v342 v345 v348 v351 v354 v356 n hk 1, cT c i arg3 harg3 arg4 harg4 arg5 harg5 arg6 harg6 arg7 harg7 x0 x1 x2 v165 v179 v342 v345 v348 v351 v354 v356 n hk 2, cT c i arg3 harg3 arg4 harg4 arg5 harg5 arg6 harg6 arg7 harg7 x0 x1 x2 v165 v179 v342 v345 v348 v351 v354 v356 n hk 3, cT c i arg3 harg3 arg4 harg4 arg5 harg5 arg6 harg6 arg7 harg7 x0 x1 x2 v165 v179 v342 v345 v348 v351 v354 v356 n hk 4, cT c i arg3 harg3 arg4 harg4 arg5 harg5 arg6 harg6 arg7 harg7 x0 x1 x2 v165 v179 v342 v345 v348 v351 v354 v356 n hk 5, cT c i arg3 harg3 arg4 harg4 arg5 harg5 arg6 harg6 arg7 harg7 x0 x1 x2 v165 v179 v342 v345 v348 v351 v354 v356 n hk 6, cT c i arg3 harg3 arg4 harg4 arg5 harg5 arg6 harg6 arg7 harg7 x0 x1 x2 v165 v179 v342 v345 v348 v351 v354 v356 n hk 7),
      [⟨rP 7, pT c i arg3 harg3 arg4 harg4 arg5 harg5 arg6 harg6 arg7 harg7 x0 x1 x2 v165 v179 v342 v345 v348 v351 v354 v356 n hk 7⟩, ⟨rP 6, pT c i arg3 harg3 arg4 harg4 arg5 harg5 arg6 harg6 arg7 harg7 x0 x1 x2 v165 v179 v342 v345 v348 v351 v354 v356 n hk 6⟩, ⟨rP 5, pT c i arg3 harg3 arg4 harg4 arg5 harg5 arg6 harg6 arg7 harg7 x0 x1 x2 v165 v179 v342 v345 v348 v351 v354 v356 n hk 5⟩, ⟨rP 4, pT c i arg3 harg3 arg4 harg4 arg5 harg5 arg6 harg6 arg7 harg7 x0 x1 x2 v165 v179 v342 v345 v348 v351 v354 v356 n hk 4⟩, ⟨rP 3, pT c i arg3 harg3 arg4 harg4 arg5 harg5 arg6 harg6 arg7 harg7 x0 x1 x2 v165 v179 v342 v345 v348 v351 v354 v356 n hk 3⟩, ⟨rP 2, pT c i arg3 harg3 arg4 harg4 arg5 harg5 arg6 harg6 arg7 harg7 x0 x1 x2 v165 v179 v342 v345 v348 v351 v354 v356 n hk 2⟩, ⟨rP 1, pT c i arg3 harg3 arg4 harg4 arg5 harg5 arg6 harg6 arg7 harg7 x0 x1 x2 v165 v179 v342 v345 v348 v351 v354 v356 n hk 1⟩, ⟨rP 0, pT c i arg3 harg3 arg4 harg4 arg5 harg5 arg6 harg6 arg7 harg7 x0 x1 x2 v165 v179 v342 v345 v348 v351 v354 v356 n hk 0⟩] ++ (loopSt c i arg3 harg3 arg4 harg4 arg5 harg5 arg6 harg6 arg7 harg7 x0 x1 x2 v165 v179 v342 v345 v348 v351 v354 v356 n).2) := by
  refine (st_k0_t1_succ Variants.none c none i arg3 harg3 arg4 harg4 arg5 harg5 arg6 harg6 arg7 harg7 (BitVec.ofNat 32 (i 2).val) k0_pay94 k0_pay101 k0_pay102 k0_pay103 v165 v179 v342 v345 v348 v351 v354 v356 (harg3.unread x0) (harg4.unread x1) (harg5.unread x2) _ _ ⟨n, hk⟩).trans ?_
  exact Prod.ext (tripR_eq ..) (congrArg (· ++ _) (tripL_eq ..))

include hx0 hx1 hx2 in
/-- Before trip `n` each head holds the columns of the diagonal block and of the `n` blocks before it. -/
theorem loop_at (n : ℕ) (hn : n ≤ (i 2).val) :
    (∀ (h : Fin 8) (r : Fin 256), byHead (loopSt c i arg3 harg3 arg4 harg4 arg5 harg5 arg6 harg6 arg7 harg7 x0 x1 x2 v165 v179 v342 v345 v348 v351 v354 v356 n).1 h (ix2 r 0)
      = ((mass (zrow Q0 K0 h r.val) (256 * ((i 2).val - n)) (256 * (i 2).val + r.val) : ℝ) : EReal))
    ∧ ∀ (h : Fin 8) (r : Fin 256) (d : Fin 128),
      arg7.view.readAt (Elt Ideal) (rP h).toLoadRect (arg7.view.writes (Elt Ideal) (G0 i arg3 harg3 arg4 harg4 arg5 harg5 arg7 x0 x1 x2)
          (loopSt c i arg3 harg3 arg4 harg4 arg5 harg5 arg6 harg6 arg7 harg7 x0 x1 x2 v165 v179 v342 v345 v348 v351 v354 v356 n).2) (ix3 0 r d)
        = ((acc (zrow Q0 K0 h r.val) (fun s => V0 s (128 * h.val + d.val)) (256 * ((i 2).val - n)) (256 * (i 2).val + r.val) : ℝ) : EReal) := by
  induction n with
  | zero =>
    have e0 : loopSt c i arg3 harg3 arg4 harg4 arg5 harg5 arg6 harg6 arg7 harg7 x0 x1 x2 v165 v179 v342 v345 v348 v351 v354 v356 0 = (carry0 i arg3 harg3 arg4 harg4 x0 x1, []) := rfl
    rw [e0, Nat.sub_zero]
    refine ⟨fun h r => carry0_at i arg3 harg3 arg4 harg4 x0 x1 Q0 K0 hx0 hx1 h r, fun h r d => ?_⟩
    have hd := diag_at i arg3 harg3 arg4 harg4 arg5 harg5 arg7 x0 x1 x2 Q0 K0 V0 hx0 hx1 hx2 8 le_rfl h r d
    rw [if_pos h.isLt] at hd
    dsimp only
    rw [View.writes_nil]
    exact hd
  | succ n ih =>
    obtain ⟨ihc, ihp⟩ := ih (by omega)
    have hk : n < (k0_t1_loop i).trips := by rw [trips_eq]; omega
    have hb : (i 2).val - 1 - n < 16 := by have := i2_lt i; omega
    have ha : 256 * ((i 2).val - n) = 256 * ((i 2).val - 1 - n) + 256 := by omega
    have ha' : 256 * ((i 2).val - (n + 1)) = 256 * ((i 2).val - 1 - n) := by omega
    rw [loopSt_succ c i arg3 harg3 arg4 harg4 arg5 harg5 arg6 harg6 arg7 harg7 x0 x1 x2 v165 v179 v342 v345 v348 v351 v354 v356 n hk]
    rw [ha] at ihc ihp
    rw [ha']
    refine ⟨fun h r => ?_, fun h r d => ?_⟩
    · refine (congrFun (byHead_mk (fun h => cT c i arg3 harg3 arg4 harg4 arg5 harg5 arg6 harg6 arg7 harg7 x0 x1 x2 v165 v179 v342 v345 v348 v351 v354 v356 n hk h) h) _).trans ?_
      rw [cT, carry_at _ _ (fun r d => Q0 r (128 * h.val + d)) (fun j d => K0 (256 * ((i 2).val - 1 - n) + j) (128 * h.val + d))
        (q_at arg3 harg3 x0 Q0 hx0 h) (kv_at arg4 harg4 x1 K0 hx1 _ _ _ hb h (offK_eq i ⟨n, hk⟩ h)) _
        (fun r => mass (zrow Q0 K0 h r) (256 * ((i 2).val - 1 - n) + 256) (256 * (i 2).val + r)) (ihc h)]
      rw [← mass_step (zrow Q0 K0 h r.val) (256 * ((i 2).val - 1 - n)) 256 _ (by omega)]; rfl
    · rw [View.writes_append]
      refine (congrFun (planes_hit arg7 _ [] (fun h => pT c i arg3 harg3 arg4 harg4 arg5 harg5 arg6 harg6 arg7 harg7 x0 x1 x2 v165 v179 v342 v345 v348 v351 v354 v356 n hk h) h) _).trans ?_
      dsimp only
      rw [pT, plane_at _ _ _ (fun r d => Q0 r (128 * h.val + d)) (fun j d => K0 (256 * ((i 2).val - 1 - n) + j) (128 * h.val + d))
        (fun j d => V0 (256 * ((i 2).val - 1 - n) + j) (128 * h.val + d))
        (q_at arg3 harg3 x0 Q0 hx0 h) (kv_at arg4 harg4 x1 K0 hx1 _ _ _ hb h (offK_eq i ⟨n, hk⟩ h))
        (kv_at arg5 harg5 x2 V0 hx2 _ _ _ hb h (offK_eq i ⟨n, hk⟩ h)) _
        (fun r => mass (zrow Q0 K0 h r) (256 * ((i 2).val - 1 - n) + 256) (256 * (i 2).val + r)) (ihc h) _
        (fun r d => acc (zrow Q0 K0 h r) (fun s => V0 s (128 * h.val + d)) (256 * ((i 2).val - 1 - n) + 256) (256 * (i 2).val + r)) (ihp h)]
      rw [← acc_step (zrow Q0 K0 h r.val) (fun s => V0 s (128 * h.val + d.val)) (256 * ((i 2).val - 1 - n)) 256 _ (by omega)]; rfl
end Loop

include hx0 hx1 hx2 in
/-- What the body leaves in the output block: each head's rows, over all the columns before the row's own. -/
theorem body_at (h : Fin 8) (r : Fin 256) (d : Fin 128) :
    View.canon (kernelRun0_A (F := Ideal) c i arg3 harg3 arg4 harg4 arg5 harg5 arg6 harg6 arg7 harg7 x0 x1 x2).1
        (ix2 r (⟨128 * h.val + d.val, by omega⟩ : Fin 1024))
      = ((acc (zrow Q0 K0 h r.val) (fun s => V0 s (128 * h.val + d.val)) 0 (256 * (i 2).val + r.val) : ℝ) : EReal) := by
  obtain ⟨v165, v179, v342, v345, v348, v351, v354, v356, e⟩ := run_eq c i arg3 harg3 arg4 harg4 arg5 harg5 arg6 harg6 arg7 harg7 x0 x1 x2
  have hl := (loop_at c i arg3 harg3 arg4 harg4 arg5 harg5 arg6 harg6 arg7 harg7 x0 x1 x2 Q0 K0 V0 hx0 hx1 hx2 v165 v179 v342 v345 v348 v351 v354 v356 (i 2).val le_rfl).2 h r d
  rw [Nat.sub_self, Nat.mul_zero] at hl
  rw [e, trips_eq]
  refine (canon_heads (fun h => k0_pay1 (arg7.view.readCov ((loopSt c i arg3 harg3 arg4 harg4 arg5 harg5 arg6 harg6 arg7 harg7 x0 x1 x2 v165 v179 v342 v345 v348 v351 v354 v356 (i 2).val).2
    ++ diagL i arg3 harg3 arg4 harg4 arg5 harg5 arg7 x0 x1 x2 8 le_rfl) (rP h).toLoadRect)) h r d).trans ?_
  pointwise [k0_pay1]
  rw [← hl, ← View.writes_append]
  rfl
end State

end Cert.KernelIdeal.Stick

end
-- ==== Proof.Out.lean ====
/- The kernel's result array over the reals: the blocks put together, each entry the attention of its row. -/
module

public import proofs.«01_k».proof.Proof.State
public import Idealize.ShloMosaic.Lib.Claim

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.ShloMosaic.Pipeline (Dat)
open Finset (range Ico)

/-! ## The array the call reads -/

/-- The factor of each column of the projection: the queries' scale, in base 2, and 1 for the keys and values. -/
def colScale : FVec Ideal S6144 .f32 :=
  select (cmpi .slt (iotaInDim S6144 32 0) (broadcastInDim S6144 ![] bcast_S_S6144 (constantI S_ 32 2048#32)))
    (broadcastInDim S6144 ![] bcast_S_S6144 (Host.divf (constant S_ .f32 0x3F800000#32)
      (mulf (Host.log (constant S_ .f32 0x40000000#32)) (Host.sqrt (constant S_ .f32 0x43000000#32)))))
    (broadcastInDim S6144 ![] bcast_S_S6144 (constant S_ .f32 0x3F800000#32))

/-- The projection with its queries scaled: what the call reads. -/
def scaled (X : FVec Ideal S8192x6144 .f32) : FVec Ideal S8192x6144 .bf16 :=
  truncf .bf16 (mulf X (broadcastInDim S8192x6144 ![0, 1] bcast_S1x6144_S8192x6144_0_1 (broadcastInDim S1x6144 ![1] bcast_S6144_S1x6144_1 colScale)))
    bitsLt_bf16_f32

/-- The queries' scale. -/
def qs : ℝ := 1 / (Real.log 2 * Real.sqrt 128)

theorem two_f32 : Ideal.ofBits .f32 0x40000000#32 = ((2 : ℝ) : EReal) := by
  simp [Ideal.ofBits, Ideal.ieee, -EReal.coe_mul]; norm_num

theorem n128_f32 : Ideal.ofBits .f32 0x43000000#32 = ((128 : ℝ) : EReal) := by
  simp [Ideal.ofBits, Ideal.ieee, -EReal.coe_mul]; norm_num

theorem log2_pos : 0 < Real.log 2 := Real.log_pos (by norm_num)

theorem sqrt128_pos : 0 < Real.sqrt 128 := Real.sqrt_pos.mpr (by norm_num)

theorem div_real (x y : ℝ) (hy : y ≠ 0) : Ideal.div (x : EReal) (y : EReal) = ((x / y : ℝ) : EReal) := by
  rw [Ideal.div_coe hy, ← EReal.coe_mul, mul_one_div]

theorem qs_ideal : Ideal.div 1 (Ideal.log (Ideal.ofBits .f32 0x40000000#32) * Ideal.sqrt (Ideal.ofBits .f32 0x43000000#32)) = ((qs : ℝ) : EReal) := by
  rw [two_f32, n128_f32, Ideal.log_coe, if_neg (by norm_num), Ideal.sqrt_coe, if_neg (by norm_num), ← EReal.coe_mul, ← EReal.coe_one,
    div_real _ _ (mul_pos log2_pos sqrt128_pos).ne']
  rfl

theorem below_cmp (d : ℕ) (hd : d < 6144) : IntOp.cmpi CmpIPredicate.slt (BitVec.ofNat 32 d) 2048#32 = if d < 2048 then 1#1 else 0#1 := by
  have h : ∀ d : Fin 6144, IntOp.cmpi CmpIPredicate.slt (BitVec.ofNat 32 d.val) 2048#32 = if d.val < 2048 then 1#1 else 0#1 := by decide +kernel
  exact h ⟨d, hd⟩

theorem scaled_at (X : FVec Ideal S8192x6144 .f32) (r : Fin 8192) (d : Fin 6144) :
    scaled X (ix2 r d) = X (ix2 r d) * (((if d.val < 2048 then qs else 1 : ℝ) : ℝ) : EReal) := by
  pointwise [scaled, colScale]
  rw [qs_ideal, below_cmp d.val d.isLt]
  by_cases h : d.val < 2048
  · rw [if_pos h, if_pos h]; rfl
  · rw [if_neg h, if_neg h]; rfl

section Region
variable (m : (ℓ : Loc nD τ sig) → Buf (Elt Ideal) ℓ) (c : Dev nD)

theorem V_scaled : V m c main_v11 = scaled (m ((c : Thread nD τ).loc main_arg0)) := by
  show StableHlo.after (List.flatten [hostOps0, hostOps0_1, hostOps0_2]) (fun b => m (c, b)) (Proc.devRef .tc main_v11) = _
  simp only [hostOps0, hostOps0_1, hostOps0_2, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp
  rfl

theorem idx : ∀ t : Fin cfg0.N,
    win0_0.index t = ![16 * (grid0.coords t 0).val + (grid0.coords t 2).val, (grid0.coords t 1).val]
    ∧ win0_1.index t = ![(grid0.coords t 0).val, 2 + (grid0.coords t 1).val]
    ∧ win0_2.index t = ![(grid0.coords t 0).val, 4 + (grid0.coords t 1).val]
    ∧ win0_3.index t = ![16 * (grid0.coords t 0).val + (grid0.coords t 2).val, (grid0.coords t 1).val] :=
  (by decide +kernel : ∀ t : Fin grid0.N, _)

theorem coords_lt (t : Fin cfg0.N) : (grid0.coords t 0).val < 2 ∧ (grid0.coords t 1).val < 2 ∧ (grid0.coords t 2).val < 16 :=
  ⟨(grid0.coords t 0).isLt, (grid0.coords t 1).isLt, (grid0.coords t 2).isLt⟩

/-- The scaled projection over the reals. -/
def sR (a : ℕ → ℕ → ℝ) (r d : ℕ) : ℝ := a r d * (if d < 2048 then qs else 1)

/-- The scores, in base 2, of one row of one head against the rows of its batch element. -/
def zR (a : ℕ → ℕ → ℝ) (row H u : ℕ) : ℝ := ∑ d ∈ range 128, sR a row (128 * H + d) * sR a (4096 * (row / 4096) + u) (2048 + 128 * H + d)

/-- The attention over the reals: row `row`, column `col` of the result. -/
def attnR (a : ℕ → ℕ → ℝ) (row col : ℕ) : ℝ :=
  acc (zR a row (col / 128)) (fun s => sR a (4096 * (row / 4096) + s) (4096 + col)) 0 (row % 4096)

variable (a : ℕ → ℕ → ℝ)
  (ha : ∀ (r : Fin 8192) (d : Fin 6144), (m ((c : Thread nD τ).loc main_arg0) : FVec Ideal S8192x6144 .f32) (ix2 r d) = ((a r.val d.val : ℝ) : EReal))

section
include ha

/-- The query block of a grid point. -/
theorem q_blk (t : Fin cfg0.N) (r : Fin 256) (d : Fin 1024) :
    (iblk m c 0 t : Vec Ideal S256x1024 .bf16) (ix2 r d) = ((sR a (4096 * (grid0.coords t 0).val + 256 * (grid0.coords t 2).val + r.val) (1024 * (grid0.coords t 1).val + d.val) : ℝ) : EReal) := by
  obtain ⟨h0, h1, h2⟩ := coords_lt t
  have e : (iblk m c 0 t : Vec Ideal S256x1024 .bf16) (ix2 r d) = scaled (m ((c : Thread nD τ).loc main_arg0))
      (ix2 (⟨4096 * (grid0.coords t 0).val + 256 * (grid0.coords t 2).val + r.val, by omega⟩ : Fin 8192) (⟨1024 * (grid0.coords t 1).val + d.val, by omega⟩ : Fin 6144)) := by
    show V m c main_v11 (((cfg0.win 0).blk t).view.emb (ix2 r d)) = _
    rw [V_scaled]
    blk_ext [idx t]
  rw [e, scaled_at, ha, ← EReal.coe_mul]; rfl

/-- The keys of a grid point. -/
theorem k_blk (t : Fin cfg0.N) (r : Fin 4096) (d : Fin 1024) :
    (iblk m c 1 t : Vec Ideal S4096x1024 .bf16) (ix2 r d) = ((sR a (4096 * (grid0.coords t 0).val + r.val) (2048 + 1024 * (grid0.coords t 1).val + d.val) : ℝ) : EReal) := by
  obtain ⟨h0, h1, h2⟩ := coords_lt t
  have e : (iblk m c 1 t : Vec Ideal S4096x1024 .bf16) (ix2 r d) = scaled (m ((c : Thread nD τ).loc main_arg0))
      (ix2 (⟨4096 * (grid0.coords t 0).val + r.val, by omega⟩ : Fin 8192) (⟨2048 + 1024 * (grid0.coords t 1).val + d.val, by omega⟩ : Fin 6144)) := by
    show V m c main_v11 (((cfg0.win 1).blk t).view.emb (ix2 r d)) = _
    rw [V_scaled]
    blk_ext [idx t]
  rw [e, scaled_at, ha, ← EReal.coe_mul]; rfl

/-- The values of a grid point. -/
theorem v_blk (t : Fin cfg0.N) (r : Fin 4096) (d : Fin 1024) :
    (iblk m c 2 t : Vec Ideal S4096x1024 .bf16) (ix2 r d) = ((sR a (4096 * (grid0.coords t 0).val + r.val) (4096 + 1024 * (grid0.coords t 1).val + d.val) : ℝ) : EReal) := by
  obtain ⟨h0, h1, h2⟩ := coords_lt t
  have e : (iblk m c 2 t : Vec Ideal S4096x1024 .bf16) (ix2 r d) = scaled (m ((c : Thread nD τ).loc main_arg0))
      (ix2 (⟨4096 * (grid0.coords t 0).val + r.val, by omega⟩ : Fin 8192) (⟨4096 + 1024 * (grid0.coords t 1).val + d.val, by omega⟩ : Fin 6144)) := by
    show V m c main_v11 (((cfg0.win 2).blk t).view.emb (ix2 r d)) = _
    rw [V_scaled]
    blk_ext [idx t]
  rw [e, scaled_at, ha, ← EReal.coe_mul]; rfl

/-- What a grid point leaves in the output block. -/
theorem outs_at (t : Fin cfg0.N) (r : Fin 256) (h : Fin 8) (d : Fin 128) :
    outsAt0 m c t (ix2 r (⟨128 * h.val + d.val, by omega⟩ : Fin 1024))
      = ((attnR a (4096 * (grid0.coords t 0).val + 256 * (grid0.coords t 2).val + r.val) (1024 * (grid0.coords t 1).val + (128 * h.val + d.val)) : ℝ) : EReal) := by
  obtain ⟨h0, h1, h2⟩ := coords_lt t
  unfold outsAt0 out0_A_3
  rw [View.read_writes_junk_eq_canon]
  refine (body_at c (grid0.coords t) _ _ _ _ _ _ _ _ _ _ _ _ _ (fun r d => sR a (4096 * (grid0.coords t 0).val + 256 * (grid0.coords t 2).val + r) (1024 * (grid0.coords t 1).val + d))
    (fun r d => sR a (4096 * (grid0.coords t 0).val + r) (2048 + 1024 * (grid0.coords t 1).val + d)) (fun r d => sR a (4096 * (grid0.coords t 0).val + r) (4096 + 1024 * (grid0.coords t 1).val + d))
    (q_blk m c a ha t) (k_blk m c a ha t) (v_blk m c a ha t) h r d).trans ?_
  have e1 : (4096 * (grid0.coords t 0).val + 256 * (grid0.coords t 2).val + r.val) / 4096 = (grid0.coords t 0).val := by omega
  have e2 : (4096 * (grid0.coords t 0).val + 256 * (grid0.coords t 2).val + r.val) % 4096 = 256 * (grid0.coords t 2).val + r.val := by omega
  have e3 : (1024 * (grid0.coords t 1).val + (128 * h.val + d.val)) / 128 = 8 * (grid0.coords t 1).val + h.val := by omega
  rw [attnR, e2, e3]
  have ez : zrow (fun r d => sR a (4096 * (grid0.coords t 0).val + 256 * (grid0.coords t 2).val + r) (1024 * (grid0.coords t 1).val + d)) (fun r d => sR a (4096 * (grid0.coords t 0).val + r) (2048 + 1024 * (grid0.coords t 1).val + d)) h r.val
      = zR a (4096 * (grid0.coords t 0).val + 256 * (grid0.coords t 2).val + r.val) (8 * (grid0.coords t 1).val + h.val) := by
    funext u
    rw [zrow, zR, e1]
    refine Finset.sum_congr rfl fun d _ => ?_
    congr 2 <;> omega
  rw [ez, e1]
  have ev : (fun s => (fun r d => sR a (4096 * (grid0.coords t 0).val + r) (4096 + 1024 * (grid0.coords t 1).val + d)) s (128 * h.val + d.val))
      = fun s => sR a (4096 * (grid0.coords t 0).val + s) (4096 + (1024 * (grid0.coords t 1).val + (128 * h.val + d.val))) := by
    funext s; dsimp only; congr 1; omega
  rw [ev]

/-- The result array: the attention of every row. -/
theorem out_eq : (dats m 0 c).arrAt 3 (cfgs 0).N = (fun y : S8192x2048.Idx => ((attnR a (y 0).val (y 1).val : ℝ) : EReal)) := by
  refine (dats m 0 c).arrAt_eq_of_covers 3 _ (by decide +kernel) fun t _ y => ?_
  blk_simp
  rw [after0_3]
  obtain ⟨r, d, rfl⟩ : ∃ (r : Fin 256) (d : Fin 1024), y = ix2 r d := ⟨y 0, y 1, by ext i; fin_cases i <;> rfl⟩
  have hd := outs_at m c a ha t r ⟨d.val / 128, by omega⟩ ⟨d.val % 128, by omega⟩
  have e : (⟨128 * (d.val / 128) + d.val % 128, by omega⟩ : Fin 1024) = d := Fin.ext (by dsimp only; omega)
  have e' : 128 * (d.val / 128) + d.val % 128 = d.val := by omega
  simp only [e, e'] at hd
  refine hd.trans ?_
  have e3 := (idx t).2.2.2
  congr 2
  · show _ = win0_3.index t 0 * 256 + r.val
    rw [e3]; show _ = (4 * 4 * _ + _) * 256 + _; omega
  · show _ = win0_3.index t 1 * 1024 + d.val
    rw [e3]; show _ = (grid0.coords t 1).val * 1024 + _; omega

end

end Region

end Cert.KernelIdeal.Stick

end
-- ==== Proof.Ref.lean ====
/- The reference, read at an index: the stick-breaking attention over the reals. -/
module

public import proofs.«01_k».proof.Proof.Gen.ReferenceIdeal
public import proofs.«01_k».proof.Proof.Gen.ReferenceIdeal.Run
public import proofs.«01_k».proof.Proof.Out

@[expose] public section

set_option maxRecDepth 16384

noncomputable section

namespace Cert.ReferenceIdeal.Stick

open Cert.ReferenceIdeal Cert.ReferenceIdeal.Gen Cert.ReferenceIdeal.Value
open Idealize.ShloMosaic Idealize.ShloMosaic.TcCoe Idealize.ShloMosaic.Tactic
open Finset (range Ico)
open Cert.KernelIdeal.Stick (coe_sum fin_sum n128_f32 div_real sqrt128_pos log2_pos coe_max)

/-- The queries, keys and values by batch element, head, position and head dimension. -/
def qT (X : FVec Ideal S8192x6144 .f32) : FVec Ideal S2x16x4096x128 .f32 := transpose S2x16x4096x128 [0, 2, 1, 3] (shapeCast _ (extractStridedSlice S2x4096x1x16x128 ![0, 0, 0, 0, 0] (shapeCast _ X shapeCasts_S8192x6144_S2x4096x3x16x128) slices_S2x4096x3x16x128_S2x4096x1x16x128_0_0_0_0_0) shapeCasts_S2x4096x1x16x128_S2x4096x16x128) transposes_S2x4096x16x128_S2x16x4096x128_0_2_1_3
@[inherit_doc qT] def kT (X : FVec Ideal S8192x6144 .f32) : FVec Ideal S2x16x4096x128 .f32 := transpose S2x16x4096x128 [0, 2, 1, 3] (shapeCast _ (extractStridedSlice S2x4096x1x16x128 ![0, 0, 1, 0, 0] (shapeCast _ X shapeCasts_S8192x6144_S2x4096x3x16x128) slices_S2x4096x3x16x128_S2x4096x1x16x128_0_0_1_0_0) shapeCasts_S2x4096x1x16x128_S2x4096x16x128) transposes_S2x4096x16x128_S2x16x4096x128_0_2_1_3
@[inherit_doc qT] def vT (X : FVec Ideal S8192x6144 .f32) : FVec Ideal S2x16x4096x128 .f32 := transpose S2x16x4096x128 [0, 2, 1, 3] (shapeCast _ (extractStridedSlice S2x4096x1x16x128 ![0, 0, 2, 0, 0] (shapeCast _ X shapeCasts_S8192x6144_S2x4096x3x16x128) slices_S2x4096x3x16x128_S2x4096x1x16x128_0_0_2_0_0) shapeCasts_S2x4096x1x16x128_S2x4096x16x128) transposes_S2x4096x16x128_S2x16x4096x128_0_2_1_3

/-- The scores. -/
def zT (X : FVec Ideal S8192x6144 .f32) : FVec Ideal S2x16x4096x4096 .f32 := mulf (Host.dotGeneral dot_S2x16x4096x128_S2x16x4096x128_S2x16x4096x4096_3_3_2_2_01_01 none (qT X) (kT X)) (broadcastInDim S2x16x4096x4096 ![] bcast_S_S2x16x4096x4096 (Host.divf (constant S_ .f32 0x3F800000#32) (Host.sqrt (constant S_ .f32 0x43000000#32))))

/-- The strict causal mask. -/
def maskT : IVec S2x16x4096x4096 1 := broadcastInDim S2x16x4096x4096 ![2, 3] bcast_S4096x4096_S2x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- Softplus, as the reference's own operations spell it. -/
def softT (z : FVec Ideal S2x16x4096x4096 .f32) : FVec Ideal S2x16x4096x4096 .f32 :=
  select (cmpf .une (subf z (broadcastInDim S2x16x4096x4096 ![] bcast_S_S2x16x4096x4096 (constant S_ .f32 0x00000000#32))) (subf z (broadcastInDim S2x16x4096x4096 ![] bcast_S_S2x16x4096x4096 (constant S_ .f32 0x00000000#32)))) (addf z (broadcastInDim S2x16x4096x4096 ![] bcast_S_S2x16x4096x4096 (constant S_ .f32 0x00000000#32))) (addf (maximumf z (broadcastInDim S2x16x4096x4096 ![] bcast_S_S2x16x4096x4096 (constant S_ .f32 0x00000000#32))) (Host.log1p (Host.exp (Host.negf (Host.absf (subf z (broadcastInDim S2x16x4096x4096 ![] bcast_S_S2x16x4096x4096 (constant S_ .f32 0x00000000#32))))))))

/-- The masked softplus of the scores. -/
def spT (X : FVec Ideal S8192x6144 .f32) : FVec Ideal S2x16x4096x4096 .f32 := select maskT (softT (zT X)) (broadcastInDim S2x16x4096x4096 ![] bcast_S_S2x16x4096x4096 (id (constant S_ .f32 0x00000000#32)))

/-- Its sums from each key to the last. -/
def sumT (X : FVec Ideal S8192x6144 .f32) : FVec Ideal S2x16x4096x4096 .f32 := Host.reduceWindowAdd ![1, 1, 1, 4096] ![1, 1, 1, 1] ![0, 0, 0, 0] ![0, 0, 0, 4095] (spT X) (broadcastInDim S_ ![] bcast_S_S_ (constant S_ .f32 0x00000000#32)) reduceWindows_S2x16x4096x4096_S2x16x4096x4096_w1s1p0_0_w1s1p0_0_w1s1p0_0_w4096s1p0_4095 h_S_

/-- The weights. -/
def attnT (X : FVec Ideal S8192x6144 .f32) : FVec Ideal S2x16x4096x4096 .f32 :=
  select maskT (Host.exp (subf (Host.negf (softT (Host.negf (zT X)))) (subf (sumT X) (spT X)))) (broadcastInDim S2x16x4096x4096 ![] bcast_S_S2x16x4096x4096 (id (constant S_ .f32 0x00000000#32)))

/-- The result. -/
def outT (X : FVec Ideal S8192x6144 .f32) : FVec Ideal S8192x2048 .bf16 := truncf .bf16 (shapeCast _ (transpose S2x4096x16x128 [0, 2, 1, 3] (Host.dotGeneral dot_S2x16x4096x4096_S2x16x4096x128_S2x16x4096x128_3_2_2_3_01_01 none (attnT X) (vT X)) transposes_S2x16x4096x128_S2x4096x16x128_0_2_1_3) shapeCasts_S2x4096x16x128_S8192x2048) bitsLt_bf16_f32

set_option maxRecDepth 8192 in
theorem res_eq (m : (ℓ : Loc nD τ sig) → Buf (Elt Ideal) ℓ) (c : Dev nD) : res_main_v33 m c = outT (m ((c.tc : Thread nD τ).loc main_arg0)) := rfl

/-! ## The window sum -/

theorem foldl_sum {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons x l ih => intro v; rw [List.foldl_cons, ih, List.map_cons, List.sum_cons, add_assoc]
  rw [h, Fin.sum_univ_def]

/-- The sum over a window of one row. -/
theorem sum_row (g : (⟨4, ![1, 1, 1, 4096]⟩ : Shape).Idx → EReal) : ∑ i, g i = ∑ k : Fin 4096, g (ix4 (0 : Fin 1) (0 : Fin 1) (0 : Fin 1) k) := by
  refine Fintype.sum_bijective (fun i => (i 3 : Fin 4096)) ⟨fun i j h => ?_, fun k => ⟨ix4 (0 : Fin 1) (0 : Fin 1) (0 : Fin 1) k, rfl⟩⟩ _ _ fun i => ?_
  · funext a
    fin_cases a
    · exact Subsingleton.elim (α := Fin 1) _ _
    · exact Subsingleton.elim (α := Fin 1) _ _
    · exact Subsingleton.elim (α := Fin 1) _ _
    · exact h
  · congr 1
    funext a
    fin_cases a
    · exact Subsingleton.elim (α := Fin 1) _ _
    · exact Subsingleton.elim (α := Fin 1) _ _
    · exact Subsingleton.elim (α := Fin 1) _ _
    · rfl

/-- The reversed running sum along the last axis, at an index: the sum from there to the end. -/
theorem window_at (x : FVec Ideal S2x16x4096x4096 .f32) (f : ℕ → ℝ) (b : Fin 2) (h : Fin 16) (q k : Fin 4096)
    (hx : ∀ s : Fin 4096, x (ix4 b h q s) = ((f s.val : ℝ) : EReal)) :
    Host.reduceWindowAdd ![1, 1, 1, 4096] ![1, 1, 1, 1] ![0, 0, 0, 0] ![0, 0, 0, 4095] x (broadcastInDim S_ ![] bcast_S_S_ (constant S_ .f32 0x00000000#32))
        reduceWindows_S2x16x4096x4096_S2x16x4096x4096_w1s1p0_0_w1s1p0_0_w1s1p0_0_w4096s1p0_4095 h_S_ (ix4 b h q k)
      = ((∑ s ∈ Ico k.val 4096, f s : ℝ) : EReal) := by
  have hv : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  unfold Host.reduceWindowAdd
  rw [Ideal.hostReduceWindowAdd_def, Ideal.hostReduceWindowAdd, Host.reduceWindow, hv]
  dsimp only
  rw [foldl_sum, zero_add]
  refine (Finset.sum_congr rfl fun n _ => (?_ : _ = (fun i : (⟨4, ![1, 1, 1, 4096]⟩ : Shape).Idx =>
    if k.val + (i 3).val < 4096 then ((f (k.val + (i 3).val) : ℝ) : EReal) else 0) ((Shape.rowMajor ⟨4, ![1, 1, 1, 4096]⟩).symm n))).trans ?_
  · have h0 : ((Shape.rowMajor ⟨4, ![1, 1, 1, 4096]⟩).symm n 0).val = 0 := Nat.lt_one_iff.mp ((Shape.rowMajor ⟨4, ![1, 1, 1, 4096]⟩).symm n 0).isLt
    have h1 : ((Shape.rowMajor ⟨4, ![1, 1, 1, 4096]⟩).symm n 1).val = 0 := Nat.lt_one_iff.mp ((Shape.rowMajor ⟨4, ![1, 1, 1, 4096]⟩).symm n 1).isLt
    have h2 : ((Shape.rowMajor ⟨4, ![1, 1, 1, 4096]⟩).symm n 2).val = 0 := Nat.lt_one_iff.mp ((Shape.rowMajor ⟨4, ![1, 1, 1, 4096]⟩).symm n 2).isLt
    dsimp only
    split
    · next hin =>
      have h3 := (hin 3).2
      change k.val * 1 + ((Shape.rowMajor ⟨4, ![1, 1, 1, 4096]⟩).symm n 3).val - 0 < 4096 at h3
      rw [if_pos (by omega)]
      refine (congrArg x (funext fun a => Fin.ext ?_)).trans (hx ⟨k.val + ((Shape.rowMajor ⟨4, ![1, 1, 1, 4096]⟩).symm n 3).val, by omega⟩)
      match a with
      | ⟨0, _⟩ => show b.val * 1 + ((Shape.rowMajor ⟨4, ![1, 1, 1, 4096]⟩).symm n 0).val - 0 = b.val; omega
      | ⟨1, _⟩ => show h.val * 1 + ((Shape.rowMajor ⟨4, ![1, 1, 1, 4096]⟩).symm n 1).val - 0 = h.val; omega
      | ⟨2, _⟩ => show q.val * 1 + ((Shape.rowMajor ⟨4, ![1, 1, 1, 4096]⟩).symm n 2).val - 0 = q.val; omega
      | ⟨3, _⟩ => show k.val * 1 + ((Shape.rowMajor ⟨4, ![1, 1, 1, 4096]⟩).symm n 3).val - 0 = k.val + ((Shape.rowMajor ⟨4, ![1, 1, 1, 4096]⟩).symm n 3).val; omega
    · next hin =>
      rw [if_neg fun hle => hin fun a => ?_]
      match a with
      | ⟨0, _⟩ => show 0 ≤ b.val * 1 + ((Shape.rowMajor ⟨4, ![1, 1, 1, 4096]⟩).symm n 0).val ∧ b.val * 1 + ((Shape.rowMajor ⟨4, ![1, 1, 1, 4096]⟩).symm n 0).val - 0 < 2; omega
      | ⟨1, _⟩ => show 0 ≤ h.val * 1 + ((Shape.rowMajor ⟨4, ![1, 1, 1, 4096]⟩).symm n 1).val ∧ h.val * 1 + ((Shape.rowMajor ⟨4, ![1, 1, 1, 4096]⟩).symm n 1).val - 0 < 16; omega
      | ⟨2, _⟩ => show 0 ≤ q.val * 1 + ((Shape.rowMajor ⟨4, ![1, 1, 1, 4096]⟩).symm n 2).val ∧ q.val * 1 + ((Shape.rowMajor ⟨4, ![1, 1, 1, 4096]⟩).symm n 2).val - 0 < 4096; omega
      | ⟨3, _⟩ => show 0 ≤ k.val * 1 + ((Shape.rowMajor ⟨4, ![1, 1, 1, 4096]⟩).symm n 3).val ∧ k.val * 1 + ((Shape.rowMajor ⟨4, ![1, 1, 1, 4096]⟩).symm n 3).val - 0 < 4096; omega
  rw [Equiv.sum_comp (Shape.rowMajor ⟨4, ![1, 1, 1, 4096]⟩).symm (fun i : (⟨4, ![1, 1, 1, 4096]⟩ : Shape).Idx =>
    if k.val + (i 3).val < 4096 then ((f (k.val + (i 3).val) : ℝ) : EReal) else 0), sum_row]
  refine (Finset.sum_congr rfl fun w _ => (?_ : _ = (((fun w : ℕ => if k.val + w < 4096 then f (k.val + w) else 0) w.val : ℝ) : EReal))).trans ?_
  · show (if k.val + w.val < 4096 then ((f (k.val + w.val) : ℝ) : EReal) else 0) = ((if k.val + w.val < 4096 then f (k.val + w.val) else 0 : ℝ) : EReal)
    split <;> rfl
  rw [fin_sum 4096 (fun w : ℕ => if k.val + w < 4096 then f (k.val + w) else 0), Finset.sum_Ico_eq_sum_range, ← Finset.sum_filter]
  congr 1
  refine Finset.sum_congr (Finset.ext fun w => ?_) fun _ _ => rfl
  rw [Finset.mem_filter, Finset.mem_range, Finset.mem_range]
  omega

/-! ## The pieces, read at an index -/

theorem zero_f32 : Ideal.ofBits .f32 0x00000000#32 = ((0 : ℝ) : EReal) := by
  simp [Ideal.ofBits, Ideal.ieee, -EReal.coe_mul]

/-- Softplus over the reals. -/
def sp (z : ℝ) : ℝ := max z 0 + Real.log (1 + Real.exp (-max z (-z)))

section Read
variable (X : FVec Ideal S8192x6144 .f32) (a : ℕ → ℕ → ℝ) (ha : ∀ (r : Fin 8192) (d : Fin 6144), X (ix2 r d) = ((a r.val d.val : ℝ) : EReal))

/-- The score of row `t` of head `h` of batch element `b` against key `s`. -/
def zR (a : ℕ → ℕ → ℝ) (b h t s : ℕ) : ℝ :=
  (∑ d ∈ range 128, a (4096 * b + t) (0 + 128 * h + d) * a (4096 * b + s) (2048 + 128 * h + d)) * (1 / Real.sqrt 128)

/-- The masked softplus. -/
def mR (a : ℕ → ℕ → ℝ) (b h t s : ℕ) : ℝ := if s < t then sp (zR a b h t s) else 0

/-- The weight. -/
def wR (a : ℕ → ℕ → ℝ) (b h t s : ℕ) : ℝ :=
  if s < t then Real.exp (-sp (-zR a b h t s) - (∑ u ∈ Ico s 4096, mR a b h t u - mR a b h t s)) else 0

theorem mask_at (b : Fin 2) (h : Fin 16) (t s : Fin 4096) : maskT (ix4 b h t s) = if s.val < t.val then 1#1 else 0#1 := by
  pointwise [maskT]
  have hs : (BitVec.ofNat 32 s.val).toInt = s.val := by
    rw [BitVec.toInt_eq_toNat_of_lt] <;> simp only [BitVec.toNat_ofNat] <;> omega
  have ht : (BitVec.ofNat 32 t.val).toInt = t.val := by
    rw [BitVec.toInt_eq_toNat_of_lt] <;> simp only [BitVec.toNat_ofNat] <;> omega
  by_cases hlt : s.val < t.val
  · rw [if_pos hlt]
    exact IntOp.cmpi_slt.mpr (by rw [hs, ht]; exact_mod_cast hlt)
  · rw [if_neg hlt]
    rcases BitVec.eq_zero_or_eq_one (IntOp.cmpi CmpIPredicate.slt (BitVec.ofNat 32 s.val) (BitVec.ofNat 32 t.val)) with e | e
    · exact e
    · exact absurd (by have h' := IntOp.cmpi_slt.mp e; rw [hs, ht] at h'; exact_mod_cast h') hlt

theorem soft_at (z : FVec Ideal S2x16x4096x4096 .f32) (i : S2x16x4096x4096.Idx) (x : ℝ) (hz : z i = (x : EReal)) : softT z i = ((sp x : ℝ) : EReal) := by
  obtain ⟨b, h, t, s, rfl⟩ : ∃ (b : Fin 2) (h : Fin 16) (t s : Fin 4096), i = ix4 b h t s := ⟨i 0, i 1, i 2, i 3, by ext j; fin_cases j <;> rfl⟩
  pointwise [softT]
  rw [if_neg (not_not.mpr rfl), hz]
  rw [show FloatOps.absf (F := Ideal) (φ := .f32) ((x : ℝ) : EReal) = ((max x (-x) : ℝ) : EReal) by
    show max ((x : ℝ) : EReal) (-(x : EReal)) = _; rw [← EReal.coe_neg, coe_max]]
  rw [← EReal.coe_neg, Ideal.exp_coe, Ideal.log1p, ← EReal.coe_one, ← EReal.coe_add, Ideal.log_coe, if_neg (not_le.mpr (by positivity)),
    ← EReal.coe_zero, coe_max, ← EReal.coe_add]
  rfl

include ha

theorem q_at (b : Fin 2) (h : Fin 16) (t : Fin 4096) (d : Fin 128) :
    qT X (ix4 b h t d) = ((a (4096 * b.val + t.val) (0 + 128 * h.val + d.val) : ℝ) : EReal) := by
  pointwise [qT]
  refine (ha _ _).trans ?_
  congr 2 <;> (dsimp only; omega)

theorem k_at (b : Fin 2) (h : Fin 16) (t : Fin 4096) (d : Fin 128) :
    kT X (ix4 b h t d) = ((a (4096 * b.val + t.val) (2048 + 128 * h.val + d.val) : ℝ) : EReal) := by
  pointwise [kT]
  refine (ha _ _).trans ?_
  congr 2 <;> (dsimp only; omega)

theorem v_at (b : Fin 2) (h : Fin 16) (t : Fin 4096) (d : Fin 128) :
    vT X (ix4 b h t d) = ((a (4096 * b.val + t.val) (4096 + 128 * h.val + d.val) : ℝ) : EReal) := by
  pointwise [vT]
  refine (ha _ _).trans ?_
  congr 2 <;> (dsimp only; omega)

theorem z_at (b : Fin 2) (h : Fin 16) (t s : Fin 4096) : zT X (ix4 b h t s) = ((zR a b.val h.val t.val s.val : ℝ) : EReal) := by
  pointwise [zT]
  rw [n128_f32, Ideal.sqrt_coe, if_neg (by norm_num), ← EReal.coe_one, div_real _ _ sqrt128_pos.ne', zR, EReal.coe_mul, ← fin_sum 128 (fun d => _ * _)]
  congr 1
  refine Finset.sum_congr rfl fun d _ => ?_
  rw [q_at X a ha, k_at X a ha, ← EReal.coe_mul]

theorem sp_at (b : Fin 2) (h : Fin 16) (t s : Fin 4096) : spT X (ix4 b h t s) = ((mR a b.val h.val t.val s.val : ℝ) : EReal) := by
  pointwise [spT]
  rw [mask_at, soft_at _ _ _ (z_at X a ha b h t s), mR]
  by_cases hlt : s.val < t.val
  · rw [if_pos hlt, if_pos hlt]; rfl
  · rw [if_neg hlt, if_neg hlt]; exact zero_f32

theorem sum_at (b : Fin 2) (h : Fin 16) (t s : Fin 4096) : sumT X (ix4 b h t s) = ((∑ u ∈ Ico s.val 4096, mR a b.val h.val t.val u : ℝ) : EReal) :=
  window_at _ (mR a b.val h.val t.val) b h t s fun s => sp_at X a ha b h t s

theorem attn_at (b : Fin 2) (h : Fin 16) (t s : Fin 4096) : attnT X (ix4 b h t s) = ((wR a b.val h.val t.val s.val : ℝ) : EReal) := by
  have hn : (Host.negf (zT X)) (ix4 b h t s) = ((-zR a b.val h.val t.val s.val : ℝ) : EReal) := by
    rw [EReal.coe_neg, ← z_at X a ha b h t s]; rfl
  pointwise [attnT]
  rw [mask_at, soft_at _ _ _ hn, sum_at X a ha, sp_at X a ha, ← EReal.coe_sub, ← EReal.coe_neg, ← EReal.coe_sub, Ideal.exp_coe, wR]
  by_cases hlt : s.val < t.val
  · rw [if_pos hlt, if_pos hlt]; rfl
  · rw [if_neg hlt, if_neg hlt]; exact zero_f32

theorem out_at (r : Fin 8192) (d : Fin 2048) : outT X (ix2 r d)
    = ((∑ s ∈ range 4096, wR a (r.val / 4096) (d.val / 128) (r.val % 4096) s * a (4096 * (r.val / 4096) + s) (4096 + d.val) : ℝ) : EReal) := by
  pointwise [outT]
  rw [← fin_sum 4096 (fun s => _ * _)]
  refine Finset.sum_congr rfl fun s _ => ?_
  rw [attn_at X a ha, v_at X a ha, ← EReal.coe_mul]
  congr 3
  dsimp only
  omega

end Read

end Cert.ReferenceIdeal.Stick
-- ==== Proof.Meet.lean ====
/- The kernel's attention and the reference's are one over the reals; every entry is real under the precondition. -/
module

public import proofs.«01_k».proof.Proof.Ref
public import proofs.«01_k».proof.Proof.Gen.Pre_finite
public import Idealize.ShloMosaic.Lib.ReduceAll

@[expose] public section

set_option maxRecDepth 16384

noncomputable section

namespace Cert.Stick

open Idealize.ShloMosaic Idealize.ShloMosaic.TcCoe Idealize.ShloMosaic.Tactic
open Finset (range Ico)
open Cert.KernelIdeal.Stick (sp2 wt acc qs sR attnR log2_pos sqrt128_pos)
open Cert.ReferenceIdeal.Stick (sp mR wR)

/-! ## Base 2 and base e -/

theorem rpow_two (x : ℝ) : Real.rpow 2 (x / Real.log 2) = Real.exp x := by
  show (2 : ℝ) ^ (x / Real.log 2) = _
  rw [Real.rpow_def_of_pos (by norm_num), mul_div_cancel₀ _ log2_pos.ne']

theorem sp2_eq (z : ℝ) : sp2 (z / Real.log 2) = sp z / Real.log 2 := by
  have e0 : max (z / Real.log 2) 0 = max z 0 / Real.log 2 := by
    rw [← max_div_div_right log2_pos.le, zero_div]
  have e1 : -max (z / Real.log 2) (-(z / Real.log 2)) = -max z (-z) / Real.log 2 := by
    rw [neg_div, ← max_div_div_right log2_pos.le, neg_div]
  rw [sp2, e0, e1, rpow_two, sp, add_div, div_eq_mul_inv (Real.log _)]

theorem sp_neg (z : ℝ) : sp (-z) = sp z - z := by
  have e : max (-z) 0 = max z 0 - z := by
    rcases le_total z 0 with h | h
    · rw [max_eq_left (by linarith), max_eq_right h]; ring
    · rw [max_eq_right (by linarith), max_eq_left h]; ring
  rw [sp, sp, neg_neg, max_comm (-z) z, e]; ring

/-- The two weights of a key below its row. -/
theorem wt_eq (a : ℕ → ℕ → ℝ) (z : ℕ → ℝ) (b H t s : ℕ) (ht : t < 4096) (hs : s < t)
    (hz : ∀ u, u < t → z u = Cert.ReferenceIdeal.Stick.zR a b H t u / Real.log 2) : wt z t s = wR a b H t s := by
  have hm : ∑ u ∈ Ico s 4096, mR a b H t u - mR a b H t s = ∑ u ∈ Ico (s + 1) t, sp (Cert.ReferenceIdeal.Stick.zR a b H t u) := by
    rw [Finset.sum_eq_sum_Ico_succ_bot (by omega), add_sub_cancel_left, ← Finset.sum_Ico_consecutive _ (show s + 1 ≤ t by omega) ht.le]
    rw [Finset.sum_eq_zero (s := Ico t 4096), add_zero]
    · exact Finset.sum_congr rfl fun u hu => if_pos (Finset.mem_Ico.mp hu).2
    · exact fun u hu => if_neg (not_lt.mpr (Finset.mem_Ico.mp hu).1)
  rw [wR, if_pos hs, hm, wt, hz s hs, sp2_eq, sp_neg, ← rpow_two]
  rw [Finset.sum_congr rfl (fun u hu => by rw [hz u (Finset.mem_Ico.mp hu).2, sp2_eq] :
    ∀ u ∈ Ico (s + 1) t, sp2 (z u) = sp (Cert.ReferenceIdeal.Stick.zR a b H t u) / Real.log 2), ← Finset.sum_div]
  congr 1
  ring

/-- The kernel's attention is the reference's. -/
theorem attn_eq (a : ℕ → ℕ → ℝ) (row col : ℕ) (hr : row < 8192) (hc : col < 2048) :
    attnR a row col = ∑ s ∈ range 4096, wR a (row / 4096) (col / 128) (row % 4096) s * a (4096 * (row / 4096) + s) (4096 + col) := by
  have ht : row % 4096 < 4096 := Nat.mod_lt _ (by norm_num)
  have hrow : 4096 * (row / 4096) + row % 4096 = row := Nat.div_add_mod _ _
  have hz : ∀ u, Cert.KernelIdeal.Stick.zR a row (col / 128) u = Cert.ReferenceIdeal.Stick.zR a (row / 4096) (col / 128) (row % 4096) u / Real.log 2 := by
    intro u
    rw [Cert.KernelIdeal.Stick.zR, Cert.ReferenceIdeal.Stick.zR, hrow, mul_div_assoc, Finset.sum_mul]
    refine Finset.sum_congr rfl fun d hd => ?_
    have hd := Finset.mem_range.mp hd
    rw [sR, sR, if_pos (by omega), if_neg (by omega), zero_add, qs, div_div, mul_comm (Real.sqrt 128)]
    ring
  rw [← Finset.sum_range_add_sum_Ico _ ht.le, Finset.sum_eq_zero (s := Ico (row % 4096) 4096), add_zero, attnR, acc, Finset.range_eq_Ico]
  · refine Finset.sum_congr rfl fun s hs => ?_
    have hs := (Finset.mem_Ico.mp hs).2
    rw [wt_eq a _ (row / 4096) (col / 128) _ s ht hs fun u _ => hz u, sR, if_neg (by omega), mul_one]
  · intro s hs
    rw [wR, if_neg (not_lt.mpr (Finset.mem_Ico.mp hs).1), zero_mul]

/-! ## The precondition -/

theorem real_of_finite (X : FVec Ideal (⟨2, ![8192, 6144]⟩ : Shape) .f32) (h : Cert.Pre_finite.fn (F := Ideal) X = fun _ => 1#1)
    (r : Fin 8192) (d : Fin 6144) : X (ix2 r d) = (((X (ix2 r d) : EReal).toReal : ℝ) : EReal) := by
  have h' := congrFun h ix0
  unfold Cert.Pre_finite.fn at h'
  dsimp only at h'
  haveI : Subsingleton Cert.Pre_finite.S_.Idx := ⟨fun i j => funext fun k => k.elim0⟩
  have hx := Host.reduce_andi_all _ _ _ _ _ h' (ix2 r d)
  have e : Ideal.ofBits .f32 0x7F800000#32 = ⊤ := by simp [Ideal.ofBits, Ideal.ieee]
  have hl : max (X (ix2 r d) : EReal) (-(X (ix2 r d) : EReal)) < ⊤ := by
    have hx' : (BitVec.ofBool (decide (max (X (ix2 r d) : EReal) (-(X (ix2 r d) : EReal)) < Ideal.ofBits .f32 0x7F800000#32))) = 1#1 := hx
    rw [e] at hx'
    by_contra hc
    rw [decide_eq_false hc] at hx'
    exact absurd hx' (by decide)
  rw [max_lt_iff] at hl
  exact (EReal.coe_toReal hl.1.ne fun hb => by rw [hb] at hl; exact absurd hl.2 (by simp)).symm

/-! ## The two results -/

/-- A projection with real entries, as a function of naturals. -/
def realOf (X : FVec Ideal (⟨2, ![8192, 6144]⟩ : Shape) .f32) (r d : ℕ) : ℝ :=
  if h : r < 8192 ∧ d < 6144 then (X (ix2 (⟨r, h.1⟩ : Fin 8192) (⟨d, h.2⟩ : Fin 6144)) : EReal).toReal else 0

/-- The reference's result is the kernel's result array. -/
theorem meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : ∀ (r : Fin 8192) (d : Fin 6144), (m ((c.tc : Thread Cert.KernelIdeal.nD Cert.KernelIdeal.τ).loc Cert.KernelIdeal.main_arg0) : FVec Ideal (⟨2, ![8192, 6144]⟩ : Shape) .f32) (ix2 r d)
      = ((((m ((c.tc : Thread Cert.KernelIdeal.nD Cert.KernelIdeal.τ).loc Cert.KernelIdeal.main_arg0) : FVec Ideal (⟨2, ![8192, 6144]⟩ : Shape) .f32) (ix2 r d) : EReal).toReal : ℝ) : EReal))
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.res_main_v33 m' c = (Cert.KernelIdeal.Gen.dats m 0 c).arrAt 3 Cert.KernelIdeal.cfg0.N := by
  have ha : ∀ (r : Fin 8192) (d : Fin 6144), (m ((c.tc : Thread Cert.KernelIdeal.nD Cert.KernelIdeal.τ).loc Cert.KernelIdeal.main_arg0) : FVec Ideal (⟨2, ![8192, 6144]⟩ : Shape) .f32) (ix2 r d)
      = ((realOf (m ((c.tc : Thread Cert.KernelIdeal.nD Cert.KernelIdeal.τ).loc Cert.KernelIdeal.main_arg0)) r.val d.val : ℝ) : EReal) := by
    intro r d
    rw [realOf, dif_pos ⟨r.isLt, d.isLt⟩]
    exact hx r d
  rw [Cert.ReferenceIdeal.Stick.res_eq, hagree]
  refine Eq.trans ?_ (Cert.KernelIdeal.Stick.out_eq m c _ ha).symm
  funext y
  obtain ⟨r, d, rfl⟩ : ∃ (r : Fin 8192) (d : Fin 2048), y = ix2 r d := ⟨y 0, y 1, by ext i; fin_cases i <;> rfl⟩
  refine (Cert.ReferenceIdeal.Stick.out_at _ _ ha r d).trans ?_
  show _ = ((attnR _ r.val d.val : ℝ) : EReal)
  rw [attn_eq _ _ _ r.isLt d.isLt]

end Cert.Stick
-- ==== Proof.lean ====
module

public import proofs.«01_k».proof.Proof.MeetMoeUp
public import proofs.«01_k».proof.Proof.MeetMoeDown
public import proofs.«01_k».proof.Proof.MeetDenseUp
public import proofs.«01_k».proof.Proof.MeetDenseDown
public import proofs.«01_k».proof.Proof.MeetQkv
public import proofs.«01_k».proof.Proof.MeetScanOut
public import proofs.«01_k».proof.Proof.MeetStickOut
public import proofs.«01_k».proof.Proof.MeetGateIn
public import proofs.«01_k».proof.Proof.MeetConvIn
public import proofs.«01_k».proof.Proof.MeetNorm
public import proofs.«01_k».proof.Proof.MeetFinalNorm
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Meet
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxRecDepth 16384 in
set_option maxHeartbeats 4000000 in
theorem reference_runs : Cert.quiescent_ReferenceIdeal := by
  intro m g _
  exact (θ_run _ _ _).mono (fun r h => ⟨fun c => (h c).2, sem_eq_zero_of_no_sems rfl _⟩) (Cert.ReferenceIdeal.Value.run m g)

set_option maxRecDepth 16384 in
set_option maxHeartbeats 4000000 in
/-- The kernel's attention equals the reference's, as extended reals, at finite projections. -/
theorem attention : Cert.algebraic_KernelIdeal_ReferenceIdeal_pre_finite := by
  pair_intro
  · run_from Cert.KernelIdeal.Value.run_blocks m g
  · run_from Cert.ReferenceIdeal.Value.run m' g'
    have ha := Cert.Stick.real_of_finite (m ((c.tc : Thread Cert.KernelIdeal.nD Cert.KernelIdeal.τ).loc Cert.KernelIdeal.main_arg0)) (hpre c)
    exact Cert.Stick.meet m m' c ha (hagree c)

theorem claim : Cert.Claim := ⟨Cert.Kernel.Gen.facts, Cert.KernelIdeal.Gen.facts, Cert.ReferenceIdeal.Gen.facts,
  Cert.MoeUp.Gen.facts, Cert.MoeUpIdeal.Gen.facts, Cert.MoeUpReferenceIdeal.Gen.facts,
  Cert.MoeDown.Gen.facts, Cert.MoeDownIdeal.Gen.facts, Cert.MoeDownReferenceIdeal.Gen.facts,
  Cert.DenseUp.Gen.facts, Cert.DenseUpIdeal.Gen.facts, Cert.DenseUpReferenceIdeal.Gen.facts,
  Cert.DenseDown.Gen.facts, Cert.DenseDownIdeal.Gen.facts, Cert.DenseDownReferenceIdeal.Gen.facts,
  Cert.Qkv.Gen.facts, Cert.QkvIdeal.Gen.facts, Cert.QkvReferenceIdeal.Gen.facts,
  Cert.ScanOut.Gen.facts, Cert.ScanOutIdeal.Gen.facts, Cert.ScanOutReferenceIdeal.Gen.facts,
  Cert.StickOut.Gen.facts, Cert.StickOutIdeal.Gen.facts, Cert.StickOutReferenceIdeal.Gen.facts,
  Cert.GateIn.Gen.facts, Cert.GateInIdeal.Gen.facts, Cert.GateInReferenceIdeal.Gen.facts,
  Cert.ConvIn.Gen.facts, Cert.ConvInIdeal.Gen.facts, Cert.ConvInReferenceIdeal.Gen.facts,
  Cert.Norm.Gen.facts, Cert.NormIdeal.Gen.facts, Cert.NormReferenceIdeal.Gen.facts,
  Cert.FinalNorm.Gen.facts, Cert.FinalNormIdeal.Gen.facts, Cert.FinalNormReferenceIdeal.Gen.facts,
  Cert.Pre_finite.Gen.facts, Cert.Pre_experts2.Gen.facts, Cert.Pre_experts3.Gen.facts,
  fun m g _ => Cert.Kernel.Gen.frame m g, fun m g _ => Cert.KernelIdeal.Gen.frame m g, fun m g _ => Cert.KernelIdeal.Gen.frame m g,
  reference_runs, fun m g _ => reference_runs m g trivial,
  Cert.MoeUpMeet.frame, Cert.MoeUpMeet.frame_ideal, Cert.MoeUpMeet.frame_reference, fun m g _ => Cert.MoeUpMeet.frame_reference m g trivial,
  Cert.MoeDownMeet.frame, Cert.MoeDownMeet.frame_ideal, Cert.MoeDownMeet.frame_reference, fun m g _ => Cert.MoeDownMeet.frame_reference m g trivial,
  Cert.DenseUpMeet.frame, Cert.DenseUpMeet.frame_ideal, Cert.DenseUpMeet.frame_reference,
  Cert.DenseDownMeet.frame, Cert.DenseDownMeet.frame_ideal, Cert.DenseDownMeet.frame_reference,
  Cert.QkvMeet.frame, Cert.QkvMeet.frame_ideal, Cert.QkvMeet.frame_reference,
  Cert.ScanOutMeet.frame, Cert.ScanOutMeet.frame_ideal, Cert.ScanOutMeet.frame_reference,
  Cert.StickOutMeet.frame, Cert.StickOutMeet.frame_ideal, Cert.StickOutMeet.frame_reference,
  Cert.GateInMeet.frame, Cert.GateInMeet.frame_ideal, Cert.GateInMeet.frame_reference,
  Cert.ConvInMeet.frame, Cert.ConvInMeet.frame_ideal, Cert.ConvInMeet.frame_reference,
  Cert.NormMeet.frame, Cert.NormMeet.frame_ideal, Cert.NormMeet.frame_reference,
  Cert.FinalNormMeet.frame, Cert.FinalNormMeet.frame_ideal, Cert.FinalNormMeet.frame_reference,
  IdealRules.named_const.statement Cert.KernelIdeal.κ "log2e" .f32 0x3FB8AA3B#32 _ rfl, attention,
  trivial, Cert.MoeUpMeet.algebraic, trivial, Cert.MoeDownMeet.algebraic,
  trivial, Cert.DenseUpMeet.algebraic,
  trivial, Cert.DenseDownMeet.algebraic,
  IdealRules.named_const.statement Cert.QkvIdeal.κ "scale" .f32 0x3E0293EE#32 _ rfl, Cert.QkvMeet.algebraic,
  trivial, Cert.ScanOutMeet.algebraic,
  trivial, Cert.StickOutMeet.algebraic,
  trivial, Cert.GateInMeet.algebraic,
  trivial, Cert.ConvInMeet.algebraic,
  trivial, Cert.NormMeet.algebraic,
  trivial, Cert.FinalNormMeet.algebraic⟩

end Cert.Proof

end
